-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)) (v2 : (c : Dev Cert.KernelIdeal.nD) → Buf (Elt Ideal) ((c.tc : Thread Cert.KernelIdeal.nD Cert.KernelIdeal.τ).loc Cert.KernelIdeal.main_v82_2)) (v3 : (c : Dev Cert.KernelIdeal.nD) → Buf (Elt Ideal) ((c.tc : Thread Cert.KernelIdeal.nD Cert.KernelIdeal.τ).loc Cert.KernelIdeal.main_v82_3)) (v4 : (c : Dev Cert.KernelIdeal.nD) → Buf (Elt Ideal) ((c.tc : Thread Cert.KernelIdeal.nD Cert.KernelIdeal.τ).loc Cert.KernelIdeal.main_v82_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_v82_2) = v2 c
          ∧ r.2.mem ((c.tc : Thread Cert.KernelIdeal.nD Cert.KernelIdeal.τ).loc Cert.KernelIdeal.main_v82_3) = v3 c
          ∧ r.2.mem ((c.tc : Thread Cert.KernelIdeal.nD Cert.KernelIdeal.τ).loc Cert.KernelIdeal.main_v82_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  IdealRules.named_const.Statement Cert.Kernel24Ideal.κ "c1" .f32 0x3FC48605#32 ((8388608 / 5463681 : ℝ) : EReal)
  ∧ IdealRules.named_const.Statement Cert.Kernel24Ideal.κ "c2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v26) = v1 c
          ∧ r.2.mem ((c.tc : Thread Cert.Reference24Ideal.nD Cert.Reference24Ideal.τ).loc Cert.Reference24Ideal.main_v7) = v2 c
          ∧ r.2.mem ((c.tc : Thread Cert.Reference24Ideal.nD Cert.Reference24Ideal.τ).loc Cert.Reference24Ideal.main_v13) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S8192x1024 : Shape := ⟨2, ![8192, 1024]⟩
abbrev S16x8192 : Shape := ⟨2, ![16, 8192]⟩
abbrev S_ : Shape := ⟨0, ![]⟩

class Facts : Prop where
  bcast_S_S8192x1024 : S_.BroadcastsInDim S8192x1024 (![] : Fin 0 → Fin S8192x1024.rank)
  bcast_S_S16x8192 : S_.BroadcastsInDim S16x8192 (![] : Fin 0 → Fin S16x8192.rank)

variable [Facts]

def fn {F : FTy → Type} [FloatOps F] (main_arg0 : FVec F S8192x1024 .f32) (main_arg1 : FVec F S8192x1024 .f32) (main_arg2 : FVec F S8192x1024 .f32) (main_arg3 : FVec F S16x8192 .f32) (main_arg4 : FVec F S8192x1024 .f32) : IVec S8192x1024 1 × IVec S8192x1024 1 × IVec S8192x1024 1 × IVec S16x8192 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8192x1024 : Shape := ⟨2, ![8192, 1024]⟩
abbrev S16x8192 : Shape := ⟨2, ![16, 8192]⟩
abbrev S8192x3072 : Shape := ⟨2, ![8192, 3072]⟩
abbrev S8x2x8x1024 : Shape := ⟨4, ![8, 2, 8, 1024]⟩
abbrev S_ : Shape := ⟨0, ![]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x16 : Shape := ⟨2, ![8192, 16]⟩
abbrev S64 : Shape := ⟨1, ![64]⟩
abbrev S8192x16x1 : Shape := ⟨3, ![8192, 16, 1]⟩
abbrev S1024x8192 : Shape := ⟨2, ![1024, 8192]⟩
abbrev S8x2x16x512 : Shape := ⟨4, ![8, 2, 16, 512]⟩
abbrev S8192x128 : Shape := ⟨2, ![8192, 128]⟩
abbrev S1024x128 : Shape := ⟨2, ![1024, 128]⟩
abbrev S1x2x8x1024 : Shape := ⟨4, ![1, 2, 8, 1024]⟩
abbrev S128x8192 : Shape := ⟨2, ![128, 8192]⟩
abbrev S1x2x16x512 : Shape := ⟨4, ![1, 2, 16, 512]⟩
abbrev S2x80x1024 : Shape := ⟨3, ![2, 80, 1024]⟩
abbrev S2x64x1024 : Shape := ⟨3, ![2, 64, 1024]⟩
abbrev S16x512 : Shape := ⟨2, ![16, 512]⟩
abbrev S16x1024 : Shape := ⟨2, ![16, 1024]⟩
abbrev S1024x64 : Shape := ⟨2, ![1024, 64]⟩
abbrev S64x1024 : Shape := ⟨2, ![64, 1024]⟩
abbrev S80x1024 : Shape := ⟨2, ![80, 1024]⟩
abbrev S512x64 : Shape := ⟨2, ![512, 64]⟩
abbrev S512x512 : Shape := ⟨2, ![512, 512]⟩
abbrev S1x1x1x512 : Shape := ⟨4, ![1, 1, 1, 512]⟩
abbrev S1x512 : Shape := ⟨2, ![1, 512]⟩
abbrev S512x1 : Shape := ⟨2, ![512, 1]⟩
abbrev S1x64x512 : Shape := ⟨3, ![1, 64, 512]⟩
abbrev S64x512 : Shape := ⟨2, ![64, 512]⟩
abbrev S1x80x512 : Shape := ⟨3, ![1, 80, 512]⟩
abbrev S80x512 : Shape := ⟨2, ![80, 512]⟩
abbrev S8x512 : Shape := ⟨2, ![8, 512]⟩
abbrev S512 : Shape := ⟨1, ![512]⟩
abbrev S512x1024 : Shape := ⟨2, ![512, 1024]⟩
abbrev S1x1x1x1024 : Shape := ⟨4, ![1, 1, 1, 1024]⟩
abbrev S1x1024 : Shape := ⟨2, ![1, 1024]⟩
abbrev S1x64x1024 : Shape := ⟨3, ![1, 64, 1024]⟩
abbrev S1x80x1024 : Shape := ⟨3, ![1, 80, 1024]⟩
abbrev S1x1x1024 : Shape := ⟨3, ![1, 1, 1024]⟩

abbrev nBuf : Space → Nat
  | .hbm => 113
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x8192, .f32⟩
  | .hbm, ⟨4, _⟩ => ⟨S8192x1024, .f32⟩
  | .hbm, ⟨5, _⟩ => ⟨S8192x3072, .f32⟩
  | .hbm, ⟨6, _⟩ => ⟨S8192x3072, .bf16⟩
  | .hbm, ⟨7, _⟩ => ⟨S8x2x8x1024, .f32⟩
  | .hbm, ⟨8, _⟩ => ⟨S_, .f32⟩
  | .hbm, ⟨9, _⟩ => ⟨S16x8192, .f32⟩
  | .hbm, ⟨10, _⟩ => ⟨S8192x16x64, .f32⟩
  | .hbm, ⟨11, _⟩ => ⟨S16x8192x64, .f32⟩
  | .hbm, ⟨12, _⟩ => ⟨S8192x16x64, .f32⟩
  | .hbm, ⟨13, _⟩ => ⟨S16x8192x64, .f32⟩
  | .hbm, ⟨14, _⟩ => ⟨S16x8192x8192, .f32⟩
  | .hbm, ⟨15, _⟩ => ⟨S_, .f32⟩
  | .hbm, ⟨16, _⟩ => ⟨S16x8192x8192, .f32⟩
  | .hbm, ⟨17, _⟩ => ⟨S16x8192x8192, .f32⟩
  | .hbm, ⟨18, _⟩ => ⟨S16x8192x1, .f32⟩
  | .hbm, ⟨19, _⟩ => ⟨S16x1x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S8192, .i32⟩
  | .hbm, ⟨25, _⟩ => ⟨S1x8192, .i32⟩
  | .hbm, ⟨26, _⟩ => ⟨S8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S16x8192x8192, .i1⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S16x8192, .f32⟩
  | .hbm, ⟨45, _⟩ => ⟨S16x8192, .f32⟩
  | .hbm, ⟨46, _⟩ => ⟨S8192x16x64, .f32⟩
  | .hbm, ⟨47, _⟩ => ⟨S16x8192x64, .f32⟩
  | .hbm, ⟨48, _⟩ => ⟨S8192x16x64, .f32⟩
  | .hbm, ⟨49, _⟩ => ⟨S16x8192x64, .f32⟩
  | .hbm, ⟨50, _⟩ => ⟨S16x8192x8192, .f32⟩
  | .hbm, ⟨51, _⟩ => ⟨S_, .f32⟩
  | .hbm, ⟨52, _⟩ => ⟨S16x8192x8192, .f32⟩
  | .hbm, ⟨53, _⟩ => ⟨S16x8192x8192, .f32⟩
  | .hbm, ⟨54, _⟩ => ⟨S16x8192x1, .f32⟩
  | .hbm, ⟨55, _⟩ => ⟨S16x1x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S8192, .i32⟩
  | .hbm, ⟨61, _⟩ => ⟨S1x8192, .i32⟩
  | .hbm, ⟨62, _⟩ => ⟨S8192, .i32⟩
  | .hbm, ⟨63, _⟩ => ⟨S8192x1, .i32⟩
  | .hbm, ⟨64, _⟩ => ⟨S8192x8192, .i32⟩
  | .hbm, ⟨65, _⟩ => ⟨S8192x8192, .i32⟩
  | .hbm, ⟨66, _⟩ => ⟨S8192x8192, .i1⟩
  | .hbm, ⟨67, _⟩ => ⟨S_, .f32⟩
  | .hbm, ⟨68, _⟩ => ⟨S_, .f32⟩
  | .hbm, ⟨69, _⟩ => ⟨S16x8192x8192, .i1⟩
  | .hbm, ⟨70, _⟩ => ⟨S16x8192x8192, .f32⟩
  | .hbm, ⟨71, _⟩ => ⟨S16x8192x8192, .f32⟩
  | .hbm, ⟨72, _⟩ => ⟨S_, .f32⟩
  | .hbm, ⟨73, _⟩ => ⟨S16x8192, .f32⟩
  | .hbm, ⟨74, _⟩ => ⟨S_, .f32⟩
  | .hbm, ⟨75, _⟩ => ⟨S16x8192, .f32⟩
  | .hbm, ⟨76, _⟩ => ⟨S16x8192, .f32⟩
  | .hbm, ⟨77, _⟩ => ⟨S16x8192x1, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x8192, .f32⟩
  | .hbm, ⟨85, _⟩ => ⟨S16x8192x8192, .f32⟩
  | .hbm, ⟨86, _⟩ => ⟨S8192x16x64, .f32⟩
  | .hbm, ⟨87, _⟩ => ⟨S16x8192x64, .f32⟩
  | .hbm, ⟨88, _⟩ => ⟨S16x8192x64, .f32⟩
  | .hbm, ⟨89, _⟩ => ⟨S8192x16x64, .f32⟩
  | .hbm, ⟨90, _⟩ => ⟨S8192x1024, .f32⟩
  | .hbm, ⟨91, _⟩ => ⟨S8192x1024, .f32⟩
  | .hbm, ⟨92, _⟩ => ⟨S8192x16x64, .f32⟩
  | .hbm, ⟨93, _⟩ => ⟨S_, .f32⟩
  | .hbm, ⟨94, _⟩ => ⟨S8192x16, .f32⟩
  | .hbm, ⟨95, _⟩ => ⟨S64, .i32⟩
  | .hbm, ⟨96, _⟩ => ⟨S_, .i32⟩
  | .hbm, ⟨97, _⟩ => ⟨S64, .i32⟩
  | .hbm, ⟨98, _⟩ => ⟨S64, .i1⟩
  | .hbm, ⟨99, _⟩ => ⟨S8192x16, .f32⟩
  | .hbm, ⟨100, _⟩ => ⟨S8192x16x1, .f32⟩
  | .hbm, ⟨101, _⟩ => ⟨S8192x16x1, .f32⟩
  | .hbm, ⟨102, _⟩ => ⟨S8192x16x64, .i1⟩
  | .hbm, ⟨103, _⟩ => ⟨S8192x16x64, .f32⟩
  | .hbm, ⟨104, _⟩ => ⟨S8192x16x64, .f32⟩
  | .hbm, ⟨105, _⟩ => ⟨S8192x16x64, .f32⟩
  | .hbm, ⟨106, _⟩ => ⟨S8192x1024, .f32⟩
  | .hbm, ⟨107, _⟩ => ⟨S8192x1024, .bf16⟩
  | .hbm, ⟨108, _⟩ => ⟨S1024x8192, .f32⟩
  | .hbm, ⟨109, _⟩ => ⟨S8192x1024, .bf16⟩
  | .hbm, ⟨110, _⟩ => ⟨S8192x1024, .bf16⟩
  | .hbm, ⟨111, _⟩ => ⟨S8x2x8x1024, .f32⟩
  | .hbm, ⟨112, _⟩ => ⟨S8x2x16x512, .f32⟩
  | .local _ .vmem, ⟨0, _⟩ => ⟨S8192x128, .bf16⟩
  | .local _ .vmem, ⟨1, _⟩ => ⟨S8192x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x2x8x1024, .f32⟩
  | .local _ .vmem, ⟨7, _⟩ => ⟨S1x2x8x1024, .f32⟩
  | .local _ .vmem, ⟨8, _⟩ => ⟨S8192x128, .f32⟩
  | .local _ .vmem, ⟨9, _⟩ => ⟨S8192x128, .f32⟩
  | .local _ .vmem, ⟨10, _⟩ => ⟨S8192x128, .bf16⟩
  | .local _ .vmem, ⟨11, _⟩ => ⟨S8192x128, .bf16⟩
  | .local _ .vmem, ⟨12, _⟩ => ⟨S128x8192, .f32⟩
  | .local _ .vmem, ⟨13, _⟩ => ⟨S128x8192, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x2x8x1024, .f32⟩
  | .local _ .vmem, ⟨19, _⟩ => ⟨S1x2x8x1024, .f32⟩
  | .local _ .vmem, ⟨20, _⟩ => ⟨S1x2x16x512, .f32⟩
  | .local _ .vmem, ⟨21, _⟩ => ⟨S1x2x16x512, .f32⟩
  | .local _ .vmem, ⟨22, _⟩ => ⟨S2x80x1024, .f32⟩
  | .local _ .vmem, ⟨23, _⟩ => ⟨S2x64x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_9 : Ref sig .tc := ⟨.hbm, 93, rfl⟩
abbrev main_v72 : Ref sig .tc := ⟨.hbm, 94, rfl⟩
abbrev main_v73 : Ref sig .tc := ⟨.hbm, 95, rfl⟩
abbrev main_c : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82_0 : Ref sig .tc := ⟨.hbm, 108, rfl⟩
abbrev main_v82_1 : Ref sig .tc := ⟨.hbm, 109, rfl⟩
abbrev main_v82_2 : Ref sig .tc := ⟨.hbm, 110, rfl⟩
abbrev main_v82_3 : Ref sig .tc := ⟨.hbm, 111, rfl⟩
abbrev main_v82_4 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2_i32 : BitVec 32 := 2#32
  let v21 : BitVec 32 := Scalar.muli arg1 c2_i32
  let c0_i32_12 : BitVec 32 := 0#32
  let v22 : BitVec 32 := Scalar.addi v21 c0_i32_12
  let c512_i32 : BitVec 32 := 512#32
  let v23 : BitVec 32 := Scalar.muli v22 c512_i32
  v23
def k0_off1 (i : grid0.Coords) (c0_i32_12 : BitVec 32) : Fin 2 → Nat :=
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v25 : Index := Scalar.indexCast v24
  let c0_13 : Index := 0#32
  ![v25.toNat, 0]
def k0_off2 (i : grid0.Coords) : Fin 4 → Nat :=
  let c0_19 : Index := 0#32
  let c0_20 : Index := 0#32
  let arg1 : BitVec 32 := BitVec.ofNat 32 (i 1).val
  let v38 : Index := Scalar.indexCast arg1
  let c0_21 : Index := 0#32
  ![0, 0, v38.toNat, 0]
def k0_off3 (i : grid0.Coords) (c0_i32_12 : BitVec 32) : Fin 2 → Nat :=
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v50 : Index := Scalar.indexCast v24
  let c0_24 : Index := 0#32
  ![v50.toNat, 0]
def k0_off4 (i : grid0.Coords) (c0_i32_12 : BitVec 32) : Fin 2 → Nat :=
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v59 : Index := Scalar.indexCast v24
  let c32 : Index := 32#32
  ![v59.toNat, 32]
def k0_off5 (i : grid0.Coords) (c0_i32_12 : BitVec 32) : Fin 2 → Nat :=
  let c0_43 : Index := 0#32
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v86 : Index := Scalar.indexCast v24
  ![0, v86.toNat]
def k0_off6 (i : grid0.Coords) (c0_i32_12 : BitVec 32) : Fin 4 → Nat :=
  let c0_46 : Index := 0#32
  let c0_47 : Index := 0#32
  let arg1 : BitVec 32 := BitVec.ofNat 32 (i 1).val
  let c2_i32 : BitVec 32 := 2#32
  let v21 : BitVec 32 := Scalar.muli arg1 c2_i32
  let v22 : BitVec 32 := Scalar.addi v21 c0_i32_12
  let v95 : Index := Scalar.indexCast v22
  let c0_48 : Index := 0#32
  ![0, 0, v95.toNat, 0]
def k0_off7 (i : grid0.Coords) (c0_i32_12 : BitVec 32) : Fin 2 → Nat :=
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v108 : Index := Scalar.indexCast v24
  let c64_54 : Index := 64#32
  ![v108.toNat, 64]
def k0_off8 (i : grid0.Coords) : Fin 4 → Nat :=
  let c0_60 : Index := 0#32
  let c1 : Index := 1#32
  let arg1 : BitVec 32 := BitVec.ofNat 32 (i 1).val
  let v121 : Index := Scalar.indexCast arg1
  let c0_61 : Index := 0#32
  ![0, 1, v121.toNat, 0]
def k0_off9 (i : grid0.Coords) (c0_i32_12 : BitVec 32) : Fin 2 → Nat :=
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v133 : Index := Scalar.indexCast v24
  let c64_64 : Index := 64#32
  ![v133.toNat, 64]
def k0_off10 (i : grid0.Coords) (c0_i32_12 : BitVec 32) : Fin 2 → Nat :=
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v142 : Index := Scalar.indexCast v24
  let c96 : Index := 96#32
  ![v142.toNat, 96]
def k0_off11 (i : grid0.Coords) (c0_i32_12 : BitVec 32) : Fin 2 → Nat :=
  let c64_83 : Index := 64#32
  let arg1 : BitVec 32 := BitVec.ofNat 32 (i 1).val
  let c2_i32 : BitVec 32 := 2#32
  let v21 : BitVec 32 := Scalar.muli arg1 c2_i32
  let v22 : BitVec 32 := Scalar.addi v21 c0_i32_12
  let c512_i32 : BitVec 32 := 512#32
  let v23 : BitVec 32 := Scalar.muli v22 c512_i32
  let v24 : BitVec 32 := v23
  let v169 : Index := Scalar.indexCast v24
  ![64, v169.toNat]
def k0_off12 (i : grid0.Coords) (c0_i32_12 : BitVec 32) : Fin 4 → Nat :=
  let c0_86 : Index := 0#32
  let c1_87 : Index := 1#32
  let arg1 : BitVec 32 := BitVec.ofNat 32 (i 1).val
  let c2_i32 : BitVec 32 := 2#32
  let v21 : BitVec 32 := Scalar.muli arg1 c2_i32
  let v22 : BitVec 32 := Scalar.addi v21 c0_i32_12
  let v178 : Index := Scalar.indexCast v22
  let c0_88 : Index := 0#32
  ![0, 1, v178.toNat, 0]
def k0_mult2 (i : grid0.Coords) : BitVec 32 :=
  let arg1 : BitVec 32 := BitVec.ofNat 32 (i 1).val
  let c2_i32_94 : BitVec 32 := 2#32
  let v191 : BitVec 32 := Scalar.muli arg1 c2_i32_94
  let c1_i32 : BitVec 32 := 1#32
  let v192 : BitVec 32 := Scalar.addi v191 c1_i32
  let c512_i32_95 : BitVec 32 := 512#32
  let v193 : BitVec 32 := Scalar.muli v192 c512_i32_95
  v193
def k0_off13 (i : grid0.Coords) : Fin 4 → Nat :=
  let c0_102 : Index := 0#32
  let c0_103 : Index := 0#32
  let arg1 : BitVec 32 := BitVec.ofNat 32 (i 1).val
  let v208 : Index := Scalar.indexCast arg1
  let c0_104 : Index := 0#32
  ![0, 0, v208.toNat, 0]
def k0_off14 (i : grid0.Coords) : Fin 4 → Nat :=
  let c0_144 : Index := 0#32
  let c1_145 : Index := 1#32
  let arg1 : BitVec 32 := BitVec.ofNat 32 (i 1).val
  let v290 : Index := Scalar.indexCast arg1
  let c0_146 : Index := 0#32
  ![0, 1, v290.toNat, 0]
@[reducible] def k0_t1_loop (i : grid0.Coords) : Scf.Loop 32 :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_184 : BitVec 32 := 1#32
  ⟨v360, v365, c1_i32_184⟩
def k0_mult3 (i : grid0.Coords) (k0_t1 : Fin (k0_t1_loop i).trips) : BitVec 32 :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  v402
def k0_off15 (i : grid0.Coords) (k0_t1 : Fin (k0_t1_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v404 : Index := Scalar.indexCast v403
  let c0_221 : Index := 0#32
  ![v404.toNat, 0]
def k0_off16 (i : grid0.Coords) : Fin 4 → Nat :=
  let c0_227 : Index := 0#32
  let c0_228 : Index := 0#32
  let arg1 : BitVec 32 := BitVec.ofNat 32 (i 1).val
  let v417 : Index := Scalar.indexCast arg1
  let c0_229 : Index := 0#32
  ![0, 0, v417.toNat, 0]
def k0_off17 (i : grid0.Coords) (k0_t1 : Fin (k0_t1_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v422 : Index := Scalar.indexCast v403
  let c0_230 : Index := 0#32
  ![v422.toNat, 0]
def k0_off18 (i : grid0.Coords) (k0_t1 : Fin (k0_t1_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v431 : Index := Scalar.indexCast v403
  let c32_234 : Index := 32#32
  ![v431.toNat, 32]
def k0_off19 (i : grid0.Coords) (k0_t1 : Fin (k0_t1_loop i).trips) : Fin 2 → Nat :=
  let c0_250 : Index := 0#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v457 : Index := Scalar.indexCast v403
  ![0, v457.toNat]
def k0_off20 (i : grid0.Coords) (k0_t1 : Fin (k0_t1_loop i).trips) : Fin 4 → Nat :=
  let c0_253 : Index := 0#32
  let c0_254 : Index := 0#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let v466 : Index := Scalar.indexCast arg15
  let c0_255 : Index := 0#32
  ![0, 0, v466.toNat, 0]
def k0_off21 (i : grid0.Coords) (k0_t1 : Fin (k0_t1_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v479 : Index := Scalar.indexCast v403
  let c64_261 : Index := 64#32
  ![v479.toNat, 64]
def k0_off22 (i : grid0.Coords) : Fin 4 → Nat :=
  let c0_267 : Index := 0#32
  let c1_268 : Index := 1#32
  let arg1 : BitVec 32 := BitVec.ofNat 32 (i 1).val
  let v492 : Index := Scalar.indexCast arg1
  let c0_269 : Index := 0#32
  ![0, 1, v492.toNat, 0]
def k0_off23 (i : grid0.Coords) (k0_t1 : Fin (k0_t1_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v497 : Index := Scalar.indexCast v403
  let c64_270 : Index := 64#32
  ![v497.toNat, 64]
def k0_off24 (i : grid0.Coords) (k0_t1 : Fin (k0_t1_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v506 : Index := Scalar.indexCast v403
  let c96_274 : Index := 96#32
  ![v506.toNat, 96]
def k0_off25 (i : grid0.Coords) (k0_t1 : Fin (k0_t1_loop i).trips) : Fin 2 → Nat :=
  let c64_290 : Index := 64#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let c512_i32_220 : BitVec 32 := 512#32
  let v402 : BitVec 32 := Scalar.muli arg15 c512_i32_220
  let v403 : BitVec 32 := v402
  let v532 : Index := Scalar.indexCast v403
  ![64, v532.toNat]
def k0_off26 (i : grid0.Coords) (k0_t1 : Fin (k0_t1_loop i).trips) : Fin 4 → Nat :=
  let c0_293 : Index := 0#32
  let c1_294 : Index := 1#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c1_i32_184 : BitVec 32 := 1#32
  let arg15 : BitVec 32 := Scf.iv v360 c1_i32_184 k0_t1
  let v541 : Index := Scalar.indexCast arg15
  let c0_295 : Index := 0#32
  ![0, 1, v541.toNat, 0]
@[reducible] def k0_t2_loop (i : grid0.Coords) : Scf.Loop 32 :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let v362 : BitVec 32 := Scalar.addi v360 v361
  let c1_i32_185 : BitVec 32 := 1#32
  ⟨v365, v362, c1_i32_185⟩
def k0_mult4 (i : grid0.Coords) (k0_t2 : Fin (k0_t2_loop i).trips) : BitVec 32 :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  v402
def k0_off27 (i : grid0.Coords) (k0_t2 : Fin (k0_t2_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v404 : Index := Scalar.indexCast v403
  let c0_221 : Index := 0#32
  ![v404.toNat, 0]
def k0_off28 (i : grid0.Coords) : Fin 4 → Nat :=
  let c0_227 : Index := 0#32
  let c0_228 : Index := 0#32
  let arg1 : BitVec 32 := BitVec.ofNat 32 (i 1).val
  let v417 : Index := Scalar.indexCast arg1
  let c0_229 : Index := 0#32
  ![0, 0, v417.toNat, 0]
def k0_off29 (i : grid0.Coords) (k0_t2 : Fin (k0_t2_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v422 : Index := Scalar.indexCast v403
  let c0_230 : Index := 0#32
  ![v422.toNat, 0]
def k0_off30 (i : grid0.Coords) (k0_t2 : Fin (k0_t2_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v431 : Index := Scalar.indexCast v403
  let c32_234 : Index := 32#32
  ![v431.toNat, 32]
def k0_off31 (i : grid0.Coords) (k0_t2 : Fin (k0_t2_loop i).trips) : Fin 2 → Nat :=
  let c0_250 : Index := 0#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v457 : Index := Scalar.indexCast v403
  ![0, v457.toNat]
def k0_off32 (i : grid0.Coords) (k0_t2 : Fin (k0_t2_loop i).trips) : Fin 4 → Nat :=
  let c0_253 : Index := 0#32
  let c0_254 : Index := 0#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let v466 : Index := Scalar.indexCast arg15
  let c0_255 : Index := 0#32
  ![0, 0, v466.toNat, 0]
def k0_off33 (i : grid0.Coords) (k0_t2 : Fin (k0_t2_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v479 : Index := Scalar.indexCast v403
  let c64_261 : Index := 64#32
  ![v479.toNat, 64]
def k0_off34 (i : grid0.Coords) : Fin 4 → Nat :=
  let c0_267 : Index := 0#32
  let c1_268 : Index := 1#32
  let arg1 : BitVec 32 := BitVec.ofNat 32 (i 1).val
  let v492 : Index := Scalar.indexCast arg1
  let c0_269 : Index := 0#32
  ![0, 1, v492.toNat, 0]
def k0_off35 (i : grid0.Coords) (k0_t2 : Fin (k0_t2_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v497 : Index := Scalar.indexCast v403
  let c64_270 : Index := 64#32
  ![v497.toNat, 64]
def k0_off36 (i : grid0.Coords) (k0_t2 : Fin (k0_t2_loop i).trips) : Fin 2 → Nat :=
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v506 : Index := Scalar.indexCast v403
  let c96_274 : Index := 96#32
  ![v506.toNat, 96]
def k0_off37 (i : grid0.Coords) (k0_t2 : Fin (k0_t2_loop i).trips) : Fin 2 → Nat :=
  let c64_290 : Index := 64#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let c512_i32_220 : BitVec 32 := 512#32
  let v402 : BitVec 32 := Scalar.muli arg15 c512_i32_220
  let v403 : BitVec 32 := v402
  let v532 : Index := Scalar.indexCast v403
  ![64, v532.toNat]
def k0_off38 (i : grid0.Coords) (k0_t2 : Fin (k0_t2_loop i).trips) : Fin 4 → Nat :=
  let c0_293 : Index := 0#32
  let c1_294 : Index := 1#32
  let arg1 : BitVec 32 := BitVec.ofNat 32 (i 1).val
  let c1_i32_180 : BitVec 32 := 1#32
  let v359 : BitVec 32 := Scalar.addi arg1 c1_i32_180
  let c2_i32_181 : BitVec 32 := 2#32
  let v360 : BitVec 32 := Scalar.muli v359 c2_i32_181
  let c16_i32 : BitVec 32 := 16#32
  let v361 : BitVec 32 := Scalar.subi c16_i32 v360
  let c1_i32_183 : BitVec 32 := 1#32
  let v363 : BitVec 32 := Scalar.divsi v361 c1_i32_183
  let v364 : BitVec 32 := Scalar.muli v363 c1_i32_183
  let v365 : BitVec 32 := Scalar.addi v360 v364
  let c1_i32_185 : BitVec 32 := 1#32
  let arg15 : BitVec 32 := Scf.iv v365 c1_i32_185 k0_t2
  let v541 : Index := Scalar.indexCast arg15
  let c0_295 : Index := 0#32
  ![0, 1, v541.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S16x8192 : Shape := ⟨2, ![16, 8192]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S1024x8192 : Shape := ⟨2, ![1024, 8192]⟩
abbrev S8x2x8x1024 : Shape := ⟨4, ![8, 2, 8, 1024]⟩
abbrev S8x2x16x512 : Shape := ⟨4, ![8, 2, 16, 512]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x8192, .f32⟩
  | .hbm, ⟨4, _⟩ => ⟨S8192x1024, .f32⟩
  | .hbm, ⟨5, _⟩ => ⟨S8192x16x64, .f32⟩
  | .hbm, ⟨6, _⟩ => ⟨S16x8192x64, .f32⟩
  | .hbm, ⟨7, _⟩ => ⟨S8192x16x64, .f32⟩
  | .hbm, ⟨8, _⟩ => ⟨S16x8192x64, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x1, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192x8192, .f32⟩
  | .hbm, ⟨33, _⟩ => ⟨S_, .f32⟩
  | .hbm, ⟨34, _⟩ => ⟨S16x8192, .f32⟩
  | .hbm, ⟨35, _⟩ => ⟨S16x8192x1, .f32⟩
  | .hbm, ⟨36, _⟩ => ⟨S16x8192x8192, .f32⟩
  | .hbm, ⟨37, _⟩ => ⟨S16x8192x8192, .i1⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S_, .f32⟩
  | .hbm, ⟨42, _⟩ => ⟨S16x8192, .f32⟩
  | .hbm, ⟨43, _⟩ => ⟨S16x8192, .f32⟩
  | .hbm, ⟨44, _⟩ => ⟨S_, .f32⟩
  | .hbm, ⟨45, _⟩ => ⟨S16x8192, .f32⟩
  | .hbm, ⟨46, _⟩ => ⟨S16x8192, .i1⟩
  | .hbm, ⟨47, _⟩ => ⟨S_, .f32⟩
  | .hbm, ⟨48, _⟩ => ⟨S16x8192, .f32⟩
  | .hbm, ⟨49, _⟩ => ⟨S16x8192, .i1⟩
  | .hbm, ⟨50, _⟩ => ⟨S_, .f32⟩
  | .hbm, ⟨51, _⟩ => ⟨S16x8192, .f32⟩
  | .hbm, ⟨52, _⟩ => ⟨S_, .f32⟩
  | .hbm, ⟨53, _⟩ => ⟨S16x8192, .f32⟩
  | .hbm, ⟨54, _⟩ => ⟨S_, .f32⟩
  | .hbm, ⟨55, _⟩ => ⟨S16x8192, .f32⟩
  | .hbm, ⟨56, _⟩ => ⟨S16x8192, .f32⟩
  | .hbm, ⟨57, _⟩ => ⟨S16x8192, .f32⟩
  | .hbm, ⟨58, _⟩ => ⟨S16x8192x1, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S_, .f32⟩
  | .hbm, ⟨63, _⟩ => ⟨S16x8192, .f32⟩
  | .hbm, ⟨64, _⟩ => ⟨S16x8192x1, .f32⟩
  | .hbm, ⟨65, _⟩ => ⟨S16x8192x8192, .f32⟩
  | .hbm, ⟨66, _⟩ => ⟨S16x8192x8192, .f32⟩
  | .hbm, ⟨67, _⟩ => ⟨S16x8192x1, .f32⟩
  | .hbm, ⟨68, _⟩ => ⟨S_, .f32⟩
  | .hbm, ⟨69, _⟩ => ⟨S16x8192x1, .f32⟩
  | .hbm, ⟨70, _⟩ => ⟨S16x8192x1, .f32⟩
  | .hbm, ⟨71, _⟩ => ⟨S8192x16x64, .f32⟩
  | .hbm, ⟨72, _⟩ => ⟨S16x8192x64, .f32⟩
  | .hbm, ⟨73, _⟩ => ⟨S16x8192x64, .f32⟩
  | .hbm, ⟨74, _⟩ => ⟨S8192x16x64, .f32⟩
  | .hbm, ⟨75, _⟩ => ⟨S8192x1024, .f32⟩
  | .hbm, ⟨76, _⟩ => ⟨S8192x16x64, .f32⟩
  | .hbm, ⟨77, _⟩ => ⟨S16x8192x64, .f32⟩
  | .hbm, ⟨78, _⟩ => ⟨S16x64x8192, .f32⟩
  | .hbm, ⟨79, _⟩ => ⟨S16x8192x64, .f32⟩
  | .hbm, ⟨80, _⟩ => ⟨S16x8192x8192, .f32⟩
  | .hbm, ⟨81, _⟩ => ⟨S8192x16x64, .f32⟩
  | .hbm, ⟨82, _⟩ => ⟨S8192x1024, .f32⟩
  | .hbm, ⟨83, _⟩ => ⟨S16x8192x8192, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192, .f32⟩
  | .hbm, ⟨88, _⟩ => ⟨S16x8192x1, .f32⟩
  | .hbm, ⟨89, _⟩ => ⟨S16x8192x1, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192, .f32⟩
  | .hbm, ⟨94, _⟩ => ⟨S16x8192x8192, .f32⟩
  | .hbm, ⟨95, _⟩ => ⟨S16x8192x8192, .f32⟩
  | .hbm, ⟨96, _⟩ => ⟨S16x8192x8192, .f32⟩
  | .hbm, ⟨97, _⟩ => ⟨S_, .f32⟩
  | .hbm, ⟨98, _⟩ => ⟨S16x8192x8192, .f32⟩
  | .hbm, ⟨99, _⟩ => ⟨S16x8192x8192, .f32⟩
  | .hbm, ⟨100, _⟩ => ⟨S_, .f32⟩
  | .hbm, ⟨101, _⟩ => ⟨S16x8192, .f32⟩
  | .hbm, ⟨102, _⟩ => ⟨S16x8192x1, .f32⟩
  | .hbm, ⟨103, _⟩ => ⟨S16x8192x8192, .f32⟩
  | .hbm, ⟨104, _⟩ => ⟨S_, .f32⟩
  | .hbm, ⟨105, _⟩ => ⟨S16x8192, .f32⟩
  | .hbm, ⟨106, _⟩ => ⟨S16x1x8192, .f32⟩
  | .hbm, ⟨107, _⟩ => ⟨S_, .f32⟩
  | .hbm, ⟨108, _⟩ => ⟨S16x8192, .f32⟩
  | .hbm, ⟨109, _⟩ => ⟨S_, .f32⟩
  | .hbm, ⟨110, _⟩ => ⟨S16x8192, .f32⟩
  | .hbm, ⟨111, _⟩ => ⟨S_, .f32⟩
  | .hbm, ⟨112, _⟩ => ⟨S16x8192x8192, .f32⟩
  | .hbm, ⟨113, _⟩ => ⟨S16x8192x8192, .f32⟩
  | .hbm, ⟨114, _⟩ => ⟨S16x8192x64, .f32⟩
  | .hbm, ⟨115, _⟩ => ⟨S16x8192x64, .f32⟩
  | .hbm, ⟨116, _⟩ => ⟨S8192x16x64, .f32⟩
  | .hbm, ⟨117, _⟩ => ⟨S8192x1024, .f32⟩
  | .hbm, ⟨118, _⟩ => ⟨S8192x16x64, .f32⟩
  | .hbm, ⟨119, _⟩ => ⟨S8192x1024, .f32⟩
  | .hbm, ⟨120, _⟩ => ⟨S1024x8192, .f32⟩
  | .hbm, ⟨121, _⟩ => ⟨S8192x1024, .bf16⟩
  | .hbm, ⟨122, _⟩ => ⟨S8192x1024, .bf16⟩
  | .hbm, ⟨123, _⟩ => ⟨S8x2x8x1024, .f32⟩
  | .hbm, ⟨124, _⟩ => ⟨S8x2x16x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | .local _ .vmem, ⟨6, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S8192x1024, .f32⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x2048 : Shape := ⟨2, ![8192, 2048]⟩
abbrev S1024x2048 : Shape := ⟨2, ![1024, 2048]⟩
abbrev S8192x1024 : Shape := ⟨2, ![8192, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S1024x2048, .f32⟩
  | .hbm, ⟨8, _⟩ => ⟨S8192x2048, .f32⟩
  | .hbm, ⟨9, _⟩ => ⟨S1024x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .f32⟩
  | .local _ .vmem, ⟨4, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .f32⟩
  | .local _ .vmem, ⟨5, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S1024x8192 : Shape := ⟨2, ![1024, 8192]⟩
abbrev S8192x1024 : Shape := ⟨2, ![8192, 1024]⟩
abbrev S8192x128 : Shape := ⟨2, ![8192, 128]⟩
abbrev S1024x3072 : Shape := ⟨2, ![1024, 3072]⟩
abbrev S1024x128 : Shape := ⟨2, ![1024, 128]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x8192, .f32⟩
  | .hbm, ⟨1, _⟩ => ⟨S8192x1024, .bf16⟩
  | .hbm, ⟨2, _⟩ => ⟨S8192x1024, .bf16⟩
  | .hbm, ⟨3, _⟩ => ⟨S8192x128, .bf16⟩
  | .hbm, ⟨4, _⟩ => ⟨S1024x3072, .bf16⟩
  | .hbm, ⟨5, _⟩ => ⟨S1024x128, .bf16⟩
  | .hbm, ⟨6, _⟩ => ⟨S8192x1024, .f32⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S1024x8192 : Shape := ⟨2, ![1024, 8192]⟩
abbrev S8192x1024 : Shape := ⟨2, ![8192, 1024]⟩
abbrev S8192x128 : Shape := ⟨2, ![8192, 128]⟩
abbrev S1024x3072 : Shape := ⟨2, ![1024, 3072]⟩
abbrev S1024x128 : Shape := ⟨2, ![1024, 128]⟩
abbrev S_ : Shape := ⟨0, ![]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x1024, .bf16⟩
  | .hbm, ⟨2, _⟩ => ⟨S8192x1024, .bf16⟩
  | .hbm, ⟨3, _⟩ => ⟨S8192x128, .bf16⟩
  | .hbm, ⟨4, _⟩ => ⟨S1024x3072, .bf16⟩
  | .hbm, ⟨5, _⟩ => ⟨S1024x128, .bf16⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S1024x3072, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x128, .f32⟩
  | .hbm, ⟨17, _⟩ => ⟨S8192x128, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x128, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x8192 : Shape := ⟨2, ![1024, 8192]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S8x1024x352 : Shape := ⟨3, ![8, 1024, 352]⟩
abbrev S1x1024x352 : Shape := ⟨3, ![1, 1024, 352]⟩
abbrev S8x128x352 : Shape := ⟨3, ![8, 128, 352]⟩
abbrev S1x128x352 : Shape := ⟨3, ![1, 128, 352]⟩
abbrev S128x352 : Shape := ⟨2, ![128, 352]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x352, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x1024x352, .f32⟩
  | .hbm, ⟨5, _⟩ => ⟨S1x1024x352, .f32⟩
  | .hbm, ⟨6, _⟩ => ⟨S1x1024x352, .f32⟩
  | .hbm, ⟨7, _⟩ => ⟨S1x1024x352, .f32⟩
  | .local _ .vmem, ⟨0, _⟩ => ⟨S8x128x352, .bf16⟩
  | .local _ .vmem, ⟨1, _⟩ => ⟨S8x128x352, .bf16⟩
  | .local _ .vmem, ⟨2, _⟩ => ⟨S1x128x352, .f32⟩
  | .local _ .vmem, ⟨3, _⟩ => ⟨S1x128x352, .f32⟩
  | .local _ .vmem, ⟨4, _⟩ => ⟨S1x128x352, .f32⟩
  | .local _ .vmem, ⟨5, _⟩ => ⟨S1x128x352, .f32⟩
  | .local _ .vmem, ⟨6, _⟩ => ⟨S1x128x352, .f32⟩
  | .local _ .vmem, ⟨7, _⟩ => ⟨S1x128x352, .f32⟩
  | .local _ .vmem, ⟨8, _⟩ => ⟨S1x128x352, .f32⟩
  | .local _ .vmem, ⟨9, _⟩ => ⟨S1x128x352, .f32⟩
  | .local _ .vmem, ⟨10, _⟩ => ⟨S1x128x352, .f32⟩
  | .local _ .vmem, ⟨11, _⟩ => ⟨S1x128x352, .f32⟩
  | .local _ .vmem, ⟨12, _⟩ => ⟨S1x128x352, .f32⟩
  | .local _ .vmem, ⟨13, _⟩ => ⟨S1x128x352, .f32⟩
  | .local _ .vmem, ⟨14, _⟩ => ⟨S1x128x352, .f32⟩
  | .local _ .vmem, ⟨15, _⟩ => ⟨S1x128x352, .f32⟩
  | _, _ => ⟨S8x1024x352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference24Ideal.lean ====
abbrev S8x1024x352 : Shape := ⟨3, ![8, 1024, 352]⟩
abbrev S1x1024x352 : Shape := ⟨3, ![1, 1024, 352]⟩
abbrev S_ : Shape := ⟨0, ![]⟩
abbrev S1024x352 : Shape := ⟨2, ![1024, 352]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x352, .bf16⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S8x1024x352, .f32⟩
  | .hbm, ⟨5, _⟩ => ⟨S_, .f32⟩
  | .hbm, ⟨6, _⟩ => ⟨S1024x352, .f32⟩
  | .hbm, ⟨7, _⟩ => ⟨S1x1024x352, .f32⟩
  | .hbm, ⟨8, _⟩ => ⟨S_, .f32⟩
  | .hbm, ⟨9, _⟩ => ⟨S1x1024x352, .f32⟩
  | .hbm, ⟨10, _⟩ => ⟨S1x1024x352, .f32⟩
  | .hbm, ⟨11, _⟩ => ⟨S_, .f32⟩
  | .hbm, ⟨12, _⟩ => ⟨S1x1024x352, .f32⟩
  | .hbm, ⟨13, _⟩ => ⟨S1x1024x352, .f32⟩
  | .hbm, ⟨14, _⟩ => ⟨S1x1024x352, .f32⟩
  | .hbm, ⟨15, _⟩ => ⟨S_, .f32⟩
  | .hbm, ⟨16, _⟩ => ⟨S1x1024x352, .f32⟩
  | .hbm, ⟨17, _⟩ => ⟨S1x1024x352, .f32⟩
  | .hbm, ⟨18, _⟩ => ⟨S1x1024x352, .f32⟩
  | .hbm, ⟨19, _⟩ => ⟨S_, .f32⟩
  | .hbm, ⟨20, _⟩ => ⟨S1x1024x352, .f32⟩
  | .hbm, ⟨21, _⟩ => ⟨S1x1024x352, .f32⟩
  | .hbm, ⟨22, _⟩ => ⟨S1x1024x352, .f32⟩
  | .hbm, ⟨23, _⟩ => ⟨S_, .f32⟩
  | .hbm, ⟨24, _⟩ => ⟨S1x1024x352, .f32⟩
  | .hbm, ⟨25, _⟩ => ⟨S1x1024x352, .f32⟩
  | .hbm, ⟨26, _⟩ => ⟨S_, .f32⟩
  | .hbm, ⟨27, _⟩ => ⟨S1x1024x352, .f32⟩
  | .hbm, ⟨28, _⟩ => ⟨S1x1024x352, .f32⟩
  | .hbm, ⟨29, _⟩ => ⟨S1x1024x352, .f32⟩
  | .hbm, ⟨30, _⟩ => ⟨S_, .f32⟩
  | .hbm, ⟨31, _⟩ => ⟨S1x1024x352, .f32⟩
  | .hbm, ⟨32, _⟩ => ⟨S1x1024x352, .f32⟩
  | .hbm, ⟨33, _⟩ => ⟨S1x1024x352, .f32⟩
  | .hbm, ⟨34, _⟩ => ⟨S_, .f32⟩
  | .hbm, ⟨35, _⟩ => ⟨S1x1024x352, .f32⟩
  | .hbm, ⟨36, _⟩ => ⟨S1x1024x352, .f32⟩
  | .hbm, ⟨37, _⟩ => ⟨S1x1024x352, .f32⟩
  | .hbm, ⟨38, _⟩ => ⟨S_, .f32⟩
  | .hbm, ⟨39, _⟩ => ⟨S1x1024x352, .f32⟩
  | .hbm, ⟨40, _⟩ => ⟨S1x1024x352, .f32⟩
  | _, _ => ⟨S8x1024x352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Blocks.lean ====
/- What the projections' calls share: indices of matrices, and a sum over 8192 rows in blocks of 1024. -/
module

public import Idealize.ShloMosaic.Lib.Pointwise
public import Idealize.ShloMosaic.Lib.ValueIdx

@[expose] public section
noncomputable section
namespace Cert.Blocks
open Idealize.ShloMosaic

theorem zeros : (![0, 0] : Fin 2 → ℕ) = fun _ => 0 := funext fun a => by fin_cases a <;> rfl

/-- An index of a matrix, by its coordinates' values. -/
theorem at_ix2 {a b : ℕ} (j : (⟨2, ![a, b]⟩ : Shape).Idx) (u : Fin a) (v : Fin b) (h0 : (j 0).val = u.val) (h1 : (j 1).val = v.val) : j = ix2 u v := by
  funext i
  apply Fin.ext
  match i with
  | ⟨0, _⟩ => exact h0
  | ⟨1, _⟩ => exact h1

/-- Two matrices are equal if they are at every row and column. -/
theorem ext {a b : ℕ} {α : Type} {f g : (⟨2, ![a, b]⟩ : Shape).Idx → α} (h : ∀ (p : Fin a) (q : Fin b), f (ix2 p q) = g (ix2 p q)) : f = g := by
  funext i
  rw [eq_ix2 i]
  exact h (i 0) (i 1)

/-- Where a window at block `t` of the rows reads: its row. -/
theorem row {w : Fin 2 → ℕ} {t u : ℕ} (h : w = ![t, u]) (b p : ℕ) : w 0 * b + 1 * p = t * b + p := by subst h; simp

/-- The row, of a window that begins at the top. -/
theorem top {w : Fin 2 → ℕ} {u : ℕ} (h : w = ![0, u]) (b p : ℕ) : w 0 * b + 1 * p = p := by subst h; simp

/-- The column, of a window at block `u` of the columns. -/
theorem colOf {w : Fin 2 → ℕ} {t u : ℕ} (h : w = ![t, u]) (b q : ℕ) : w 1 * b + 1 * q = u * b + q := by subst h; simp

/-- The column, of a window on all of them. -/
theorem col {w : Fin 2 → ℕ} {t : ℕ} (h : w = ![t, 0]) (b q : ℕ) : w 1 * b + 1 * q = q := by subst h; simp

/-- The part of a sum over the rows of block `k`. -/
def block (f : Fin 8192 → EReal) (k : Fin 8) : EReal := ∑ r : Fin 1024, f ⟨k.val * 1024 + r.val, by omega⟩

/-- The parts before block `k`. -/
def upto (f : Fin 8192 → EReal) (k : ℕ) : EReal := ∑ i : Fin 8, if i.val < k then block f i else 0

theorem upto_zero (f : Fin 8192 → EReal) : upto f 0 = 0 := by simp [upto]

theorem upto_succ (f : Fin 8192 → EReal) (k : Fin 8) : upto f (k.val + 1) = upto f k.val + block f k := by
  unfold upto
  rw [← Finset.sum_ite_eq' Finset.univ k (block f) |>.trans (if_pos (Finset.mem_univ k)), ← Finset.sum_add_distrib]
  refine Finset.sum_congr rfl fun i _ => ?_
  by_cases h : i = k
  · subst h; simp
  · have : i.val ≠ k.val := fun e => h (Fin.ext e)
    by_cases h' : i.val < k.val
    · rw [if_pos (by omega), if_pos h', if_neg h, add_zero]
    · rw [if_neg (by omega), if_neg h', if_neg h, add_zero]

theorem upto_all (f : Fin 8192 → EReal) : upto f 8 = ∑ r : Fin 8192, f r := by
  unfold upto block
  rw [← (finProdFinEquiv (m := 8) (n := 1024)).sum_comp, Fintype.sum_prod_type]
  refine Finset.sum_congr rfl fun i _ => ?_
  rw [if_pos i.isLt]
  refine Finset.sum_congr rfl fun r _ => congrArg f (Fin.ext ?_)
  show i.val * 1024 + r.val = r.val + 1024 * i.val
  omega

/-- What an accumulator holds at one place after each of the grid points, in runs of 8: it starts a run with the run's
    first block, and adds a block at each of the next. -/
theorem held {N : ℕ} (v : (n : ℕ) → n < N → EReal) (f : ℕ → Fin 8192 → EReal)
    (start : ∀ n h, n % 8 = 0 → v n h = 0 + block (f (n / 8)) ⟨n % 8, by omega⟩)
    (more : ∀ n h, (n + 1) % 8 ≠ 0 → (n + 1) % 8 ≠ 7 → v (n + 1) h = v n (Nat.lt_of_succ_lt h) + block (f ((n + 1) / 8)) ⟨(n + 1) % 8, by omega⟩) :
    ∀ n h, n % 8 ≠ 7 → v n h = upto (f (n / 8)) (n % 8 + 1) := by
  have first : ∀ n h, n % 8 = 0 → v n h = upto (f (n / 8)) (n % 8 + 1) := fun n h h0 => by
    rw [start n h h0, upto_succ _ ⟨n % 8, by omega⟩]
    congr 1
    show 0 = upto _ (n % 8)
    rw [h0, upto_zero]
  intro n
  induction n with
  | zero => exact fun h _ => first 0 h rfl
  | succ n ih =>
    intro h h7
    by_cases h0 : (n + 1) % 8 = 0
    · exact first _ h h0
    · rw [more n h h0 h7, ih _ (by omega), upto_succ _ ⟨(n + 1) % 8, by omega⟩]
      have e : n / 8 = (n + 1) / 8 := by omega
      have e' : n % 8 + 1 = (n + 1) % 8 := by omega
      rw [e, e']

/-- What the last point of a run makes of it. -/
theorem total (f : Fin 8192 → EReal) (n : ℕ) (h7 : (n + 1) % 8 = 7) :
    upto f (n % 8 + 1) + block f ⟨(n + 1) % 8, by omega⟩ = ∑ r : Fin 8192, f r := by
  have e : n % 8 + 1 = (n + 1) % 8 := by omega
  rw [e, ← upto_succ f ⟨(n + 1) % 8, by omega⟩]
  show upto f ((n + 1) % 8 + 1) = _
  rw [h7, upto_all]
end Cert.Blocks
-- ==== Proof.Gu.lean ====
module

public import proofs.«01_k».proof.Proof.Gen.Kernel2
public import proofs.«01_k».proof.Proof.Gen.Kernel2Ideal.Value
public import proofs.«01_k».proof.Proof.Gen.Reference2Ideal.Run
public import proofs.«01_k».proof.Proof.Blocks

@[expose] public section
noncomputable section
namespace Cert.Kernel2Ideal.Prod
open Cert.Kernel2Ideal Cert.Kernel2Ideal.Gen Idealize.ShloMosaic Idealize.ShloMosaic.TcCoe Idealize.SL.Sem

section
variable {F : FTy → Type} [FloatOps F]
/-- What a point adds to what the scratch held. -/
abbrev step (x : Vec F S1024x1024 .bf16) (y : Vec F S1024x2816 .bf16) (s : Vec F S1024x2816 .f32) : Vec F S1024x2816 .f32 :=
  addf s (matmul dot_S1024x1024_S1024x2816_S1024x2816_0_0_1_1_n_n none x y (constant S1024x2816 .f32 0x00000000#32))

variable (c : Dev nD) (i : grid0.Coords) (a3 : Memref sig .tc .vmem S1024x1024 .bf16) (h3 : a3.IsWhole) (a4 : Memref sig .tc .vmem S1024x2816 .bf16) (h4 : a4.IsWhole)
  (a5 : Memref sig .tc .vmem S1024x2816 .f32) (h5 : a5.IsWhole) (a6 : Memref sig .tc .vmem S1024x2816 .f32) (h6 : a6.IsWhole)
  (x : Vec F S1024x1024 .bf16) (y : Vec F S1024x2816 .bf16) (s : Vec F S1024x2816 .f32)

theorem first (hc0 : cond0_0 i) (hc1 : ¬cond0_1 i) :
    sout0_A_0 c i a3 h3 a4 h4 a5 h5 a6 h6 hc0 hc1 x y = step x y (broadcast S1024x2816 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x2816) Blocks.zeros, View.readCov_unit_zero (S := S1024x2816) _ Blocks.zeros]
  unfold k0_pay2 k0_pay1
  simp only [View.readAt_eq_ld, h3.read_unread, h4.read_unread, View.ld_unit_zero (S := S1024x1024) Blocks.zeros, View.ld_unit_zero (S := S1024x2816) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, View.ld_unit_zero (S := S1024x2816) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x2816) _ Blocks.zeros]
  unfold k0_pay2
  simp only [View.readAt_eq_ld, h3.read_unread, h4.read_unread, h6.read_unread, View.ld_unit_zero (S := S1024x1024) Blocks.zeros, View.ld_unit_zero (S := S1024x2816) Blocks.zeros, shapeCast_self]
end

theorem step_at (x : FVec Ideal S1024x1024 .bf16) (y : FVec Ideal S1024x2816 .bf16) (s : FVec Ideal S1024x2816 .f32) (p : Fin 1024) (q : Fin 2816) :
    (step (F := Ideal) x y s) (ix2 p q) = s (ix2 p q) + ∑ r : Fin 1024, x (ix2 r p) * y (ix2 r q) := by
  pointwise

theorem reset_at (p : Fin 1024) (q : Fin 2816) :
    (broadcast S1024x2816 (Scalar.ofBits (F := Ideal) .f32 0x00000000#32) : FVec Ideal S1024x2816 .f32) (ix2 p q) = 0 := by
  pointwise

variable (m : (ℓ : Loc nD τ sig) → Buf (Elt Ideal) ℓ) (c : Dev nD)

abbrev X : FVec Ideal S8192x1024 .bf16 := m ((c : Thread nD τ).loc main_arg0)
abbrev Y : FVec Ideal S8192x5632 .bf16 := m ((c : Thread nD τ).loc main_arg1)

theorem index0 : ∀ t : Fin cfg0.N, win0_0.index t = ![t.val % 8, 0] := (by decide +kernel : ∀ t : Fin grid0.N, _)
theorem index1 : ∀ t : Fin cfg0.N, win0_1.index t = ![t.val % 8, t.val / 8] := (by decide +kernel : ∀ t : Fin grid0.N, _)

/-- A row's term of the product. -/
abbrev term (p : Fin 1024) (o : Fin 5632) (r : Fin 8192) : EReal := X m c (ix2 r p) * Y m c (ix2 r o)

/-- Column `q` of the columns' block `j`. -/
abbrev column (q : Fin 2816) (j : ℕ) : Fin 5632 := Fin.ofNat 5632 (j * 2816 + q.val)

/-- A point's step adds its block of the rows. -/
theorem step_block (t : Fin cfg0.N) (p : Fin 1024) (q : Fin 2816) (s : FVec Ideal S1024x2816 .f32) :
    (step (F := Ideal) (iblk m c 0 t) (iblk m c 1 t) s) (ix2 p q)
      = s (ix2 p q) + Blocks.block (term m c p (column q (t.val / 8))) ⟨t.val % 8, by omega⟩ := by
  have ht : t.val < 16 := lt_of_lt_of_eq t.isLt (N_0 : cfg0.N = 16)
  rw [step_at]
  refine congrArg _ (Finset.sum_congr rfl fun r _ => congrArg₂ _ ?_ ?_)
  · exact congrArg (X m c) (Blocks.at_ix2 _ ⟨t.val % 8 * 1024 + r.val, by omega⟩ p (Blocks.row (index0 t) _ _) (Blocks.col (index0 t) _ _))
  · refine congrArg (Y m c) (Blocks.at_ix2 _ ⟨t.val % 8 * 1024 + r.val, by omega⟩ (column q (t.val / 8))
      (Blocks.row (index1 t) _ _) ((Blocks.colOf (index1 t) _ _).trans (Nat.mod_eq_of_lt ?_).symm))
    have hq : q.val < 2816 := q.isLt
    show t.val / 8 * 2816 + q.val < 5632
    omega

theorem held (p : Fin 1024) (q : Fin 2816) (n : ℕ) (h : n < cfg0.N) (h7 : n % 8 ≠ 7) :
    ((outsAt0 m c n h).2 : FVec Ideal S1024x2816 .f32) (ix2 p q) = Blocks.upto (term m c p (column q (n / 8))) (n % 8 + 1) := by
  refine Blocks.held (fun n h => ((outsAt0 m c n h).2 : FVec Ideal S1024x2816 .f32) (ix2 p q)) (fun j => term m c p (column q j)) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point of a run writes back. -/
theorem flushed_at (p : Fin 1024) (q : Fin 2816) (n : ℕ) (h : n < cfg0.N) (h7 : n % 8 = 7) :
    ((outsAt0 m c n h).1 : FVec Ideal S1024x2816 .f32) (ix2 p q) = ∑ r : Fin 8192, term m c p (column q (n / 8)) r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  have e : k / 8 = (k + 1) / 8 := by omega
  rw [← Blocks.total _ k h7]
  refine congrArg (· + _) ((held m c p q k _ (by omega)).trans ?_)
  rw [e]

/-- The array the call leaves, as a vector. -/
abbrev left : FVec Ideal S1024x5632 .f32 := Value.G2 m c

/-- The array the call leaves is the whole product. -/
theorem array_at (p : Fin 1024) (o : Fin 5632) :
    left m c (ix2 p o) = ∑ r : Fin 8192, X m c (ix2 r p) * Y m c (ix2 r o) := by
  have hN : cfg0.N = 16 := N_0
  have hp : Value.pt2Of (ix2 p o) = 8 * (o.val / 2816) + 7 := by
    show 8 * (2 * (p.val / 1024 - 0) + 1 * (o.val / 2816 - 0)) + 7 = _
    omega
  have hl : Value.loc2Of (ix2 p o) = ix2 p ⟨o.val % 2816, by omega⟩ := by
    funext a
    apply Fin.ext
    match a with
    | ⟨0, _⟩ => show p.val % 1024 = p.val; omega
    | ⟨1, _⟩ => rfl
  have hb : Value.pt2Of (ix2 p o) < cfg0.N := by rw [hp, hN]; omega
  unfold left Value.G2
  rw [dif_pos hb, ← Value.outsAt0_sweep m c _ hb, hl, flushed_at m c p _ _ hb (by rw [hp]; omega)]
  have e : column ⟨o.val % 2816, by omega⟩ (Value.pt2Of (ix2 p o) / 8) = o :=
    Fin.ext (by show (Value.pt2Of (ix2 p o) / 8 * 2816 + o.val % 2816) % 5632 = o.val; rw [hp]; omega)
  rw [e]

theorem dot_at (x : FVec Ideal S8192x1024 .bf16) (y : FVec Ideal S8192x5632 .bf16) (p : Fin 1024) (o : Fin 5632) :
    (transpose S1024x5632 [1, 0] (Host.dotGeneral (F := Ideal) Reference2Ideal.dot_S8192x5632_S8192x1024_S5632x1024_0_0_1_1_n_n none (extf .f32 y Reference2Ideal.Gen.bitsLt_bf16_f32) (extf .f32 x Reference2Ideal.Gen.bitsLt_bf16_f32)) Reference2Ideal.Gen.transposes_S5632x1024_S1024x5632_1_0 : FVec Ideal S1024x5632 .f32) (ix2 p o)
      = ∑ r : Fin 8192, x (ix2 r p) * y (ix2 r o) := by
  pointwise
  exact Finset.sum_congr rfl fun r _ => mul_comm _ _

/-- The array the call leaves is the reference's result. -/
theorem left_eq :
    left m c = transpose S1024x5632 [1, 0] (Host.dotGeneral (F := Ideal) Reference2Ideal.dot_S8192x5632_S8192x1024_S5632x1024_0_0_1_1_n_n none (extf .f32 (Y m c) Reference2Ideal.Gen.bitsLt_bf16_f32) (extf .f32 (X m c) Reference2Ideal.Gen.bitsLt_bf16_f32)) Reference2Ideal.Gen.transposes_S5632x1024_S1024x5632_1_0 := by
  exact Blocks.ext fun p o => (array_at m c p o).trans (dot_at (X m c) (Y m c) p o).symm
end Cert.Kernel2Ideal.Prod

namespace Cert.Kernel2
open Idealize.ShloMosaic Idealize.SL.Sem
variable {F : FTy → Type} [FloatOps F]

/-- The two programs have one body table. -/
theorem defs₀_eq : @defs₀ F _ _ = @Cert.Kernel2Ideal.defs₀ F _ _ := by
  unfold defs₀ Cert.Kernel2Ideal.defs₀
  refine congrArg Defs.onTc (funext fun l => funext fun x => ?_)
  match l, x with
  | 0, (t, s) => rfl
  | ⟨n + 1, h⟩, _ => exact absurd h (by simp)

theorem defs_eq : @defs F _ _ = @Cert.Kernel2Ideal.defs F _ _ := congrArg (Pipeline.defs pcfgs) defs₀_eq
end Cert.Kernel2
-- ==== Proof.Forward.lean ====
module

public import proofs.«01_k».proof.Proof.Gen.Kernel3
public import proofs.«01_k».proof.Proof.Gen.Kernel3Ideal.Value
public import proofs.«01_k».proof.Proof.Gen.Reference3Ideal.Run
public import proofs.«01_k».proof.Proof.Blocks

@[expose] public section
noncomputable section
namespace Cert.Kernel3Ideal.Prod
open Cert.Kernel3Ideal Cert.Kernel3Ideal.Gen Idealize.ShloMosaic Idealize.ShloMosaic.TcCoe Idealize.SL.Sem

theorem out_at (x : FVec Ideal S1024x1024 .bf16) (y : FVec Ideal S1024x2816 .bf16) (p : Fin 1024) (q : Fin 2816) :
    (out0_2 (F := Ideal) x y) (ix2 p q) = ∑ k : Fin 1024, x (ix2 p k) * y (ix2 k q) := by
  unfold out0_2
  rw [View.canon_unit_zero Blocks.zeros]
  unfold k0_pay1
  simp only [View.ld_unit_zero (S := S1024x1024) Blocks.zeros, View.ld_unit_zero (S := S1024x2816) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S1024x5632 .bf16 := m ((c : Thread nD τ).loc main_arg1)

/-- The reference's result. -/
abbrev want : FVec Ideal S8192x5632 .bf16 :=
  truncf .bf16 (Host.dotGeneral (F := Ideal) Reference3Ideal.dot_S8192x1024_S1024x5632_S8192x5632_1_0_0_1_n_n none (extf .f32 (X m c) Reference3Ideal.Gen.bitsLt_bf16_f32) (extf .f32 (Y m c) Reference3Ideal.Gen.bitsLt_bf16_f32)) Reference3Ideal.Gen.bitsLt_bf16_f32

theorem want_at (p : Fin 8192) (o : Fin 5632) : want m c (ix2 p o) = ∑ k : Fin 1024, X m c (ix2 p k) * Y m c (ix2 k o) := by
  unfold want
  generalize X m c = x
  generalize Y m c = y
  pointwise

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

theorem xblk_at (t : Fin cfg0.N) (ht : t.val / 2 < 8) (p k : Fin 1024) :
    (iblk m c 0 t : FVec Ideal S1024x1024 .bf16) (ix2 p k) = X m c (ix2 ⟨t.val / 2 * 1024 + p.val, by omega⟩ k) :=
  congrArg (X m c) (Blocks.at_ix2 _ _ _ (Blocks.row (index0 t) _ _) (Blocks.col (index0 t) _ _))

theorem yblk_at (t : Fin cfg0.N) (k : Fin 1024) (q : Fin 2816) :
    (iblk m c 1 t : FVec Ideal S1024x2816 .bf16) (ix2 k q) = Y m c (ix2 k ⟨t.val % 2 * 2816 + q.val, by omega⟩) :=
  congrArg (Y m c) (Blocks.at_ix2 _ _ _ (Blocks.top (index1 t) _ _) (Blocks.colOf (index1 t) _ _))

theorem wblk_at (t : Fin cfg0.N) (ht : t.val / 2 < 8) (p : Fin 1024) (q : Fin 2816) :
    ((cfg0.win 2).blk t).view.read (Elt Ideal) (want m c) (ix2 p q)
      = want m c (ix2 ⟨t.val / 2 * 1024 + p.val, by omega⟩ ⟨t.val % 2 * 2816 + q.val, by omega⟩) :=
  congrArg (want m c) (Blocks.at_ix2 _ _ _ (Blocks.row (index2 t) _ _) (Blocks.colOf (index2 t) _ _))

/-- What a point writes back is its block of the reference's result. -/
theorem flushed_eq (t : Fin cfg0.N) : (dats m 0 c).flushed 2 t = ((cfg0.win 2).blk t).view.read (Elt Ideal) (want m c) := by
  have ht : t.val / 2 < 8 := by have := lt_of_lt_of_eq t.isLt (N_0 : cfg0.N = 16); omega
  rw [Value.flushed2]
  refine Blocks.ext (a := 1024) (b := 2816) fun p q => ?_
  rw [wblk_at m c t ht, want_at]
  refine (out_at (iblk m c 0 t) (iblk m c 1 t) p q).trans ?_
  exact Finset.sum_congr rfl fun k _ => by rw [xblk_at m c t ht, yblk_at]

theorem covered (i : S8192x5632.Idx) : ∃ t : Fin cfg0.N, (cfg0.win 2).flush t = true ∧ i ∈ ((cfg0.win 2).blk t).view.set := by
  have hN : cfg0.N = 16 := N_0
  have h0 : (i 0).val < 8192 := (i 0).isLt
  have h1 : (i 1).val < 5632 := (i 1).isLt
  obtain ⟨t, et⟩ : ∃ t : Fin cfg0.N, t.val = 2 * ((i 0).val / 1024) + (i 1).val / 2816 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val / 2 := congrFun (index2 t) 0
  have e1 : win0_2.index t 1 = t.val % 2 := congrFun (index2 t) 1
  intro a
  match a with
  | ⟨0, _⟩ => show win0_2.index t 0 * 1024 ≤ (i 0).val ∧ (i 0).val < win0_2.index t 0 * 1024 + 1024; omega
  | ⟨1, _⟩ => show win0_2.index t 1 * 2816 ≤ (i 1).val ∧ (i 1).val < win0_2.index t 1 * 2816 + 2816; omega

/-- The array the call leaves is the reference's result. -/
theorem array_eq : (dats m 0 c).arrAt 2 cfg0.N = want m c :=
  (dats m 0 c).arrAt_eq_of_cover 2 _ (fun t _ => flushed_eq m c t) covered
end Cert.Kernel3Ideal.Prod

namespace Cert.Kernel3
open Idealize.ShloMosaic Idealize.SL.Sem
variable {F : FTy → Type} [FloatOps F]

/-- The two programs have one body table. -/
theorem defs₀_eq : @defs₀ F _ _ = @Cert.Kernel3Ideal.defs₀ F _ _ := by
  unfold defs₀ Cert.Kernel3Ideal.defs₀
  refine congrArg Defs.onTc (funext fun l => funext fun x => ?_)
  match l, x with
  | 0, (t, s) => rfl
  | ⟨n + 1, h⟩, _ => exact absurd h (by simp)

theorem defs_eq : @defs F _ _ = @Cert.Kernel3Ideal.defs F _ _ := congrArg (Pipeline.defs pcfgs) defs₀_eq
end Cert.Kernel3
-- ==== Proof.Forward4.lean ====
module

public import proofs.«01_k».proof.Proof.Gen.Kernel4
public import proofs.«01_k».proof.Proof.Gen.Kernel4Ideal.Value
public import proofs.«01_k».proof.Proof.Gen.Reference4Ideal.Run
public import proofs.«01_k».proof.Proof.Blocks

@[expose] public section
noncomputable section
namespace Cert.Kernel4Ideal.Prod
open Cert.Kernel4Ideal Cert.Kernel4Ideal.Gen Idealize.ShloMosaic Idealize.ShloMosaic.TcCoe Idealize.SL.Sem

theorem out_at (x : FVec Ideal S1024x1024 .bf16) (y : FVec Ideal S1024x2048 .bf16) (p : Fin 1024) (q : Fin 2048) :
    (out0_2 (F := Ideal) x y) (ix2 p q) = ∑ k : Fin 1024, x (ix2 p k) * y (ix2 k q) := by
  unfold out0_2
  rw [View.canon_unit_zero Blocks.zeros]
  unfold k0_pay1
  simp only [View.ld_unit_zero (S := S1024x1024) Blocks.zeros, View.ld_unit_zero (S := S1024x2048) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S1024x2048 .bf16 := m ((c : Thread nD τ).loc main_arg1)

/-- The reference's result. -/
abbrev want : FVec Ideal S8192x2048 .bf16 :=
  truncf .bf16 (Host.dotGeneral (F := Ideal) Reference4Ideal.dot_S8192x1024_S1024x2048_S8192x2048_1_0_0_1_n_n none (extf .f32 (X m c) Reference4Ideal.Gen.bitsLt_bf16_f32) (extf .f32 (Y m c) Reference4Ideal.Gen.bitsLt_bf16_f32)) Reference4Ideal.Gen.bitsLt_bf16_f32

theorem want_at (p : Fin 8192) (o : Fin 2048) : want m c (ix2 p o) = ∑ k : Fin 1024, X m c (ix2 p k) * Y m c (ix2 k o) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (k : Fin 1024) (q : Fin 2048) :
    (iblk m c 1 t : FVec Ideal S1024x2048 .bf16) (ix2 k q) = Y m c (ix2 k q) :=
  congrArg (Y m c) (Blocks.at_ix2 _ _ _ (Blocks.top (index t).2.1 _ _) (Blocks.col (index t).2.1 _ _))

theorem wblk_at (t : Fin cfg0.N) (ht : t.val < 8) (p : Fin 1024) (q : Fin 2048) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 2048) fun p q => ?_
  rw [wblk_at m c t ht, want_at]
  refine (out_at (iblk m c 0 t) (iblk m c 1 t) p q).trans ?_
  exact Finset.sum_congr rfl fun k _ => by rw [xblk_at m c t ht, yblk_at]

theorem covered (i : S8192x2048.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 2048 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 2048 ≤ (i 1).val ∧ (i 1).val < win0_2.index t 1 * 2048 + 2048; omega

/-- The array the call leaves is the reference's result. -/
theorem array_eq : (dats m 0 c).arrAt 2 cfg0.N = want m c :=
  (dats m 0 c).arrAt_eq_of_cover 2 _ (fun t _ => flushed_eq m c t) covered
end Cert.Kernel4Ideal.Prod

namespace Cert.Kernel4
open Idealize.ShloMosaic Idealize.SL.Sem
variable {F : FTy → Type} [FloatOps F]

/-- The two programs have one body table. -/
theorem defs₀_eq : @defs₀ F _ _ = @Cert.Kernel4Ideal.defs₀ F _ _ := by
  unfold defs₀ Cert.Kernel4Ideal.defs₀
  refine congrArg Defs.onTc (funext fun l => funext fun x => ?_)
  match l, x with
  | 0, (t, s) => rfl
  | ⟨n + 1, h⟩, _ => exact absurd h (by simp)

theorem defs_eq : @defs F _ _ = @Cert.Kernel4Ideal.defs F _ _ := congrArg (Pipeline.defs pcfgs) defs₀_eq
end Cert.Kernel4
-- ==== Proof.Backward5.lean ====
module

public import proofs.«01_k».proof.Proof.Gen.Kernel5
public import proofs.«01_k».proof.Proof.Gen.Kernel5Ideal.Value
public import proofs.«01_k».proof.Proof.Gen.Reference5Ideal.Run
public import proofs.«01_k».proof.Proof.Blocks

@[expose] public section
noncomputable section
namespace Cert.Kernel5Ideal.Prod
open Cert.Kernel5Ideal Cert.Kernel5Ideal.Gen Idealize.ShloMosaic Idealize.ShloMosaic.TcCoe Idealize.SL.Sem

theorem out_at (x y u v : FVec Ideal S1024x2048 .bf16) (z : FVec Ideal S1024x1024 .f32) (p q : Fin 1024) :
    (out0_5 (F := Ideal) x y u v z) (ix2 p q)
      = z (ix2 p q) + (∑ k : Fin 2048, u (ix2 p k) * v (ix2 q k) + ∑ k : Fin 2048, x (ix2 p k) * y (ix2 q k)) := by
  unfold out0_5
  rw [View.canon_unit_zero Blocks.zeros]
  unfold k0_pay1
  simp only [View.ld_unit_zero (S := S1024x1024) Blocks.zeros, View.ld_unit_zero (S := S1024x2048) Blocks.zeros, shapeCast_self]
  pointwise
  rw [add_assoc, add_comm (∑ k : Fin 2048, u (ix2 p k) * v (ix2 q k))]

variable (m : (ℓ : Loc nD τ sig) → Buf (Elt Ideal) ℓ) (c : Dev nD)

abbrev X : FVec Ideal S8192x2048 .bf16 := m ((c : Thread nD τ).loc main_arg0)
abbrev Y : FVec Ideal S1024x2048 .bf16 := m ((c : Thread nD τ).loc main_arg1)
abbrev U : FVec Ideal S8192x2048 .bf16 := m ((c : Thread nD τ).loc main_arg2)
abbrev V' : FVec Ideal S1024x2048 .bf16 := m ((c : Thread nD τ).loc main_arg3)
abbrev Z : FVec Ideal S8192x1024 .f32 := m ((c : Thread nD τ).loc main_arg4)

/-- A product of the reference: rows against rows. -/
abbrev product (x : FVec Ideal S8192x2048 .bf16) (y : FVec Ideal S1024x2048 .bf16) : FVec Ideal S8192x1024 .f32 :=
  Host.dotGeneral (F := Ideal) Reference5Ideal.dot_S8192x2048_S1024x2048_S8192x1024_1_1_0_0_n_n none (extf .f32 x Reference5Ideal.Gen.bitsLt_bf16_f32) (extf .f32 y Reference5Ideal.Gen.bitsLt_bf16_f32)

/-- The reference's result. -/
abbrev want : FVec Ideal S8192x1024 .f32 := addf (Z m c) (addf (product (U m c) (V' m c)) (product (X m c) (Y m c)))

theorem want_at (p : Fin 8192) (o : Fin 1024) :
    want m c (ix2 p o) = Z m c (ix2 p o) + (∑ k : Fin 2048, U m c (ix2 p k) * V' m c (ix2 o k) + ∑ k : Fin 2048, X m c (ix2 p k) * Y m c (ix2 o k)) := by
  unfold want product
  generalize X m c = x
  generalize Y m c = y
  generalize U m c = u
  generalize V' m c = v
  generalize Z m c = z
  pointwise

/-- Point `t` takes block `t` of the rows. -/
theorem index : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem xblk_at (t : Fin cfg0.N) (ht : t.val < 8) (p : Fin 1024) (k : Fin 2048) :
    (iblk m c 0 t : FVec Ideal S1024x2048 .bf16) (ix2 p k) = X m c (ix2 ⟨t.val * 1024 + p.val, by omega⟩ k)
      ∧ (iblk m c 2 t : FVec Ideal S1024x2048 .bf16) (ix2 p k) = U m c (ix2 ⟨t.val * 1024 + p.val, by omega⟩ k) :=
  ⟨congrArg (X m c) (Blocks.at_ix2 _ _ _ (Blocks.row (index t).1 _ _) (Blocks.col (index t).1 _ _)),
    congrArg (U m c) (Blocks.at_ix2 _ _ _ (Blocks.row (index t).2.2.1 _ _) (Blocks.col (index t).2.2.1 _ _))⟩

theorem yblk_at (t : Fin cfg0.N) (q : Fin 1024) (k : Fin 2048) :
    (iblk m c 1 t : FVec Ideal S1024x2048 .bf16) (ix2 q k) = Y m c (ix2 q k)
      ∧ (iblk m c 3 t : FVec Ideal S1024x2048 .bf16) (ix2 q k) = V' m c (ix2 q k) :=
  ⟨congrArg (Y m c) (Blocks.at_ix2 _ _ _ (Blocks.top (index t).2.1 _ _) (Blocks.col (index t).2.1 _ _)),
    congrArg (V' m c) (Blocks.at_ix2 _ _ _ (Blocks.top (index t).2.2.2.1 _ _) (Blocks.col (index t).2.2.2.1 _ _))⟩

theorem zblk_at (t : Fin cfg0.N) (ht : t.val < 8) (p q : Fin 1024) :
    (iblk m c 4 t : FVec Ideal S1024x1024 .f32) (ix2 p q) = Z m c (ix2 ⟨t.val * 1024 + p.val, by omega⟩ q) :=
  congrArg (Z m c) (Blocks.at_ix2 _ _ _ (Blocks.row (index t).2.2.2.2.1 _ _) (Blocks.col (index t).2.2.2.2.1 _ _))

theorem wblk_at (t : Fin cfg0.N) (ht : t.val < 8) (p q : Fin 1024) :
    ((cfg0.win 5).blk t).view.read (Elt Ideal) (want m c) (ix2 p q) = want m c (ix2 ⟨t.val * 1024 + p.val, by omega⟩ q) :=
  congrArg (want m c) (Blocks.at_ix2 _ _ _ (Blocks.row (index t).2.2.2.2.2 _ _) (Blocks.col (index t).2.2.2.2.2 _ _))

/-- What a point writes back is its block of the reference's result. -/
theorem flushed_eq (t : Fin cfg0.N) : (dats m 0 c).flushed 5 t = ((cfg0.win 5).blk t).view.read (Elt Ideal) (want m c) := by
  have ht : t.val < 8 := lt_of_lt_of_eq t.isLt (N_0 : cfg0.N = 8)
  rw [Value.flushed5]
  refine Blocks.ext (a := 1024) (b := 1024) fun p q => ?_
  rw [wblk_at m c t ht, want_at]
  refine (out_at (iblk m c 0 t) (iblk m c 1 t) (iblk m c 2 t) (iblk m c 3 t) (iblk m c 4 t) p q).trans ?_
  rw [zblk_at m c t ht]
  exact congrArg _ (congrArg₂ _ (Finset.sum_congr rfl fun k _ => by rw [(xblk_at m c t ht p k).2, (yblk_at m c t q k).2])
    (Finset.sum_congr rfl fun k _ => by rw [(xblk_at m c t ht p k).1, (yblk_at m c t q k).1]))

theorem covered (i : S8192x1024.Idx) : ∃ t : Fin cfg0.N, (cfg0.win 5).flush t = true ∧ i ∈ ((cfg0.win 5).blk t).view.set := by
  have hN : cfg0.N = 8 := N_0
  have h0 : (i 0).val < 8192 := (i 0).isLt
  have h1 : (i 1).val < 1024 := (i 1).isLt
  obtain ⟨t, et⟩ : ∃ t : Fin cfg0.N, t.val = (i 0).val / 1024 := ⟨⟨_, by omega⟩, rfl⟩
  refine ⟨t, flush0_5 t, ?_⟩
  show i ∈ ((View.whole main_v0).slice (win0_5.rect t)).set
  rw [View.set_slice_whole, Rect.mem_set_unit]
  have e0 : win0_5.index t 0 = t.val := congrFun (index t).2.2.2.2.2 0
  have e1 : win0_5.index t 1 = 0 := congrFun (index t).2.2.2.2.2 1
  intro a
  match a with
  | ⟨0, _⟩ => show win0_5.index t 0 * 1024 ≤ (i 0).val ∧ (i 0).val < win0_5.index t 0 * 1024 + 1024; omega
  | ⟨1, _⟩ => show win0_5.index t 1 * 1024 ≤ (i 1).val ∧ (i 1).val < win0_5.index t 1 * 1024 + 1024; omega

/-- The array the call leaves is the reference's result. -/
theorem array_eq : (dats m 0 c).arrAt 5 cfg0.N = want m c :=
  (dats m 0 c).arrAt_eq_of_cover 5 _ (fun t _ => flushed_eq m c t) covered
end Cert.Kernel5Ideal.Prod

namespace Cert.Kernel5
open Idealize.ShloMosaic Idealize.SL.Sem
variable {F : FTy → Type} [FloatOps F]

/-- The two programs have one body table. -/
theorem defs₀_eq : @defs₀ F _ _ = @Cert.Kernel5Ideal.defs₀ F _ _ := by
  unfold defs₀ Cert.Kernel5Ideal.defs₀
  refine congrArg Defs.onTc (funext fun l => funext fun x => ?_)
  match l, x with
  | 0, (t, s) => rfl
  | ⟨n + 1, h⟩, _ => exact absurd h (by simp)

theorem defs_eq : @defs F _ _ = @Cert.Kernel5Ideal.defs F _ _ := congrArg (Pipeline.defs pcfgs) defs₀_eq
end Cert.Kernel5
-- ==== Proof.Weight6.lean ====
module

public import proofs.«01_k».proof.Proof.Gen.Kernel6
public import proofs.«01_k».proof.Proof.Gen.Kernel6Ideal.Value
public import proofs.«01_k».proof.Proof.Gen.Reference6Ideal.Run
public import proofs.«01_k».proof.Proof.Blocks

@[expose] public section
noncomputable section
namespace Cert.Kernel6Ideal.Prod
open Cert.Kernel6Ideal Cert.Kernel6Ideal.Gen Idealize.ShloMosaic Idealize.ShloMosaic.TcCoe Idealize.SL.Sem

section
variable {F : FTy → Type} [FloatOps F]
/-- What a point adds to what the scratch held. -/
abbrev step (x : Vec F S1024x1024 .bf16) (y : Vec F S1024x2048 .bf16) (s : Vec F S1024x2048 .f32) : Vec F S1024x2048 .f32 :=
  addf s (matmul dot_S1024x1024_S1024x2048_S1024x2048_0_0_1_1_n_n none x y (constant S1024x2048 .f32 0x00000000#32))

variable (c : Dev nD) (i : grid0.Coords) (a3 : Memref sig .tc .vmem S1024x1024 .bf16) (h3 : a3.IsWhole) (a4 : Memref sig .tc .vmem S1024x2048 .bf16) (h4 : a4.IsWhole)
  (a5 : Memref sig .tc .vmem S1024x2048 .f32) (h5 : a5.IsWhole) (a6 : Memref sig .tc .vmem S1024x2048 .f32) (h6 : a6.IsWhole)
  (x : Vec F S1024x1024 .bf16) (y : Vec F S1024x2048 .bf16) (s : Vec F S1024x2048 .f32)

theorem first (hc0 : cond0_0 i) (hc1 : ¬cond0_1 i) :
    sout0_A_0 c i a3 h3 a4 h4 a5 h5 a6 h6 hc0 hc1 x y = step x y (broadcast S1024x2048 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x2048) Blocks.zeros, View.readCov_unit_zero (S := S1024x2048) _ Blocks.zeros]
  unfold k0_pay2 k0_pay1
  simp only [View.readAt_eq_ld, h3.read_unread, h4.read_unread, View.ld_unit_zero (S := S1024x1024) Blocks.zeros, View.ld_unit_zero (S := S1024x2048) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, View.ld_unit_zero (S := S1024x2048) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x2048) _ Blocks.zeros]
  unfold k0_pay2
  simp only [View.readAt_eq_ld, h3.read_unread, h4.read_unread, h6.read_unread, View.ld_unit_zero (S := S1024x1024) Blocks.zeros, View.ld_unit_zero (S := S1024x2048) Blocks.zeros, shapeCast_self]
end

theorem step_at (x : FVec Ideal S1024x1024 .bf16) (y : FVec Ideal S1024x2048 .bf16) (s : FVec Ideal S1024x2048 .f32) (p : Fin 1024) (q : Fin 2048) :
    (step (F := Ideal) x y s) (ix2 p q) = s (ix2 p q) + ∑ r : Fin 1024, x (ix2 r p) * y (ix2 r q) := by
  pointwise

theorem reset_at (p : Fin 1024) (q : Fin 2048) :
    (broadcast S1024x2048 (Scalar.ofBits (F := Ideal) .f32 0x00000000#32) : FVec Ideal S1024x2048 .f32) (ix2 p q) = 0 := by
  pointwise

variable (m : (ℓ : Loc nD τ sig) → Buf (Elt Ideal) ℓ) (c : Dev nD)

abbrev X : FVec Ideal S8192x1024 .bf16 := m ((c : Thread nD τ).loc main_arg0)
abbrev Y : FVec Ideal S8192x2048 .bf16 := m ((c : Thread nD τ).loc main_arg1)

/-- Point `t` takes block `t` of both matrices' rows. -/
theorem index : ∀ t : Fin cfg0.N, win0_0.index t = ![t.val % 8, 0] ∧ win0_1.index t = ![t.val % 8, 0] := (by decide +kernel : ∀ t : Fin grid0.N, _)

/-- A row's term of the product. -/
abbrev term (p : Fin 1024) (q : Fin 2048) (r : Fin 8192) : EReal := X m c (ix2 r p) * Y m c (ix2 r q)

/-- A point's step adds its block of the rows. -/
theorem step_block (t : Fin cfg0.N) (p : Fin 1024) (q : Fin 2048) (s : FVec Ideal S1024x2048 .f32) :
    (step (F := Ideal) (iblk m c 0 t) (iblk m c 1 t) s) (ix2 p q) = s (ix2 p q) + Blocks.block (term m c p q) ⟨t.val % 8, by omega⟩ := by
  rw [step_at]
  refine congrArg _ (Finset.sum_congr rfl fun r _ => congrArg₂ _ ?_ ?_)
  · exact congrArg (X m c) (Blocks.at_ix2 _ ⟨t.val % 8 * 1024 + r.val, by omega⟩ p (Blocks.row (index t).1 _ _) (Blocks.col (index t).1 _ _))
  · exact congrArg (Y m c) (Blocks.at_ix2 _ ⟨t.val % 8 * 1024 + r.val, by omega⟩ q (Blocks.row (index t).2 _ _) (Blocks.col (index t).2 _ _))

theorem held (p : Fin 1024) (q : Fin 2048) (n : ℕ) (h : n < cfg0.N) (h7 : n % 8 ≠ 7) :
    ((outsAt0 m c n h).2 : FVec Ideal S1024x2048 .f32) (ix2 p q) = Blocks.upto (term m c p q) (n % 8 + 1) := by
  refine Blocks.held (fun n h => ((outsAt0 m c n h).2 : FVec Ideal S1024x2048 .f32) (ix2 p q)) (fun _ => term m c p q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point writes back. -/
theorem flushed_at (p : Fin 1024) (q : Fin 2048) (n : ℕ) (h : n < cfg0.N) (h7 : n % 8 = 7) :
    ((outsAt0 m c n h).1 : FVec Ideal S1024x2048 .f32) (ix2 p q) = ∑ r : Fin 8192, term m c p q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  rw [← Blocks.total _ k h7]
  exact congrArg (· + _) (held m c p q k _ (by omega))

/-- The array the call leaves, as a vector. -/
abbrev left : FVec Ideal S1024x2048 .f32 := Value.G2 m c

/-- The array the call leaves is the whole product. -/
theorem array_at (p : Fin 1024) (q : Fin 2048) : left m c (ix2 p q) = ∑ r : Fin 8192, term m c p q r := by
  have hN : cfg0.N = 8 := N_0
  have hp : Value.pt2Of (ix2 p q) = 7 := by
    show 8 * (1 * (p.val / 1024 - 0) + 1 * (q.val / 2048 - 0)) + 7 = _
    omega
  have hl : Value.loc2Of (ix2 p q) = ix2 p q := Blocks.at_ix2 _ _ _ (Nat.mod_eq_of_lt p.isLt) (Nat.mod_eq_of_lt q.isLt)
  have hb : Value.pt2Of (ix2 p q) < cfg0.N := by rw [hp, hN]; omega
  unfold left Value.G2
  rw [dif_pos hb, ← Value.outsAt0_sweep m c _ hb, hl, flushed_at m c p q _ hb (by rw [hp])]

theorem dot_at (x : FVec Ideal S8192x1024 .bf16) (y : FVec Ideal S8192x2048 .bf16) (p : Fin 1024) (q : Fin 2048) :
    (transpose S1024x2048 [1, 0] (Host.dotGeneral (F := Ideal) Reference6Ideal.dot_S8192x2048_S8192x1024_S2048x1024_0_0_1_1_n_n none (extf .f32 y Reference6Ideal.Gen.bitsLt_bf16_f32) (extf .f32 x Reference6Ideal.Gen.bitsLt_bf16_f32)) Reference6Ideal.Gen.transposes_S2048x1024_S1024x2048_1_0 : FVec Ideal S1024x2048 .f32) (ix2 p q)
      = ∑ r : Fin 8192, x (ix2 r p) * y (ix2 r q) := by
  pointwise
  exact Finset.sum_congr rfl fun r _ => mul_comm _ _

/-- The array the call leaves is the reference's result. -/
theorem left_eq :
    left m c = transpose S1024x2048 [1, 0] (Host.dotGeneral (F := Ideal) Reference6Ideal.dot_S8192x2048_S8192x1024_S2048x1024_0_0_1_1_n_n none (extf .f32 (Y m c) Reference6Ideal.Gen.bitsLt_bf16_f32) (extf .f32 (X m c) Reference6Ideal.Gen.bitsLt_bf16_f32)) Reference6Ideal.Gen.transposes_S2048x1024_S1024x2048_1_0 :=
  Blocks.ext fun p q => (array_at m c p q).trans (dot_at (X m c) (Y m c) p q).symm
end Cert.Kernel6Ideal.Prod

namespace Cert.Kernel6
open Idealize.ShloMosaic Idealize.SL.Sem
variable {F : FTy → Type} [FloatOps F]

/-- The two programs have one body table. -/
theorem defs₀_eq : @defs₀ F _ _ = @Cert.Kernel6Ideal.defs₀ F _ _ := by
  unfold defs₀ Cert.Kernel6Ideal.defs₀
  refine congrArg Defs.onTc (funext fun l => funext fun x => ?_)
  match l, x with
  | 0, (t, s) => rfl
  | ⟨n + 1, h⟩, _ => exact absurd h (by simp)

theorem defs_eq : @defs F _ _ = @Cert.Kernel6Ideal.defs F _ _ := congrArg (Pipeline.defs pcfgs) defs₀_eq
end Cert.Kernel6
-- ==== Proof.Forward7.lean ====
module

public import proofs.«01_k».proof.Proof.Gen.Kernel7
public import proofs.«01_k».proof.Proof.Gen.Kernel7Ideal.Value
public import proofs.«01_k».proof.Proof.Gen.Reference7Ideal.Run
public import proofs.«01_k».proof.Proof.Blocks

@[expose] public section
noncomputable section
namespace Cert.Kernel7Ideal.Prod
open Cert.Kernel7Ideal Cert.Kernel7Ideal.Gen Idealize.ShloMosaic Idealize.ShloMosaic.TcCoe Idealize.SL.Sem

theorem out_at (x : FVec Ideal S1024x1024 .bf16) (y : FVec Ideal S1024x3072 .bf16) (p : Fin 1024) (q : Fin 3072) :
    (out0_2 (F := Ideal) x y) (ix2 p q) = ∑ k : Fin 1024, x (ix2 p k) * y (ix2 k q) := by
  unfold out0_2
  rw [View.canon_unit_zero Blocks.zeros]
  unfold k0_pay1
  simp only [View.ld_unit_zero (S := S1024x1024) Blocks.zeros, View.ld_unit_zero (S := S1024x3072) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S1024x3072 .bf16 := m ((c : Thread nD τ).loc main_arg1)

/-- The reference's result. -/
abbrev want : FVec Ideal S8192x3072 .bf16 :=
  truncf .bf16 (Host.dotGeneral (F := Ideal) Reference7Ideal.dot_S8192x1024_S1024x3072_S8192x3072_1_0_0_1_n_n none (extf .f32 (X m c) Reference7Ideal.Gen.bitsLt_bf16_f32) (extf .f32 (Y m c) Reference7Ideal.Gen.bitsLt_bf16_f32)) Reference7Ideal.Gen.bitsLt_bf16_f32

theorem want_at (p : Fin 8192) (o : Fin 3072) : want m c (ix2 p o) = ∑ k : Fin 1024, X m c (ix2 p k) * Y m c (ix2 k o) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (k : Fin 1024) (q : Fin 3072) :
    (iblk m c 1 t : FVec Ideal S1024x3072 .bf16) (ix2 k q) = Y m c (ix2 k q) :=
  congrArg (Y m c) (Blocks.at_ix2 _ _ _ (Blocks.top (index t).2.1 _ _) (Blocks.col (index t).2.1 _ _))

theorem wblk_at (t : Fin cfg0.N) (ht : t.val < 8) (p : Fin 1024) (q : Fin 3072) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 3072) fun p q => ?_
  rw [wblk_at m c t ht, want_at]
  refine (out_at (iblk m c 0 t) (iblk m c 1 t) p q).trans ?_
  exact Finset.sum_congr rfl fun k _ => by rw [xblk_at m c t ht, yblk_at]

theorem covered (i : S8192x3072.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 3072 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 3072 ≤ (i 1).val ∧ (i 1).val < win0_2.index t 1 * 3072 + 3072; omega

/-- The array the call leaves is the reference's result. -/
theorem array_eq : (dats m 0 c).arrAt 2 cfg0.N = want m c :=
  (dats m 0 c).arrAt_eq_of_cover 2 _ (fun t _ => flushed_eq m c t) covered
end Cert.Kernel7Ideal.Prod

namespace Cert.Kernel7
open Idealize.ShloMosaic Idealize.SL.Sem
variable {F : FTy → Type} [FloatOps F]

/-- The two programs have one body table. -/
theorem defs₀_eq : @defs₀ F _ _ = @Cert.Kernel7Ideal.defs₀ F _ _ := by
  unfold defs₀ Cert.Kernel7Ideal.defs₀
  refine congrArg Defs.onTc (funext fun l => funext fun x => ?_)
  match l, x with
  | 0, (t, s) => rfl
  | ⟨n + 1, h⟩, _ => exact absurd h (by simp)

theorem defs_eq : @defs F _ _ = @Cert.Kernel7Ideal.defs F _ _ := congrArg (Pipeline.defs pcfgs) defs₀_eq
end Cert.Kernel7
-- ==== Proof.Forward8.lean ====
module

public import proofs.«01_k».proof.Proof.Gen.Kernel8
public import proofs.«01_k».proof.Proof.Gen.Kernel8Ideal.Value
public import proofs.«01_k».proof.Proof.Gen.Reference8Ideal.Run
public import proofs.«01_k».proof.Proof.Blocks

@[expose] public section
noncomputable section
namespace Cert.Kernel8Ideal.Prod
open Cert.Kernel8Ideal Cert.Kernel8Ideal.Gen Idealize.ShloMosaic Idealize.ShloMosaic.TcCoe Idealize.SL.Sem

theorem out_at (x : FVec Ideal S1024x1024 .bf16) (y : FVec Ideal S1024x3072 .bf16) (p : Fin 1024) (q : Fin 3072) :
    (out0_2 (F := Ideal) x y) (ix2 p q) = ∑ k : Fin 1024, x (ix2 p k) * y (ix2 k q) := by
  unfold out0_2
  rw [View.canon_unit_zero Blocks.zeros]
  unfold k0_pay1
  simp only [View.ld_unit_zero (S := S1024x1024) Blocks.zeros, View.ld_unit_zero (S := S1024x3072) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S1024x3072 .bf16 := m ((c : Thread nD τ).loc main_arg1)

/-- The reference's result. -/
abbrev want : FVec Ideal S8192x3072 .f32 :=
  Host.dotGeneral (F := Ideal) Reference8Ideal.dot_S8192x1024_S1024x3072_S8192x3072_1_0_0_1_n_n none (extf .f32 (X m c) Reference8Ideal.Gen.bitsLt_bf16_f32) (extf .f32 (Y m c) Reference8Ideal.Gen.bitsLt_bf16_f32)

theorem want_at (p : Fin 8192) (o : Fin 3072) : want m c (ix2 p o) = ∑ k : Fin 1024, X m c (ix2 p k) * Y m c (ix2 k o) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (k : Fin 1024) (q : Fin 3072) :
    (iblk m c 1 t : FVec Ideal S1024x3072 .bf16) (ix2 k q) = Y m c (ix2 k q) :=
  congrArg (Y m c) (Blocks.at_ix2 _ _ _ (Blocks.top (index t).2.1 _ _) (Blocks.col (index t).2.1 _ _))

theorem wblk_at (t : Fin cfg0.N) (ht : t.val < 8) (p : Fin 1024) (q : Fin 3072) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 3072) fun p q => ?_
  rw [wblk_at m c t ht, want_at]
  refine (out_at (iblk m c 0 t) (iblk m c 1 t) p q).trans ?_
  exact Finset.sum_congr rfl fun k _ => by rw [xblk_at m c t ht, yblk_at]

theorem covered (i : S8192x3072.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 3072 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 3072 ≤ (i 1).val ∧ (i 1).val < win0_2.index t 1 * 3072 + 3072; omega

/-- The array the call leaves is the reference's result. -/
theorem array_eq : (dats m 0 c).arrAt 2 cfg0.N = want m c :=
  (dats m 0 c).arrAt_eq_of_cover 2 _ (fun t _ => flushed_eq m c t) covered
end Cert.Kernel8Ideal.Prod

namespace Cert.Kernel8
open Idealize.ShloMosaic Idealize.SL.Sem
variable {F : FTy → Type} [FloatOps F]

/-- The two programs have one body table. -/
theorem defs₀_eq : @defs₀ F _ _ = @Cert.Kernel8Ideal.defs₀ F _ _ := by
  unfold defs₀ Cert.Kernel8Ideal.defs₀
  refine congrArg Defs.onTc (funext fun l => funext fun x => ?_)
  match l, x with
  | 0, (t, s) => rfl
  | ⟨n + 1, h⟩, _ => exact absurd h (by simp)

theorem defs_eq : @defs F _ _ = @Cert.Kernel8Ideal.defs F _ _ := congrArg (Pipeline.defs pcfgs) defs₀_eq
end Cert.Kernel8
-- ==== Proof.Backward9.lean ====
module

public import proofs.«01_k».proof.Proof.Gen.Kernel9
public import proofs.«01_k».proof.Proof.Gen.Kernel9Ideal.Value
public import proofs.«01_k».proof.Proof.Gen.Reference9Ideal.Run
public import proofs.«01_k».proof.Proof.Blocks

@[expose] public section
noncomputable section
namespace Cert.Kernel9Ideal.Prod
open Cert.Kernel9Ideal Cert.Kernel9Ideal.Gen Idealize.ShloMosaic Idealize.ShloMosaic.TcCoe Idealize.SL.Sem

theorem out_at (x y : FVec Ideal S1024x3072 .bf16) (z : FVec Ideal S1024x1024 .f32) (p q : Fin 1024) :
    (out0_3 (F := Ideal) x y z) (ix2 p q) = z (ix2 p q) + ∑ k : Fin 3072, x (ix2 p k) * y (ix2 q k) := by
  unfold out0_3
  rw [View.canon_unit_zero Blocks.zeros]
  unfold k0_pay1
  simp only [View.ld_unit_zero (S := S1024x1024) Blocks.zeros, View.ld_unit_zero (S := S1024x3072) Blocks.zeros, shapeCast_self]
  pointwise

variable (m : (ℓ : Loc nD τ sig) → Buf (Elt Ideal) ℓ) (c : Dev nD)

abbrev X : FVec Ideal S8192x3072 .bf16 := m ((c : Thread nD τ).loc main_arg0)
abbrev Y : FVec Ideal S1024x3072 .bf16 := m ((c : Thread nD τ).loc main_arg1)
abbrev Z : FVec Ideal S8192x1024 .f32 := m ((c : Thread nD τ).loc main_arg2)

/-- The reference's result. -/
abbrev want : FVec Ideal S8192x1024 .f32 :=
  addf (Z m c) (Host.dotGeneral (F := Ideal) Reference9Ideal.dot_S8192x3072_S1024x3072_S8192x1024_1_1_0_0_n_n none (extf .f32 (X m c) Reference9Ideal.Gen.bitsLt_bf16_f32) (extf .f32 (Y m c) Reference9Ideal.Gen.bitsLt_bf16_f32))

theorem want_at (p : Fin 8192) (o : Fin 1024) : want m c (ix2 p o) = Z m c (ix2 p o) + ∑ k : Fin 3072, X m c (ix2 p k) * Y m c (ix2 o k) := by
  unfold want
  generalize X m c = x
  generalize Y m c = y
  generalize Z m c = z
  pointwise

/-- Point `t` takes block `t` of the rows. -/
theorem index : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem xblk_at (t : Fin cfg0.N) (ht : t.val < 8) (p : Fin 1024) (k : Fin 3072) :
    (iblk m c 0 t : FVec Ideal S1024x3072 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (q : Fin 1024) (k : Fin 3072) :
    (iblk m c 1 t : FVec Ideal S1024x3072 .bf16) (ix2 q k) = Y m c (ix2 q k) :=
  congrArg (Y m c) (Blocks.at_ix2 _ _ _ (Blocks.top (index t).2.1 _ _) (Blocks.col (index t).2.1 _ _))

theorem zblk_at (t : Fin cfg0.N) (ht : t.val < 8) (p q : Fin 1024) :
    (iblk m c 2 t : FVec Ideal S1024x1024 .f32) (ix2 p q) = Z m c (ix2 ⟨t.val * 1024 + p.val, by omega⟩ q) :=
  congrArg (Z m c) (Blocks.at_ix2 _ _ _ (Blocks.row (index t).2.2.1 _ _) (Blocks.col (index t).2.2.1 _ _))

theorem wblk_at (t : Fin cfg0.N) (ht : t.val < 8) (p q : Fin 1024) :
    ((cfg0.win 3).blk t).view.read (Elt Ideal) (want m c) (ix2 p q) = want m c (ix2 ⟨t.val * 1024 + p.val, by omega⟩ q) :=
  congrArg (want m c) (Blocks.at_ix2 _ _ _ (Blocks.row (index t).2.2.2 _ _) (Blocks.col (index t).2.2.2 _ _))

/-- What a point writes back is its block of the reference's result. -/
theorem flushed_eq (t : Fin cfg0.N) : (dats m 0 c).flushed 3 t = ((cfg0.win 3).blk t).view.read (Elt Ideal) (want m c) := by
  have ht : t.val < 8 := lt_of_lt_of_eq t.isLt (N_0 : cfg0.N = 8)
  rw [Value.flushed3]
  refine Blocks.ext (a := 1024) (b := 1024) fun p q => ?_
  rw [wblk_at m c t ht, want_at]
  refine (out_at (iblk m c 0 t) (iblk m c 1 t) (iblk m c 2 t) p q).trans ?_
  rw [zblk_at m c t ht]
  exact congrArg _ (Finset.sum_congr rfl fun k _ => by rw [xblk_at m c t ht, yblk_at])

theorem covered (i : S8192x1024.Idx) : ∃ t : Fin cfg0.N, (cfg0.win 3).flush t = true ∧ i ∈ ((cfg0.win 3).blk t).view.set := by
  have hN : cfg0.N = 8 := N_0
  have h0 : (i 0).val < 8192 := (i 0).isLt
  have h1 : (i 1).val < 1024 := (i 1).isLt
  obtain ⟨t, et⟩ : ∃ t : Fin cfg0.N, t.val = (i 0).val / 1024 := ⟨⟨_, by omega⟩, rfl⟩
  refine ⟨t, flush0_3 t, ?_⟩
  show i ∈ ((View.whole main_v0).slice (win0_3.rect t)).set
  rw [View.set_slice_whole, Rect.mem_set_unit]
  have e0 : win0_3.index t 0 = t.val := congrFun (index t).2.2.2 0
  have e1 : win0_3.index t 1 = 0 := congrFun (index t).2.2.2 1
  intro a
  match a with
  | ⟨0, _⟩ => show win0_3.index t 0 * 1024 ≤ (i 0).val ∧ (i 0).val < win0_3.index t 0 * 1024 + 1024; omega
  | ⟨1, _⟩ => show win0_3.index t 1 * 1024 ≤ (i 1).val ∧ (i 1).val < win0_3.index t 1 * 1024 + 1024; omega

/-- The array the call leaves is the reference's result. -/
theorem array_eq : (dats m 0 c).arrAt 3 cfg0.N = want m c :=
  (dats m 0 c).arrAt_eq_of_cover 3 _ (fun t _ => flushed_eq m c t) covered
end Cert.Kernel9Ideal.Prod

namespace Cert.Kernel9
open Idealize.ShloMosaic Idealize.SL.Sem
variable {F : FTy → Type} [FloatOps F]

/-- The two programs have one body table. -/
theorem defs₀_eq : @defs₀ F _ _ = @Cert.Kernel9Ideal.defs₀ F _ _ := by
  unfold defs₀ Cert.Kernel9Ideal.defs₀
  refine congrArg Defs.onTc (funext fun l => funext fun x => ?_)
  match l, x with
  | 0, (t, s) => rfl
  | ⟨n + 1, h⟩, _ => exact absurd h (by simp)

theorem defs_eq : @defs F _ _ = @Cert.Kernel9Ideal.defs F _ _ := congrArg (Pipeline.defs pcfgs) defs₀_eq
end Cert.Kernel9
-- ==== Proof.Weight10.lean ====
module

public import proofs.«01_k».proof.Proof.Gen.Kernel10
public import proofs.«01_k».proof.Proof.Gen.Kernel10Ideal.Value
public import proofs.«01_k».proof.Proof.Gen.Reference10Ideal.Run
public import proofs.«01_k».proof.Proof.Blocks

@[expose] public section
noncomputable section
namespace Cert.Kernel10Ideal.Prod
open Cert.Kernel10Ideal Cert.Kernel10Ideal.Gen Idealize.ShloMosaic Idealize.ShloMosaic.TcCoe Idealize.SL.Sem

section
variable {F : FTy → Type} [FloatOps F]
/-- What a point adds to what the scratch held. -/
abbrev step (x : Vec F S1024x1024 .bf16) (y : Vec F S1024x3072 .bf16) (s : Vec F S1024x3072 .f32) : Vec F S1024x3072 .f32 :=
  addf s (matmul dot_S1024x1024_S1024x3072_S1024x3072_0_0_1_1_n_n none x y (constant S1024x3072 .f32 0x00000000#32))

variable (c : Dev nD) (i : grid0.Coords) (a3 : Memref sig .tc .vmem S1024x1024 .bf16) (h3 : a3.IsWhole) (a4 : Memref sig .tc .vmem S1024x3072 .bf16) (h4 : a4.IsWhole)
  (a5 : Memref sig .tc .vmem S1024x3072 .f32) (h5 : a5.IsWhole) (a6 : Memref sig .tc .vmem S1024x3072 .f32) (h6 : a6.IsWhole)
  (x : Vec F S1024x1024 .bf16) (y : Vec F S1024x3072 .bf16) (s : Vec F S1024x3072 .f32)

theorem first (hc0 : cond0_0 i) (hc1 : ¬cond0_1 i) :
    sout0_A_0 c i a3 h3 a4 h4 a5 h5 a6 h6 hc0 hc1 x y = step x y (broadcast S1024x3072 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x3072) Blocks.zeros, View.readCov_unit_zero (S := S1024x3072) _ Blocks.zeros]
  unfold k0_pay2 k0_pay1
  simp only [View.readAt_eq_ld, h3.read_unread, h4.read_unread, View.ld_unit_zero (S := S1024x1024) Blocks.zeros, View.ld_unit_zero (S := S1024x3072) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, View.ld_unit_zero (S := S1024x3072) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x3072) _ Blocks.zeros]
  unfold k0_pay2
  simp only [View.readAt_eq_ld, h3.read_unread, h4.read_unread, h6.read_unread, View.ld_unit_zero (S := S1024x1024) Blocks.zeros, View.ld_unit_zero (S := S1024x3072) Blocks.zeros, shapeCast_self]
end

theorem step_at (x : FVec Ideal S1024x1024 .bf16) (y : FVec Ideal S1024x3072 .bf16) (s : FVec Ideal S1024x3072 .f32) (p : Fin 1024) (q : Fin 3072) :
    (step (F := Ideal) x y s) (ix2 p q) = s (ix2 p q) + ∑ r : Fin 1024, x (ix2 r p) * y (ix2 r q) := by
  pointwise

theorem reset_at (p : Fin 1024) (q : Fin 3072) :
    (broadcast S1024x3072 (Scalar.ofBits (F := Ideal) .f32 0x00000000#32) : FVec Ideal S1024x3072 .f32) (ix2 p q) = 0 := by
  pointwise

variable (m : (ℓ : Loc nD τ sig) → Buf (Elt Ideal) ℓ) (c : Dev nD)

abbrev X : FVec Ideal S8192x1024 .bf16 := m ((c : Thread nD τ).loc main_arg0)
abbrev Y : FVec Ideal S8192x3072 .bf16 := m ((c : Thread nD τ).loc main_arg1)

/-- Point `t` takes block `t` of both matrices' rows. -/
theorem index : ∀ t : Fin cfg0.N, win0_0.index t = ![t.val % 8, 0] ∧ win0_1.index t = ![t.val % 8, 0] := (by decide +kernel : ∀ t : Fin grid0.N, _)

/-- A row's term of the product. -/
abbrev term (p : Fin 1024) (q : Fin 3072) (r : Fin 8192) : EReal := X m c (ix2 r p) * Y m c (ix2 r q)

/-- A point's step adds its block of the rows. -/
theorem step_block (t : Fin cfg0.N) (p : Fin 1024) (q : Fin 3072) (s : FVec Ideal S1024x3072 .f32) :
    (step (F := Ideal) (iblk m c 0 t) (iblk m c 1 t) s) (ix2 p q) = s (ix2 p q) + Blocks.block (term m c p q) ⟨t.val % 8, by omega⟩ := by
  rw [step_at]
  refine congrArg _ (Finset.sum_congr rfl fun r _ => congrArg₂ _ ?_ ?_)
  · exact congrArg (X m c) (Blocks.at_ix2 _ ⟨t.val % 8 * 1024 + r.val, by omega⟩ p (Blocks.row (index t).1 _ _) (Blocks.col (index t).1 _ _))
  · exact congrArg (Y m c) (Blocks.at_ix2 _ ⟨t.val % 8 * 1024 + r.val, by omega⟩ q (Blocks.row (index t).2 _ _) (Blocks.col (index t).2 _ _))

theorem held (p : Fin 1024) (q : Fin 3072) (n : ℕ) (h : n < cfg0.N) (h7 : n % 8 ≠ 7) :
    ((outsAt0 m c n h).2 : FVec Ideal S1024x3072 .f32) (ix2 p q) = Blocks.upto (term m c p q) (n % 8 + 1) := by
  refine Blocks.held (fun n h => ((outsAt0 m c n h).2 : FVec Ideal S1024x3072 .f32) (ix2 p q)) (fun _ => term m c p q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point writes back. -/
theorem flushed_at (p : Fin 1024) (q : Fin 3072) (n : ℕ) (h : n < cfg0.N) (h7 : n % 8 = 7) :
    ((outsAt0 m c n h).1 : FVec Ideal S1024x3072 .f32) (ix2 p q) = ∑ r : Fin 8192, term m c p q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  rw [← Blocks.total _ k h7]
  exact congrArg (· + _) (held m c p q k _ (by omega))

/-- The array the call leaves, as a vector. -/
abbrev left : FVec Ideal S1024x3072 .f32 := Value.G2 m c

/-- The array the call leaves is the whole product. -/
theorem array_at (p : Fin 1024) (q : Fin 3072) : left m c (ix2 p q) = ∑ r : Fin 8192, term m c p q r := by
  have hN : cfg0.N = 8 := N_0
  have hp : Value.pt2Of (ix2 p q) = 7 := by
    show 8 * (1 * (p.val / 1024 - 0) + 1 * (q.val / 3072 - 0)) + 7 = _
    omega
  have hl : Value.loc2Of (ix2 p q) = ix2 p q := Blocks.at_ix2 _ _ _ (Nat.mod_eq_of_lt p.isLt) (Nat.mod_eq_of_lt q.isLt)
  have hb : Value.pt2Of (ix2 p q) < cfg0.N := by rw [hp, hN]; omega
  unfold left Value.G2
  rw [dif_pos hb, ← Value.outsAt0_sweep m c _ hb, hl, flushed_at m c p q _ hb (by rw [hp])]

theorem dot_at (x : FVec Ideal S8192x1024 .bf16) (y : FVec Ideal S8192x3072 .bf16) (p : Fin 1024) (q : Fin 3072) :
    (transpose S1024x3072 [1, 0] (Host.dotGeneral (F := Ideal) Reference10Ideal.dot_S8192x3072_S8192x1024_S3072x1024_0_0_1_1_n_n none (extf .f32 y Reference10Ideal.Gen.bitsLt_bf16_f32) (extf .f32 x Reference10Ideal.Gen.bitsLt_bf16_f32)) Reference10Ideal.Gen.transposes_S3072x1024_S1024x3072_1_0 : FVec Ideal S1024x3072 .f32) (ix2 p q)
      = ∑ r : Fin 8192, x (ix2 r p) * y (ix2 r q) := by
  pointwise
  exact Finset.sum_congr rfl fun r _ => mul_comm _ _

/-- The array the call leaves is the reference's result. -/
theorem left_eq :
    left m c = transpose S1024x3072 [1, 0] (Host.dotGeneral (F := Ideal) Reference10Ideal.dot_S8192x3072_S8192x1024_S3072x1024_0_0_1_1_n_n none (extf .f32 (Y m c) Reference10Ideal.Gen.bitsLt_bf16_f32) (extf .f32 (X m c) Reference10Ideal.Gen.bitsLt_bf16_f32)) Reference10Ideal.Gen.transposes_S3072x1024_S1024x3072_1_0 :=
  Blocks.ext fun p q => (array_at m c p q).trans (dot_at (X m c) (Y m c) p q).symm
end Cert.Kernel10Ideal.Prod

namespace Cert.Kernel10
open Idealize.ShloMosaic Idealize.SL.Sem
variable {F : FTy → Type} [FloatOps F]

/-- The two programs have one body table. -/
theorem defs₀_eq : @defs₀ F _ _ = @Cert.Kernel10Ideal.defs₀ F _ _ := by
  unfold defs₀ Cert.Kernel10Ideal.defs₀
  refine congrArg Defs.onTc (funext fun l => funext fun x => ?_)
  match l, x with
  | 0, (t, s) => rfl
  | ⟨n + 1, h⟩, _ => exact absurd h (by simp)

theorem defs_eq : @defs F _ _ = @Cert.Kernel10Ideal.defs F _ _ := congrArg (Pipeline.defs pcfgs) defs₀_eq
end Cert.Kernel10
-- ==== Proof.Backward11.lean ====
module

public import proofs.«01_k».proof.Proof.Gen.Kernel11
public import proofs.«01_k».proof.Proof.Gen.Kernel11Ideal.Value
public import proofs.«01_k».proof.Proof.Gen.Reference11Ideal.Run
public import proofs.«01_k».proof.Proof.Blocks

@[expose] public section
noncomputable section
namespace Cert.Kernel11Ideal.Prod
open Cert.Kernel11Ideal Cert.Kernel11Ideal.Gen Idealize.ShloMosaic Idealize.ShloMosaic.TcCoe Idealize.SL.Sem

theorem out_at (x : FVec Ideal S1024x1024 .bf16) (y : FVec Ideal S2816x1024 .bf16) (p : Fin 1024) (q : Fin 2816) :
    (out0_2 (F := Ideal) x y) (ix2 p q) = ∑ k : Fin 1024, x (ix2 p k) * y (ix2 q k) := by
  unfold out0_2
  rw [View.canon_unit_zero Blocks.zeros]
  unfold k0_pay1
  simp only [View.ld_unit_zero (S := S1024x1024) Blocks.zeros, View.ld_unit_zero (S := S2816x1024) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S2816x1024 .bf16 := m ((c : Thread nD τ).loc main_arg1)

/-- The reference's result. -/
abbrev want : FVec Ideal S8192x2816 .bf16 :=
  truncf .bf16 (Host.dotGeneral (F := Ideal) Reference11Ideal.dot_S8192x1024_S2816x1024_S8192x2816_1_1_0_0_n_n none (extf .f32 (X m c) Reference11Ideal.Gen.bitsLt_bf16_f32) (extf .f32 (Y m c) Reference11Ideal.Gen.bitsLt_bf16_f32)) Reference11Ideal.Gen.bitsLt_bf16_f32

theorem want_at (p : Fin 8192) (o : Fin 2816) : want m c (ix2 p o) = ∑ k : Fin 1024, X m c (ix2 p k) * Y m c (ix2 o k) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (q : Fin 2816) (k : Fin 1024) :
    (iblk m c 1 t : FVec Ideal S2816x1024 .bf16) (ix2 q k) = Y m c (ix2 q k) :=
  congrArg (Y m c) (Blocks.at_ix2 _ _ _ (Blocks.top (index t).2.1 _ _) (Blocks.col (index t).2.1 _ _))

theorem wblk_at (t : Fin cfg0.N) (ht : t.val < 8) (p : Fin 1024) (q : Fin 2816) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 2816) fun p q => ?_
  rw [wblk_at m c t ht, want_at]
  refine (out_at (iblk m c 0 t) (iblk m c 1 t) p q).trans ?_
  exact Finset.sum_congr rfl fun k _ => by rw [xblk_at m c t ht, yblk_at]

theorem covered (i : S8192x2816.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 2816 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 2816 ≤ (i 1).val ∧ (i 1).val < win0_2.index t 1 * 2816 + 2816; omega

/-- The array the call leaves is the reference's result. -/
theorem array_eq : (dats m 0 c).arrAt 2 cfg0.N = want m c :=
  (dats m 0 c).arrAt_eq_of_cover 2 _ (fun t _ => flushed_eq m c t) covered
end Cert.Kernel11Ideal.Prod

namespace Cert.Kernel11
open Idealize.ShloMosaic Idealize.SL.Sem
variable {F : FTy → Type} [FloatOps F]

/-- The two programs have one body table. -/
theorem defs₀_eq : @defs₀ F _ _ = @Cert.Kernel11Ideal.defs₀ F _ _ := by
  unfold defs₀ Cert.Kernel11Ideal.defs₀
  refine congrArg Defs.onTc (funext fun l => funext fun x => ?_)
  match l, x with
  | 0, (t, s) => rfl
  | ⟨n + 1, h⟩, _ => exact absurd h (by simp)

theorem defs_eq : @defs F _ _ = @Cert.Kernel11Ideal.defs F _ _ := congrArg (Pipeline.defs pcfgs) defs₀_eq
end Cert.Kernel11
-- ==== Proof.Weight12.lean ====
module

public import proofs.«01_k».proof.Proof.Gen.Kernel12
public import proofs.«01_k».proof.Proof.Gen.Kernel12Ideal.Value
public import proofs.«01_k».proof.Proof.Gen.Reference12Ideal.Run
public import proofs.«01_k».proof.Proof.Blocks

@[expose] public section
noncomputable section
namespace Cert.Kernel12Ideal.Prod
open Cert.Kernel12Ideal Cert.Kernel12Ideal.Gen Idealize.ShloMosaic Idealize.ShloMosaic.TcCoe Idealize.SL.Sem

section
variable {F : FTy → Type} [FloatOps F]
/-- What a point adds to what the scratch held. -/
abbrev step (x : Vec F S1024x1408 .bf16) (y : Vec F S1024x1024 .bf16) (s : Vec F S1408x1024 .f32) : Vec F S1408x1024 .f32 :=
  addf s (matmul dot_S1024x1408_S1024x1024_S1408x1024_0_0_1_1_n_n none x y (constant S1408x1024 .f32 0x00000000#32))

variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .f32) (h5 : a5.IsWhole) (a6 : Memref sig .tc .vmem S1408x1024 .f32) (h6 : a6.IsWhole)
  (x : Vec F S1024x1408 .bf16) (y : Vec F S1024x1024 .bf16) (s : Vec F S1408x1024 .f32)

theorem first (hc0 : cond0_0 i) (hc1 : ¬cond0_1 i) :
    sout0_A_0 c i a3 h3 a4 h4 a5 h5 a6 h6 hc0 hc1 x y = step x y (broadcast S1408x1024 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) Blocks.zeros, View.readCov_unit_zero (S := S1408x1024) _ Blocks.zeros]
  unfold k0_pay2 k0_pay1
  simp only [View.readAt_eq_ld, h3.read_unread, h4.read_unread, View.ld_unit_zero (S := S1024x1408) Blocks.zeros, View.ld_unit_zero (S := S1024x1024) Blocks.zeros, View.ld_unit_zero (S := S1408x1024) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1408) Blocks.zeros, View.ld_unit_zero (S := S1024x1024) Blocks.zeros, View.ld_unit_zero (S := S1408x1024) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1408x1024) _ Blocks.zeros]
  unfold k0_pay2
  simp only [View.readAt_eq_ld, h3.read_unread, h4.read_unread, h6.read_unread, View.ld_unit_zero (S := S1024x1408) Blocks.zeros, View.ld_unit_zero (S := S1024x1024) Blocks.zeros, View.ld_unit_zero (S := S1408x1024) Blocks.zeros, shapeCast_self]
end

theorem step_at (x : FVec Ideal S1024x1408 .bf16) (y : FVec Ideal S1024x1024 .bf16) (s : FVec Ideal S1408x1024 .f32) (p : Fin 1408) (q : Fin 1024) :
    (step (F := Ideal) x y s) (ix2 p q) = s (ix2 p q) + ∑ r : Fin 1024, x (ix2 r p) * y (ix2 r q) := by
  pointwise

theorem reset_at (p : Fin 1408) (q : Fin 1024) :
    (broadcast S1408x1024 (Scalar.ofBits (F := Ideal) .f32 0x00000000#32) : FVec Ideal S1408x1024 .f32) (ix2 p q) = 0 := by
  pointwise

variable (m : (ℓ : Loc nD τ sig) → Buf (Elt Ideal) ℓ) (c : Dev nD)

abbrev X : FVec Ideal S8192x2816 .bf16 := m ((c : Thread nD τ).loc main_arg0)
abbrev Y : FVec Ideal S8192x1024 .bf16 := m ((c : Thread nD τ).loc main_arg1)

theorem index0 : ∀ t : Fin cfg0.N, win0_0.index t = ![t.val % 8, t.val / 8] := (by decide +kernel : ∀ t : Fin grid0.N, _)
theorem index1 : ∀ t : Fin cfg0.N, win0_1.index t = ![t.val % 8, 0] := (by decide +kernel : ∀ t : Fin grid0.N, _)

/-- A row's term of the product. -/
abbrev term (o : Fin 2816) (q : Fin 1024) (r : Fin 8192) : EReal := X m c (ix2 r o) * Y m c (ix2 r q)

/-- Row `p` of the result's block `j`. -/
abbrev row (p : Fin 1408) (j : ℕ) : Fin 2816 := Fin.ofNat 2816 (j * 1408 + p.val)

/-- A point's step adds its block of the rows. -/
theorem step_block (t : Fin cfg0.N) (p : Fin 1408) (q : Fin 1024) (s : FVec Ideal S1408x1024 .f32) :
    (step (F := Ideal) (iblk m c 0 t) (iblk m c 1 t) s) (ix2 p q)
      = s (ix2 p q) + Blocks.block (term m c (row p (t.val / 8)) q) ⟨t.val % 8, by omega⟩ := by
  have ht : t.val < 16 := lt_of_lt_of_eq t.isLt (N_0 : cfg0.N = 16)
  rw [step_at]
  refine congrArg _ (Finset.sum_congr rfl fun r _ => congrArg₂ _ ?_ ?_)
  · refine congrArg (X m c) (Blocks.at_ix2 _ ⟨t.val % 8 * 1024 + r.val, by omega⟩ (row p (t.val / 8))
      (Blocks.row (index0 t) _ _) ((Blocks.colOf (index0 t) _ _).trans (Nat.mod_eq_of_lt ?_).symm))
    have hp : p.val < 1408 := p.isLt
    show t.val / 8 * 1408 + p.val < 2816
    omega
  · exact congrArg (Y m c) (Blocks.at_ix2 _ ⟨t.val % 8 * 1024 + r.val, by omega⟩ q (Blocks.row (index1 t) _ _) (Blocks.col (index1 t) _ _))

theorem held (p : Fin 1408) (q : Fin 1024) (n : ℕ) (h : n < cfg0.N) (h7 : n % 8 ≠ 7) :
    ((outsAt0 m c n h).2 : FVec Ideal S1408x1024 .f32) (ix2 p q) = Blocks.upto (term m c (row p (n / 8)) q) (n % 8 + 1) := by
  refine Blocks.held (fun n h => ((outsAt0 m c n h).2 : FVec Ideal S1408x1024 .f32) (ix2 p q)) (fun j => term m c (row p j) q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point of a run writes back. -/
theorem flushed_at (p : Fin 1408) (q : Fin 1024) (n : ℕ) (h : n < cfg0.N) (h7 : n % 8 = 7) :
    ((outsAt0 m c n h).1 : FVec Ideal S1408x1024 .f32) (ix2 p q) = ∑ r : Fin 8192, term m c (row p (n / 8)) q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  have e : k / 8 = (k + 1) / 8 := by omega
  rw [← Blocks.total _ k h7]
  refine congrArg (· + _) ((held m c p q k _ (by omega)).trans ?_)
  rw [e]

/-- The array the call leaves, as a vector. -/
abbrev left : FVec Ideal S2816x1024 .f32 := Value.G2 m c

/-- The array the call leaves is the whole product. -/
theorem array_at (o : Fin 2816) (q : Fin 1024) :
    left m c (ix2 o q) = ∑ r : Fin 8192, X m c (ix2 r o) * Y m c (ix2 r q) := by
  have hN : cfg0.N = 16 := N_0
  have hp : Value.pt2Of (ix2 o q) = 8 * (o.val / 1408) + 7 := by
    show 8 * (1 * (o.val / 1408 - 0) + 1 * (q.val / 1024 - 0)) + 7 = _
    omega
  have hl : Value.loc2Of (ix2 o q) = ix2 ⟨o.val % 1408, by omega⟩ q := Blocks.at_ix2 _ _ _ rfl (Nat.mod_eq_of_lt q.isLt)
  have hb : Value.pt2Of (ix2 o q) < cfg0.N := by rw [hp, hN]; omega
  unfold left Value.G2
  rw [dif_pos hb, ← Value.outsAt0_sweep m c _ hb, hl, flushed_at m c _ _ _ hb (by rw [hp]; omega)]
  have e : row ⟨o.val % 1408, by omega⟩ (Value.pt2Of (ix2 o q) / 8) = o :=
    Fin.ext (by show (Value.pt2Of (ix2 o q) / 8 * 1408 + o.val % 1408) % 2816 = o.val; rw [hp]; omega)
  rw [e]

theorem dot_at (x : FVec Ideal S8192x2816 .bf16) (y : FVec Ideal S8192x1024 .bf16) (o : Fin 2816) (q : Fin 1024) :
    (transpose S2816x1024 [1, 0] (Host.dotGeneral (F := Ideal) Reference12Ideal.dot_S8192x1024_S8192x2816_S1024x2816_0_0_1_1_n_n none (extf .f32 y Reference12Ideal.Gen.bitsLt_bf16_f32) (extf .f32 x Reference12Ideal.Gen.bitsLt_bf16_f32)) Reference12Ideal.Gen.transposes_S1024x2816_S2816x1024_1_0 : FVec Ideal S2816x1024 .f32) (ix2 o q)
      = ∑ r : Fin 8192, x (ix2 r o) * y (ix2 r q) := by
  pointwise
  exact Finset.sum_congr rfl fun r _ => mul_comm _ _

/-- The array the call leaves is the reference's result. -/
theorem left_eq :
    left m c = transpose S2816x1024 [1, 0] (Host.dotGeneral (F := Ideal) Reference12Ideal.dot_S8192x1024_S8192x2816_S1024x2816_0_0_1_1_n_n none (extf .f32 (Y m c) Reference12Ideal.Gen.bitsLt_bf16_f32) (extf .f32 (X m c) Reference12Ideal.Gen.bitsLt_bf16_f32)) Reference12Ideal.Gen.transposes_S1024x2816_S2816x1024_1_0 := by
  exact Blocks.ext fun o q => (array_at m c o q).trans (dot_at (X m c) (Y m c) o q).symm
end Cert.Kernel12Ideal.Prod

namespace Cert.Kernel12
open Idealize.ShloMosaic Idealize.SL.Sem
variable {F : FTy → Type} [FloatOps F]

/-- The two programs have one body table. -/
theorem defs₀_eq : @defs₀ F _ _ = @Cert.Kernel12Ideal.defs₀ F _ _ := by
  unfold defs₀ Cert.Kernel12Ideal.defs₀
  refine congrArg Defs.onTc (funext fun l => funext fun x => ?_)
  match l, x with
  | 0, (t, s) => rfl
  | ⟨n + 1, h⟩, _ => exact absurd h (by simp)

theorem defs_eq : @defs F _ _ = @Cert.Kernel12Ideal.defs F _ _ := congrArg (Pipeline.defs pcfgs) defs₀_eq
end Cert.Kernel12
-- ==== Proof.Backward13.lean ====
module

public import proofs.«01_k».proof.Proof.Gen.Kernel13
public import proofs.«01_k».proof.Proof.Gen.Kernel13Ideal.Value
public import proofs.«01_k».proof.Proof.Gen.Reference13Ideal.Run
public import proofs.«01_k».proof.Proof.Blocks

@[expose] public section
noncomputable section
namespace Cert.Kernel13Ideal.Prod
open Cert.Kernel13Ideal Cert.Kernel13Ideal.Gen Idealize.ShloMosaic Idealize.ShloMosaic.TcCoe Idealize.SL.Sem

theorem out_at (x : FVec Ideal S1024x1024 .f32) (u v w : FVec Ideal S1024x1024 .bf16) (x' y' : FVec Ideal S1024x1024 .bf16) (f g : FVec Ideal S1024x128 .bf16)
    (z : FVec Ideal S1024x1024 .f32) (p q : Fin 1024) :
    (out0_9 (F := Ideal) x u x' v y' w f g z) (ix2 p q)
      = z (ix2 p q) + (((∑ k : Fin 128, f (ix2 p k) * g (ix2 q k) + ∑ k : Fin 1024, y' (ix2 p k) * w (ix2 q k)) + ∑ k : Fin 1024, x' (ix2 p k) * v (ix2 q k))
          + ∑ k : Fin 1024, x (ix2 k p) * u (ix2 q k)) := by
  unfold out0_9
  rw [View.canon_unit_zero Blocks.zeros]
  unfold k0_pay1
  simp only [View.ld_unit_zero (S := S1024x1024) Blocks.zeros, View.ld_unit_zero (S := S1024x128) Blocks.zeros, shapeCast_self]
  pointwise
  abel

variable (m : (ℓ : Loc nD τ sig) → Buf (Elt Ideal) ℓ) (c : Dev nD)

abbrev Dq : FVec Ideal S1024x8192 .f32 := m ((c : Thread nD τ).loc main_arg0)
abbrev Dk : FVec Ideal S8192x1024 .bf16 := m ((c : Thread nD τ).loc main_arg1)
abbrev Dv : FVec Ideal S8192x1024 .bf16 := m ((c : Thread nD τ).loc main_arg2)
abbrev Df : FVec Ideal S8192x128 .bf16 := m ((c : Thread nD τ).loc main_arg3)
abbrev Qkv : FVec Ideal S1024x3072 .bf16 := m ((c : Thread nD τ).loc main_arg4)
abbrev Fd : FVec Ideal S1024x128 .bf16 := m ((c : Thread nD τ).loc main_arg5)
abbrev Z : FVec Ideal S8192x1024 .f32 := m ((c : Thread nD τ).loc main_arg6)

/-- A product of the reference: rows against rows. -/
abbrev product (x : FVec Ideal S8192x1024 .f32) (y : FVec Ideal S1024x1024 .f32) : FVec Ideal S8192x1024 .f32 :=
  Host.dotGeneral (F := Ideal) Reference13Ideal.dot_S8192x1024_S1024x1024_S8192x1024_1_1_0_0_n_n none x y

/-- The reference's result. -/
abbrev want : FVec Ideal S8192x1024 .f32 :=
  addf (Z m c) (addf (addf (addf
    (Host.dotGeneral (F := Ideal) Reference13Ideal.dot_S8192x128_S1024x128_S8192x1024_1_1_0_0_n_n none (extf .f32 (Df m c) Reference13Ideal.Gen.bitsLt_bf16_f32) (extf .f32 (Fd m c) Reference13Ideal.Gen.bitsLt_bf16_f32))
    (product (extf .f32 (Dv m c) Reference13Ideal.Gen.bitsLt_bf16_f32) (extractStridedSlice S1024x1024 ![0, 2048] (extf .f32 (Qkv m c) Reference13Ideal.Gen.bitsLt_bf16_f32) Reference13Ideal.Gen.slices_S1024x3072_S1024x1024_0_2048)))
    (product (extf .f32 (Dk m c) Reference13Ideal.Gen.bitsLt_bf16_f32) (extractStridedSlice S1024x1024 ![0, 1024] (extf .f32 (Qkv m c) Reference13Ideal.Gen.bitsLt_bf16_f32) Reference13Ideal.Gen.slices_S1024x3072_S1024x1024_0_1024)))
    (product (transpose S8192x1024 [1, 0] (Dq m c) Reference13Ideal.Gen.transposes_S1024x8192_S8192x1024_1_0) (extractStridedSlice S1024x1024 ![0, 0] (extf .f32 (Qkv m c) Reference13Ideal.Gen.bitsLt_bf16_f32) Reference13Ideal.Gen.slices_S1024x3072_S1024x1024_0_0)))

theorem want_at (p : Fin 8192) (o : Fin 1024) :
    want m c (ix2 p o) = Z m c (ix2 p o) + (((∑ k : Fin 128, Df m c (ix2 p k) * Fd m c (ix2 o k)
        + ∑ k : Fin 1024, Dv m c (ix2 p k) * Qkv m c (ix2 o ⟨2 * 1024 + k.val, by omega⟩))
        + ∑ k : Fin 1024, Dk m c (ix2 p k) * Qkv m c (ix2 o ⟨1 * 1024 + k.val, by omega⟩))
        + ∑ k : Fin 1024, Dq m c (ix2 k p) * Qkv m c (ix2 o ⟨k.val, by omega⟩)) := by
  unfold want product
  generalize Dq m c = dq
  generalize Dk m c = dk
  generalize Dv m c = dv
  generalize Df m c = df
  generalize Qkv m c = w
  generalize Fd m c = g
  generalize Z m c = z
  pointwise

/-- Point `t` takes block `t` of the rows, of the transposed gradient block `t` of the columns. -/
theorem rows : ∀ t : Fin cfg0.N, win0_0.index t = ![0, t.val] ∧ win0_2.index t = ![t.val, 0] ∧ win0_4.index t = ![t.val, 0] ∧ win0_6.index t = ![t.val, 0]
    ∧ win0_8.index t = ![t.val, 0] ∧ win0_9.index t = ![t.val, 0] :=
  (by decide +kernel : ∀ t : Fin grid0.N, _)

/-- Every point takes the weights' same blocks of columns. -/
theorem weights : ∀ t : Fin cfg0.N, win0_1.index t = ![0, 0] ∧ win0_3.index t = ![0, 1] ∧ win0_5.index t = ![0, 2] ∧ win0_7.index t = ![0, 0] :=
  (by decide +kernel : ∀ t : Fin grid0.N, _)

theorem dq_at (t : Fin cfg0.N) (ht : t.val < 8) (p k : Fin 1024) :
    (iblk m c 0 t : FVec Ideal S1024x1024 .f32) (ix2 k p) = Dq m c (ix2 k ⟨t.val * 1024 + p.val, by omega⟩) :=
  congrArg (Dq m c) (Blocks.at_ix2 _ _ _ (Blocks.top (rows t).1 _ _) (Blocks.colOf (rows t).1 _ _))

theorem dkv_at (t : Fin cfg0.N) (ht : t.val < 8) (p k : Fin 1024) :
    (iblk m c 2 t : FVec Ideal S1024x1024 .bf16) (ix2 p k) = Dk m c (ix2 ⟨t.val * 1024 + p.val, by omega⟩ k)
      ∧ (iblk m c 4 t : FVec Ideal S1024x1024 .bf16) (ix2 p k) = Dv m c (ix2 ⟨t.val * 1024 + p.val, by omega⟩ k) :=
  ⟨congrArg (Dk m c) (Blocks.at_ix2 _ _ _ (Blocks.row (rows t).2.1 _ _) (Blocks.col (rows t).2.1 _ _)),
    congrArg (Dv m c) (Blocks.at_ix2 _ _ _ (Blocks.row (rows t).2.2.1 _ _) (Blocks.col (rows t).2.2.1 _ _))⟩

theorem df_at (t : Fin cfg0.N) (ht : t.val < 8) (p : Fin 1024) (k : Fin 128) :
    (iblk m c 6 t : FVec Ideal S1024x128 .bf16) (ix2 p k) = Df m c (ix2 ⟨t.val * 1024 + p.val, by omega⟩ k) :=
  congrArg (Df m c) (Blocks.at_ix2 _ _ _ (Blocks.row (rows t).2.2.2.1 _ _) (Blocks.col (rows t).2.2.2.1 _ _))

theorem z_at (t : Fin cfg0.N) (ht : t.val < 8) (p q : Fin 1024) :
    (iblk m c 8 t : FVec Ideal S1024x1024 .f32) (ix2 p q) = Z m c (ix2 ⟨t.val * 1024 + p.val, by omega⟩ q) :=
  congrArg (Z m c) (Blocks.at_ix2 _ _ _ (Blocks.row (rows t).2.2.2.2.1 _ _) (Blocks.col (rows t).2.2.2.2.1 _ _))

theorem qkv_at (t : Fin cfg0.N) (q k : Fin 1024) :
    (iblk m c 1 t : FVec Ideal S1024x1024 .bf16) (ix2 q k) = Qkv m c (ix2 q ⟨k.val, by omega⟩)
      ∧ (iblk m c 3 t : FVec Ideal S1024x1024 .bf16) (ix2 q k) = Qkv m c (ix2 q ⟨1 * 1024 + k.val, by omega⟩)
      ∧ (iblk m c 5 t : FVec Ideal S1024x1024 .bf16) (ix2 q k) = Qkv m c (ix2 q ⟨2 * 1024 + k.val, by omega⟩) :=
  ⟨congrArg (Qkv m c) (Blocks.at_ix2 _ _ _ (Blocks.top (weights t).1 _ _) (Blocks.col (weights t).1 _ _)),
    congrArg (Qkv m c) (Blocks.at_ix2 _ _ _ (Blocks.top (weights t).2.1 _ _) (Blocks.colOf (weights t).2.1 _ _)),
    congrArg (Qkv m c) (Blocks.at_ix2 _ _ _ (Blocks.top (weights t).2.2.1 _ _) (Blocks.colOf (weights t).2.2.1 _ _))⟩

theorem fd_at (t : Fin cfg0.N) (q : Fin 1024) (k : Fin 128) : (iblk m c 7 t : FVec Ideal S1024x128 .bf16) (ix2 q k) = Fd m c (ix2 q k) :=
  congrArg (Fd m c) (Blocks.at_ix2 _ _ _ (Blocks.top (weights t).2.2.2 _ _) (Blocks.col (weights t).2.2.2 _ _))

theorem wblk_at (t : Fin cfg0.N) (ht : t.val < 8) (p q : Fin 1024) :
    ((cfg0.win 9).blk t).view.read (Elt Ideal) (want m c) (ix2 p q) = want m c (ix2 ⟨t.val * 1024 + p.val, by omega⟩ q) :=
  congrArg (want m c) (Blocks.at_ix2 _ _ _ (Blocks.row (rows t).2.2.2.2.2 _ _) (Blocks.col (rows t).2.2.2.2.2 _ _))

/-- What a point writes back is its block of the reference's result. -/
theorem flushed_eq (t : Fin cfg0.N) : (dats m 0 c).flushed 9 t = ((cfg0.win 9).blk t).view.read (Elt Ideal) (want m c) := by
  have ht : t.val < 8 := lt_of_lt_of_eq t.isLt (N_0 : cfg0.N = 8)
  rw [Value.flushed9]
  refine Blocks.ext (a := 1024) (b := 1024) fun p q => ?_
  rw [wblk_at m c t ht, want_at]
  refine (out_at (iblk m c 0 t) (iblk m c 1 t) (iblk m c 3 t) (iblk m c 5 t) (iblk m c 2 t) (iblk m c 4 t) (iblk m c 6 t) (iblk m c 7 t) (iblk m c 8 t) p q).trans ?_
  rw [z_at m c t ht]
  refine congrArg _ (congrArg₂ _ (congrArg₂ _ (congrArg₂ _ ?_ ?_) ?_) ?_) <;> refine Finset.sum_congr rfl fun k _ => ?_
  · rw [df_at m c t ht, fd_at]
  · rw [(dkv_at m c t ht p k).2, (qkv_at m c t q k).2.2]
  · rw [(dkv_at m c t ht p k).1, (qkv_at m c t q k).2.1]
  · rw [dq_at m c t ht, (qkv_at m c t q k).1]

theorem covered (i : S8192x1024.Idx) : ∃ t : Fin cfg0.N, (cfg0.win 9).flush t = true ∧ i ∈ ((cfg0.win 9).blk t).view.set := by
  have hN : cfg0.N = 8 := N_0
  have h0 : (i 0).val < 8192 := (i 0).isLt
  have h1 : (i 1).val < 1024 := (i 1).isLt
  obtain ⟨t, et⟩ : ∃ t : Fin cfg0.N, t.val = (i 0).val / 1024 := ⟨⟨_, by omega⟩, rfl⟩
  refine ⟨t, flush0_9 t, ?_⟩
  show i ∈ ((View.whole main_v0).slice (win0_9.rect t)).set
  rw [View.set_slice_whole, Rect.mem_set_unit]
  have e0 : win0_9.index t 0 = t.val := congrFun (rows t).2.2.2.2.2 0
  have e1 : win0_9.index t 1 = 0 := congrFun (rows t).2.2.2.2.2 1
  intro a
  match a with
  | ⟨0, _⟩ => show win0_9.index t 0 * 1024 ≤ (i 0).val ∧ (i 0).val < win0_9.index t 0 * 1024 + 1024; omega
  | ⟨1, _⟩ => show win0_9.index t 1 * 1024 ≤ (i 1).val ∧ (i 1).val < win0_9.index t 1 * 1024 + 1024; omega

/-- The array the call leaves is the reference's result. -/
theorem array_eq : (dats m 0 c).arrAt 9 cfg0.N = want m c :=
  (dats m 0 c).arrAt_eq_of_cover 9 _ (fun t _ => flushed_eq m c t) covered
end Cert.Kernel13Ideal.Prod

namespace Cert.Kernel13
open Idealize.ShloMosaic Idealize.SL.Sem
variable {F : FTy → Type} [FloatOps F]

/-- The two programs have one body table. -/
theorem defs₀_eq : @defs₀ F _ _ = @Cert.Kernel13Ideal.defs₀ F _ _ := by
  unfold defs₀ Cert.Kernel13Ideal.defs₀
  refine congrArg Defs.onTc (funext fun l => funext fun x => ?_)
  match l, x with
  | 0, (t, s) => rfl
  | ⟨n + 1, h⟩, _ => exact absurd h (by simp)

theorem defs_eq : @defs F _ _ = @Cert.Kernel13Ideal.defs F _ _ := congrArg (Pipeline.defs pcfgs) defs₀_eq
end Cert.Kernel13
-- ==== Proof.Weight14.lean ====
module

public import proofs.«01_k».proof.Proof.Gen.Kernel14
public import proofs.«01_k».proof.Proof.Gen.Kernel14Ideal.Value
public import proofs.«01_k».proof.Proof.Gen.Reference14Ideal.Run
public import proofs.«01_k».proof.Proof.Blocks

@[expose] public section
noncomputable section
namespace Cert.Kernel14Ideal.Prod
open Cert.Kernel14Ideal Cert.Kernel14Ideal.Gen Idealize.ShloMosaic Idealize.ShloMosaic.TcCoe Idealize.SL.Sem

section
variable {F : FTy → Type} [FloatOps F]
/-- What a point adds to what the scratch held. -/
abbrev step (x : Vec F S1024x1024 .bf16) (y : Vec F S1024x1024 .bf16) (s : Vec F S1024x1024 .f32) : Vec F S1024x1024 .f32 :=
  addf s (matmul dot_S1024x1024_S1024x1024_S1024x1024_0_0_1_1_n_n none x y (constant S1024x1024 .f32 0x00000000#32))

variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x : Vec F S1024x1024 .bf16) (y : Vec F S1024x1024 .bf16) (s : Vec F S1024x1024 .f32)

theorem first (hc0 : cond0_0 i) (hc1 : ¬cond0_1 i) :
    sout0_A_0 c i a3 h3 a4 h4 a5 h5 a6 h6 hc0 hc1 x y = step x y (broadcast S1024x1024 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) Blocks.zeros, View.readCov_unit_zero (S := S1024x1024) _ Blocks.zeros]
  unfold k0_pay2 k0_pay1
  simp only [View.readAt_eq_ld, h3.read_unread, h4.read_unread, View.ld_unit_zero (S := S1024x1024) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x1024) _ Blocks.zeros]
  unfold k0_pay2
  simp only [View.readAt_eq_ld, h3.read_unread, h4.read_unread, h6.read_unread, View.ld_unit_zero (S := S1024x1024) Blocks.zeros, shapeCast_self]
end

theorem step_at (x : FVec Ideal S1024x1024 .bf16) (y : FVec Ideal S1024x1024 .bf16) (s : FVec Ideal S1024x1024 .f32) (p q : Fin 1024) :
    (step (F := Ideal) x y s) (ix2 p q) = s (ix2 p q) + ∑ r : Fin 1024, x (ix2 r p) * y (ix2 r q) := by
  pointwise

theorem reset_at (p q : Fin 1024) :
    (broadcast S1024x1024 (Scalar.ofBits (F := Ideal) .f32 0x00000000#32) : FVec Ideal S1024x1024 .f32) (ix2 p q) = 0 := by
  pointwise

variable (m : (ℓ : Loc nD τ sig) → Buf (Elt Ideal) ℓ) (c : Dev nD)

abbrev X : FVec Ideal S8192x1024 .bf16 := m ((c : Thread nD τ).loc main_arg0)
abbrev Y : FVec Ideal S8192x1024 .bf16 := m ((c : Thread nD τ).loc main_arg1)

/-- Point `t` takes block `t` of both matrices' rows. -/
theorem index : ∀ t : Fin cfg0.N, win0_0.index t = ![t.val % 8, 0] ∧ win0_1.index t = ![t.val % 8, 0] := (by decide +kernel : ∀ t : Fin grid0.N, _)

/-- A row's term of the product. -/
abbrev term (p q : Fin 1024) (r : Fin 8192) : EReal := X m c (ix2 r p) * Y m c (ix2 r q)

/-- A point's step adds its block of the rows. -/
theorem step_block (t : Fin cfg0.N) (p q : Fin 1024) (s : FVec Ideal S1024x1024 .f32) :
    (step (F := Ideal) (iblk m c 0 t) (iblk m c 1 t) s) (ix2 p q) = s (ix2 p q) + Blocks.block (term m c p q) ⟨t.val % 8, by omega⟩ := by
  rw [step_at]
  refine congrArg _ (Finset.sum_congr rfl fun r _ => congrArg₂ _ ?_ ?_)
  · exact congrArg (X m c) (Blocks.at_ix2 _ ⟨t.val % 8 * 1024 + r.val, by omega⟩ p (Blocks.row (index t).1 _ _) (Blocks.col (index t).1 _ _))
  · exact congrArg (Y m c) (Blocks.at_ix2 _ ⟨t.val % 8 * 1024 + r.val, by omega⟩ q (Blocks.row (index t).2 _ _) (Blocks.col (index t).2 _ _))

theorem held (p q : Fin 1024) (n : ℕ) (h : n < cfg0.N) (h7 : n % 8 ≠ 7) :
    ((outsAt0 m c n h).2 : FVec Ideal S1024x1024 .f32) (ix2 p q) = Blocks.upto (term m c p q) (n % 8 + 1) := by
  refine Blocks.held (fun n h => ((outsAt0 m c n h).2 : FVec Ideal S1024x1024 .f32) (ix2 p q)) (fun _ => term m c p q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point writes back. -/
theorem flushed_at (p q : Fin 1024) (n : ℕ) (h : n < cfg0.N) (h7 : n % 8 = 7) :
    ((outsAt0 m c n h).1 : FVec Ideal S1024x1024 .f32) (ix2 p q) = ∑ r : Fin 8192, term m c p q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  rw [← Blocks.total _ k h7]
  exact congrArg (· + _) (held m c p q k _ (by omega))

/-- The array the call leaves, as a vector. -/
abbrev left : FVec Ideal S1024x1024 .f32 := Value.G2 m c

/-- The array the call leaves is the whole product. -/
theorem array_at (p q : Fin 1024) : left m c (ix2 p q) = ∑ r : Fin 8192, term m c p q r := by
  have hN : cfg0.N = 8 := N_0
  have hp : Value.pt2Of (ix2 p q) = 7 := by
    show 8 * (1 * (p.val / 1024 - 0) + 1 * (q.val / 1024 - 0)) + 7 = _
    omega
  have hl : Value.loc2Of (ix2 p q) = ix2 p q := Blocks.at_ix2 _ _ _ (Nat.mod_eq_of_lt p.isLt) (Nat.mod_eq_of_lt q.isLt)
  have hb : Value.pt2Of (ix2 p q) < cfg0.N := by rw [hp, hN]; omega
  unfold left Value.G2
  rw [dif_pos hb, ← Value.outsAt0_sweep m c _ hb, hl, flushed_at m c p q _ hb (by rw [hp])]

theorem dot_at (x : FVec Ideal S8192x1024 .bf16) (y : FVec Ideal S8192x1024 .bf16) (p q : Fin 1024) :
    (transpose S1024x1024 [1, 0] (Host.dotGeneral (F := Ideal) Reference14Ideal.dot_S8192x1024_S8192x1024_S1024x1024_0_0_1_1_n_n none (extf .f32 y Reference14Ideal.Gen.bitsLt_bf16_f32) (extf .f32 x Reference14Ideal.Gen.bitsLt_bf16_f32)) Reference14Ideal.Gen.transposes_S1024x1024_S1024x1024_1_0 : FVec Ideal S1024x1024 .f32) (ix2 p q)
      = ∑ r : Fin 8192, x (ix2 r p) * y (ix2 r q) := by
  pointwise
  exact Finset.sum_congr rfl fun r _ => mul_comm _ _

/-- The array the call leaves is the reference's result. -/
theorem left_eq :
    left m c = transpose S1024x1024 [1, 0] (Host.dotGeneral (F := Ideal) Reference14Ideal.dot_S8192x1024_S8192x1024_S1024x1024_0_0_1_1_n_n none (extf .f32 (Y m c) Reference14Ideal.Gen.bitsLt_bf16_f32) (extf .f32 (X m c) Reference14Ideal.Gen.bitsLt_bf16_f32)) Reference14Ideal.Gen.transposes_S1024x1024_S1024x1024_1_0 :=
  Blocks.ext fun p q => (array_at m c p q).trans (dot_at (X m c) (Y m c) p q).symm
end Cert.Kernel14Ideal.Prod

namespace Cert.Kernel14
open Idealize.ShloMosaic Idealize.SL.Sem
variable {F : FTy → Type} [FloatOps F]

/-- The two programs have one body table. -/
theorem defs₀_eq : @defs₀ F _ _ = @Cert.Kernel14Ideal.defs₀ F _ _ := by
  unfold defs₀ Cert.Kernel14Ideal.defs₀
  refine congrArg Defs.onTc (funext fun l => funext fun x => ?_)
  match l, x with
  | 0, (t, s) => rfl
  | ⟨n + 1, h⟩, _ => exact absurd h (by simp)

theorem defs_eq : @defs F _ _ = @Cert.Kernel14Ideal.defs F _ _ := congrArg (Pipeline.defs pcfgs) defs₀_eq
end Cert.Kernel14
-- ==== Proof.Forward15.lean ====
module

public import proofs.«01_k».proof.Proof.Gen.Kernel15
public import proofs.«01_k».proof.Proof.Gen.Kernel15Ideal.Value
public import proofs.«01_k».proof.Proof.Gen.Reference15Ideal.Run
public import proofs.«01_k».proof.Proof.Blocks

@[expose] public section
noncomputable section
namespace Cert.Kernel15Ideal.Prod
open Cert.Kernel15Ideal Cert.Kernel15Ideal.Gen Idealize.ShloMosaic Idealize.ShloMosaic.TcCoe Idealize.SL.Sem

theorem out_at (x : FVec Ideal S1024x2048 .bf16) (y : FVec Ideal S2048x1024 .bf16) (p q : Fin 1024) :
    (out0_2 (F := Ideal) x y) (ix2 p q) = ∑ k : Fin 2048, x (ix2 p k) * y (ix2 k q) := by
  unfold out0_2
  rw [View.canon_unit_zero Blocks.zeros]
  unfold k0_pay1
  simp only [View.ld_unit_zero (S := S1024x2048) Blocks.zeros, View.ld_unit_zero (S := S2048x1024) Blocks.zeros, shapeCast_self]
  pointwise

variable (m : (ℓ : Loc nD τ sig) → Buf (Elt Ideal) ℓ) (c : Dev nD)

abbrev X : FVec Ideal S8192x2048 .bf16 := m ((c : Thread nD τ).loc main_arg0)
abbrev Y : FVec Ideal S2048x1024 .bf16 := m ((c : Thread nD τ).loc main_arg1)

/-- The reference's result. -/
abbrev want : FVec Ideal S8192x1024 .bf16 :=
  truncf .bf16 (Host.dotGeneral (F := Ideal) Reference15Ideal.dot_S8192x2048_S2048x1024_S8192x1024_1_0_0_1_n_n none (extf .f32 (X m c) Reference15Ideal.Gen.bitsLt_bf16_f32) (extf .f32 (Y m c) Reference15Ideal.Gen.bitsLt_bf16_f32)) Reference15Ideal.Gen.bitsLt_bf16_f32

theorem want_at (p : Fin 8192) (o : Fin 1024) : want m c (ix2 p o) = ∑ k : Fin 2048, X m c (ix2 p k) * Y m c (ix2 k o) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p : Fin 1024) (k : Fin 2048) :
    (iblk m c 0 t : FVec Ideal S1024x2048 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (k : Fin 2048) (q : Fin 1024) :
    (iblk m c 1 t : FVec Ideal S2048x1024 .bf16) (ix2 k q) = Y m c (ix2 k q) :=
  congrArg (Y m c) (Blocks.at_ix2 _ _ _ (Blocks.top (index t).2.1 _ _) (Blocks.col (index t).2.1 _ _))

theorem wblk_at (t : Fin cfg0.N) (ht : t.val < 8) (p q : Fin 1024) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 1024) fun p q => ?_
  rw [wblk_at m c t ht, want_at]
  refine (out_at (iblk m c 0 t) (iblk m c 1 t) p q).trans ?_
  exact Finset.sum_congr rfl fun k _ => by rw [xblk_at m c t ht, yblk_at]

theorem covered (i : S8192x1024.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 1024 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The array the call leaves is the reference's result. -/
theorem array_eq : (dats m 0 c).arrAt 2 cfg0.N = want m c :=
  (dats m 0 c).arrAt_eq_of_cover 2 _ (fun t _ => flushed_eq m c t) covered
end Cert.Kernel15Ideal.Prod

namespace Cert.Kernel15
open Idealize.ShloMosaic Idealize.SL.Sem
variable {F : FTy → Type} [FloatOps F]

/-- The two programs have one body table. -/
theorem defs₀_eq : @defs₀ F _ _ = @Cert.Kernel15Ideal.defs₀ F _ _ := by
  unfold defs₀ Cert.Kernel15Ideal.defs₀
  refine congrArg Defs.onTc (funext fun l => funext fun x => ?_)
  match l, x with
  | 0, (t, s) => rfl
  | ⟨n + 1, h⟩, _ => exact absurd h (by simp)

theorem defs_eq : @defs F _ _ = @Cert.Kernel15Ideal.defs F _ _ := congrArg (Pipeline.defs pcfgs) defs₀_eq
end Cert.Kernel15
-- ==== Proof.Weight16.lean ====
module

public import proofs.«01_k».proof.Proof.Gen.Kernel16
public import proofs.«01_k».proof.Proof.Gen.Kernel16Ideal.Value
public import proofs.«01_k».proof.Proof.Gen.Reference16Ideal.Run
public import proofs.«01_k».proof.Proof.Blocks

@[expose] public section
noncomputable section
namespace Cert.Kernel16Ideal.Prod
open Cert.Kernel16Ideal Cert.Kernel16Ideal.Gen Idealize.ShloMosaic Idealize.ShloMosaic.TcCoe Idealize.SL.Sem

section
variable {F : FTy → Type} [FloatOps F]
/-- What a point adds to what the scratch held. -/
abbrev step (x : Vec F S1024x1024 .bf16) (y : Vec F S1024x1024 .bf16) (s : Vec F S1024x1024 .f32) : Vec F S1024x1024 .f32 :=
  addf s (matmul dot_S1024x1024_S1024x1024_S1024x1024_0_0_1_1_n_n none x y (constant S1024x1024 .f32 0x00000000#32))

variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x : Vec F S1024x1024 .bf16) (y : Vec F S1024x1024 .bf16) (s : Vec F S1024x1024 .f32)

theorem first (hc0 : cond0_0 i) (hc1 : ¬cond0_1 i) :
    sout0_A_0 c i a3 h3 a4 h4 a5 h5 a6 h6 hc0 hc1 x y = step x y (broadcast S1024x1024 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) Blocks.zeros, View.readCov_unit_zero (S := S1024x1024) _ Blocks.zeros]
  unfold k0_pay2 k0_pay1
  simp only [View.readAt_eq_ld, h3.read_unread, h4.read_unread, View.ld_unit_zero (S := S1024x1024) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x1024) _ Blocks.zeros]
  unfold k0_pay2
  simp only [View.readAt_eq_ld, h3.read_unread, h4.read_unread, h6.read_unread, View.ld_unit_zero (S := S1024x1024) Blocks.zeros, shapeCast_self]
end

theorem step_at (x : FVec Ideal S1024x1024 .bf16) (y : FVec Ideal S1024x1024 .bf16) (s : FVec Ideal S1024x1024 .f32) (p q : Fin 1024) :
    (step (F := Ideal) x y s) (ix2 p q) = s (ix2 p q) + ∑ r : Fin 1024, x (ix2 r p) * y (ix2 r q) := by
  pointwise

theorem reset_at (p q : Fin 1024) :
    (broadcast S1024x1024 (Scalar.ofBits (F := Ideal) .f32 0x00000000#32) : FVec Ideal S1024x1024 .f32) (ix2 p q) = 0 := by
  pointwise

variable (m : (ℓ : Loc nD τ sig) → Buf (Elt Ideal) ℓ) (c : Dev nD)

abbrev X : FVec Ideal S8192x2048 .bf16 := m ((c : Thread nD τ).loc main_arg0)
abbrev Y : FVec Ideal S8192x1024 .bf16 := m ((c : Thread nD τ).loc main_arg1)

theorem index0 : ∀ t : Fin cfg0.N, win0_0.index t = ![t.val % 8, t.val / 8] := (by decide +kernel : ∀ t : Fin grid0.N, _)
theorem index1 : ∀ t : Fin cfg0.N, win0_1.index t = ![t.val % 8, 0] := (by decide +kernel : ∀ t : Fin grid0.N, _)

/-- A row's term of the product. -/
abbrev term (o : Fin 2048) (q : Fin 1024) (r : Fin 8192) : EReal := X m c (ix2 r o) * Y m c (ix2 r q)

/-- Row `p` of the result's block `j`. -/
abbrev row (p : Fin 1024) (j : ℕ) : Fin 2048 := Fin.ofNat 2048 (j * 1024 + p.val)

/-- A point's step adds its block of the rows. -/
theorem step_block (t : Fin cfg0.N) (p q : Fin 1024) (s : FVec Ideal S1024x1024 .f32) :
    (step (F := Ideal) (iblk m c 0 t) (iblk m c 1 t) s) (ix2 p q)
      = s (ix2 p q) + Blocks.block (term m c (row p (t.val / 8)) q) ⟨t.val % 8, by omega⟩ := by
  have ht : t.val < 16 := lt_of_lt_of_eq t.isLt (N_0 : cfg0.N = 16)
  rw [step_at]
  refine congrArg _ (Finset.sum_congr rfl fun r _ => congrArg₂ _ ?_ ?_)
  · refine congrArg (X m c) (Blocks.at_ix2 _ ⟨t.val % 8 * 1024 + r.val, by omega⟩ (row p (t.val / 8))
      (Blocks.row (index0 t) _ _) ((Blocks.colOf (index0 t) _ _).trans (Nat.mod_eq_of_lt ?_).symm))
    have hp : p.val < 1024 := p.isLt
    show t.val / 8 * 1024 + p.val < 2048
    omega
  · exact congrArg (Y m c) (Blocks.at_ix2 _ ⟨t.val % 8 * 1024 + r.val, by omega⟩ q (Blocks.row (index1 t) _ _) (Blocks.col (index1 t) _ _))

theorem held (p q : Fin 1024) (n : ℕ) (h : n < cfg0.N) (h7 : n % 8 ≠ 7) :
    ((outsAt0 m c n h).2 : FVec Ideal S1024x1024 .f32) (ix2 p q) = Blocks.upto (term m c (row p (n / 8)) q) (n % 8 + 1) := by
  refine Blocks.held (fun n h => ((outsAt0 m c n h).2 : FVec Ideal S1024x1024 .f32) (ix2 p q)) (fun j => term m c (row p j) q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point of a run writes back. -/
theorem flushed_at (p q : Fin 1024) (n : ℕ) (h : n < cfg0.N) (h7 : n % 8 = 7) :
    ((outsAt0 m c n h).1 : FVec Ideal S1024x1024 .f32) (ix2 p q) = ∑ r : Fin 8192, term m c (row p (n / 8)) q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  have e : k / 8 = (k + 1) / 8 := by omega
  rw [← Blocks.total _ k h7]
  refine congrArg (· + _) ((held m c p q k _ (by omega)).trans ?_)
  rw [e]

/-- The array the call leaves, as a vector. -/
abbrev left : FVec Ideal S2048x1024 .f32 := Value.G2 m c

/-- The array the call leaves is the whole product. -/
theorem array_at (o : Fin 2048) (q : Fin 1024) :
    left m c (ix2 o q) = ∑ r : Fin 8192, X m c (ix2 r o) * Y m c (ix2 r q) := by
  have hN : cfg0.N = 16 := N_0
  have hp : Value.pt2Of (ix2 o q) = 8 * (o.val / 1024) + 7 := by
    show 8 * (1 * (o.val / 1024 - 0) + 1 * (q.val / 1024 - 0)) + 7 = _
    omega
  have hl : Value.loc2Of (ix2 o q) = ix2 ⟨o.val % 1024, by omega⟩ q := Blocks.at_ix2 _ _ _ rfl (Nat.mod_eq_of_lt q.isLt)
  have hb : Value.pt2Of (ix2 o q) < cfg0.N := by rw [hp, hN]; omega
  unfold left Value.G2
  rw [dif_pos hb, ← Value.outsAt0_sweep m c _ hb, hl, flushed_at m c _ _ _ hb (by rw [hp]; omega)]
  have e : row ⟨o.val % 1024, by omega⟩ (Value.pt2Of (ix2 o q) / 8) = o :=
    Fin.ext (by show (Value.pt2Of (ix2 o q) / 8 * 1024 + o.val % 1024) % 2048 = o.val; rw [hp]; omega)
  rw [e]

theorem dot_at (x : FVec Ideal S8192x2048 .bf16) (y : FVec Ideal S8192x1024 .bf16) (o : Fin 2048) (q : Fin 1024) :
    (transpose S2048x1024 [1, 0] (Host.dotGeneral (F := Ideal) Reference16Ideal.dot_S8192x1024_S8192x2048_S1024x2048_0_0_1_1_n_n none (extf .f32 y Reference16Ideal.Gen.bitsLt_bf16_f32) (extf .f32 x Reference16Ideal.Gen.bitsLt_bf16_f32)) Reference16Ideal.Gen.transposes_S1024x2048_S2048x1024_1_0 : FVec Ideal S2048x1024 .f32) (ix2 o q)
      = ∑ r : Fin 8192, x (ix2 r o) * y (ix2 r q) := by
  pointwise
  exact Finset.sum_congr rfl fun r _ => mul_comm _ _

/-- The array the call leaves is the reference's result. -/
theorem left_eq :
    left m c = transpose S2048x1024 [1, 0] (Host.dotGeneral (F := Ideal) Reference16Ideal.dot_S8192x1024_S8192x2048_S1024x2048_0_0_1_1_n_n none (extf .f32 (Y m c) Reference16Ideal.Gen.bitsLt_bf16_f32) (extf .f32 (X m c) Reference16Ideal.Gen.bitsLt_bf16_f32)) Reference16Ideal.Gen.transposes_S1024x2048_S2048x1024_1_0 := by
  exact Blocks.ext fun o q => (array_at m c o q).trans (dot_at (X m c) (Y m c) o q).symm
end Cert.Kernel16Ideal.Prod

namespace Cert.Kernel16
open Idealize.ShloMosaic Idealize.SL.Sem
variable {F : FTy → Type} [FloatOps F]

/-- The two programs have one body table. -/
theorem defs₀_eq : @defs₀ F _ _ = @Cert.Kernel16Ideal.defs₀ F _ _ := by
  unfold defs₀ Cert.Kernel16Ideal.defs₀
  refine congrArg Defs.onTc (funext fun l => funext fun x => ?_)
  match l, x with
  | 0, (t, s) => rfl
  | ⟨n + 1, h⟩, _ => exact absurd h (by simp)

theorem defs_eq : @defs F _ _ = @Cert.Kernel16Ideal.defs F _ _ := congrArg (Pipeline.defs pcfgs) defs₀_eq
end Cert.Kernel16
-- ==== Proof.Forward17.lean ====
module

public import proofs.«01_k».proof.Proof.Gen.Kernel17
public import proofs.«01_k».proof.Proof.Gen.Kernel17Ideal.Value
public import proofs.«01_k».proof.Proof.Gen.Reference17Ideal.Run
public import proofs.«01_k».proof.Proof.Blocks

@[expose] public section
noncomputable section
namespace Cert.Kernel17Ideal.Prod
open Cert.Kernel17Ideal Cert.Kernel17Ideal.Gen Idealize.ShloMosaic Idealize.ShloMosaic.TcCoe Idealize.SL.Sem

theorem out_at (x : FVec Ideal S1024x1024 .bf16) (y : FVec Ideal S1024x1024 .bf16) (p q : Fin 1024) :
    (out0_2 (F := Ideal) x y) (ix2 p q) = ∑ k : Fin 1024, x (ix2 p k) * y (ix2 k q) := by
  unfold out0_2
  rw [View.canon_unit_zero Blocks.zeros]
  unfold k0_pay1
  simp only [View.ld_unit_zero (S := S1024x1024) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S1024x1024 .bf16 := m ((c : Thread nD τ).loc main_arg1)

/-- The reference's result. -/
abbrev want : FVec Ideal S8192x1024 .f32 :=
  Host.dotGeneral (F := Ideal) Reference17Ideal.dot_S8192x1024_S1024x1024_S8192x1024_1_0_0_1_n_n none (extf .f32 (X m c) Reference17Ideal.Gen.bitsLt_bf16_f32) (extf .f32 (Y m c) Reference17Ideal.Gen.bitsLt_bf16_f32)

theorem want_at (p : Fin 8192) (o : Fin 1024) : want m c (ix2 p o) = ∑ k : Fin 1024, X m c (ix2 p k) * Y m c (ix2 k o) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (k q : Fin 1024) :
    (iblk m c 1 t : FVec Ideal S1024x1024 .bf16) (ix2 k q) = Y m c (ix2 k q) :=
  congrArg (Y m c) (Blocks.at_ix2 _ _ _ (Blocks.top (index t).2.1 _ _) (Blocks.col (index t).2.1 _ _))

theorem wblk_at (t : Fin cfg0.N) (ht : t.val < 8) (p q : Fin 1024) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 1024) fun p q => ?_
  rw [wblk_at m c t ht, want_at]
  refine (out_at (iblk m c 0 t) (iblk m c 1 t) p q).trans ?_
  exact Finset.sum_congr rfl fun k _ => by rw [xblk_at m c t ht, yblk_at]

theorem covered (i : S8192x1024.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 1024 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The array the call leaves is the reference's result. -/
theorem array_eq : (dats m 0 c).arrAt 2 cfg0.N = want m c :=
  (dats m 0 c).arrAt_eq_of_cover 2 _ (fun t _ => flushed_eq m c t) covered
end Cert.Kernel17Ideal.Prod

namespace Cert.Kernel17
open Idealize.ShloMosaic Idealize.SL.Sem
variable {F : FTy → Type} [FloatOps F]

/-- The two programs have one body table. -/
theorem defs₀_eq : @defs₀ F _ _ = @Cert.Kernel17Ideal.defs₀ F _ _ := by
  unfold defs₀ Cert.Kernel17Ideal.defs₀
  refine congrArg Defs.onTc (funext fun l => funext fun x => ?_)
  match l, x with
  | 0, (t, s) => rfl
  | ⟨n + 1, h⟩, _ => exact absurd h (by simp)

theorem defs_eq : @defs F _ _ = @Cert.Kernel17Ideal.defs F _ _ := congrArg (Pipeline.defs pcfgs) defs₀_eq
end Cert.Kernel17
-- ==== Proof.Backward18.lean ====
module

public import proofs.«01_k».proof.Proof.Gen.Kernel18
public import proofs.«01_k».proof.Proof.Gen.Kernel18Ideal.Value
public import proofs.«01_k».proof.Proof.Gen.Reference18Ideal.Run
public import proofs.«01_k».proof.Proof.Blocks

@[expose] public section
noncomputable section
namespace Cert.Kernel18Ideal.Prod
open Cert.Kernel18Ideal Cert.Kernel18Ideal.Gen Idealize.ShloMosaic Idealize.ShloMosaic.TcCoe Idealize.SL.Sem

theorem out_at (x : FVec Ideal S1024x1024 .bf16) (y : FVec Ideal S1024x1024 .bf16) (p q : Fin 1024) :
    (out0_2 (F := Ideal) x y) (ix2 p q) = ∑ k : Fin 1024, x (ix2 p k) * y (ix2 q k) := by
  unfold out0_2
  rw [View.canon_unit_zero Blocks.zeros]
  unfold k0_pay1
  simp only [View.ld_unit_zero (S := S1024x1024) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S1024x1024 .bf16 := m ((c : Thread nD τ).loc main_arg1)

/-- The reference's result. -/
abbrev want : FVec Ideal S8192x1024 .bf16 :=
  truncf .bf16 (Host.dotGeneral (F := Ideal) Reference18Ideal.dot_S8192x1024_S1024x1024_S8192x1024_1_1_0_0_n_n none (extf .f32 (X m c) Reference18Ideal.Gen.bitsLt_bf16_f32) (extf .f32 (Y m c) Reference18Ideal.Gen.bitsLt_bf16_f32)) Reference18Ideal.Gen.bitsLt_bf16_f32

theorem want_at (p : Fin 8192) (o : Fin 1024) : want m c (ix2 p o) = ∑ k : Fin 1024, X m c (ix2 p k) * Y m c (ix2 o k) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (q k : Fin 1024) :
    (iblk m c 1 t : FVec Ideal S1024x1024 .bf16) (ix2 q k) = Y m c (ix2 q k) :=
  congrArg (Y m c) (Blocks.at_ix2 _ _ _ (Blocks.top (index t).2.1 _ _) (Blocks.col (index t).2.1 _ _))

theorem wblk_at (t : Fin cfg0.N) (ht : t.val < 8) (p q : Fin 1024) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 1024) fun p q => ?_
  rw [wblk_at m c t ht, want_at]
  refine (out_at (iblk m c 0 t) (iblk m c 1 t) p q).trans ?_
  exact Finset.sum_congr rfl fun k _ => by rw [xblk_at m c t ht, yblk_at]

theorem covered (i : S8192x1024.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 1024 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The array the call leaves is the reference's result. -/
theorem array_eq : (dats m 0 c).arrAt 2 cfg0.N = want m c :=
  (dats m 0 c).arrAt_eq_of_cover 2 _ (fun t _ => flushed_eq m c t) covered
end Cert.Kernel18Ideal.Prod

namespace Cert.Kernel18
open Idealize.ShloMosaic Idealize.SL.Sem
variable {F : FTy → Type} [FloatOps F]

/-- The two programs have one body table. -/
theorem defs₀_eq : @defs₀ F _ _ = @Cert.Kernel18Ideal.defs₀ F _ _ := by
  unfold defs₀ Cert.Kernel18Ideal.defs₀
  refine congrArg Defs.onTc (funext fun l => funext fun x => ?_)
  match l, x with
  | 0, (t, s) => rfl
  | ⟨n + 1, h⟩, _ => exact absurd h (by simp)

theorem defs_eq : @defs F _ _ = @Cert.Kernel18Ideal.defs F _ _ := congrArg (Pipeline.defs pcfgs) defs₀_eq
end Cert.Kernel18
-- ==== Proof.Forward19.lean ====
module

public import proofs.«01_k».proof.Proof.Gen.Kernel19
public import proofs.«01_k».proof.Proof.Gen.Kernel19Ideal.Value
public import proofs.«01_k».proof.Proof.Gen.Reference19Ideal.Run
public import proofs.«01_k».proof.Proof.Blocks

@[expose] public section
noncomputable section
namespace Cert.Kernel19Ideal.Prod
open Cert.Kernel19Ideal Cert.Kernel19Ideal.Gen Idealize.ShloMosaic Idealize.ShloMosaic.TcCoe Idealize.SL.Sem

theorem out_at (x : FVec Ideal S1024x1024 .f32) (y : FVec Ideal S1024x1024 .bf16) (p q : Fin 1024) :
    (out0_2 (F := Ideal) x y) (ix2 p q) = ∑ k : Fin 1024, x (ix2 p k) * y (ix2 k q) := by
  unfold out0_2
  rw [View.canon_unit_zero Blocks.zeros]
  unfold k0_pay1
  simp only [View.ld_unit_zero (S := S1024x1024) Blocks.zeros, shapeCast_self]
  pointwise

variable (m : (ℓ : Loc nD τ sig) → Buf (Elt Ideal) ℓ) (c : Dev nD)

abbrev X : FVec Ideal S8192x1024 .f32 := m ((c : Thread nD τ).loc main_arg0)
abbrev Y : FVec Ideal S1024x1024 .bf16 := m ((c : Thread nD τ).loc main_arg1)

/-- The reference's result. -/
abbrev want : FVec Ideal S8192x1024 .bf16 :=
  truncf .bf16 (Host.dotGeneral (F := Ideal) Reference19Ideal.dot_S8192x1024_S1024x1024_S8192x1024_1_0_0_1_n_n none (X m c) (extf .f32 (Y m c) Reference19Ideal.Gen.bitsLt_bf16_f32)) Reference19Ideal.Gen.bitsLt_bf16_f32

theorem want_at (p : Fin 8192) (o : Fin 1024) : want m c (ix2 p o) = ∑ k : Fin 1024, X m c (ix2 p k) * Y m c (ix2 k o) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .f32) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (k q : Fin 1024) :
    (iblk m c 1 t : FVec Ideal S1024x1024 .bf16) (ix2 k q) = Y m c (ix2 k q) :=
  congrArg (Y m c) (Blocks.at_ix2 _ _ _ (Blocks.top (index t).2.1 _ _) (Blocks.col (index t).2.1 _ _))

theorem wblk_at (t : Fin cfg0.N) (ht : t.val < 8) (p q : Fin 1024) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 1024) fun p q => ?_
  rw [wblk_at m c t ht, want_at]
  refine (out_at (iblk m c 0 t) (iblk m c 1 t) p q).trans ?_
  exact Finset.sum_congr rfl fun k _ => by rw [xblk_at m c t ht, yblk_at]

theorem covered (i : S8192x1024.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 1024 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The array the call leaves is the reference's result. -/
theorem array_eq : (dats m 0 c).arrAt 2 cfg0.N = want m c :=
  (dats m 0 c).arrAt_eq_of_cover 2 _ (fun t _ => flushed_eq m c t) covered
end Cert.Kernel19Ideal.Prod

namespace Cert.Kernel19
open Idealize.ShloMosaic Idealize.SL.Sem
variable {F : FTy → Type} [FloatOps F]

/-- The two programs have one body table. -/
theorem defs₀_eq : @defs₀ F _ _ = @Cert.Kernel19Ideal.defs₀ F _ _ := by
  unfold defs₀ Cert.Kernel19Ideal.defs₀
  refine congrArg Defs.onTc (funext fun l => funext fun x => ?_)
  match l, x with
  | 0, (t, s) => rfl
  | ⟨n + 1, h⟩, _ => exact absurd h (by simp)

theorem defs_eq : @defs F _ _ = @Cert.Kernel19Ideal.defs F _ _ := congrArg (Pipeline.defs pcfgs) defs₀_eq
end Cert.Kernel19
-- ==== Proof.Weight20.lean ====
module

public import proofs.«01_k».proof.Proof.Gen.Kernel20
public import proofs.«01_k».proof.Proof.Gen.Kernel20Ideal.Value
public import proofs.«01_k».proof.Proof.Gen.Reference20Ideal.Run
public import proofs.«01_k».proof.Proof.Blocks

@[expose] public section
noncomputable section
namespace Cert.Kernel20Ideal.Prod
open Cert.Kernel20Ideal Cert.Kernel20Ideal.Gen Idealize.ShloMosaic Idealize.ShloMosaic.TcCoe Idealize.SL.Sem

section
variable {F : FTy → Type} [FloatOps F]
/-- What a point adds to what the scratch held. -/
abbrev step (x : Vec F S1024x1024 .f32) (y : Vec F S1024x1024 .bf16) (s : Vec F S1024x1024 .f32) : Vec F S1024x1024 .f32 :=
  addf s (matmul dot_S1024x1024_S1024x1024_S1024x1024_0_0_1_1_n_n none (truncf .bf16 x bitsLt_bf16_f32) y (constant S1024x1024 .f32 0x00000000#32))

variable (c : Dev nD) (i : grid0.Coords) (a3 : Memref sig .tc .vmem S1024x1024 .f32) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x : Vec F S1024x1024 .f32) (y : Vec F S1024x1024 .bf16) (s : Vec F S1024x1024 .f32)

theorem first (hc0 : cond0_0 i) (hc1 : ¬cond0_1 i) :
    sout0_A_0 c i a3 h3 a4 h4 a5 h5 a6 h6 hc0 hc1 x y = step x y (broadcast S1024x1024 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) Blocks.zeros, View.readCov_unit_zero (S := S1024x1024) _ Blocks.zeros]
  unfold k0_pay2 k0_pay1
  simp only [View.readAt_eq_ld, h3.read_unread, h4.read_unread, View.ld_unit_zero (S := S1024x1024) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x1024) _ Blocks.zeros]
  unfold k0_pay2
  simp only [View.readAt_eq_ld, h3.read_unread, h4.read_unread, h6.read_unread, View.ld_unit_zero (S := S1024x1024) Blocks.zeros, shapeCast_self]
end

theorem step_at (x : FVec Ideal S1024x1024 .f32) (y : FVec Ideal S1024x1024 .bf16) (s : FVec Ideal S1024x1024 .f32) (p q : Fin 1024) :
    (step (F := Ideal) x y s) (ix2 p q) = s (ix2 p q) + ∑ r : Fin 1024, x (ix2 r p) * y (ix2 r q) := by
  pointwise

theorem reset_at (p q : Fin 1024) :
    (broadcast S1024x1024 (Scalar.ofBits (F := Ideal) .f32 0x00000000#32) : FVec Ideal S1024x1024 .f32) (ix2 p q) = 0 := by
  pointwise

variable (m : (ℓ : Loc nD τ sig) → Buf (Elt Ideal) ℓ) (c : Dev nD)

abbrev X : FVec Ideal S8192x1024 .f32 := m ((c : Thread nD τ).loc main_arg0)
abbrev Y : FVec Ideal S8192x1024 .bf16 := m ((c : Thread nD τ).loc main_arg1)

/-- Point `t` takes block `t` of both matrices' rows. -/
theorem index : ∀ t : Fin cfg0.N, win0_0.index t = ![t.val % 8, 0] ∧ win0_1.index t = ![t.val % 8, 0] := (by decide +kernel : ∀ t : Fin grid0.N, _)

/-- A row's term of the product. -/
abbrev term (p q : Fin 1024) (r : Fin 8192) : EReal := X m c (ix2 r p) * Y m c (ix2 r q)

/-- A point's step adds its block of the rows. -/
theorem step_block (t : Fin cfg0.N) (p q : Fin 1024) (s : FVec Ideal S1024x1024 .f32) :
    (step (F := Ideal) (iblk m c 0 t) (iblk m c 1 t) s) (ix2 p q) = s (ix2 p q) + Blocks.block (term m c p q) ⟨t.val % 8, by omega⟩ := by
  rw [step_at]
  refine congrArg _ (Finset.sum_congr rfl fun r _ => congrArg₂ _ ?_ ?_)
  · exact congrArg (X m c) (Blocks.at_ix2 _ ⟨t.val % 8 * 1024 + r.val, by omega⟩ p (Blocks.row (index t).1 _ _) (Blocks.col (index t).1 _ _))
  · exact congrArg (Y m c) (Blocks.at_ix2 _ ⟨t.val % 8 * 1024 + r.val, by omega⟩ q (Blocks.row (index t).2 _ _) (Blocks.col (index t).2 _ _))

theorem held (p q : Fin 1024) (n : ℕ) (h : n < cfg0.N) (h7 : n % 8 ≠ 7) :
    ((outsAt0 m c n h).2 : FVec Ideal S1024x1024 .f32) (ix2 p q) = Blocks.upto (term m c p q) (n % 8 + 1) := by
  refine Blocks.held (fun n h => ((outsAt0 m c n h).2 : FVec Ideal S1024x1024 .f32) (ix2 p q)) (fun _ => term m c p q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point writes back. -/
theorem flushed_at (p q : Fin 1024) (n : ℕ) (h : n < cfg0.N) (h7 : n % 8 = 7) :
    ((outsAt0 m c n h).1 : FVec Ideal S1024x1024 .f32) (ix2 p q) = ∑ r : Fin 8192, term m c p q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  rw [← Blocks.total _ k h7]
  exact congrArg (· + _) (held m c p q k _ (by omega))

/-- The array the call leaves, as a vector. -/
abbrev left : FVec Ideal S1024x1024 .f32 := Value.G2 m c

/-- The array the call leaves is the whole product. -/
theorem array_at (p q : Fin 1024) : left m c (ix2 p q) = ∑ r : Fin 8192, term m c p q r := by
  have hN : cfg0.N = 8 := N_0
  have hp : Value.pt2Of (ix2 p q) = 7 := by
    show 8 * (1 * (p.val / 1024 - 0) + 1 * (q.val / 1024 - 0)) + 7 = _
    omega
  have hl : Value.loc2Of (ix2 p q) = ix2 p q := Blocks.at_ix2 _ _ _ (Nat.mod_eq_of_lt p.isLt) (Nat.mod_eq_of_lt q.isLt)
  have hb : Value.pt2Of (ix2 p q) < cfg0.N := by rw [hp, hN]; omega
  unfold left Value.G2
  rw [dif_pos hb, ← Value.outsAt0_sweep m c _ hb, hl, flushed_at m c p q _ hb (by rw [hp])]

theorem dot_at (x : FVec Ideal S8192x1024 .f32) (y : FVec Ideal S8192x1024 .bf16) (p q : Fin 1024) :
    (transpose S1024x1024 [1, 0] (Host.dotGeneral (F := Ideal) Reference20Ideal.dot_S8192x1024_S8192x1024_S1024x1024_0_0_1_1_n_n none (extf .f32 y Reference20Ideal.Gen.bitsLt_bf16_f32) x) Reference20Ideal.Gen.transposes_S1024x1024_S1024x1024_1_0 : FVec Ideal S1024x1024 .f32) (ix2 p q)
      = ∑ r : Fin 8192, x (ix2 r p) * y (ix2 r q) := by
  pointwise
  exact Finset.sum_congr rfl fun r _ => mul_comm _ _

/-- The array the call leaves is the reference's result. -/
theorem left_eq :
    left m c = transpose S1024x1024 [1, 0] (Host.dotGeneral (F := Ideal) Reference20Ideal.dot_S8192x1024_S8192x1024_S1024x1024_0_0_1_1_n_n none (extf .f32 (Y m c) Reference20Ideal.Gen.bitsLt_bf16_f32) (X m c)) Reference20Ideal.Gen.transposes_S1024x1024_S1024x1024_1_0 :=
  Blocks.ext fun p q => (array_at m c p q).trans (dot_at (X m c) (Y m c) p q).symm
end Cert.Kernel20Ideal.Prod

namespace Cert.Kernel20
open Idealize.ShloMosaic Idealize.SL.Sem
variable {F : FTy → Type} [FloatOps F]

/-- The two programs have one body table. -/
theorem defs₀_eq : @defs₀ F _ _ = @Cert.Kernel20Ideal.defs₀ F _ _ := by
  unfold defs₀ Cert.Kernel20Ideal.defs₀
  refine congrArg Defs.onTc (funext fun l => funext fun x => ?_)
  match l, x with
  | 0, (t, s) => rfl
  | ⟨n + 1, h⟩, _ => exact absurd h (by simp)

theorem defs_eq : @defs F _ _ = @Cert.Kernel20Ideal.defs F _ _ := congrArg (Pipeline.defs pcfgs) defs₀_eq
end Cert.Kernel20
-- ==== Proof.Weight21.lean ====
module

public import proofs.«01_k».proof.Proof.Gen.Kernel21
public import proofs.«01_k».proof.Proof.Gen.Kernel21Ideal.Value
public import proofs.«01_k».proof.Proof.Gen.Reference21Ideal.Run
public import proofs.«01_k».proof.Proof.Blocks

@[expose] public section
noncomputable section
namespace Cert.Kernel21Ideal.Prod
open Cert.Kernel21Ideal Cert.Kernel21Ideal.Gen Idealize.ShloMosaic Idealize.ShloMosaic.TcCoe Idealize.SL.Sem

section
variable {F : FTy → Type} [FloatOps F]
/-- What a point adds to what the scratch held. -/
abbrev step (x : Vec F S1024x1024 .bf16) (y s : Vec F S1024x1024 .f32) : Vec F S1024x1024 .f32 :=
  addf s (matmul dot_S1024x1024_S1024x1024_S1024x1024_0_1_1_0_n_n none x (truncf .bf16 y bitsLt_bf16_f32) (constant S1024x1024 .f32 0x00000000#32))

variable (c : Dev nD) (i : grid0.Coords) (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1024x1024 .f32) (h6 : a6.IsWhole)
  (x : Vec F S1024x1024 .bf16) (y s : Vec F S1024x1024 .f32)

theorem first (hc0 : cond0_0 i) (hc1 : ¬cond0_1 i) :
    sout0_A_0 c i a3 h3 a4 h4 a5 h5 a6 h6 hc0 hc1 x y = step x y (broadcast S1024x1024 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) Blocks.zeros, View.readCov_unit_zero (S := S1024x1024) _ Blocks.zeros]
  unfold k0_pay2 k0_pay1
  simp only [View.readAt_eq_ld, h3.read_unread, h4.read_unread, View.ld_unit_zero (S := S1024x1024) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x1024) _ Blocks.zeros]
  unfold k0_pay2
  simp only [View.readAt_eq_ld, h3.read_unread, h4.read_unread, h6.read_unread, View.ld_unit_zero (S := S1024x1024) Blocks.zeros, shapeCast_self]
end

theorem step_at (x : FVec Ideal S1024x1024 .bf16) (y s : FVec Ideal S1024x1024 .f32) (p q : Fin 1024) :
    (step (F := Ideal) x y s) (ix2 p q) = s (ix2 p q) + ∑ r : Fin 1024, x (ix2 r p) * y (ix2 q r) := by
  pointwise

theorem reset_at (p q : Fin 1024) :
    (broadcast S1024x1024 (Scalar.ofBits (F := Ideal) .f32 0x00000000#32) : FVec Ideal S1024x1024 .f32) (ix2 p q) = 0 := by
  pointwise

variable (m : (ℓ : Loc nD τ sig) → Buf (Elt Ideal) ℓ) (c : Dev nD)

abbrev X : FVec Ideal S8192x1024 .bf16 := m ((c : Thread nD τ).loc main_arg0)
abbrev Y : FVec Ideal S1024x8192 .f32 := m ((c : Thread nD τ).loc main_arg1)

/-- Point `t` takes block `t` of the rows, of the transposed gradient block `t` of the columns. -/
theorem index : ∀ t : Fin cfg0.N, win0_0.index t = ![t.val % 8, 0] ∧ win0_1.index t = ![0, t.val % 8] := (by decide +kernel : ∀ t : Fin grid0.N, _)

/-- A row's term of the product. -/
abbrev term (p q : Fin 1024) (r : Fin 8192) : EReal := X m c (ix2 r p) * Y m c (ix2 q r)

/-- A point's step adds its block of the rows. -/
theorem step_block (t : Fin cfg0.N) (p q : Fin 1024) (s : FVec Ideal S1024x1024 .f32) :
    (step (F := Ideal) (iblk m c 0 t) (iblk m c 1 t) s) (ix2 p q) = s (ix2 p q) + Blocks.block (term m c p q) ⟨t.val % 8, by omega⟩ := by
  rw [step_at]
  refine congrArg _ (Finset.sum_congr rfl fun r _ => congrArg₂ _ ?_ ?_)
  · exact congrArg (X m c) (Blocks.at_ix2 _ ⟨t.val % 8 * 1024 + r.val, by omega⟩ p (Blocks.row (index t).1 _ _) (Blocks.col (index t).1 _ _))
  · exact congrArg (Y m c) (Blocks.at_ix2 _ q ⟨t.val % 8 * 1024 + r.val, by omega⟩ (Blocks.top (index t).2 _ _) (Blocks.colOf (index t).2 _ _))

theorem held (p q : Fin 1024) (n : ℕ) (h : n < cfg0.N) (h7 : n % 8 ≠ 7) :
    ((outsAt0 m c n h).2 : FVec Ideal S1024x1024 .f32) (ix2 p q) = Blocks.upto (term m c p q) (n % 8 + 1) := by
  refine Blocks.held (fun n h => ((outsAt0 m c n h).2 : FVec Ideal S1024x1024 .f32) (ix2 p q)) (fun _ => term m c p q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point writes back. -/
theorem flushed_at (p q : Fin 1024) (n : ℕ) (h : n < cfg0.N) (h7 : n % 8 = 7) :
    ((outsAt0 m c n h).1 : FVec Ideal S1024x1024 .f32) (ix2 p q) = ∑ r : Fin 8192, term m c p q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  rw [← Blocks.total _ k h7]
  exact congrArg (· + _) (held m c p q k _ (by omega))

/-- The array the call leaves, as a vector. -/
abbrev left : FVec Ideal S1024x1024 .f32 := Value.G2 m c

/-- The array the call leaves is the whole product. -/
theorem array_at (p q : Fin 1024) : left m c (ix2 p q) = ∑ r : Fin 8192, term m c p q r := by
  have hN : cfg0.N = 8 := N_0
  have hp : Value.pt2Of (ix2 p q) = 7 := by
    show 8 * (1 * (p.val / 1024 - 0) + 1 * (q.val / 1024 - 0)) + 7 = _
    omega
  have hl : Value.loc2Of (ix2 p q) = ix2 p q := Blocks.at_ix2 _ _ _ (Nat.mod_eq_of_lt p.isLt) (Nat.mod_eq_of_lt q.isLt)
  have hb : Value.pt2Of (ix2 p q) < cfg0.N := by rw [hp, hN]; omega
  unfold left Value.G2
  rw [dif_pos hb, ← Value.outsAt0_sweep m c _ hb, hl, flushed_at m c p q _ hb (by rw [hp])]

theorem dot_at (x : FVec Ideal S8192x1024 .bf16) (y : FVec Ideal S1024x8192 .f32) (p q : Fin 1024) :
    (transpose S1024x1024 [1, 0] (Host.dotGeneral (F := Ideal) Reference21Ideal.dot_S8192x1024_S8192x1024_S1024x1024_0_0_1_1_n_n none (transpose S8192x1024 [1, 0] y Reference21Ideal.Gen.transposes_S1024x8192_S8192x1024_1_0) (extf .f32 x Reference21Ideal.Gen.bitsLt_bf16_f32)) Reference21Ideal.Gen.transposes_S1024x1024_S1024x1024_1_0 : FVec Ideal S1024x1024 .f32) (ix2 p q)
      = ∑ r : Fin 8192, x (ix2 r p) * y (ix2 q r) := by
  pointwise
  exact Finset.sum_congr rfl fun r _ => mul_comm _ _

/-- The array the call leaves is the reference's result. -/
theorem left_eq :
    left m c = transpose S1024x1024 [1, 0] (Host.dotGeneral (F := Ideal) Reference21Ideal.dot_S8192x1024_S8192x1024_S1024x1024_0_0_1_1_n_n none (transpose S8192x1024 [1, 0] (Y m c) Reference21Ideal.Gen.transposes_S1024x8192_S8192x1024_1_0) (extf .f32 (X m c) Reference21Ideal.Gen.bitsLt_bf16_f32)) Reference21Ideal.Gen.transposes_S1024x1024_S1024x1024_1_0 :=
  Blocks.ext fun p q => (array_at m c p q).trans (dot_at (X m c) (Y m c) p q).symm
end Cert.Kernel21Ideal.Prod

namespace Cert.Kernel21
open Idealize.ShloMosaic Idealize.SL.Sem
variable {F : FTy → Type} [FloatOps F]

/-- The two programs have one body table. -/
theorem defs₀_eq : @defs₀ F _ _ = @Cert.Kernel21Ideal.defs₀ F _ _ := by
  unfold defs₀ Cert.Kernel21Ideal.defs₀
  refine congrArg Defs.onTc (funext fun l => funext fun x => ?_)
  match l, x with
  | 0, (t, s) => rfl
  | ⟨n + 1, h⟩, _ => exact absurd h (by simp)

theorem defs_eq : @defs F _ _ = @Cert.Kernel21Ideal.defs F _ _ := congrArg (Pipeline.defs pcfgs) defs₀_eq
end Cert.Kernel21
-- ==== Proof.Forward22.lean ====
module

public import proofs.«01_k».proof.Proof.Gen.Kernel22
public import proofs.«01_k».proof.Proof.Gen.Kernel22Ideal.Value
public import proofs.«01_k».proof.Proof.Gen.Reference22Ideal.Run
public import proofs.«01_k».proof.Proof.Blocks

@[expose] public section
noncomputable section
namespace Cert.Kernel22Ideal.Prod
open Cert.Kernel22Ideal Cert.Kernel22Ideal.Gen Idealize.ShloMosaic Idealize.ShloMosaic.TcCoe Idealize.SL.Sem

theorem out_at (x : FVec Ideal S1024x1024 .bf16) (y : FVec Ideal S1024x128 .bf16) (p : Fin 1024) (q : Fin 128) :
    (out0_2 (F := Ideal) x y) (ix2 p q) = ∑ k : Fin 1024, x (ix2 p k) * y (ix2 k q) := by
  unfold out0_2
  rw [View.canon_unit_zero Blocks.zeros]
  unfold k0_pay1
  simp only [View.ld_unit_zero (S := S1024x1024) Blocks.zeros, View.ld_unit_zero (S := S1024x128) Blocks.zeros, shapeCast_self]
  pointwise

variable (m : (ℓ : Loc nD τ sig) → Buf (Elt Ideal) ℓ) (c : Dev nD)

abbrev X : FVec Ideal S8192x1024 .bf16 := m ((c : Thread nD τ).loc main_arg0)
abbrev Y : FVec Ideal S1024x128 .bf16 := m ((c : Thread nD τ).loc main_arg1)

/-- The reference's result. -/
abbrev want : FVec Ideal S8192x128 .f32 :=
  Host.dotGeneral (F := Ideal) Reference22Ideal.dot_S8192x1024_S1024x128_S8192x128_1_0_0_1_n_n none (extf .f32 (X m c) Reference22Ideal.Gen.bitsLt_bf16_f32) (extf .f32 (Y m c) Reference22Ideal.Gen.bitsLt_bf16_f32)

theorem want_at (p : Fin 8192) (o : Fin 128) : want m c (ix2 p o) = ∑ k : Fin 1024, X m c (ix2 p k) * Y m c (ix2 k o) := by
  unfold want
  generalize X m c = x
  generalize Y m c = y
  pointwise

/-- Point `t` takes block `t` of the rows. -/
theorem index : ∀ t : Fin cfg0.N, win0_0.index t = ![t.val, 0] ∧ win0_1.index t = ![0, 0] ∧ win0_2.index t = ![t.val, 0] :=
  (by decide +kernel : ∀ t : Fin grid0.N, _)

theorem xblk_at (t : Fin cfg0.N) (ht : t.val < 8) (p k : Fin 1024) :
    (iblk m c 0 t : FVec Ideal S1024x1024 .bf16) (ix2 p k) = X m c (ix2 ⟨t.val * 1024 + p.val, by omega⟩ k) :=
  congrArg (X m c) (Blocks.at_ix2 _ _ _ (Blocks.row (index t).1 _ _) (Blocks.col (index t).1 _ _))

theorem yblk_at (t : Fin cfg0.N) (k : Fin 1024) (q : Fin 128) :
    (iblk m c 1 t : FVec Ideal S1024x128 .bf16) (ix2 k q) = Y m c (ix2 k q) :=
  congrArg (Y m c) (Blocks.at_ix2 _ _ _ (Blocks.top (index t).2.1 _ _) (Blocks.col (index t).2.1 _ _))

theorem wblk_at (t : Fin cfg0.N) (ht : t.val < 8) (p : Fin 1024) (q : Fin 128) :
    ((cfg0.win 2).blk t).view.read (Elt Ideal) (want m c) (ix2 p q) = want m c (ix2 ⟨t.val * 1024 + p.val, by omega⟩ q) :=
  congrArg (want m c) (Blocks.at_ix2 _ _ _ (Blocks.row (index t).2.2 _ _) (Blocks.col (index t).2.2 _ _))

/-- What a point writes back is its block of the reference's result. -/
theorem flushed_eq (t : Fin cfg0.N) : (dats m 0 c).flushed 2 t = ((cfg0.win 2).blk t).view.read (Elt Ideal) (want m c) := by
  have ht : t.val < 8 := lt_of_lt_of_eq t.isLt (N_0 : cfg0.N = 8)
  rw [Value.flushed2]
  refine Blocks.ext (a := 1024) (b := 128) fun p q => ?_
  rw [wblk_at m c t ht, want_at]
  refine (out_at (iblk m c 0 t) (iblk m c 1 t) p q).trans ?_
  exact Finset.sum_congr rfl fun k _ => by rw [xblk_at m c t ht, yblk_at]

theorem covered (i : S8192x128.Idx) : ∃ t : Fin cfg0.N, (cfg0.win 2).flush t = true ∧ i ∈ ((cfg0.win 2).blk t).view.set := by
  have hN : cfg0.N = 8 := N_0
  have h0 : (i 0).val < 8192 := (i 0).isLt
  have h1 : (i 1).val < 128 := (i 1).isLt
  obtain ⟨t, et⟩ : ∃ t : Fin cfg0.N, t.val = (i 0).val / 1024 := ⟨⟨_, by omega⟩, rfl⟩
  refine ⟨t, flush0_2 t, ?_⟩
  show i ∈ ((View.whole main_v0).slice (win0_2.rect t)).set
  rw [View.set_slice_whole, Rect.mem_set_unit]
  have e0 : win0_2.index t 0 = t.val := congrFun (index t).2.2 0
  have e1 : win0_2.index t 1 = 0 := congrFun (index t).2.2 1
  intro a
  match a with
  | ⟨0, _⟩ => show win0_2.index t 0 * 1024 ≤ (i 0).val ∧ (i 0).val < win0_2.index t 0 * 1024 + 1024; omega
  | ⟨1, _⟩ => show win0_2.index t 1 * 128 ≤ (i 1).val ∧ (i 1).val < win0_2.index t 1 * 128 + 128; omega

/-- The array the call leaves is the reference's result. -/
theorem array_eq : (dats m 0 c).arrAt 2 cfg0.N = want m c :=
  (dats m 0 c).arrAt_eq_of_cover 2 _ (fun t _ => flushed_eq m c t) covered
end Cert.Kernel22Ideal.Prod

namespace Cert.Kernel22
open Idealize.ShloMosaic Idealize.SL.Sem
variable {F : FTy → Type} [FloatOps F]

/-- The two programs have one body table. -/
theorem defs₀_eq : @defs₀ F _ _ = @Cert.Kernel22Ideal.defs₀ F _ _ := by
  unfold defs₀ Cert.Kernel22Ideal.defs₀
  refine congrArg Defs.onTc (funext fun l => funext fun x => ?_)
  match l, x with
  | 0, (t, s) => rfl
  | ⟨n + 1, h⟩, _ => exact absurd h (by simp)

theorem defs_eq : @defs F _ _ = @Cert.Kernel22Ideal.defs F _ _ := congrArg (Pipeline.defs pcfgs) defs₀_eq
end Cert.Kernel22
-- ==== Proof.Weight23.lean ====
module

public import proofs.«01_k».proof.Proof.Gen.Kernel23
public import proofs.«01_k».proof.Proof.Gen.Kernel23Ideal.Value
public import proofs.«01_k».proof.Proof.Gen.Reference23Ideal.Run
public import proofs.«01_k».proof.Proof.Blocks

@[expose] public section
noncomputable section
namespace Cert.Kernel23Ideal.Prod
open Cert.Kernel23Ideal Cert.Kernel23Ideal.Gen Idealize.ShloMosaic Idealize.ShloMosaic.TcCoe Idealize.SL.Sem

section
variable {F : FTy → Type} [FloatOps F]
/-- What a point adds to what the scratch held. -/
abbrev step (x : Vec F S1024x1024 .bf16) (y : Vec F S1024x128 .bf16) (s : Vec F S1024x128 .f32) : Vec F S1024x128 .f32 :=
  addf s (matmul dot_S1024x1024_S1024x128_S1024x128_0_0_1_1_n_n none x y (constant S1024x128 .f32 0x00000000#32))

variable (c : Dev nD) (i : grid0.Coords) (a3 : Memref sig .tc .vmem S1024x1024 .bf16) (h3 : a3.IsWhole) (a4 : Memref sig .tc .vmem S1024x128 .bf16) (h4 : a4.IsWhole)
  (a5 : Memref sig .tc .vmem S1024x128 .f32) (h5 : a5.IsWhole) (a6 : Memref sig .tc .vmem S1024x128 .f32) (h6 : a6.IsWhole)
  (x : Vec F S1024x1024 .bf16) (y : Vec F S1024x128 .bf16) (s : Vec F S1024x128 .f32)

theorem first (hc0 : cond0_0 i) (hc1 : ¬cond0_1 i) :
    sout0_A_0 c i a3 h3 a4 h4 a5 h5 a6 h6 hc0 hc1 x y = step x y (broadcast S1024x128 (Scalar.ofBits .f32 0x00000000#32)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x128) Blocks.zeros, View.readCov_unit_zero (S := S1024x128) _ Blocks.zeros]
  unfold k0_pay2 k0_pay1
  simp only [View.readAt_eq_ld, h3.read_unread, h4.read_unread, View.ld_unit_zero (S := S1024x1024) Blocks.zeros, View.ld_unit_zero (S := S1024x128) Blocks.zeros, shapeCast_self]

theorem next (hc0 : ¬cond0_0 i) (hc1 : ¬cond0_1 i) : sout0_B_0 c i a3 h3 a4 h4 a5 h5 a6 h6 hc0 hc1 x y s = step x y s := by
  unfold sout0_B_0
  rw [View.read_writes_eq_canon _ _ _ (scover0_B_0 c i a3 h3 a4 h4 a5 h5 a6 h6 hc0 hc1 x y s)]
  unfold kernelRun0_B
  dsimp only
  rw [View.canon_unit_zero Blocks.zeros]
  unfold k0_pay2
  simp only [View.readAt_eq_ld, h3.read_unread, h4.read_unread, h6.read_unread, View.ld_unit_zero (S := S1024x1024) Blocks.zeros, View.ld_unit_zero (S := S1024x128) Blocks.zeros, shapeCast_self]

theorem last (hc0 : ¬cond0_0 i) (hc1 : cond0_1 i) : out0_C_2 c i a3 h3 a4 h4 a5 h5 a6 h6 hc0 hc1 x y s = step x y s := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero Blocks.zeros, View.readCov_unit_zero (S := S1024x128) _ Blocks.zeros]
  unfold k0_pay2
  simp only [View.readAt_eq_ld, h3.read_unread, h4.read_unread, h6.read_unread, View.ld_unit_zero (S := S1024x1024) Blocks.zeros, View.ld_unit_zero (S := S1024x128) Blocks.zeros, shapeCast_self]
end

theorem step_at (x : FVec Ideal S1024x1024 .bf16) (y : FVec Ideal S1024x128 .bf16) (s : FVec Ideal S1024x128 .f32) (p : Fin 1024) (q : Fin 128) :
    (step (F := Ideal) x y s) (ix2 p q) = s (ix2 p q) + ∑ r : Fin 1024, x (ix2 r p) * y (ix2 r q) := by
  pointwise

theorem reset_at (p : Fin 1024) (q : Fin 128) :
    (broadcast S1024x128 (Scalar.ofBits (F := Ideal) .f32 0x00000000#32) : FVec Ideal S1024x128 .f32) (ix2 p q) = 0 := by
  pointwise

variable (m : (ℓ : Loc nD τ sig) → Buf (Elt Ideal) ℓ) (c : Dev nD)

abbrev X : FVec Ideal S8192x1024 .bf16 := m ((c : Thread nD τ).loc main_arg0)
abbrev Y : FVec Ideal S8192x128 .bf16 := m ((c : Thread nD τ).loc main_arg1)

/-- Point `t` takes block `t` of both matrices' rows. -/
theorem index : ∀ t : Fin cfg0.N, win0_0.index t = ![t.val % 8, 0] ∧ win0_1.index t = ![t.val % 8, 0] := (by decide +kernel : ∀ t : Fin grid0.N, _)

/-- A row's term of the product. -/
abbrev term (p : Fin 1024) (q : Fin 128) (r : Fin 8192) : EReal := X m c (ix2 r p) * Y m c (ix2 r q)

/-- A point's step adds its block of the rows. -/
theorem step_block (t : Fin cfg0.N) (p : Fin 1024) (q : Fin 128) (s : FVec Ideal S1024x128 .f32) :
    (step (F := Ideal) (iblk m c 0 t) (iblk m c 1 t) s) (ix2 p q) = s (ix2 p q) + Blocks.block (term m c p q) ⟨t.val % 8, by omega⟩ := by
  rw [step_at]
  refine congrArg _ (Finset.sum_congr rfl fun r _ => congrArg₂ _ ?_ ?_)
  · exact congrArg (X m c) (Blocks.at_ix2 _ ⟨t.val % 8 * 1024 + r.val, by omega⟩ p (Blocks.row (index t).1 _ _) (Blocks.col (index t).1 _ _))
  · exact congrArg (Y m c) (Blocks.at_ix2 _ ⟨t.val % 8 * 1024 + r.val, by omega⟩ q (Blocks.row (index t).2 _ _) (Blocks.col (index t).2 _ _))

theorem held (p : Fin 1024) (q : Fin 128) (n : ℕ) (h : n < cfg0.N) (h7 : n % 8 ≠ 7) :
    ((outsAt0 m c n h).2 : FVec Ideal S1024x128 .f32) (ix2 p q) = Blocks.upto (term m c p q) (n % 8 + 1) := by
  refine Blocks.held (fun n h => ((outsAt0 m c n h).2 : FVec Ideal S1024x128 .f32) (ix2 p q)) (fun _ => term m c p q) (fun n h h0 => ?_) (fun n h h0 h7 => ?_) n h h7
  · rw [outsAt0_A m c ⟨n, h⟩ h0 (by show ¬n % 8 = 7; omega)]
    dsimp only
    rw [first, ← reset_at p q]
    exact step_block m c ⟨n, h⟩ p q _
  · rw [outsAt0_B m c ⟨n + 1, h⟩ h0 h7]
    dsimp only
    rw [next]
    exact step_block m c ⟨n + 1, h⟩ p q _

/-- What the call's last point writes back. -/
theorem flushed_at (p : Fin 1024) (q : Fin 128) (n : ℕ) (h : n < cfg0.N) (h7 : n % 8 = 7) :
    ((outsAt0 m c n h).1 : FVec Ideal S1024x128 .f32) (ix2 p q) = ∑ r : Fin 8192, term m c p q r := by
  obtain ⟨k, rfl⟩ : ∃ k, n = k + 1 := ⟨n - 1, by omega⟩
  rw [outsAt0_C m c ⟨k + 1, h⟩ (by show ¬(k + 1) % 8 = 0; omega) h7]
  dsimp only
  rw [last]
  refine (step_block m c ⟨k + 1, h⟩ p q _).trans ?_
  rw [← Blocks.total _ k h7]
  exact congrArg (· + _) (held m c p q k _ (by omega))

/-- The array the call leaves, as a vector. -/
abbrev left : FVec Ideal S1024x128 .f32 := Value.G2 m c

/-- The array the call leaves is the whole product. -/
theorem array_at (p : Fin 1024) (q : Fin 128) : left m c (ix2 p q) = ∑ r : Fin 8192, term m c p q r := by
  have hN : cfg0.N = 8 := N_0
  have hp : Value.pt2Of (ix2 p q) = 7 := by
    show 8 * (1 * (p.val / 1024 - 0) + 1 * (q.val / 128 - 0)) + 7 = _
    omega
  have hl : Value.loc2Of (ix2 p q) = ix2 p q := Blocks.at_ix2 _ _ _ (Nat.mod_eq_of_lt p.isLt) (Nat.mod_eq_of_lt q.isLt)
  have hb : Value.pt2Of (ix2 p q) < cfg0.N := by rw [hp, hN]; omega
  unfold left Value.G2
  rw [dif_pos hb, ← Value.outsAt0_sweep m c _ hb, hl, flushed_at m c p q _ hb (by rw [hp])]

theorem dot_at (x : FVec Ideal S8192x1024 .bf16) (y : FVec Ideal S8192x128 .bf16) (p : Fin 1024) (q : Fin 128) :
    (transpose S1024x128 [1, 0] (Host.dotGeneral (F := Ideal) Reference23Ideal.dot_S8192x128_S8192x1024_S128x1024_0_0_1_1_n_n none (extf .f32 y Reference23Ideal.Gen.bitsLt_bf16_f32) (extf .f32 x Reference23Ideal.Gen.bitsLt_bf16_f32)) Reference23Ideal.Gen.transposes_S128x1024_S1024x128_1_0 : FVec Ideal S1024x128 .f32) (ix2 p q)
      = ∑ r : Fin 8192, x (ix2 r p) * y (ix2 r q) := by
  pointwise
  exact Finset.sum_congr rfl fun r _ => mul_comm _ _

/-- The array the call leaves is the reference's result. -/
theorem left_eq :
    left m c = transpose S1024x128 [1, 0] (Host.dotGeneral (F := Ideal) Reference23Ideal.dot_S8192x128_S8192x1024_S128x1024_0_0_1_1_n_n none (extf .f32 (Y m c) Reference23Ideal.Gen.bitsLt_bf16_f32) (extf .f32 (X m c) Reference23Ideal.Gen.bitsLt_bf16_f32)) Reference23Ideal.Gen.transposes_S128x1024_S1024x128_1_0 :=
  Blocks.ext fun p q => (array_at m c p q).trans (dot_at (X m c) (Y m c) p q).symm
end Cert.Kernel23Ideal.Prod

namespace Cert.Kernel23
open Idealize.ShloMosaic Idealize.SL.Sem
variable {F : FTy → Type} [FloatOps F]

/-- The two programs have one body table. -/
theorem defs₀_eq : @defs₀ F _ _ = @Cert.Kernel23Ideal.defs₀ F _ _ := by
  unfold defs₀ Cert.Kernel23Ideal.defs₀
  refine congrArg Defs.onTc (funext fun l => funext fun x => ?_)
  match l, x with
  | 0, (t, s) => rfl
  | ⟨n + 1, h⟩, _ => exact absurd h (by simp)

theorem defs_eq : @defs F _ _ = @Cert.Kernel23Ideal.defs F _ _ := congrArg (Pipeline.defs pcfgs) defs₀_eq
end Cert.Kernel23
-- ==== Proof.Adam.lean ====
/- What the optimiser's calls share: one element of the step, and windows on blocks of rows. -/
module

public import Idealize.ShloMosaic.Lib.Pointwise
public import Idealize.ShloMosaic.PureOps.BitExact
public import Idealize.ShloMosaic.Lib.ValueIdx

@[expose] public section
noncomputable section
namespace Cert.Adam
open Idealize.ShloMosaic

/-- A named literal's word is the literal's. -/
@[reducible] def bits : Named Bits := ⟨fun _ _ _ b => Scalar.ofBits _ b⟩

abbrev lit (b : BitVec 32) : EReal := Ideal.ofBits .f32 b

/-- The mean of the gradients. -/
def mean (m g : EReal) : EReal := lit 0x3F666666#32 * m + lit 0x3DCCCCCD#32 * g

/-- The mean of their squares. -/
def var (v g : EReal) : EReal := lit 0x3F7FBE77#32 * v + lit 0x3A83126F#32 * (g * g)

/-- The weight's change, from the two means. -/
def delta (w m v : EReal) : EReal :=
  lit 0xBA83126F#32 * (Ideal.div (Ideal.div m (lit 0x3F26BD02#32)) (Ideal.sqrt (Ideal.div v (lit 0x3C231ACC#32)) + lit 0x322BCC77#32)
    + lit 0x3C23D70A#32 * w)

/-- The four results, of the devices' parts of the gradient, the weights and the two means so far: the gradient, the changes
    and the two means. -/
def grad {R C : ℕ} (x : (⟨3, ![8, R, C]⟩ : Shape).Idx → EReal) : (⟨3, ![1, R, C]⟩ : Shape).Idx → EReal := fun i => ∑ k : Fin 8, x (ix3 k (i 1) (i 2))

def means {R C : ℕ} (x : (⟨3, ![8, R, C]⟩ : Shape).Idx → EReal) (m : (⟨3, ![1, R, C]⟩ : Shape).Idx → EReal) : (⟨3, ![1, R, C]⟩ : Shape).Idx → EReal :=
  fun i => mean (m i) (grad x i)

def vars {R C : ℕ} (x : (⟨3, ![8, R, C]⟩ : Shape).Idx → EReal) (v : (⟨3, ![1, R, C]⟩ : Shape).Idx → EReal) : (⟨3, ![1, R, C]⟩ : Shape).Idx → EReal :=
  fun i => var (v i) (grad x i)

def deltas {R C : ℕ} (x : (⟨3, ![8, R, C]⟩ : Shape).Idx → EReal) (w m v : (⟨3, ![1, R, C]⟩ : Shape).Idx → EReal) : (⟨3, ![1, R, C]⟩ : Shape).Idx → EReal :=
  fun i => delta (w i) (means x m i) (vars x v i)

theorem bias1 : lit 0x3F26BD02#32 = ((5463681 / 8388608 : ℝ) : EReal) := by
  simp [Ideal.ofBits, Ideal.ieee, -EReal.coe_mul]; norm_num

theorem bias2 : lit 0x3C231ACC#32 = ((2672307 / 268435456 : ℝ) : EReal) := by
  simp [Ideal.ofBits, Ideal.ieee, -EReal.coe_mul]; norm_num

/-- Division by the first mean's bias is a product with the reciprocal. -/
theorem div_bias1 (s : EReal) : Ideal.div s (lit 0x3F26BD02#32) = s * ((8388608 / 5463681 : ℝ) : EReal) := by
  rw [bias1, Ideal.div_coe (by norm_num)]; norm_num

theorem div_bias2 (s : EReal) : Ideal.div s (lit 0x3C231ACC#32) = s * ((268435456 / 2672307 : ℝ) : EReal) := by
  rw [bias2, Ideal.div_coe (by norm_num)]; norm_num

theorem zeros : (![0, 0, 0] : Fin 3 → ℕ) = fun _ => 0 := funext fun a => by fin_cases a <;> rfl

theorem ext {R C : ℕ} {f g : (⟨3, ![1, R, C]⟩ : Shape).Idx → EReal} (h : ∀ (p : Fin R) (q : Fin C), f (ix3 0 p q) = g (ix3 0 p q)) : f = g := by
  funext i
  have e : i = ix3 (0 : Fin 1) (i 1) (i 2) := by
    funext a
    match a with
    | ⟨0, _⟩ => exact Subsingleton.elim (α := Fin 1) _ _
    | ⟨1, _⟩ => rfl
    | ⟨2, _⟩ => rfl
  rw [e]
  exact h (i 1) (i 2)

/-- Where a window at block `t` of the rows reads. -/
theorem at_ix3 {D R C b : ℕ} {w : Fin 3 → ℕ} {t : ℕ} (h : w = ![0, t, 0]) (d : Fin D) (p : ℕ) (q : Fin C) (hp : t * b + p < R)
    (j : (⟨3, ![D, R, C]⟩ : Shape).Idx) (h0 : (j 0).val = w 0 * D + 1 * d.val) (h1 : (j 1).val = w 1 * b + 1 * p)
    (h2 : (j 2).val = w 2 * C + 1 * q.val) : j = ix3 d ⟨t * b + p, hp⟩ q := by
  subst h
  funext i
  apply Fin.ext
  match i with
  | ⟨0, _⟩ => exact h0.trans (by simp)
  | ⟨1, _⟩ => exact h1.trans (by simp)
  | ⟨2, _⟩ => exact h2.trans (by simp)

/-- A row is in its block. -/
theorem inside {R C b : ℕ} (hb : 0 < b) (i : (⟨3, ![1, R, C]⟩ : Shape).Idx) {w : Fin 3 → ℕ} {t : ℕ} (h : w = ![0, t, 0]) (ht : t = (i 1).val / b) (a : Fin 3) :
    w a * (![1, b, C] : Fin 3 → ℕ) a ≤ (i a).val ∧ (i a).val < w a * (![1, b, C] : Fin 3 → ℕ) a + (![1, b, C] : Fin 3 → ℕ) a := by
  subst h ht
  have h0 : (i 0).val < 1 := (i 0).isLt
  have h2 : (i 2).val < C := (i 2).isLt
  match a with
  | ⟨0, _⟩ => show 0 * 1 ≤ (i 0).val ∧ (i 0).val < 0 * 1 + 1; omega
  | ⟨1, _⟩ =>
    show (i 1).val / b * b ≤ (i 1).val ∧ (i 1).val < (i 1).val / b * b + b
    exact ⟨Nat.div_mul_le_self _ _, Nat.lt_div_mul_add hb⟩
  | ⟨2, _⟩ => show 0 * C ≤ (i 2).val ∧ (i 2).val < 0 * C + C; omega
end Cert.Adam
-- ==== Proof.Adam24.lean ====
module

public import proofs.«01_k».proof.Proof.Gen.Kernel24
public import proofs.«01_k».proof.Proof.Gen.Kernel24Ideal.Value
public import proofs.«01_k».proof.Proof.Gen.Reference24Ideal.Run
public import proofs.«01_k».proof.Proof.Adam

@[expose] public section
noncomputable section
namespace Cert.Kernel24Ideal.Step
open Cert.Kernel24Ideal Cert.Kernel24Ideal.Gen Idealize.ShloMosaic Idealize.ShloMosaic.TcCoe Idealize.SL.Sem

section
variable (x : FVec Ideal S8x128x352 .bf16) (w m v : FVec Ideal S1x128x352 .f32)

theorem sum_at (p : Fin 128) (q : Fin 352) : k0_pay11 (F := Ideal) x w m v (ix2 p q) = ∑ k : Fin 8, x (ix3 k p q) := by
  rw [Fin.sum_univ_eight]
  unfold k0_pay11 k0_pay2
  pointwise

theorem mean_at (g : FVec Ideal S128x352 .f32) (p : Fin 128) (q : Fin 352) :
    k0_pay3 (F := Ideal) g m (ix2 p q) = Adam.mean (m (ix3 0 p q)) (g (ix2 p q)) := by
  unfold k0_pay3 Adam.mean
  pointwise

theorem var_at (g : FVec Ideal S128x352 .f32) (p : Fin 128) (q : Fin 352) :
    k0_pay4 (F := Ideal) g v (ix2 p q) = Adam.var (v (ix3 0 p q)) (g (ix2 p q)) := by
  unfold k0_pay4 Adam.var
  pointwise

theorem grad_eq : out0_4 (F := Ideal) x w m v = Adam.grad x := by
  refine Adam.ext (R := 128) (C := 352) fun p q => ?_
  unfold out0_4
  rw [View.canon_unit_zero Adam.zeros]
  refine Eq.trans ?_ (sum_at x w m v p q)
  unfold k0_pay5
  pointwise

theorem means_eq : out0_6 (F := Ideal) x w m v = Adam.means x m := by
  refine Adam.ext (R := 128) (C := 352) fun p q => ?_
  unfold out0_6
  rw [View.canon_unit_zero Adam.zeros, View.ld_unit_zero (S := S1x128x352) Adam.zeros]
  refine Eq.trans ?_ ((mean_at m _ p q).trans (congrArg _ (sum_at x w m v p q)))
  unfold k0_pay6
  pointwise

theorem vars_eq : out0_7 (F := Ideal) x w m v = Adam.vars x v := by
  refine Adam.ext (R := 128) (C := 352) fun p q => ?_
  unfold out0_7
  rw [View.canon_unit_zero Adam.zeros, View.ld_unit_zero (S := S1x128x352) Adam.zeros]
  refine Eq.trans ?_ ((var_at v _ p q).trans (congrArg _ (sum_at x w m v p q)))
  unfold k0_pay7
  pointwise

theorem deltas_eq : out0_5 (F := Ideal) x w m v = Adam.deltas x w m v := by
  refine Adam.ext (R := 128) (C := 352) fun p q => ?_
  unfold out0_5
  rw [View.canon_unit_zero Adam.zeros]
  simp only [View.ld_unit_zero (S := S1x128x352) Adam.zeros]
  show _ = Adam.delta (w (ix3 0 p q)) (Adam.mean (m (ix3 0 p q)) (∑ k : Fin 8, x (ix3 k p q))) (Adam.var (v (ix3 0 p q)) (∑ k : Fin 8, x (ix3 k p q)))
  unfold Adam.delta
  rw [Adam.div_bias1, Adam.div_bias2, ← sum_at x w m v p q, ← mean_at, ← var_at]
  unfold k0_pay1 k0_pay8 k0_pay9 k0_pay10
  generalize k0_pay3 (F := Ideal) _ _ = a
  generalize k0_pay4 (F := Ideal) _ _ = b
  pointwise
  rw [IdealRules.named_const.ideal_named_scalar κ "c1" _ _ rfl, IdealRules.named_const.ideal_named_scalar κ "c2" _ _ rfl]
end

variable (m : (ℓ : Loc nD τ sig) → Buf (Elt Ideal) ℓ) (c : Dev nD)

abbrev X : FVec Ideal S8x1024x352 .bf16 := m ((c : Thread nD τ).loc main_arg0)
abbrev W : FVec Ideal S1x1024x352 .f32 := m ((c : Thread nD τ).loc main_arg1)
abbrev M : FVec Ideal S1x1024x352 .f32 := m ((c : Thread nD τ).loc main_arg2)
abbrev V : FVec Ideal S1x1024x352 .f32 := m ((c : Thread nD τ).loc main_arg3)

/-- Point `t` takes block `t` of the rows, of every array. -/
theorem index : ∀ t : Fin cfg0.N, win0_0.index t = ![0, t.val, 0] ∧ win0_1.index t = ![0, t.val, 0] ∧ win0_2.index t = ![0, t.val, 0] ∧
    win0_3.index t = ![0, t.val, 0] ∧ win0_4.index t = ![0, t.val, 0] ∧ win0_5.index t = ![0, t.val, 0] ∧ win0_6.index t = ![0, t.val, 0] ∧
    win0_7.index t = ![0, t.val, 0] := (by decide +kernel : ∀ t : Fin grid0.N, _)

theorem below (t : Fin cfg0.N) (p : Fin 128) : t.val * 128 + p.val < 1024 := by
  have ht : t.val < 8 := lt_of_lt_of_eq t.isLt (N_0 : cfg0.N = 8)
  omega

/-- The block of every argument, of the first as it enters the gradient. -/
theorem blk_at (t : Fin cfg0.N) (p : Fin 128) (q : Fin 352) :
    Adam.grad (iblk m c 0 t : FVec Ideal S8x128x352 .bf16) (ix3 0 p q) = Adam.grad (X m c) (ix3 0 ⟨_, below t p⟩ q) ∧
    (iblk m c 1 t : FVec Ideal S1x128x352 .f32) (ix3 0 p q) = W m c (ix3 0 ⟨_, below t p⟩ q) ∧
    (iblk m c 2 t : FVec Ideal S1x128x352 .f32) (ix3 0 p q) = M m c (ix3 0 ⟨_, below t p⟩ q) ∧
    (iblk m c 3 t : FVec Ideal S1x128x352 .f32) (ix3 0 p q) = V m c (ix3 0 ⟨_, below t p⟩ q) := by
  obtain ⟨h0, h1, h2, h3, -⟩ := index t
  exact ⟨Finset.sum_congr rfl fun k _ => congrArg (X m c) (Adam.at_ix3 h0 k p q _ _ rfl rfl rfl), congrArg (W m c) (Adam.at_ix3 h1 0 p q _ _ rfl rfl rfl),
    congrArg (M m c) (Adam.at_ix3 h2 0 p q _ _ rfl rfl rfl), congrArg (V m c) (Adam.at_ix3 h3 0 p q _ _ rfl rfl rfl)⟩

/- What a point writes back is its block of the step's results. -/

theorem flushed_grad (t : Fin cfg0.N) : (dats m 0 c).flushed 4 t = ((cfg0.win 4).blk t).view.read (Elt Ideal) (Adam.grad (X m c)) := by
  rw [Value.flushed4]
  refine Adam.ext (R := 128) (C := 352) fun p q => ?_
  obtain ⟨hx, hw, hm, hv⟩ := blk_at m c t p q
  refine Eq.trans ?_ (congrArg (Adam.grad (X m c)) (Adam.at_ix3 (index t).2.2.2.2.1 0 p q (below t p) _ rfl rfl rfl)).symm
  refine (congrFun (grad_eq (iblk m c 0 t) (iblk m c 1 t) (iblk m c 2 t) (iblk m c 3 t)) (ix3 0 p q)).trans ?_
  exact hx

theorem flushed_deltas (t : Fin cfg0.N) : (dats m 0 c).flushed 5 t = ((cfg0.win 5).blk t).view.read (Elt Ideal) (Adam.deltas (X m c) (W m c) (M m c) (V m c)) := by
  rw [Value.flushed5]
  refine Adam.ext (R := 128) (C := 352) fun p q => ?_
  obtain ⟨hx, hw, hm, hv⟩ := blk_at m c t p q
  refine Eq.trans ?_ (congrArg (Adam.deltas (X m c) (W m c) (M m c) (V m c)) (Adam.at_ix3 (index t).2.2.2.2.2.1 0 p q (below t p) _ rfl rfl rfl)).symm
  refine (congrFun (deltas_eq (iblk m c 0 t) (iblk m c 1 t) (iblk m c 2 t) (iblk m c 3 t)) (ix3 0 p q)).trans ?_
  unfold Adam.deltas Adam.means Adam.vars; rw [hx, hw, hm, hv]

theorem flushed_means (t : Fin cfg0.N) : (dats m 0 c).flushed 6 t = ((cfg0.win 6).blk t).view.read (Elt Ideal) (Adam.means (X m c) (M m c)) := by
  rw [Value.flushed6]
  refine Adam.ext (R := 128) (C := 352) fun p q => ?_
  obtain ⟨hx, hw, hm, hv⟩ := blk_at m c t p q
  refine Eq.trans ?_ (congrArg (Adam.means (X m c) (M m c)) (Adam.at_ix3 (index t).2.2.2.2.2.2.1 0 p q (below t p) _ rfl rfl rfl)).symm
  refine (congrFun (means_eq (iblk m c 0 t) (iblk m c 1 t) (iblk m c 2 t) (iblk m c 3 t)) (ix3 0 p q)).trans ?_
  unfold Adam.means; rw [hx, hm]

theorem flushed_vars (t : Fin cfg0.N) : (dats m 0 c).flushed 7 t = ((cfg0.win 7).blk t).view.read (Elt Ideal) (Adam.vars (X m c) (V m c)) := by
  rw [Value.flushed7]
  refine Adam.ext (R := 128) (C := 352) fun p q => ?_
  obtain ⟨hx, hw, hm, hv⟩ := blk_at m c t p q
  refine Eq.trans ?_ (congrArg (Adam.vars (X m c) (V m c)) (Adam.at_ix3 (index t).2.2.2.2.2.2.2 0 p q (below t p) _ rfl rfl rfl)).symm
  refine (congrFun (vars_eq (iblk m c 0 t) (iblk m c 1 t) (iblk m c 2 t) (iblk m c 3 t)) (ix3 0 p q)).trans ?_
  unfold Adam.vars; rw [hx, hv]

/-- The point of a row's block. -/
theorem point (i : S1x1024x352.Idx) : ∃ t : Fin cfg0.N, ∀ {w : Fin 3 → ℕ}, w = ![0, t.val, 0] → ∀ a : Fin 3,
    w a * (![1, 128, 352] : Fin 3 → ℕ) a ≤ (i a).val ∧ (i a).val < w a * (![1, 128, 352] : Fin 3 → ℕ) a + (![1, 128, 352] : Fin 3 → ℕ) a := by
  have hN : cfg0.N = 8 := N_0
  have h : (i 1).val < 1024 := (i 1).isLt
  exact ⟨⟨(i 1).val / 128, by omega⟩, fun e a => Adam.inside (by decide) i e rfl a⟩

theorem covered4 (i : S1x1024x352.Idx) : ∃ t : Fin cfg0.N, (cfg0.win 4).flush t = true ∧ i ∈ ((cfg0.win 4).blk t).view.set := by
  obtain ⟨t, ht⟩ := point i
  refine ⟨t, flush0_4 t, ?_⟩
  show i ∈ ((View.whole main_v0_0).slice (win0_4.rect t)).set
  rw [View.set_slice_whole, Rect.mem_set_unit]
  exact ht (index t).2.2.2.2.1

theorem covered5 (i : S1x1024x352.Idx) : ∃ t : Fin cfg0.N, (cfg0.win 5).flush t = true ∧ i ∈ ((cfg0.win 5).blk t).view.set := by
  obtain ⟨t, ht⟩ := point i
  refine ⟨t, flush0_5 t, ?_⟩
  show i ∈ ((View.whole main_v0_1).slice (win0_5.rect t)).set
  rw [View.set_slice_whole, Rect.mem_set_unit]
  exact ht (index t).2.2.2.2.2.1

theorem covered6 (i : S1x1024x352.Idx) : ∃ t : Fin cfg0.N, (cfg0.win 6).flush t = true ∧ i ∈ ((cfg0.win 6).blk t).view.set := by
  obtain ⟨t, ht⟩ := point i
  refine ⟨t, flush0_6 t, ?_⟩
  show i ∈ ((View.whole main_v0_2).slice (win0_6.rect t)).set
  rw [View.set_slice_whole, Rect.mem_set_unit]
  exact ht (index t).2.2.2.2.2.2.1

theorem covered7 (i : S1x1024x352.Idx) : ∃ t : Fin cfg0.N, (cfg0.win 7).flush t = true ∧ i ∈ ((cfg0.win 7).blk t).view.set := by
  obtain ⟨t, ht⟩ := point i
  refine ⟨t, flush0_7 t, ?_⟩
  show i ∈ ((View.whole main_v0_3).slice (win0_7.rect t)).set
  rw [View.set_slice_whole, Rect.mem_set_unit]
  exact ht (index t).2.2.2.2.2.2.2

theorem run (ρ : Dev nD → PrngReg) : θ_run defs (onTc (τ := τ) (main (F := Ideal))) ⟨m, fun _ => 0, ρ⟩ fun r => ∀ c : Dev nD,
    r.2.mem ((c : Thread nD τ).loc main_v0_0) = Adam.grad (X m c) ∧ r.2.mem ((c : Thread nD τ).loc main_v0_1) = Adam.deltas (X m c) (W m c) (M m c) (V m c) ∧
    r.2.mem ((c : Thread nD τ).loc main_v0_2) = Adam.means (X m c) (M m c) ∧ r.2.mem ((c : Thread nD τ).loc main_v0_3) = Adam.vars (X m c) (V m c) ∧
    r.2.mem ((c : Thread nD τ).loc main_arg0) = X m c ∧ r.2.mem ((c : Thread nD τ).loc main_arg1) = W m c ∧
    r.2.mem ((c : Thread nD τ).loc main_arg2) = M m c ∧ r.2.mem ((c : Thread nD τ).loc main_arg3) = V m c :=
  (θ_run defs _ _).mono (fun r h c => ⟨(h c).1.trans ((dats m 0 c).arrAt_eq_of_cover 4 _ (fun t _ => flushed_grad m c t) covered4),
    (h c).2.1.trans ((dats m 0 c).arrAt_eq_of_cover 5 _ (fun t _ => flushed_deltas m c t) covered5),
    (h c).2.2.1.trans ((dats m 0 c).arrAt_eq_of_cover 6 _ (fun t _ => flushed_means m c t) covered6),
    (h c).2.2.2.1.trans ((dats m 0 c).arrAt_eq_of_cover 7 _ (fun t _ => flushed_vars m c t) covered7), (h c).2.2.2.2⟩) (Value.run_blocks m ρ)
end Cert.Kernel24Ideal.Step

namespace Cert.Reference24Ideal.Step
open Cert.Reference24Ideal Cert.Reference24Ideal.Gen Idealize.ShloMosaic Idealize.ShloMosaic.TcCoe Idealize.SL.Sem

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Adam.grad (m ((c.tc : Thread nD τ).loc main_arg0)) ∧
      r.2.mem ((c.tc : Thread nD τ).loc main_v26) = Adam.deltas (m ((c.tc : Thread nD τ).loc main_arg0)) (m ((c.tc : Thread nD τ).loc main_arg1))
        (m ((c.tc : Thread nD τ).loc main_arg2)) (m ((c.tc : Thread nD τ).loc main_arg3)) ∧
      r.2.mem ((c.tc : Thread nD τ).loc main_v7) = Adam.means (m ((c.tc : Thread nD τ).loc main_arg0)) (m ((c.tc : Thread nD τ).loc main_arg2)) ∧
      r.2.mem ((c.tc : Thread nD τ).loc main_v13) = Adam.vars (m ((c.tc : Thread nD τ).loc main_arg0)) (m ((c.tc : Thread nD τ).loc main_arg3)) ∧
      r.2.mem ((c.tc : Thread nD τ).loc main_arg0) = m ((c.tc : Thread nD τ).loc main_arg0) ∧ r.2.mem ((c.tc : Thread nD τ).loc main_arg1) = m ((c.tc : Thread nD τ).loc main_arg1) ∧
      r.2.mem ((c.tc : Thread nD τ).loc main_arg2) = m ((c.tc : Thread nD τ).loc main_arg2) ∧ r.2.mem ((c.tc : Thread nD τ).loc main_arg3) = m ((c.tc : Thread nD τ).loc main_arg3) := by
  refine (θ_run defs _ _).mono (fun r h c => ?_) (Value.run m ρ)
  obtain ⟨h0, h1, h2, h3, kept⟩ := h c
  refine ⟨h0.trans ?_, h1.trans ?_, h2.trans ?_, h3.trans ?_, kept⟩ <;> clear h0 h1 h2 h3 kept <;>
    generalize m ((c.tc : Thread nD τ).loc main_arg0) = x <;> generalize m ((c.tc : Thread nD τ).loc main_arg1) = w <;>
    generalize m ((c.tc : Thread nD τ).loc main_arg2) = b <;> generalize m ((c.tc : Thread nD τ).loc main_arg3) = v <;>
    refine Adam.ext (R := 1024) (C := 352) fun p q => ?_
  · unfold Adam.grad; pointwise
  · unfold Adam.deltas Adam.delta Adam.means Adam.vars Adam.mean Adam.var Adam.grad; pointwise
  · unfold Adam.means Adam.mean Adam.grad; pointwise
  · unfold Adam.vars Adam.var Adam.grad; pointwise
end Cert.Reference24Ideal.Step

namespace Cert.Kernel24
open Idealize.ShloMosaic Idealize.SL.Sem

/-- As words, the two programs have one body table. -/
theorem defs₀_eq : @defs₀ Bits _ _ = @Cert.Kernel24Ideal.defs₀ Bits _ Adam.bits _ :=
  congrArg Defs.onTc (funext fun l => funext fun x => match l, x with
    | 0, (_, _) => rfl)

theorem defs_eq : @defs Bits _ _ = @Cert.Kernel24Ideal.defs Bits _ Adam.bits _ := congrArg (Pipeline.defs pcfgs) defs₀_eq
end Cert.Kernel24
-- ==== Proof.Step.lean ====
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.Pipeline.FrameBody

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole memref read after one store over contents `X`: `X` overlaid at the store's rectangle. -/
theorem read_put {s : Shape} {e : EltTy} {a : Memref sig .tc .vmem s e} (h : a.IsWhole) (X : s.Idx → Elt F e) (r : Rect s) (v w : r.shape.Idx → Elt F e) (hv : v = w) :
    a.view.read (Elt F) (a.view.writes (Elt F) (h.unread X) [⟨r, v⟩]) = r.overlay X w := by
  subst hv
  funext j
  by_cases hj : j ∈ r.set
  · obtain ⟨i, rfl⟩ := r.exists_idx_of_mem hj
    change _ = r.overlay X v (r.emb i)
    rw [Rect.overlay_emb]
    exact View.read_writes_cons_emb _ _ r v [] i
  · rw [Rect.overlay_of_not_mem _ _ _ hj, View.read_writes_apply_of_forall_not_mem _ _ j [⟨r, v⟩] (by
      intro p hp; rw [List.mem_singleton] at hp; subst hp; exact hj), h.read_unread]

/-- The probabilities' gradients of one 1024-wide tile, from the tile's reads. -/
def dsL (q : Vec F S512x64 .bf16) (w : Vec F S512x64 .bf16) (k : Vec F S1024x64 .bf16) (ck : Vec F S1x1x1x1024 .f32) (l : Vec F S512x1 .f32) (v : Vec F S1024x64 .bf16) (d : Vec F S512x1 .f32) : FVec F S512x1024 .bf16 :=
  k0_pay5 q w k ck l v d
/-- What the tile leaves of the values' gradient it found as `y`. -/
def dvL (q : Vec F S512x64 .bf16) (w : Vec F S512x64 .bf16) (k : Vec F S1024x64 .bf16) (ck : Vec F S1x1x1x1024 .f32) (l : Vec F S512x1 .f32) (y : Vec F S1x64x1024 .f32) : FVec F S1x64x1024 .f32 :=
  k0_pay9 (k0_pay6 y) (k0_pay7 w) (k0_pay8 q k ck l) (constant S64x1024 .f32 0x00000000#32)
/-- What the tile leaves of the keys' gradient (and its row of column sums) it found as `y`. -/
def dkL (one : FVec F S16x512 .bf16) (q : Vec F S512x64 .bf16) (s : FVec F S512x1024 .bf16) (y : Vec F S1x80x1024 .f32) : FVec F S1x80x1024 .f32 :=
  k0_pay10 one (k0_pay2 q) s y
/-- What the tile leaves of the queries' gradient it found as `y`. -/
def dqL (kt : FVec F S80x1024 .bf16) (s : FVec F S512x1024 .bf16) (y : Vec F S64x512 .f32) : FVec F S64x512 .f32 :=
  k0_pay12 kt s y
/-- What the tile leaves of the query decays' gradient it found as `y`. -/
def dcL (kt : FVec F S80x1024 .bf16) (s : FVec F S512x1024 .bf16) (y : Vec F S1x1x1x512 .f32) : FVec F S1x1x1x512 .f32 :=
  k0_pay14 (k0_pay13 kt s y)

/-- One head's tile: its reads, and the four accumulations. -/
def stepL (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) : Prog (TpuEff nD τ sig (Elt F) Λ₀ .tc) PUnit := do
  let q : Vec F S512x64 .bf16 ← Prog.lift (.load arg2 (Rect.unit (s := S8192x128) oq S512x64.size hoq).toLoadRect (View.loadsAt_vmem h_S512x64))
  let w : Vec F S512x64 .bf16 ← Prog.lift (.load arg7 (Rect.unit (s := S8192x128) oq S512x64.size hoq).toLoadRect (View.loadsAt_vmem h_S512x64))
  let k : Vec F S1024x64 .bf16 ← Prog.lift (.load arg3 (Rect.unit (s := S1024x128) ok S1024x64.size hok).toLoadRect (View.loadsAt_vmem h_S1024x64))
  let ck : Vec F S1x1x1x1024 .f32 ← Prog.lift (.load arg5 (Rect.unit (s := S1x2x8x1024) oc S1x1x1x1024.size hoc).toLoadRect (View.loadsAt_vmem h_S1x1x1x1024))
  let l : Vec F S512x1 .f32 ← Prog.lift (.load arg6 (Rect.unit (s := S8192x128) ol S512x1.size hol).toLoadRect (View.loadsAt_vmem h_S512x1))
  let v : Vec F S1024x64 .bf16 ← Prog.lift (.load arg4 (Rect.unit (s := S1024x128) ok S1024x64.size hok).toLoadRect (View.loadsAt_vmem h_S1024x64))
  let d : Vec F S512x1 .f32 ← Prog.lift (.load arg6 (Rect.unit (s := S8192x128) od S512x1.size hod).toLoadRect (View.loadsAt_vmem h_S512x1))
  let y14 : Vec F S1x64x1024 .f32 ← Prog.lift (.load arg14 (Rect.unit (s := S2x64x1024) ov S1x64x1024.size hov).toLoadRect (View.loadsAt_vmem h_S1x64x1024))
  let _z14 : Vec F S1x64x1024 .f32 ← Prog.lift (.load arg14 (Rect.unit (s := S2x64x1024) ov S1x64x1024.size hov).toLoadRect (View.loadsAt_vmem h_S1x64x1024))
  Prog.lift (.store arg14 (Rect.unit (s := S2x64x1024) ov S1x64x1024.size hov) (dvL q w k ck l y14) Finset.univ (View.stores_vmem_bits_univ h_S1x64x1024 rfl) (.inl rfl))
  let y13 : Vec F S1x80x1024 .f32 ← Prog.lift (.load arg13 (Rect.unit (s := S2x80x1024) oa S1x80x1024.size hoa).toLoadRect (View.loadsAt_vmem h_S1x80x1024))
  let _z13 : Vec F S1x80x1024 .f32 ← Prog.lift (.load arg13 (Rect.unit (s := S2x80x1024) oa S1x80x1024.size hoa).toLoadRect (View.loadsAt_vmem h_S1x80x1024))
  Prog.lift (.store arg13 (Rect.unit (s := S2x80x1024) oa S1x80x1024.size hoa) (dkL one q (dsL q w k ck l v d) y13) Finset.univ (View.stores_vmem_bits_univ h_S1x80x1024 rfl) (.inl rfl))
  let y8 : Vec F S64x512 .f32 ← Prog.lift (.load arg8 (Rect.unit (s := S128x8192) o8 S64x512.size ho8).toLoadRect (View.loadsAt_vmem h_S64x512))
  let _z8 : Vec F S64x512 .f32 ← Prog.lift (.load arg8 (Rect.unit (s := S128x8192) o8 S64x512.size ho8).toLoadRect (View.loadsAt_vmem h_S64x512))
  Prog.lift (.store arg8 (Rect.unit (s := S128x8192) o8 S64x512.size ho8) (dqL kt (dsL q w k ck l v d) y8) Finset.univ (View.stores_vmem_bits_univ h_S64x512 rfl) (.inl rfl))
  let y12 : Vec F S1x1x1x512 .f32 ← Prog.lift (.load arg12 (Rect.unit (s := S1x2x16x512) o12 S1x1x1x512.size ho12).toLoadRect (View.loadsAt_vmem h_S1x1x1x512))
  let _z12 : Vec F S1x1x1x512 .f32 ← Prog.lift (.load arg12 (Rect.unit (s := S1x2x16x512) o12 S1x1x1x512.size ho12).toLoadRect (View.loadsAt_vmem h_S1x1x1x512))
  Prog.lift (.store arg12 (Rect.unit (s := S1x2x16x512) o12 S1x1x1x512.size ho12) (dcL kt (dsL q w k ck l v d) y12) Finset.univ (View.stores_vmem_bits_univ h_S1x1x1x512 rfl) (.inl rfl))
  pure PUnit.unit

set_option maxHeartbeats 2000000 in
/-- The tile's triple: the reads kept, each accumulator overlaid at its rectangle. -/
theorem stepL_wp (c : Dev nD) (E : Set ℕ) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (harg2 : arg2.IsWhole) (harg3 : arg3.IsWhole) (harg4 : arg4.IsWhole) (harg5 : arg5.IsWhole) (harg6 : arg6.IsWhole) (harg7 : arg7.IsWhole) (harg8 : arg8.IsWhole) (harg12 : arg12.IsWhole) (harg13 : arg13.IsWhole) (harg14 : arg14.IsWhole)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (X2 : Vec F S8192x128 .bf16) (X3 : Vec F S1024x128 .bf16) (X4 : Vec F S1024x128 .bf16) (X5 : Vec F S1x2x8x1024 .f32) (X6 : Vec F S8192x128 .f32) (X7 : Vec F S8192x128 .bf16) (X8 : Vec F S128x8192 .f32) (X12 : Vec F S1x2x16x512 .f32) (X13 : Vec F S2x80x1024 .f32) (X14 : Vec F S2x64x1024 .f32) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg12 fullShare X12 ∗ owns (c : Thread nD τ) arg13 fullShare X13 ∗ owns (c : Thread nD τ) arg14 fullShare X14) : sProp 𝕄)
      ⊢ wp frame (wpE (defs₀ (F := F)) Variants.none (c : Thread nD τ) none) E (stepL arg2 arg3 arg4 arg5 arg6 arg7 arg8 arg12 arg13 arg14 oq hoq ok hok oc hoc ol hol od hod ov hov oa hoa o8 ho8 o12 ho12 one kt)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare ((Rect.unit (s := S128x8192) o8 S64x512.size ho8).overlay X8 (dqL kt (dsL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld X8 (Rect.unit (s := S128x8192) o8 S64x512.size ho8)))) ∗ owns (c : Thread nD τ) arg12 fullShare ((Rect.unit (s := S1x2x16x512) o12 S1x1x1x512.size ho12).overlay X12 (dcL kt (dsL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld X12 (Rect.unit (s := S1x2x16x512) o12 S1x1x1x512.size ho12)))) ∗ owns (c : Thread nD τ) arg13 fullShare ((Rect.unit (s := S2x80x1024) oa S1x80x1024.size hoa).overlay X13 (dkL one (View.ld X2 (Rect.unit (s := S8192x128) oq S512x64.size hoq)) (dsL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld X13 (Rect.unit (s := S2x80x1024) oa S1x80x1024.size hoa)))) ∗ owns (c : Thread nD τ) arg14 fullShare ((Rect.unit (s := S2x64x1024) ov S1x64x1024.size hov).overlay X14 (dvL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X14 (Rect.unit (s := S2x64x1024) ov S1x64x1024.size hov)))))) := by
  unfold stepL owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine read_put harg8 _ _ _ _ ?_; simp only [View.readAt_eq_ld, Memref.IsWhole.read_unread]
  isplitl [H12]
  · iexists _; isplitr; swap; · iexact H12
    ipureintro; refine read_put harg12 _ _ _ _ ?_; simp only [View.readAt_eq_ld, Memref.IsWhole.read_unread]
  isplitl [H13]
  · iexists _; isplitr; swap; · iexact H13
    ipureintro; refine read_put harg13 _ _ _ _ ?_; simp only [View.readAt_eq_ld, Memref.IsWhole.read_unread]
  iexists _; isplitr; swap; · iexact H14
  ipureintro; refine read_put harg14 _ _ _ _ ?_; simp only [View.readAt_eq_ld, Memref.IsWhole.read_unread]
/-- The probabilities' gradients of one 1024-wide tile, from the tile's reads. -/
def ds1 (q : Vec F S512x64 .bf16) (w : Vec F S512x64 .bf16) (k : Vec F S1024x64 .bf16) (ck : Vec F S1x1x1x1024 .f32) (l : Vec F S512x1 .f32) (v : Vec F S1024x64 .bf16) (d : Vec F S512x1 .f32) : FVec F S512x1024 .bf16 :=
  k0_pay82 (k0_pay80 w) (k0_pay81 q k ck l) v d
/-- What the tile leaves of the values' gradient it found as `y`. -/
def dv1 (q : Vec F S512x64 .bf16) (w : Vec F S512x64 .bf16) (k : Vec F S1024x64 .bf16) (ck : Vec F S1x1x1x1024 .f32) (l : Vec F S512x1 .f32) (y : Vec F S1x64x1024 .f32) : FVec F S1x64x1024 .f32 :=
  k0_pay83 (k0_pay80 w) (k0_pay81 q k ck l) y
/-- What the tile leaves of the keys' gradient (and its row of column sums) it found as `y`. -/
def dk1 (one : FVec F S16x512 .bf16) (q : Vec F S512x64 .bf16) (s : FVec F S512x1024 .bf16) (y : Vec F S1x80x1024 .f32) : FVec F S1x80x1024 .f32 :=
  k0_pay10 one (k0_pay79 q) s y
/-- What the tile leaves of the queries' gradient it found as `y`. -/
def dq1 (kt : FVec F S80x1024 .bf16) (s : FVec F S512x1024 .bf16) (y : Vec F S64x512 .f32) : FVec F S64x512 .f32 :=
  k0_pay12 kt s y
/-- What the tile leaves of the query decays' gradient it found as `y`. -/
def dc1 (kt : FVec F S80x1024 .bf16) (s : FVec F S512x1024 .bf16) (y : Vec F S1x1x1x512 .f32) : FVec F S1x1x1x512 .f32 :=
  k0_pay14 (k0_pay13 kt s y)

/-- One head's tile: its reads, and the four accumulations. -/
def step1 (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) : Prog (TpuEff nD τ sig (Elt F) Λ₀ .tc) PUnit := do
  let q : Vec F S512x64 .bf16 ← Prog.lift (.load arg2 (Rect.unit (s := S8192x128) oq S512x64.size hoq).toLoadRect (View.loadsAt_vmem h_S512x64))
  let w : Vec F S512x64 .bf16 ← Prog.lift (.load arg7 (Rect.unit (s := S8192x128) oq S512x64.size hoq).toLoadRect (View.loadsAt_vmem h_S512x64))
  let k : Vec F S1024x64 .bf16 ← Prog.lift (.load arg3 (Rect.unit (s := S1024x128) ok S1024x64.size hok).toLoadRect (View.loadsAt_vmem h_S1024x64))
  let ck : Vec F S1x1x1x1024 .f32 ← Prog.lift (.load arg5 (Rect.unit (s := S1x2x8x1024) oc S1x1x1x1024.size hoc).toLoadRect (View.loadsAt_vmem h_S1x1x1x1024))
  let l : Vec F S512x1 .f32 ← Prog.lift (.load arg6 (Rect.unit (s := S8192x128) ol S512x1.size hol).toLoadRect (View.loadsAt_vmem h_S512x1))
  let v : Vec F S1024x64 .bf16 ← Prog.lift (.load arg4 (Rect.unit (s := S1024x128) ok S1024x64.size hok).toLoadRect (View.loadsAt_vmem h_S1024x64))
  let d : Vec F S512x1 .f32 ← Prog.lift (.load arg6 (Rect.unit (s := S8192x128) od S512x1.size hod).toLoadRect (View.loadsAt_vmem h_S512x1))
  let y14 : Vec F S1x64x1024 .f32 ← Prog.lift (.load arg14 (Rect.unit (s := S2x64x1024) ov S1x64x1024.size hov).toLoadRect (View.loadsAt_vmem h_S1x64x1024))
  let _z14 : Vec F S1x64x1024 .f32 ← Prog.lift (.load arg14 (Rect.unit (s := S2x64x1024) ov S1x64x1024.size hov).toLoadRect (View.loadsAt_vmem h_S1x64x1024))
  Prog.lift (.store arg14 (Rect.unit (s := S2x64x1024) ov S1x64x1024.size hov) (dv1 q w k ck l y14) Finset.univ (View.stores_vmem_bits_univ h_S1x64x1024 rfl) (.inl rfl))
  let y13 : Vec F S1x80x1024 .f32 ← Prog.lift (.load arg13 (Rect.unit (s := S2x80x1024) oa S1x80x1024.size hoa).toLoadRect (View.loadsAt_vmem h_S1x80x1024))
  let _z13 : Vec F S1x80x1024 .f32 ← Prog.lift (.load arg13 (Rect.unit (s := S2x80x1024) oa S1x80x1024.size hoa).toLoadRect (View.loadsAt_vmem h_S1x80x1024))
  Prog.lift (.store arg13 (Rect.unit (s := S2x80x1024) oa S1x80x1024.size hoa) (dk1 one q (ds1 q w k ck l v d) y13) Finset.univ (View.stores_vmem_bits_univ h_S1x80x1024 rfl) (.inl rfl))
  let y8 : Vec F S64x512 .f32 ← Prog.lift (.load arg8 (Rect.unit (s := S128x8192) o8 S64x512.size ho8).toLoadRect (View.loadsAt_vmem h_S64x512))
  let _z8 : Vec F S64x512 .f32 ← Prog.lift (.load arg8 (Rect.unit (s := S128x8192) o8 S64x512.size ho8).toLoadRect (View.loadsAt_vmem h_S64x512))
  Prog.lift (.store arg8 (Rect.unit (s := S128x8192) o8 S64x512.size ho8) (dq1 kt (ds1 q w k ck l v d) y8) Finset.univ (View.stores_vmem_bits_univ h_S64x512 rfl) (.inl rfl))
  let y12 : Vec F S1x1x1x512 .f32 ← Prog.lift (.load arg12 (Rect.unit (s := S1x2x16x512) o12 S1x1x1x512.size ho12).toLoadRect (View.loadsAt_vmem h_S1x1x1x512))
  let _z12 : Vec F S1x1x1x512 .f32 ← Prog.lift (.load arg12 (Rect.unit (s := S1x2x16x512) o12 S1x1x1x512.size ho12).toLoadRect (View.loadsAt_vmem h_S1x1x1x512))
  Prog.lift (.store arg12 (Rect.unit (s := S1x2x16x512) o12 S1x1x1x512.size ho12) (dc1 kt (ds1 q w k ck l v d) y12) Finset.univ (View.stores_vmem_bits_univ h_S1x1x1x512 rfl) (.inl rfl))
  pure PUnit.unit

set_option maxHeartbeats 2000000 in
/-- The tile's triple: the reads kept, each accumulator overlaid at its rectangle. -/
theorem step1_wp (c : Dev nD) (E : Set ℕ) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (harg2 : arg2.IsWhole) (harg3 : arg3.IsWhole) (harg4 : arg4.IsWhole) (harg5 : arg5.IsWhole) (harg6 : arg6.IsWhole) (harg7 : arg7.IsWhole) (harg8 : arg8.IsWhole) (harg12 : arg12.IsWhole) (harg13 : arg13.IsWhole) (harg14 : arg14.IsWhole)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (X2 : Vec F S8192x128 .bf16) (X3 : Vec F S1024x128 .bf16) (X4 : Vec F S1024x128 .bf16) (X5 : Vec F S1x2x8x1024 .f32) (X6 : Vec F S8192x128 .f32) (X7 : Vec F S8192x128 .bf16) (X8 : Vec F S128x8192 .f32) (X12 : Vec F S1x2x16x512 .f32) (X13 : Vec F S2x80x1024 .f32) (X14 : Vec F S2x64x1024 .f32) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg12 fullShare X12 ∗ owns (c : Thread nD τ) arg13 fullShare X13 ∗ owns (c : Thread nD τ) arg14 fullShare X14) : sProp 𝕄)
      ⊢ wp frame (wpE (defs₀ (F := F)) Variants.none (c : Thread nD τ) none) E (step1 arg2 arg3 arg4 arg5 arg6 arg7 arg8 arg12 arg13 arg14 oq hoq ok hok oc hoc ol hol od hod ov hov oa hoa o8 ho8 o12 ho12 one kt)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare ((Rect.unit (s := S128x8192) o8 S64x512.size ho8).overlay X8 (dq1 kt (ds1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld X8 (Rect.unit (s := S128x8192) o8 S64x512.size ho8)))) ∗ owns (c : Thread nD τ) arg12 fullShare ((Rect.unit (s := S1x2x16x512) o12 S1x1x1x512.size ho12).overlay X12 (dc1 kt (ds1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld X12 (Rect.unit (s := S1x2x16x512) o12 S1x1x1x512.size ho12)))) ∗ owns (c : Thread nD τ) arg13 fullShare ((Rect.unit (s := S2x80x1024) oa S1x80x1024.size hoa).overlay X13 (dk1 one (View.ld X2 (Rect.unit (s := S8192x128) oq S512x64.size hoq)) (ds1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld X13 (Rect.unit (s := S2x80x1024) oa S1x80x1024.size hoa)))) ∗ owns (c : Thread nD τ) arg14 fullShare ((Rect.unit (s := S2x64x1024) ov S1x64x1024.size hov).overlay X14 (dv1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X14 (Rect.unit (s := S2x64x1024) ov S1x64x1024.size hov)))))) := by
  unfold step1 owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine read_put harg8 _ _ _ _ ?_; simp only [View.readAt_eq_ld, Memref.IsWhole.read_unread]
  isplitl [H12]
  · iexists _; isplitr; swap; · iexact H12
    ipureintro; refine read_put harg12 _ _ _ _ ?_; simp only [View.readAt_eq_ld, Memref.IsWhole.read_unread]
  isplitl [H13]
  · iexists _; isplitr; swap; · iexact H13
    ipureintro; refine read_put harg13 _ _ _ _ ?_; simp only [View.readAt_eq_ld, Memref.IsWhole.read_unread]
  iexists _; isplitr; swap; · iexact H14
  ipureintro; refine read_put harg14 _ _ _ _ ?_; simp only [View.readAt_eq_ld, Memref.IsWhole.read_unread]
/-- The probabilities' gradients of one 512-wide tile, from the tile's reads. -/
def ds0 (q : Vec F S512x64 .bf16) (w : Vec F S512x64 .bf16) (k : Vec F S512x64 .bf16) (ck : Vec F S1x1x1x512 .f32) (l : Vec F S512x1 .f32) (v : Vec F S512x64 .bf16) (d : Vec F S512x1 .f32) : FVec F S512x512 .bf16 :=
  k0_pay61 (k0_pay58 q) w k ck l v d
/-- What the tile leaves of the values' gradient it found as `y`. -/
def dv0 (q : Vec F S512x64 .bf16) (w : Vec F S512x64 .bf16) (k : Vec F S512x64 .bf16) (ck : Vec F S1x1x1x512 .f32) (l : Vec F S512x1 .f32) (y : Vec F S1x64x512 .f32) : FVec F S1x64x512 .f32 :=
  k0_pay63 (k0_pay62 (k0_pay58 q) w k ck l y)
/-- What the tile leaves of the keys' gradient (and its row of column sums) it found as `y`. -/
def dk0 (one : FVec F S16x512 .bf16) (q : Vec F S512x64 .bf16) (s : FVec F S512x512 .bf16) (y : Vec F S1x80x512 .f32) : FVec F S1x80x512 .f32 :=
  k0_pay64 one (k0_pay58 q) s y
/-- What the tile leaves of the queries' gradient it found as `y`. -/
def dq0 (kt : FVec F S80x1024 .bf16) (s : FVec F S512x512 .bf16) (y : Vec F S64x512 .f32) : FVec F S64x512 .f32 :=
  k0_pay66 kt s y
/-- What the tile leaves of the query decays' gradient it found as `y`. -/
def dc0 (kt : FVec F S80x1024 .bf16) (s : FVec F S512x512 .bf16) (y : Vec F S1x1x1x512 .f32) : FVec F S1x1x1x512 .f32 :=
  k0_pay67 kt s y

/-- One head's tile: its reads, and the four accumulations. -/
def step0 (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32)
    (oq : Fin S8192x128.rank → ℕ) (hoq : ∀ a, oq a + S512x64.size a ≤ S8192x128.size a) (ok : Fin S1024x128.rank → ℕ) (hok : ∀ a, ok a + S512x64.size a ≤ S1024x128.size a) (oc : Fin S1x2x8x1024.rank → ℕ) (hoc : ∀ a, oc a + S1x1x1x512.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x512.size a ≤ S2x64x1024.size a) (oa : Fin S2x80x1024.rank → ℕ) (hoa : ∀ a, oa a + S1x80x512.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) : Prog (TpuEff nD τ sig (Elt F) Λ₀ .tc) PUnit := do
  let q : Vec F S512x64 .bf16 ← Prog.lift (.load arg2 (Rect.unit (s := S8192x128) oq S512x64.size hoq).toLoadRect (View.loadsAt_vmem h_S512x64))
  let w : Vec F S512x64 .bf16 ← Prog.lift (.load arg7 (Rect.unit (s := S8192x128) oq S512x64.size hoq).toLoadRect (View.loadsAt_vmem h_S512x64))
  let k : Vec F S512x64 .bf16 ← Prog.lift (.load arg3 (Rect.unit (s := S1024x128) ok S512x64.size hok).toLoadRect (View.loadsAt_vmem h_S512x64))
  let ck : Vec F S1x1x1x512 .f32 ← Prog.lift (.load arg5 (Rect.unit (s := S1x2x8x1024) oc S1x1x1x512.size hoc).toLoadRect (View.loadsAt_vmem h_S1x1x1x512))
  let l : Vec F S512x1 .f32 ← Prog.lift (.load arg6 (Rect.unit (s := S8192x128) ol S512x1.size hol).toLoadRect (View.loadsAt_vmem h_S512x1))
  let v : Vec F S512x64 .bf16 ← Prog.lift (.load arg4 (Rect.unit (s := S1024x128) ok S512x64.size hok).toLoadRect (View.loadsAt_vmem h_S512x64))
  let d : Vec F S512x1 .f32 ← Prog.lift (.load arg6 (Rect.unit (s := S8192x128) od S512x1.size hod).toLoadRect (View.loadsAt_vmem h_S512x1))
  let y14 : Vec F S1x64x512 .f32 ← Prog.lift (.load arg14 (Rect.unit (s := S2x64x1024) ov S1x64x512.size hov).toLoadRect (View.loadsAt_vmem h_S1x64x512))
  let _z14 : Vec F S1x64x512 .f32 ← Prog.lift (.load arg14 (Rect.unit (s := S2x64x1024) ov S1x64x512.size hov).toLoadRect (View.loadsAt_vmem h_S1x64x512))
  Prog.lift (.store arg14 (Rect.unit (s := S2x64x1024) ov S1x64x512.size hov) (dv0 q w k ck l y14) Finset.univ (View.stores_vmem_bits_univ h_S1x64x512 rfl) (.inl rfl))
  let y13 : Vec F S1x80x512 .f32 ← Prog.lift (.load arg13 (Rect.unit (s := S2x80x1024) oa S1x80x512.size hoa).toLoadRect (View.loadsAt_vmem h_S1x80x512))
  let _z13 : Vec F S1x80x512 .f32 ← Prog.lift (.load arg13 (Rect.unit (s := S2x80x1024) oa S1x80x512.size hoa).toLoadRect (View.loadsAt_vmem h_S1x80x512))
  Prog.lift (.store arg13 (Rect.unit (s := S2x80x1024) oa S1x80x512.size hoa) (dk0 one q (ds0 q w k ck l v d) y13) Finset.univ (View.stores_vmem_bits_univ h_S1x80x512 rfl) (.inl rfl))
  let y8 : Vec F S64x512 .f32 ← Prog.lift (.load arg8 (Rect.unit (s := S128x8192) o8 S64x512.size ho8).toLoadRect (View.loadsAt_vmem h_S64x512))
  let _z8 : Vec F S64x512 .f32 ← Prog.lift (.load arg8 (Rect.unit (s := S128x8192) o8 S64x512.size ho8).toLoadRect (View.loadsAt_vmem h_S64x512))
  Prog.lift (.store arg8 (Rect.unit (s := S128x8192) o8 S64x512.size ho8) (dq0 kt (ds0 q w k ck l v d) y8) Finset.univ (View.stores_vmem_bits_univ h_S64x512 rfl) (.inl rfl))
  let y12 : Vec F S1x1x1x512 .f32 ← Prog.lift (.load arg12 (Rect.unit (s := S1x2x16x512) o12 S1x1x1x512.size ho12).toLoadRect (View.loadsAt_vmem h_S1x1x1x512))
  let _z12 : Vec F S1x1x1x512 .f32 ← Prog.lift (.load arg12 (Rect.unit (s := S1x2x16x512) o12 S1x1x1x512.size ho12).toLoadRect (View.loadsAt_vmem h_S1x1x1x512))
  Prog.lift (.store arg12 (Rect.unit (s := S1x2x16x512) o12 S1x1x1x512.size ho12) (dc0 kt (ds0 q w k ck l v d) y12) Finset.univ (View.stores_vmem_bits_univ h_S1x1x1x512 rfl) (.inl rfl))
  pure PUnit.unit

set_option maxHeartbeats 2000000 in
/-- The tile's triple: the reads kept, each accumulator overlaid at its rectangle. -/
theorem step0_wp (c : Dev nD) (E : Set ℕ) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (harg2 : arg2.IsWhole) (harg3 : arg3.IsWhole) (harg4 : arg4.IsWhole) (harg5 : arg5.IsWhole) (harg6 : arg6.IsWhole) (harg7 : arg7.IsWhole) (harg8 : arg8.IsWhole) (harg12 : arg12.IsWhole) (harg13 : arg13.IsWhole) (harg14 : arg14.IsWhole)
    (oq : Fin S8192x128.rank → ℕ) (hoq : ∀ a, oq a + S512x64.size a ≤ S8192x128.size a) (ok : Fin S1024x128.rank → ℕ) (hok : ∀ a, ok a + S512x64.size a ≤ S1024x128.size a) (oc : Fin S1x2x8x1024.rank → ℕ) (hoc : ∀ a, oc a + S1x1x1x512.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x512.size a ≤ S2x64x1024.size a) (oa : Fin S2x80x1024.rank → ℕ) (hoa : ∀ a, oa a + S1x80x512.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (X2 : Vec F S8192x128 .bf16) (X3 : Vec F S1024x128 .bf16) (X4 : Vec F S1024x128 .bf16) (X5 : Vec F S1x2x8x1024 .f32) (X6 : Vec F S8192x128 .f32) (X7 : Vec F S8192x128 .bf16) (X8 : Vec F S128x8192 .f32) (X12 : Vec F S1x2x16x512 .f32) (X13 : Vec F S2x80x1024 .f32) (X14 : Vec F S2x64x1024 .f32) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg12 fullShare X12 ∗ owns (c : Thread nD τ) arg13 fullShare X13 ∗ owns (c : Thread nD τ) arg14 fullShare X14) : sProp 𝕄)
      ⊢ wp frame (wpE (defs₀ (F := F)) Variants.none (c : Thread nD τ) none) E (step0 arg2 arg3 arg4 arg5 arg6 arg7 arg8 arg12 arg13 arg14 oq hoq ok hok oc hoc ol hol od hod ov hov oa hoa o8 ho8 o12 ho12 one kt)
          (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare ((Rect.unit (s := S128x8192) o8 S64x512.size ho8).overlay X8 (dq0 kt (ds0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld X4 (Rect.unit (s := S1024x128) ok S512x64.size hok)) (View.ld X6 (Rect.unit (s := S8192x128) od S512x1.size hod))) (View.ld X8 (Rect.unit (s := S128x8192) o8 S64x512.size ho8)))) ∗ owns (c : Thread nD τ) arg12 fullShare ((Rect.unit (s := S1x2x16x512) o12 S1x1x1x512.size ho12).overlay X12 (dc0 kt (ds0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld X4 (Rect.unit (s := S1024x128) ok S512x64.size hok)) (View.ld X6 (Rect.unit (s := S8192x128) od S512x1.size hod))) (View.ld X12 (Rect.unit (s := S1x2x16x512) o12 S1x1x1x512.size ho12)))) ∗ owns (c : Thread nD τ) arg13 fullShare ((Rect.unit (s := S2x80x1024) oa S1x80x512.size hoa).overlay X13 (dk0 one (View.ld X2 (Rect.unit (s := S8192x128) oq S512x64.size hoq)) (ds0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld X4 (Rect.unit (s := S1024x128) ok S512x64.size hok)) (View.ld X6 (Rect.unit (s := S8192x128) od S512x1.size hod))) (View.ld X13 (Rect.unit (s := S2x80x1024) oa S1x80x512.size hoa)))) ∗ owns (c : Thread nD τ) arg14 fullShare ((Rect.unit (s := S2x64x1024) ov S1x64x512.size hov).overlay X14 (dv0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld X14 (Rect.unit (s := S2x64x1024) ov S1x64x512.size hov)))))) := by
  unfold step0 owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro; refine read_put harg8 _ _ _ _ ?_; simp only [View.readAt_eq_ld, Memref.IsWhole.read_unread]
  isplitl [H12]
  · iexists _; isplitr; swap; · iexact H12
    ipureintro; refine read_put harg12 _ _ _ _ ?_; simp only [View.readAt_eq_ld, Memref.IsWhole.read_unread]
  isplitl [H13]
  · iexists _; isplitr; swap; · iexact H13
    ipureintro; refine read_put harg13 _ _ _ _ ?_; simp only [View.readAt_eq_ld, Memref.IsWhole.read_unread]
  iexists _; isplitr; swap; · iexact H14
  ipureintro; refine read_put harg14 _ _ _ _ ?_; simp only [View.readAt_eq_ld, Memref.IsWhole.read_unread]

end Cert.KernelIdeal.Att

end
-- ==== Proof.Tiles.lean ====
module

public import proofs.«01_k».proof.Proof.Step
public import Idealize.ShloMosaic.Lib.Scf
public import Idealize.ShloMosaic.Lib.Exec
public import Idealize.ShloMosaic.Lib.Tactic
public import Idealize.ShloMosaic.Lib.Pipeline.FrameBody

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The four accumulators: the queries' gradient, the query decays', the keys' and the values'. -/
structure Acc (F : FTy → Type) where
  x8 : Vec F S128x8192 .f32
  x12 : Vec F S1x2x16x512 .f32
  x13 : Vec F S2x80x1024 .f32
  x14 : Vec F S2x64x1024 .f32

/-- The six inputs owned at their blocks, and the accumulators at `A`. -/
abbrev held (c : Dev nD) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) : sProp 𝕄 :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare A.x8 ∗ owns (c : Thread nD τ) arg12 fullShare A.x12 ∗ owns (c : Thread nD τ) arg13 fullShare A.x13 ∗ owns (c : Thread nD τ) arg14 fullShare A.x14)

/-- The accumulators after one head's tile. -/
def tileL (X2 : Vec F S8192x128 .bf16) (X3 : Vec F S1024x128 .bf16) (X4 : Vec F S1024x128 .bf16) (X5 : Vec F S1x2x8x1024 .f32) (X6 : Vec F S8192x128 .f32) (X7 : Vec F S8192x128 .bf16)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (A : Acc F) : Acc F where
  x8 := (Rect.unit (s := S128x8192) o8 S64x512.size ho8).overlay A.x8 (dqL kt (dsL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld A.x8 (Rect.unit (s := S128x8192) o8 S64x512.size ho8)))
  x12 := (Rect.unit (s := S1x2x16x512) o12 S1x1x1x512.size ho12).overlay A.x12 (dcL kt (dsL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld A.x12 (Rect.unit (s := S1x2x16x512) o12 S1x1x1x512.size ho12)))
  x13 := (Rect.unit (s := S2x80x1024) oa S1x80x1024.size hoa).overlay A.x13 (dkL one (View.ld X2 (Rect.unit (s := S8192x128) oq S512x64.size hoq)) (dsL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld A.x13 (Rect.unit (s := S2x80x1024) oa S1x80x1024.size hoa)))
  x14 := (Rect.unit (s := S2x64x1024) ov S1x64x1024.size hov).overlay A.x14 (dvL (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld A.x14 (Rect.unit (s := S2x64x1024) ov S1x64x1024.size hov)))

set_option maxHeartbeats 2000000 in
theorem stepL_held (c : Dev nD) (E : Set ℕ) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (harg2 : arg2.IsWhole) (harg3 : arg3.IsWhole) (harg4 : arg4.IsWhole) (harg5 : arg5.IsWhole) (harg6 : arg6.IsWhole) (harg7 : arg7.IsWhole) (harg8 : arg8.IsWhole) (harg12 : arg12.IsWhole) (harg13 : arg13.IsWhole) (harg14 : arg14.IsWhole)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) :
    held c arg2 arg3 arg4 arg5 arg6 arg7 arg8 arg12 arg13 arg14 X2 X3 X4 X5 X6 X7 A
      ⊢ wp frame (wpE (defs₀ (F := F)) Variants.none (c : Thread nD τ) none) E (stepL arg2 arg3 arg4 arg5 arg6 arg7 arg8 arg12 arg13 arg14 oq hoq ok hok oc hoc ol hol od hod ov hov oa hoa o8 ho8 o12 ho12 one kt)
          (fun _ => held c arg2 arg3 arg4 arg5 arg6 arg7 arg8 arg12 arg13 arg14 X2 X3 X4 X5 X6 X7 (tileL X2 X3 X4 X5 X6 X7 oq hoq ok hok oc hoc ol hol od hod ov hov oa hoa o8 ho8 o12 ho12 one kt A)) := by
  have h := stepL_wp c E arg2 arg3 arg4 arg5 arg6 arg7 arg8 arg12 arg13 arg14 harg2 harg3 harg4 harg5 harg6 harg7 harg8 harg12 harg13 harg14 oq hoq ok hok oc hoc ol hol od hod ov hov oa hoa o8 ho8 o12 ho12 one kt X2 X3 X4 X5 X6 X7 A.x8 A.x12 A.x13 A.x14
  unfold held tileL
  dsimp only
  exact h

/-- The accumulators after one head's tile. -/
def tile1 (X2 : Vec F S8192x128 .bf16) (X3 : Vec F S1024x128 .bf16) (X4 : Vec F S1024x128 .bf16) (X5 : Vec F S1x2x8x1024 .f32) (X6 : Vec F S8192x128 .f32) (X7 : Vec F S8192x128 .bf16)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (A : Acc F) : Acc F where
  x8 := (Rect.unit (s := S128x8192) o8 S64x512.size ho8).overlay A.x8 (dq1 kt (ds1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld A.x8 (Rect.unit (s := S128x8192) o8 S64x512.size ho8)))
  x12 := (Rect.unit (s := S1x2x16x512) o12 S1x1x1x512.size ho12).overlay A.x12 (dc1 kt (ds1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld A.x12 (Rect.unit (s := S1x2x16x512) o12 S1x1x1x512.size ho12)))
  x13 := (Rect.unit (s := S2x80x1024) oa S1x80x1024.size hoa).overlay A.x13 (dk1 one (View.ld X2 (Rect.unit (s := S8192x128) oq S512x64.size hoq)) (ds1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld X4 (Rect.unit (s := S1024x128) ok S1024x64.size hok)) (View.ld X6 (Rect.unit (s := S8192x128) od S512x1.size hod))) (View.ld A.x13 (Rect.unit (s := S2x80x1024) oa S1x80x1024.size hoa)))
  x14 := (Rect.unit (s := S2x64x1024) ov S1x64x1024.size hov).overlay A.x14 (dv1 (View.ld X2 (Rect.unit (s := S8192x128) oq S512x64.size hoq)) (View.ld X7 (Rect.unit (s := S8192x128) oq S512x64.size hoq)) (View.ld X3 (Rect.unit (s := S1024x128) ok S1024x64.size hok)) (View.ld X5 (Rect.unit (s := S1x2x8x1024) oc S1x1x1x1024.size hoc)) (View.ld X6 (Rect.unit (s := S8192x128) ol S512x1.size hol)) (View.ld A.x14 (Rect.unit (s := S2x64x1024) ov S1x64x1024.size hov)))

set_option maxHeartbeats 2000000 in
theorem step1_held (c : Dev nD) (E : Set ℕ) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (harg2 : arg2.IsWhole) (harg3 : arg3.IsWhole) (harg4 : arg4.IsWhole) (harg5 : arg5.IsWhole) (harg6 : arg6.IsWhole) (harg7 : arg7.IsWhole) (harg8 : arg8.IsWhole) (harg12 : arg12.IsWhole) (harg13 : arg13.IsWhole) (harg14 : arg14.IsWhole)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a) (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) :
    held c arg2 arg3 arg4 arg5 arg6 arg7 arg8 arg12 arg13 arg14 X2 X3 X4 X5 X6 X7 A
      ⊢ wp frame (wpE (defs₀ (F := F)) Variants.none (c : Thread nD τ) none) E (step1 arg2 arg3 arg4 arg5 arg6 arg7 arg8 arg12 arg13 arg14 oq hoq ok hok oc hoc ol hol od hod ov hov oa hoa o8 ho8 o12 ho12 one kt)
          (fun _ => held c arg2 arg3 arg4 arg5 arg6 arg7 arg8 arg12 arg13 arg14 X2 X3 X4 X5 X6 X7 (tile1 X2 X3 X4 X5 X6 X7 oq hoq ok hok oc hoc ol hol od hod ov hov oa hoa o8 ho8 o12 ho12 one kt A)) := by
  have h := step1_wp c E arg2 arg3 arg4 arg5 arg6 arg7 arg8 arg12 arg13 arg14 harg2 harg3 harg4 harg5 harg6 harg7 harg8 harg12 harg13 harg14 oq hoq ok hok oc hoc ol hol od hod ov hov oa hoa o8 ho8 o12 ho12 one kt X2 X3 X4 X5 X6 X7 A.x8 A.x12 A.x13 A.x14
  unfold held tile1
  dsimp only
  exact h

/-- The accumulators after one head's tile. -/
def tile0 (X2 : Vec F S8192x128 .bf16) (X3 : Vec F S1024x128 .bf16) (X4 : Vec F S1024x128 .bf16) (X5 : Vec F S1x2x8x1024 .f32) (X6 : Vec F S8192x128 .f32) (X7 : Vec F S8192x128 .bf16)
    (oq : Fin S8192x128.rank → ℕ) (hoq : ∀ a, oq a + S512x64.size a ≤ S8192x128.size a) (ok : Fin S1024x128.rank → ℕ) (hok : ∀ a, ok a + S512x64.size a ≤ S1024x128.size a) (oc : Fin S1x2x8x1024.rank → ℕ) (hoc : ∀ a, oc a + S1x1x1x512.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x512.size a ≤ S2x64x1024.size a) (oa : Fin S2x80x1024.rank → ℕ) (hoa : ∀ a, oa a + S1x80x512.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (A : Acc F) : Acc F where
  x8 := (Rect.unit (s := S128x8192) o8 S64x512.size ho8).overlay A.x8 (dq0 kt (ds0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld X4 (Rect.unit (s := S1024x128) ok S512x64.size hok)) (View.ld X6 (Rect.unit (s := S8192x128) od S512x1.size hod))) (View.ld A.x8 (Rect.unit (s := S128x8192) o8 S64x512.size ho8)))
  x12 := (Rect.unit (s := S1x2x16x512) o12 S1x1x1x512.size ho12).overlay A.x12 (dc0 kt (ds0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld X4 (Rect.unit (s := S1024x128) ok S512x64.size hok)) (View.ld X6 (Rect.unit (s := S8192x128) od S512x1.size hod))) (View.ld A.x12 (Rect.unit (s := S1x2x16x512) o12 S1x1x1x512.size ho12)))
  x13 := (Rect.unit (s := S2x80x1024) oa S1x80x512.size hoa).overlay A.x13 (dk0 one (View.ld X2 (Rect.unit (s := S8192x128) oq S512x64.size hoq)) (ds0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld X4 (Rect.unit (s := S1024x128) ok S512x64.size hok)) (View.ld X6 (Rect.unit (s := S8192x128) od S512x1.size hod))) (View.ld A.x13 (Rect.unit (s := S2x80x1024) oa S1x80x512.size hoa)))
  x14 := (Rect.unit (s := S2x64x1024) ov S1x64x512.size hov).overlay A.x14 (dv0 (View.ld X2 (Rect.unit (s := S8192x128) oq S512x64.size hoq)) (View.ld X7 (Rect.unit (s := S8192x128) oq S512x64.size hoq)) (View.ld X3 (Rect.unit (s := S1024x128) ok S512x64.size hok)) (View.ld X5 (Rect.unit (s := S1x2x8x1024) oc S1x1x1x512.size hoc)) (View.ld X6 (Rect.unit (s := S8192x128) ol S512x1.size hol)) (View.ld A.x14 (Rect.unit (s := S2x64x1024) ov S1x64x512.size hov)))

set_option maxHeartbeats 2000000 in
theorem step0_held (c : Dev nD) (E : Set ℕ) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (harg2 : arg2.IsWhole) (harg3 : arg3.IsWhole) (harg4 : arg4.IsWhole) (harg5 : arg5.IsWhole) (harg6 : arg6.IsWhole) (harg7 : arg7.IsWhole) (harg8 : arg8.IsWhole) (harg12 : arg12.IsWhole) (harg13 : arg13.IsWhole) (harg14 : arg14.IsWhole)
    (oq : Fin S8192x128.rank → ℕ) (hoq : ∀ a, oq a + S512x64.size a ≤ S8192x128.size a) (ok : Fin S1024x128.rank → ℕ) (hok : ∀ a, ok a + S512x64.size a ≤ S1024x128.size a) (oc : Fin S1x2x8x1024.rank → ℕ) (hoc : ∀ a, oc a + S1x1x1x512.size a ≤ S1x2x8x1024.size a) (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x512.size a ≤ S2x64x1024.size a) (oa : Fin S2x80x1024.rank → ℕ) (hoa : ∀ a, oa a + S1x80x512.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (one : FVec F S16x512 .bf16) (kt : FVec F S80x1024 .bf16) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) :
    held c arg2 arg3 arg4 arg5 arg6 arg7 arg8 arg12 arg13 arg14 X2 X3 X4 X5 X6 X7 A
      ⊢ wp frame (wpE (defs₀ (F := F)) Variants.none (c : Thread nD τ) none) E (step0 arg2 arg3 arg4 arg5 arg6 arg7 arg8 arg12 arg13 arg14 oq hoq ok hok oc hoc ol hol od hod ov hov oa hoa o8 ho8 o12 ho12 one kt)
          (fun _ => held c arg2 arg3 arg4 arg5 arg6 arg7 arg8 arg12 arg13 arg14 X2 X3 X4 X5 X6 X7 (tile0 X2 X3 X4 X5 X6 X7 oq hoq ok hok oc hoc ol hol od hod ov hov oa hoa o8 ho8 o12 ho12 one kt A)) := by
  have h := step0_wp c E arg2 arg3 arg4 arg5 arg6 arg7 arg8 arg12 arg13 arg14 harg2 harg3 harg4 harg5 harg6 harg7 harg8 harg12 harg13 harg14 oq hoq ok hok oc hoc ol hol od hod ov hov oa hoa o8 ho8 o12 ho12 one kt X2 X3 X4 X5 X6 X7 A.x8 A.x12 A.x13 A.x14
  unfold held tile0
  dsimp only
  exact h

/-- One head's keys of the block, transposed over sixteen rows of ones. -/
abbrev kt0 (X3 : Vec F S1024x128 .bf16) : FVec F S80x1024 .bf16 := k0_pay56 (View.ld X3 (Rect.unit (s := S1024x128) ![0, 0] S1024x64.size inb_S1024x128_S1024x64_0_0))
abbrev kt1 (X3 : Vec F S1024x128 .bf16) : FVec F S80x1024 .bf16 := k0_pay57 (View.ld X3 (Rect.unit (s := S1024x128) ![0, 64] S1024x64.size inb_S1024x128_S1024x64_0_64))

/-- The accumulators after the two tiles of the first row block, -/
def row0 (i : grid0.Coords) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) : Acc F :=
  tile0 X2 X3 X4 X5 X6 X7 (k0_off7 i 0#32) (k0_off7_inb i 0) ![0, 64] inb_S1024x128_S512x64_0_64 (k0_off8 i) (k0_off8_inb i) (k0_off9 i 0#32) (k0_off9_inb i 0) (k0_off10 i 0#32) (k0_off10_inb i 0) ![1, 0, 0] inb_S2x64x1024_S1x64x512_1_0_0 ![1, 0, 0] inb_S2x80x1024_S1x80x512_1_0_0 (k0_off11 i 0#32) (k0_off11_inb i 0) (k0_off12 i 0#32) (k0_off12_inb i 0) (k0_pay54 (F := F)) (kt1 X3) (tile0 X2 X3 X4 X5 X6 X7 (k0_off1 i 0#32) (k0_off1_inb i 0) ![0, 0] inb_S1024x128_S512x64_0_0 (k0_off2 i) (k0_off2_inb i) (k0_off3 i 0#32) (k0_off3_inb i 0) (k0_off4 i 0#32) (k0_off4_inb i 0) ![0, 0, 0] inb_S2x64x1024_S1x64x512_0_0_0 ![0, 0, 0] inb_S2x80x1024_S1x80x512_0_0_0 (k0_off5 i 0#32) (k0_off5_inb i 0) (k0_off6 i 0#32) (k0_off6_inb i 0) (k0_pay54 (F := F)) (kt0 X3) A)
/-- of the second, -/
def row1 (i : grid0.Coords) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) : Acc F :=
  tile1 X2 X3 X4 X5 X6 X7 (k0_off7 i 1#32) (k0_off7_inb i 1) ![0, 64] inb_S1024x128_S1024x64_0_64 (k0_off14 i) (k0_off14_inb i) (k0_off9 i 1#32) (k0_off9_inb i 1) (k0_off10 i 1#32) (k0_off10_inb i 1) ![1, 0, 0] inb_S2x64x1024_S1x64x1024_1_0_0 ![1, 0, 0] inb_S2x80x1024_S1x80x1024_1_0_0 (k0_off11 i 1#32) (k0_off11_inb i 1) (k0_off12 i 1#32) (k0_off12_inb i 1) (k0_pay54 (F := F)) (kt1 X3) (tile1 X2 X3 X4 X5 X6 X7 (k0_off1 i 1#32) (k0_off1_inb i 1) ![0, 0] inb_S1024x128_S1024x64_0_0 (k0_off13 i) (k0_off13_inb i) (k0_off3 i 1#32) (k0_off3_inb i 1) (k0_off4 i 1#32) (k0_off4_inb i 1) ![0, 0, 0] inb_S2x64x1024_S1x64x1024_0_0_0 ![0, 0, 0] inb_S2x80x1024_S1x80x1024_0_0_0 (k0_off5 i 1#32) (k0_off5_inb i 1) (k0_off6 i 1#32) (k0_off6_inb i 1) (k0_pay54 (F := F)) (kt0 X3) A)
/-- and of each later one. -/
def rowL (i : grid0.Coords) (k : Fin (k0_t1_loop i).trips) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) : Acc F :=
  tileL X2 X3 X4 X5 X6 X7 (k0_off21 i k) (k0_off21_inb i k) ![0, 64] inb_S1024x128_S1024x64_0_64 (k0_off22 i) (k0_off22_inb i) (k0_off23 i k) (k0_off23_inb i k) (k0_off24 i k) (k0_off24_inb i k) ![1, 0, 0] inb_S2x64x1024_S1x64x1024_1_0_0 ![1, 0, 0] inb_S2x80x1024_S1x80x1024_1_0_0 (k0_off25 i k) (k0_off25_inb i k) (k0_off26 i k) (k0_off26_inb i k) (k0_pay54 (F := F)) (kt1 X3) (tileL X2 X3 X4 X5 X6 X7 (k0_off15 i k) (k0_off15_inb i k) ![0, 0] inb_S1024x128_S1024x64_0_0 (k0_off16 i) (k0_off16_inb i) (k0_off17 i k) (k0_off17_inb i k) (k0_off18 i k) (k0_off18_inb i k) ![0, 0, 0] inb_S2x64x1024_S1x64x1024_0_0_0 ![0, 0, 0] inb_S2x80x1024_S1x80x1024_0_0_0 (k0_off19 i k) (k0_off19_inb i k) (k0_off20 i k) (k0_off20_inb i k) (k0_pay54 (F := F)) (kt0 X3) A)

/-- The accumulators after `n` trips of the loop. -/
def rows (i : grid0.Coords) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) : ℕ → Acc F
  | 0 => A
  | n + 1 => if h : n < (k0_t1_loop i).trips then rowL i ⟨n, h⟩ X2 X3 X4 X5 X6 X7 (rows i X2 X3 X4 X5 X6 X7 A n) else rows i X2 X3 X4 X5 X6 X7 A n

/-- The accumulators at the end of a point, from what the two output blocks held at its start. -/
def fin (i : grid0.Coords) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) : Acc F :=
  rows i X2 X3 X4 X5 X6 X7 (row1 i X2 X3 X4 X5 X6 X7 (row0 i X2 X3 X4 X5 X6 X7 A)) (k0_t1_loop i).trips

/-- The two tiles of a trip, as a program. -/
def bodyL (i : grid0.Coords) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (kt kt' : FVec F S80x1024 .bf16) :
    Fin (k0_t1_loop i).trips → Unit → Prog (TpuEff nD τ sig (Elt F) Λ₀ .tc) Unit :=
  fun k _ => do
    stepL arg2 arg3 arg4 arg5 arg6 arg7 arg8 arg12 arg13 arg14 (k0_off15 i k) (k0_off15_inb i k) ![0, 0] inb_S1024x128_S1024x64_0_0 (k0_off16 i) (k0_off16_inb i) (k0_off17 i k) (k0_off17_inb i k) (k0_off18 i k) (k0_off18_inb i k) ![0, 0, 0] inb_S2x64x1024_S1x64x1024_0_0_0 ![0, 0, 0] inb_S2x80x1024_S1x80x1024_0_0_0 (k0_off19 i k) (k0_off19_inb i k) (k0_off20 i k) (k0_off20_inb i k) (k0_pay54 (F := F)) kt
    stepL arg2 arg3 arg4 arg5 arg6 arg7 arg8 arg12 arg13 arg14 (k0_off21 i k) (k0_off21_inb i k) ![0, 64] inb_S1024x128_S1024x64_0_64 (k0_off22 i) (k0_off22_inb i) (k0_off23 i k) (k0_off23_inb i k) (k0_off24 i k) (k0_off24_inb i k) ![1, 0, 0] inb_S2x64x1024_S1x64x1024_1_0_0 ![1, 0, 0] inb_S2x80x1024_S1x80x1024_1_0_0 (k0_off25 i k) (k0_off25_inb i k) (k0_off26 i k) (k0_off26_inb i k) (k0_pay54 (F := F)) kt'
    pure ()

/-- A group's first point: the queries' two output blocks zeroed. -/
def zeroQ (arg8 : Memref sig .tc .vmem S128x8192 .f32) (arg12 : Memref sig .tc .vmem S1x2x16x512 .f32) : Prog (TpuEff nD τ sig (Elt F) Λ₀ .tc) PUnit := do
  let v403 : Vec F S128x8192 .f32 ← Prog.lift (.load arg8 (Rect.unit (s := S128x8192) ![0, 0] S128x8192.size inb_S128x8192_S128x8192_0_0).toLoadRect (View.loadsAt_vmem h_S128x8192))
  Prog.lift (.store arg8 (Rect.unit (s := S128x8192) ![0, 0] S128x8192.size inb_S128x8192_S128x8192_0_0) (k0_pay50 (F := F)) Finset.univ (View.stores_vmem_bits_univ h_S128x8192 rfl) (.inl rfl))
  let v405 : Vec F S1x2x16x512 .f32 ← Prog.lift (.load arg12 (Rect.unit (s := S1x2x16x512) ![0, 0, 0, 0] S1x2x16x512.size inb_S1x2x16x512_S1x2x16x512_0_0_0_0).toLoadRect (View.loadsAt_vmem h_S1x2x16x512))
  Prog.lift (.store arg12 (Rect.unit (s := S1x2x16x512) ![0, 0, 0, 0] S1x2x16x512.size inb_S1x2x16x512_S1x2x16x512_0_0_0_0) (k0_pay51 (F := F)) Finset.univ (View.stores_vmem_bits_univ h_S1x2x16x512 rfl) (.inl rfl))

/-- Every point: the keys' and values' accumulators zeroed. -/
def zeroK (arg13 : Memref sig .tc .vmem S2x80x1024 .f32) (arg14 : Memref sig .tc .vmem S2x64x1024 .f32) : Prog (TpuEff nD τ sig (Elt F) Λ₀ .tc) PUnit := do
  let v4 : Vec F S2x80x1024 .f32 ← Prog.lift (.load arg13 (Rect.unit (s := S2x80x1024) ![0, 0, 0] S2x80x1024.size inb_S2x80x1024_S2x80x1024_0_0_0).toLoadRect (View.loadsAt_vmem h_S2x80x1024))
  Prog.lift (.store arg13 (Rect.unit (s := S2x80x1024) ![0, 0, 0] S2x80x1024.size inb_S2x80x1024_S2x80x1024_0_0_0) (k0_pay52 (F := F)) Finset.univ (View.stores_vmem_bits_univ h_S2x80x1024 rfl) (.inl rfl))
  let v8 : Vec F S2x64x1024 .f32 ← Prog.lift (.load arg14 (Rect.unit (s := S2x64x1024) ![0, 0, 0] S2x64x1024.size inb_S2x64x1024_S2x64x1024_0_0_0).toLoadRect (View.loadsAt_vmem h_S2x64x1024))
  Prog.lift (.store arg14 (Rect.unit (s := S2x64x1024) ![0, 0, 0] S2x64x1024.size inb_S2x64x1024_S2x64x1024_0_0_0) (k0_pay53 (F := F)) Finset.univ (View.stores_vmem_bits_univ h_S2x64x1024 rfl) (.inl rfl))
  pure ⟨⟩

/-- The end of a point: the keys' and values' gradients and the key decays' row written out. -/
def writeK (i : grid0.Coords) (arg9 : Memref sig .tc .vmem S1024x128 .bf16) (harg9 : arg9.IsWhole) (arg10 : Memref sig .tc .vmem S1024x128 .bf16) (harg10 : arg10.IsWhole) (arg11 : Memref sig .tc .vmem S1x2x8x1024 .f32) (arg13 : Memref sig .tc .vmem S2x80x1024 .f32) (arg14 : Memref sig .tc .vmem S2x64x1024 .f32) : Prog (TpuEff nD τ sig (Elt F) Λ₀ .tc) PUnit := do
  let v366 : Vec F S1x64x1024 .f32 ← Prog.lift (.load arg13 (Rect.unit (s := S2x80x1024) ![0, 0, 0] S1x64x1024.size inb_S2x80x1024_S1x64x1024_0_0_0).toLoadRect (View.loadsAt_vmem h_S1x64x1024))
  let v370 : Vec F S1024x64 .bf16 ← Prog.lift (.load arg9 (Rect.unit (s := S1024x128) ![0, 0] S1024x64.size inb_S1024x128_S1024x64_0_0).toLoadRect (View.loadsAt_vmem h_S1024x64))
  Prog.lift (.store arg9 (Rect.unit (s := S1024x128) ![0, 0] S1024x64.size inb_S1024x128_S1024x64_0_0) (k0_pay102 v366) Finset.univ (View.stores_vmem h_S1024x64 (harg9.storeExact_slice rfl _ packedbf16_S1024x128_S1024x64_0_0) (fun _ => rfl)) (.inl rfl))
  let v371 : Vec F S1x64x1024 .f32 ← Prog.lift (.load arg14 (Rect.unit (s := S2x64x1024) ![0, 0, 0] S1x64x1024.size inb_S2x64x1024_S1x64x1024_0_0_0).toLoadRect (View.loadsAt_vmem h_S1x64x1024))
  let v375 : Vec F S1024x64 .bf16 ← Prog.lift (.load arg10 (Rect.unit (s := S1024x128) ![0, 0] S1024x64.size inb_S1024x128_S1024x64_0_0).toLoadRect (View.loadsAt_vmem h_S1024x64))
  Prog.lift (.store arg10 (Rect.unit (s := S1024x128) ![0, 0] S1024x64.size inb_S1024x128_S1024x64_0_0) (k0_pay103 v371) Finset.univ (View.stores_vmem h_S1024x64 (harg10.storeExact_slice rfl _ packedbf16_S1024x128_S1024x64_0_0) (fun _ => rfl)) (.inl rfl))
  let v376 : Vec F S1x1x1024 .f32 ← Prog.lift (.load arg13 (Rect.unit (s := S2x80x1024) ![0, 64, 0] S1x1x1024.size inb_S2x80x1024_S1x1x1024_0_64_0).toLoadRect (View.loadsAt_vmem h_S1x1x1024))
  let v381 : Vec F S1x1x1x1024 .f32 ← Prog.lift (.load arg11 (Rect.unit (s := S1x2x8x1024) (k0_off13 i) S1x1x1x1024.size (k0_off13_inb i)).toLoadRect (View.loadsAt_vmem h_S1x1x1x1024))
  Prog.lift (.store arg11 (Rect.unit (s := S1x2x8x1024) (k0_off13 i) S1x1x1x1024.size (k0_off13_inb i)) (k0_pay104 v376) Finset.univ (View.stores_vmem_bits_univ h_S1x1x1x1024 rfl) (.inl rfl))
  let v384 : Vec F S1x64x1024 .f32 ← Prog.lift (.load arg13 (Rect.unit (s := S2x80x1024) ![1, 0, 0] S1x64x1024.size inb_S2x80x1024_S1x64x1024_1_0_0).toLoadRect (View.loadsAt_vmem h_S1x64x1024))
  let v388 : Vec F S1024x64 .bf16 ← Prog.lift (.load arg9 (Rect.unit (s := S1024x128) ![0, 64] S1024x64.size inb_S1024x128_S1024x64_0_64).toLoadRect (View.loadsAt_vmem h_S1024x64))
  Prog.lift (.store arg9 (Rect.unit (s := S1024x128) ![0, 64] S1024x64.size inb_S1024x128_S1024x64_0_64) (k0_pay105 v384) Finset.univ (View.stores_vmem h_S1024x64 (harg9.storeExact_slice rfl _ packedbf16_S1024x128_S1024x64_0_64) (fun _ => rfl)) (.inl rfl))
  let v389 : Vec F S1x64x1024 .f32 ← Prog.lift (.load arg14 (Rect.unit (s := S2x64x1024) ![1, 0, 0] S1x64x1024.size inb_S2x64x1024_S1x64x1024_1_0_0).toLoadRect (View.loadsAt_vmem h_S1x64x1024))
  let v393 : Vec F S1024x64 .bf16 ← Prog.lift (.load arg10 (Rect.unit (s := S1024x128) ![0, 64] S1024x64.size inb_S1024x128_S1024x64_0_64).toLoadRect (View.loadsAt_vmem h_S1024x64))
  Prog.lift (.store arg10 (Rect.unit (s := S1024x128) ![0, 64] S1024x64.size inb_S1024x128_S1024x64_0_64) (k0_pay106 v389) Finset.univ (View.stores_vmem h_S1024x64 (harg10.storeExact_slice rfl _ packedbf16_S1024x128_S1024x64_0_64) (fun _ => rfl)) (.inl rfl))
  let v394 : Vec F S1x1x1024 .f32 ← Prog.lift (.load arg13 (Rect.unit (s := S2x80x1024) ![1, 64, 0] S1x1x1024.size inb_S2x80x1024_S1x1x1024_1_64_0).toLoadRect (View.loadsAt_vmem h_S1x1x1024))
  let v399 : Vec F S1x1x1x1024 .f32 ← Prog.lift (.load arg11 (Rect.unit (s := S1x2x8x1024) (k0_off14 i) S1x1x1x1024.size (k0_off14_inb i)).toLoadRect (View.loadsAt_vmem h_S1x1x1x1024))
  Prog.lift (.store arg11 (Rect.unit (s := S1x2x8x1024) (k0_off14 i) S1x1x1x1024.size (k0_off14_inb i)) (k0_pay1 (k0_pay107 v394)) Finset.univ (View.stores_vmem_bits_univ h_S1x1x1x1024 rfl) (.inl rfl))
  pure ⟨⟩

/-- A point past the zeroing, regrouped by heads' tiles. -/
def tiles (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2x8x1024 .f32) (harg5 : arg5.IsWhole) (arg6 : Memref sig .tc .vmem S8192x128 .f32) (harg6 : arg6.IsWhole) (arg7 : Memref sig .tc .vmem S8192x128 .bf16) (harg7 : arg7.IsWhole) (arg8 : Memref sig .tc .vmem S128x8192 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x2x8x1024 .f32) (harg11 : arg11.IsWhole) (arg12 : Memref sig .tc .vmem S1x2x16x512 .f32) (harg12 : arg12.IsWhole) (arg13 : Memref sig .tc .vmem S2x80x1024 .f32) (harg13 : arg13.IsWhole) (arg14 : Memref sig .tc .vmem S2x64x1024 .f32) (harg14 : arg14.IsWhole) : Prog (TpuEff nD τ sig (Elt F) Λ₀ .tc) PUnit := do
  let v13 : Vec F S1024x64 .bf16 ← Prog.lift (.load arg3 (Rect.unit (s := S1024x128) ![0, 0] S1024x64.size inb_S1024x128_S1024x64_0_0).toLoadRect (View.loadsAt_vmem h_S1024x64))
  let v17 : Vec F S1024x64 .bf16 ← Prog.lift (.load arg3 (Rect.unit (s := S1024x128) ![0, 64] S1024x64.size inb_S1024x128_S1024x64_0_64).toLoadRect (View.loadsAt_vmem h_S1024x64))
  step0 arg2 arg3 arg4 arg5 arg6 arg7 arg8 arg12 arg13 arg14 (k0_off1 i 0#32) (k0_off1_inb i 0) ![0, 0] inb_S1024x128_S512x64_0_0 (k0_off2 i) (k0_off2_inb i) (k0_off3 i 0#32) (k0_off3_inb i 0) (k0_off4 i 0#32) (k0_off4_inb i 0) ![0, 0, 0] inb_S2x64x1024_S1x64x512_0_0_0 ![0, 0, 0] inb_S2x80x1024_S1x80x512_0_0_0 (k0_off5 i 0#32) (k0_off5_inb i 0) (k0_off6 i 0#32) (k0_off6_inb i 0) (k0_pay54 (F := F)) (k0_pay56 v13)
  step0 arg2 arg3 arg4 arg5 arg6 arg7 arg8 arg12 arg13 arg14 (k0_off7 i 0#32) (k0_off7_inb i 0) ![0, 64] inb_S1024x128_S512x64_0_64 (k0_off8 i) (k0_off8_inb i) (k0_off9 i 0#32) (k0_off9_inb i 0) (k0_off10 i 0#32) (k0_off10_inb i 0) ![1, 0, 0] inb_S2x64x1024_S1x64x512_1_0_0 ![1, 0, 0] inb_S2x80x1024_S1x80x512_1_0_0 (k0_off11 i 0#32) (k0_off11_inb i 0) (k0_off12 i 0#32) (k0_off12_inb i 0) (k0_pay54 (F := F)) (k0_pay57 v17)
  step1 arg2 arg3 arg4 arg5 arg6 arg7 arg8 arg12 arg13 arg14 (k0_off1 i 1#32) (k0_off1_inb i 1) ![0, 0] inb_S1024x128_S1024x64_0_0 (k0_off13 i) (k0_off13_inb i) (k0_off3 i 1#32) (k0_off3_inb i 1) (k0_off4 i 1#32) (k0_off4_inb i 1) ![0, 0, 0] inb_S2x64x1024_S1x64x1024_0_0_0 ![0, 0, 0] inb_S2x80x1024_S1x80x1024_0_0_0 (k0_off5 i 1#32) (k0_off5_inb i 1) (k0_off6 i 1#32) (k0_off6_inb i 1) (k0_pay54 (F := F)) (k0_pay56 v13)
  step1 arg2 arg3 arg4 arg5 arg6 arg7 arg8 arg12 arg13 arg14 (k0_off7 i 1#32) (k0_off7_inb i 1) ![0, 64] inb_S1024x128_S1024x64_0_64 (k0_off14 i) (k0_off14_inb i) (k0_off9 i 1#32) (k0_off9_inb i 1) (k0_off10 i 1#32) (k0_off10_inb i 1) ![1, 0, 0] inb_S2x64x1024_S1x64x1024_1_0_0 ![1, 0, 0] inb_S2x80x1024_S1x80x1024_1_0_0 (k0_off11 i 1#32) (k0_off11_inb i 1) (k0_off12 i 1#32) (k0_off12_inb i 1) (k0_pay54 (F := F)) (k0_pay57 v17)
  Scf.Loop.for (k0_t1_loop i) (k0_t1_ok i) ⟨⟩ (bodyL i arg2 arg3 arg4 arg5 arg6 arg7 arg8 arg12 arg13 arg14 (k0_pay56 v13) (k0_pay57 v17))
  writeK i arg9 harg9 arg10 harg10 arg11 arg13 arg14

end Cert.KernelIdeal.Att

end
-- ==== Proof.Body.lean ====
module

public import proofs.«01_k».proof.Proof.Tiles
public import Idealize.ShloMosaic.Lib.Scf
public import Idealize.ShloMosaic.Lib.Exec
public import Idealize.ShloMosaic.Lib.Tactic
public import Idealize.ShloMosaic.Lib.Pipeline.FrameBody

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxRecDepth 65536 in
set_option maxHeartbeats 4000000 in
/-- The loop's region is its two tiles. -/
theorem t1_body_eq (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2x8x1024 .f32) (harg5 : arg5.IsWhole) (arg6 : Memref sig .tc .vmem S8192x128 .f32) (harg6 : arg6.IsWhole) (arg7 : Memref sig .tc .vmem S8192x128 .bf16) (harg7 : arg7.IsWhole) (arg8 : Memref sig .tc .vmem S128x8192 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x2x8x1024 .f32) (harg11 : arg11.IsWhole) (arg12 : Memref sig .tc .vmem S1x2x16x512 .f32) (harg12 : arg12.IsWhole) (arg13 : Memref sig .tc .vmem S2x80x1024 .f32) (harg13 : arg13.IsWhole) (arg14 : Memref sig .tc .vmem S2x64x1024 .f32) (harg14 : arg14.IsWhole) (arg1 : BitVec 32) (v16 v20 : FVec F S80x1024 .bf16) (v192 v194 : BitVec 32) (v336 : FVec F S80x512 .f32) (v339 v340 : FVec F S64x512 .f32) (v360 : BitVec 32) :
    k0_t1_body i arg2 harg2 arg3 harg3 arg4 harg4 arg5 harg5 arg6 harg6 arg7 harg7 arg8 harg8 arg9 harg9 arg10 harg10 arg11 harg11 arg12 harg12 arg13 harg13 arg14 harg14 arg1 (k0_pay54 (F := F)) v16 v20 v192 v194 v336 v339 v340 v360 = bodyL i arg2 arg3 arg4 arg5 arg6 arg7 arg8 arg12 arg13 arg14 v16 v20 := by
  unfold k0_t1_body
  rw [k0_part1_eq_skeleton, k0_part2_eq_skeleton, k0_part3_eq_skeleton, k0_part4_eq_skeleton]
  rfl

/-- The second loop takes no trip. -/
theorem t2_trips (i : grid0.Coords) : (k0_t2_loop i).trips = 0 := by
  revert i; decide +kernel

theorem bind_ext {σ δ : Type} {p q : Prog (TpuEff nD τ sig (Elt F) Λ₀ .tc) σ} {f g : σ → Prog (TpuEff nD τ sig (Elt F) Λ₀ .tc) δ} (h : p = q) (h' : ∀ x, f x = g x) :
    (p >>= f) = (q >>= g) := by rw [h, funext h']

theorem for_zero {σ : Type} (L : Scf.Loop 32) (ok : L.OK) (x : σ) (b : Fin L.trips → σ → Prog (TpuEff nD τ sig (Elt F) Λ₀ .tc) σ) (h : L.trips = 0) :
    Scf.Loop.for L ok x b = pure x := by
  change Scf.for _ _ _ _ _ _ = _
  rw [Scf.for_eq, List.eq_nil_of_length_eq_zero (l := List.finRange _) (by rw [List.length_finRange]; exact h)]
  rfl

set_option maxRecDepth 65536 in
set_option maxHeartbeats 8000000 in
/-- The body is the zeroing, then the tiles. -/
theorem body_eq (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2x8x1024 .f32) (harg5 : arg5.IsWhole) (arg6 : Memref sig .tc .vmem S8192x128 .f32) (harg6 : arg6.IsWhole) (arg7 : Memref sig .tc .vmem S8192x128 .bf16) (harg7 : arg7.IsWhole) (arg8 : Memref sig .tc .vmem S128x8192 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x2x8x1024 .f32) (harg11 : arg11.IsWhole) (arg12 : Memref sig .tc .vmem S1x2x16x512 .f32) (harg12 : arg12.IsWhole) (arg13 : Memref sig .tc .vmem S2x80x1024 .f32) (harg13 : arg13.IsWhole) (arg14 : Memref sig .tc .vmem S2x64x1024 .f32) (harg14 : arg14.IsWhole) :
    cc0_att_bwd (F := F) i arg2 harg2 arg3 harg3 arg4 harg4 arg5 harg5 arg6 harg6 arg7 harg7 arg8 harg8 arg9 harg9 arg10 harg10 arg11 harg11 arg12 harg12 arg13 harg13 arg14 harg14
      = (do
        if Scalar.cmpi .ne (Scalar.extui (Scalar.cmpi .eq (BitVec.ofNat 32 (i 1).val) 0#32)) 0#32 = 1#1 then zeroQ arg8 arg12 else pure ⟨⟩
        zeroK arg13 arg14
        tiles i arg2 harg2 arg3 harg3 arg4 harg4 arg5 harg5 arg6 harg6 arg7 harg7 arg8 harg8 arg9 harg9 arg10 harg10 arg11 harg11 arg12 harg12 arg13 harg13 arg14 harg14) := by
  rw [cc0_att_bwd_eq_skeleton]
  unfold cc0_att_bwd_skel
  rw [k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton, k0_part19_eq_skeleton]
  unfold k0_part9_skel k0_part18_skel
  simp only [for_zero (k0_t2_loop i) (k0_t2_ok i) _ _ (t2_trips i)]
  by_cases h : Scalar.cmpi .ne (Scalar.extui (Scalar.cmpi .eq (BitVec.ofNat 32 (i 1).val) 0#32)) 0#32 = 1#1
  · simp only [h, dite_true, if_true, t1_body_eq, zeroQ, zeroK, tiles, writeK, step0, step1, k0_part10_skel, k0_part11_skel, k0_part12_skel, k0_part13_skel, k0_part14_skel, k0_part15_skel, k0_part16_skel, k0_part17_skel, k0_part19_skel, bind_assoc, pure_bind]
    repeat' (refine bind_ext rfl fun _ => ?_)
    rfl
  · simp only [h, dite_false, if_false, t1_body_eq, zeroQ, zeroK, tiles, writeK, step0, step1, k0_part10_skel, k0_part11_skel, k0_part12_skel, k0_part13_skel, k0_part14_skel, k0_part15_skel, k0_part16_skel, k0_part17_skel, k0_part19_skel, bind_assoc, pure_bind]
    repeat' (refine bind_ext rfl fun _ => ?_)
    rfl

end Cert.KernelIdeal.Att

end
-- ==== Proof.BodyWp.lean ====
module

public import proofs.«01_k».proof.Proof.Body
public import Idealize.ShloMosaic.Lib.Scf
public import Idealize.ShloMosaic.Lib.Exec
public import Idealize.ShloMosaic.Lib.Tactic
public import Idealize.ShloMosaic.Lib.Pipeline.FrameBody

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The same after two stores. -/
theorem read_put2 {s : Shape} {e : EltTy} {a : Memref sig .tc .vmem s e} (h : a.IsWhole) (X : s.Idx → Elt F e) (r r' : Rect s) (v w : r.shape.Idx → Elt F e)
    (v' w' : r'.shape.Idx → Elt F e) (hv : v = w) (hv' : v' = w') :
    a.view.read (Elt F) (a.view.writes (Elt F) (h.unread X) [⟨r', v'⟩, ⟨r, v⟩]) = r'.overlay (r.overlay X w) w' := by
  subst hv hv'
  funext j
  by_cases hj : j ∈ r'.set
  · obtain ⟨i, rfl⟩ := r'.exists_idx_of_mem hj
    change _ = r'.overlay _ v' (r'.emb i)
    rw [Rect.overlay_emb]
    exact View.read_writes_cons_emb _ _ r' v' _ i
  · rw [Rect.overlay_of_not_mem _ _ _ hj, ← read_put h X r v v rfl]
    rw [View.writes_cons, View.read_slice_write_of_not_mem r' _ _ _ (by rw [Rect.map_emb_univ]; exact hj)]

variable (c : Dev nD) (E : Set ℕ)

/-- The queries' accumulators zeroed. -/
def zQ (A : Acc F) : Acc F := { A with x8 := (Rect.unit (s := S128x8192) ![0, 0] S128x8192.size inb_S128x8192_S128x8192_0_0).overlay A.x8 (k0_pay50 (F := F)), x12 := (Rect.unit (s := S1x2x16x512) ![0, 0, 0, 0] S1x2x16x512.size inb_S1x2x16x512_S1x2x16x512_0_0_0_0).overlay A.x12 (k0_pay51 (F := F)) }
/-- The keys' and the values'. -/
def zK (A : Acc F) : Acc F := { A with x13 := (Rect.unit (s := S2x80x1024) ![0, 0, 0] S2x80x1024.size inb_S2x80x1024_S2x80x1024_0_0_0).overlay A.x13 (k0_pay52 (F := F)), x14 := (Rect.unit (s := S2x64x1024) ![0, 0, 0] S2x64x1024.size inb_S2x64x1024_S2x64x1024_0_0_0).overlay A.x14 (k0_pay53 (F := F)) }
/-- The keys' gradient written out, -/
def out9 (A : Acc F) (Y9 : Vec F S1024x128 .bf16) : Vec F S1024x128 .bf16 :=
  (Rect.unit (s := S1024x128) ![0, 64] S1024x64.size inb_S1024x128_S1024x64_0_64).overlay ((Rect.unit (s := S1024x128) ![0, 0] S1024x64.size inb_S1024x128_S1024x64_0_0).overlay Y9 (k0_pay102 (View.ld A.x13 (Rect.unit (s := S2x80x1024) ![0, 0, 0] S1x64x1024.size inb_S2x80x1024_S1x64x1024_0_0_0)))) (k0_pay105 (View.ld A.x13 (Rect.unit (s := S2x80x1024) ![1, 0, 0] S1x64x1024.size inb_S2x80x1024_S1x64x1024_1_0_0)))
/-- the values', -/
def out10 (A : Acc F) (Y10 : Vec F S1024x128 .bf16) : Vec F S1024x128 .bf16 :=
  (Rect.unit (s := S1024x128) ![0, 64] S1024x64.size inb_S1024x128_S1024x64_0_64).overlay ((Rect.unit (s := S1024x128) ![0, 0] S1024x64.size inb_S1024x128_S1024x64_0_0).overlay Y10 (k0_pay103 (View.ld A.x14 (Rect.unit (s := S2x64x1024) ![0, 0, 0] S1x64x1024.size inb_S2x64x1024_S1x64x1024_0_0_0)))) (k0_pay106 (View.ld A.x14 (Rect.unit (s := S2x64x1024) ![1, 0, 0] S1x64x1024.size inb_S2x64x1024_S1x64x1024_1_0_0)))
/-- and the key decays' rows. -/
def out11 (i : grid0.Coords) (A : Acc F) (Y11 : Vec F S1x2x8x1024 .f32) : Vec F S1x2x8x1024 .f32 :=
  (Rect.unit (s := S1x2x8x1024) (k0_off14 i) S1x1x1x1024.size (k0_off14_inb i)).overlay ((Rect.unit (s := S1x2x8x1024) (k0_off13 i) S1x1x1x1024.size (k0_off13_inb i)).overlay Y11 (k0_pay104 (View.ld A.x13 (Rect.unit (s := S2x80x1024) ![0, 64, 0] S1x1x1024.size inb_S2x80x1024_S1x1x1024_0_64_0)))) (k0_pay1 (k0_pay107 (View.ld A.x13 (Rect.unit (s := S2x80x1024) ![1, 64, 0] S1x1x1024.size inb_S2x80x1024_S1x1x1024_1_64_0))))

theorem zeroQ_wp (arg8 : Memref sig .tc .vmem S128x8192 .f32) (harg8 : arg8.IsWhole) (arg12 : Memref sig .tc .vmem S1x2x16x512 .f32) (harg12 : arg12.IsWhole) (A : Acc F) :
    (iprop(owns (c : Thread nD τ) arg8 fullShare A.x8 ∗ owns (c : Thread nD τ) arg12 fullShare A.x12) : sProp 𝕄)
      ⊢ wp frame (wpE (defs₀ (F := F)) Variants.none (c : Thread nD τ) none) E (zeroQ arg8 arg12) (fun _ => iprop(owns (c : Thread nD τ) arg8 fullShare (zQ A).x8 ∗ owns (c : Thread nD τ) arg12 fullShare (zQ A).x12)) := by
  unfold zeroQ owns zQ
  dsimp only
  iintro ⟨⟨%f8, %hf8, H8⟩, ⟨%f12, %hf12, H12⟩⟩
  obtain rfl := harg8.eq_unread hf8; obtain rfl := harg12.eq_unread hf12
  sl_exec
  sl_step
  isplitl [H8]
  · iexists _; isplitr; swap; · iexact H8
    ipureintro; refine read_put harg8 _ _ _ _ ?_; simp only [View.readAt_eq_ld, Memref.IsWhole.read_unread]
  iexists _; isplitr; swap; · iexact H12
  ipureintro; refine read_put harg12 _ _ _ _ ?_; simp only [View.readAt_eq_ld, Memref.IsWhole.read_unread]

theorem zeroK_wp (arg13 : Memref sig .tc .vmem S2x80x1024 .f32) (harg13 : arg13.IsWhole) (arg14 : Memref sig .tc .vmem S2x64x1024 .f32) (harg14 : arg14.IsWhole) (A : Acc F) :
    (iprop(owns (c : Thread nD τ) arg13 fullShare A.x13 ∗ owns (c : Thread nD τ) arg14 fullShare A.x14) : sProp 𝕄)
      ⊢ wp frame (wpE (defs₀ (F := F)) Variants.none (c : Thread nD τ) none) E (zeroK arg13 arg14) (fun _ => iprop(owns (c : Thread nD τ) arg13 fullShare (zK A).x13 ∗ owns (c : Thread nD τ) arg14 fullShare (zK A).x14)) := by
  unfold zeroK owns zK
  dsimp only
  iintro ⟨⟨%f13, %hf13, H13⟩, ⟨%f14, %hf14, H14⟩⟩
  obtain rfl := harg13.eq_unread hf13; obtain rfl := harg14.eq_unread hf14
  sl_exec
  sl_step
  isplitl [H13]
  · iexists _; isplitr; swap; · iexact H13
    ipureintro; refine read_put harg13 _ _ _ _ ?_; simp only [View.readAt_eq_ld, Memref.IsWhole.read_unread]
  iexists _; isplitr; swap; · iexact H14
  ipureintro; refine read_put harg14 _ _ _ _ ?_; simp only [View.readAt_eq_ld, Memref.IsWhole.read_unread]

set_option maxHeartbeats 2000000 in
theorem writeK_wp (i : grid0.Coords) (arg9 : Memref sig .tc .vmem S1024x128 .bf16) (harg9 : arg9.IsWhole) (arg10 : Memref sig .tc .vmem S1024x128 .bf16) (harg10 : arg10.IsWhole) (arg11 : Memref sig .tc .vmem S1x2x8x1024 .f32) (harg11 : arg11.IsWhole) (arg13 : Memref sig .tc .vmem S2x80x1024 .f32) (harg13 : arg13.IsWhole) (arg14 : Memref sig .tc .vmem S2x64x1024 .f32) (harg14 : arg14.IsWhole) (A : Acc F) (Y9 : Vec F S1024x128 .bf16) (Y10 : Vec F S1024x128 .bf16) (Y11 : Vec F S1x2x8x1024 .f32) :
    (iprop(owns (c : Thread nD τ) arg9 fullShare Y9 ∗ owns (c : Thread nD τ) arg10 fullShare Y10 ∗ owns (c : Thread nD τ) arg11 fullShare Y11 ∗ owns (c : Thread nD τ) arg13 fullShare A.x13 ∗ owns (c : Thread nD τ) arg14 fullShare A.x14) : sProp 𝕄)
      ⊢ wp frame (wpE (defs₀ (F := F)) Variants.none (c : Thread nD τ) none) E (writeK i arg9 harg9 arg10 harg10 arg11 arg13 arg14)
        (fun _ => iprop(owns (c : Thread nD τ) arg9 fullShare (out9 A Y9) ∗ owns (c : Thread nD τ) arg10 fullShare (out10 A Y10) ∗ owns (c : Thread nD τ) arg11 fullShare (out11 i A Y11) ∗ owns (c : Thread nD τ) arg13 fullShare A.x13 ∗ owns (c : Thread nD τ) arg14 fullShare A.x14)) := by
  unfold writeK owns out9 out10 out11
  iintro ⟨⟨%f9, %hf9, H9⟩, ⟨%f10, %hf10, H10⟩, ⟨%f11, %hf11, H11⟩, ⟨%f13, %hf13, H13⟩, ⟨%f14, %hf14, H14⟩⟩
  obtain rfl := harg9.eq_unread hf9; obtain rfl := harg10.eq_unread hf10; obtain rfl := harg11.eq_unread hf11; obtain rfl := harg13.eq_unread hf13; obtain rfl := harg14.eq_unread hf14
  sl_exec
  sl_step
  isplitl [H9]
  · iexists _; isplitr; swap; · iexact H9
    ipureintro; refine read_put2 harg9 _ _ _ _ _ _ _ ?_ ?_ <;> simp only [View.readAt_eq_ld, Memref.IsWhole.read_unread]
  isplitl [H10]
  · iexists _; isplitr; swap; · iexact H10
    ipureintro; refine read_put2 harg10 _ _ _ _ _ _ _ ?_ ?_ <;> simp only [View.readAt_eq_ld, Memref.IsWhole.read_unread]
  isplitl [H11]
  · iexists _; isplitr; swap; · iexact H11
    ipureintro; refine read_put2 harg11 _ _ _ _ _ _ _ ?_ ?_ <;> simp only [View.readAt_eq_ld, Memref.IsWhole.read_unread]
  isplitl [H13]
  · iexists _; isplitr; swap; · iexact H13
    ipureintro; exact harg13.read_unread _
  iexists _; isplitr; swap; · iexact H14
  ipureintro; exact harg14.read_unread _

theorem loop_wp (i : grid0.Coords) (arg2 : Memref sig .tc .vmem S8192x128 .bf16) (arg3 : Memref sig .tc .vmem S1024x128 .bf16) (arg4 : Memref sig .tc .vmem S1024x128 .bf16) (arg5 : Memref sig .tc .vmem S1x2x8x1024 .f32) (arg6 : Memref sig .tc .vmem S8192x128 .f32) (arg7 : Memref sig .tc .vmem S8192x128 .bf16) (arg8 : Memref sig .tc .vmem S128x8192 .f32) (arg12 : Memref sig .tc .vmem S1x2x16x512 .f32) (arg13 : Memref sig .tc .vmem S2x80x1024 .f32) (arg14 : Memref sig .tc .vmem S2x64x1024 .f32) (harg2 : arg2.IsWhole) (harg3 : arg3.IsWhole) (harg4 : arg4.IsWhole) (harg5 : arg5.IsWhole) (harg6 : arg6.IsWhole) (harg7 : arg7.IsWhole) (harg8 : arg8.IsWhole) (harg12 : arg12.IsWhole) (harg13 : arg13.IsWhole) (harg14 : arg14.IsWhole) (X2 : Vec F S8192x128 .bf16) (X3 : Vec F S1024x128 .bf16) (X4 : Vec F S1024x128 .bf16) (X5 : Vec F S1x2x8x1024 .f32) (X6 : Vec F S8192x128 .f32) (X7 : Vec F S8192x128 .bf16) (A : Acc F) :
    held c arg2 arg3 arg4 arg5 arg6 arg7 arg8 arg12 arg13 arg14 X2 X3 X4 X5 X6 X7 A
      ⊢ wp frame (wpE (defs₀ (F := F)) Variants.none (c : Thread nD τ) none) E (Scf.Loop.for (k0_t1_loop i) (k0_t1_ok i) ⟨⟩ (bodyL i arg2 arg3 arg4 arg5 arg6 arg7 arg8 arg12 arg13 arg14 (kt0 X3) (kt1 X3)))
        (fun _ => held c arg2 arg3 arg4 arg5 arg6 arg7 arg8 arg12 arg13 arg14 X2 X3 X4 X5 X6 X7 (rows i X2 X3 X4 X5 X6 X7 A (k0_t1_loop i).trips)) := by
  have hb : ∀ (k : Fin (k0_t1_loop i).trips) (u : Unit), held c arg2 arg3 arg4 arg5 arg6 arg7 arg8 arg12 arg13 arg14 X2 X3 X4 X5 X6 X7 (rows i X2 X3 X4 X5 X6 X7 A k.val)
      ⊢ wp frame (wpE (defs₀ (F := F)) Variants.none (c : Thread nD τ) none) E (bodyL i arg2 arg3 arg4 arg5 arg6 arg7 arg8 arg12 arg13 arg14 (kt0 X3) (kt1 X3) k u) (fun _ => held c arg2 arg3 arg4 arg5 arg6 arg7 arg8 arg12 arg13 arg14 X2 X3 X4 X5 X6 X7 (rows i X2 X3 X4 X5 X6 X7 A (k.val + 1))) := by
    intro k u
    have e : rows i X2 X3 X4 X5 X6 X7 A (k.val + 1) = rowL i k X2 X3 X4 X5 X6 X7 (rows i X2 X3 X4 X5 X6 X7 A k.val) := by
      rw [rows, dif_pos k.isLt]
    rw [e]
    unfold bodyL rowL
    rw [wp_bind]
    iintro H
    iapply (wp_wand_r _ _ _)
    isplitl [H]
    · iapply (stepL_held c E arg2 arg3 arg4 arg5 arg6 arg7 arg8 arg12 arg13 arg14 harg2 harg3 harg4 harg5 harg6 harg7 harg8 harg12 harg13 harg14 (k0_off15 i k) (k0_off15_inb i k) ![0, 0] inb_S1024x128_S1024x64_0_0 (k0_off16 i) (k0_off16_inb i) (k0_off17 i k) (k0_off17_inb i k) (k0_off18 i k) (k0_off18_inb i k) ![0, 0, 0] inb_S2x64x1024_S1x64x1024_0_0_0 ![0, 0, 0] inb_S2x80x1024_S1x80x1024_0_0_0 (k0_off19 i k) (k0_off19_inb i k) (k0_off20 i k) (k0_off20_inb i k) _ _ X2 X3 X4 X5 X6 X7 _); iexact H
    iintro %_ H
    rw [wp_bind]
    iapply (wp_wand_r _ _ _)
    isplitl [H]
    · iapply (stepL_held c E arg2 arg3 arg4 arg5 arg6 arg7 arg8 arg12 arg13 arg14 harg2 harg3 harg4 harg5 harg6 harg7 harg8 harg12 harg13 harg14 (k0_off21 i k) (k0_off21_inb i k) ![0, 64] inb_S1024x128_S1024x64_0_64 (k0_off22 i) (k0_off22_inb i) (k0_off23 i k) (k0_off23_inb i k) (k0_off24 i k) (k0_off24_inb i k) ![1, 0, 0] inb_S2x64x1024_S1x64x1024_1_0_0 ![1, 0, 0] inb_S2x80x1024_S1x80x1024_1_0_0 (k0_off25 i k) (k0_off25_inb i k) (k0_off26 i k) (k0_off26_inb i k) _ _ X2 X3 X4 X5 X6 X7 _); iexact H
    iintro %_ H
    sl_step
    iexact H
  iintro H
  iapply (Scf.wp_for _ _ _ _ _ _ _ _ _ (fun n _ => held c arg2 arg3 arg4 arg5 arg6 arg7 arg8 arg12 arg13 arg14 X2 X3 X4 X5 X6 X7 (rows i X2 X3 X4 X5 X6 X7 A n)) hb)
  isplitl [H]
  · iexact H
  · iintro %_ H; iexact H

theorem load_wp {s : Shape} {e : EltTy} (a : Memref sig .tc .vmem s e) (h : a.IsWhole) (r : Rect s) (hl : a.view.LoadsAt r.toLoadRect) (X : s.Idx → Elt F e) :
    (owns (c : Thread nD τ) a fullShare X : sProp 𝕄)
      ⊢ wp frame (wpE (defs₀ (F := F)) Variants.none (c : Thread nD τ) none) E (Prog.lift (.load a r.toLoadRect hl)) (fun v => iprop(⌜v = View.ld X r⌝ ∗ owns (c : Thread nD τ) a fullShare X)) := by
  unfold owns
  iintro ⟨%f, %hf, H⟩
  obtain rfl := h.eq_unread hf
  sl_exec
  sl_step
  isplitr; · ipureintro; simp only [View.readAt_eq_ld, Memref.IsWhole.read_unread]
  iexists _; isplitr; swap; · iexact H
  ipureintro; exact h.read_unread _

theorem tiles_wp (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2x8x1024 .f32) (harg5 : arg5.IsWhole) (arg6 : Memref sig .tc .vmem S8192x128 .f32) (harg6 : arg6.IsWhole) (arg7 : Memref sig .tc .vmem S8192x128 .bf16) (harg7 : arg7.IsWhole) (arg8 : Memref sig .tc .vmem S128x8192 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x2x8x1024 .f32) (harg11 : arg11.IsWhole) (arg12 : Memref sig .tc .vmem S1x2x16x512 .f32) (harg12 : arg12.IsWhole) (arg13 : Memref sig .tc .vmem S2x80x1024 .f32) (harg13 : arg13.IsWhole) (arg14 : Memref sig .tc .vmem S2x64x1024 .f32) (harg14 : arg14.IsWhole) (X2 : Vec F S8192x128 .bf16) (X3 : Vec F S1024x128 .bf16) (X4 : Vec F S1024x128 .bf16) (X5 : Vec F S1x2x8x1024 .f32) (X6 : Vec F S8192x128 .f32) (X7 : Vec F S8192x128 .bf16) (Y9 : Vec F S1024x128 .bf16) (Y10 : Vec F S1024x128 .bf16) (Y11 : Vec F S1x2x8x1024 .f32) (A : Acc F) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare A.x8 ∗ owns (c : Thread nD τ) arg9 fullShare Y9 ∗ owns (c : Thread nD τ) arg10 fullShare Y10 ∗ owns (c : Thread nD τ) arg11 fullShare Y11 ∗ owns (c : Thread nD τ) arg12 fullShare A.x12 ∗ owns (c : Thread nD τ) arg13 fullShare A.x13 ∗ owns (c : Thread nD τ) arg14 fullShare A.x14) : sProp 𝕄)
      ⊢ wp frame (wpE (defs₀ (F := F)) Variants.none (c : Thread nD τ) none) E (tiles i arg2 harg2 arg3 harg3 arg4 harg4 arg5 harg5 arg6 harg6 arg7 harg7 arg8 harg8 arg9 harg9 arg10 harg10 arg11 harg11 arg12 harg12 arg13 harg13 arg14 harg14) (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (fin i X2 X3 X4 X5 X6 X7 A).x8 ∗ owns (c : Thread nD τ) arg9 fullShare (out9 (fin i X2 X3 X4 X5 X6 X7 A) Y9) ∗ owns (c : Thread nD τ) arg10 fullShare (out10 (fin i X2 X3 X4 X5 X6 X7 A) Y10) ∗ owns (c : Thread nD τ) arg11 fullShare (out11 i (fin i X2 X3 X4 X5 X6 X7 A) Y11) ∗ owns (c : Thread nD τ) arg12 fullShare (fin i X2 X3 X4 X5 X6 X7 A).x12 ∗ owns (c : Thread nD τ) arg13 fullShare (fin i X2 X3 X4 X5 X6 X7 A).x13 ∗ owns (c : Thread nD τ) arg14 fullShare (fin i X2 X3 X4 X5 X6 X7 A).x14)) := by
  unfold tiles
  iintro ⟨H2, H3, H4, H5, H6, H7, H8, H9, H10, H11, H12, H13, H14⟩
  rw [wp_bind]
  iapply (wp_wand_r _ _ _)
  isplitl [H3]
  · iapply (load_wp c E arg3 harg3 _ _ X3); iexact H3
  iintro %v13 ⟨%hv13, H3⟩
  rw [wp_bind]
  iapply (wp_wand_r _ _ _)
  isplitl [H3]
  · iapply (load_wp c E arg3 harg3 _ _ X3); iexact H3
  iintro %v17 ⟨%hv17, H3⟩
  subst hv13 hv17
  rw [wp_bind]
  iapply (wp_wand_r _ _ _)
  isplitl [H2 H3 H4 H5 H6 H7 H8 H12 H13 H14]
  · iapply (step0_held c E arg2 arg3 arg4 arg5 arg6 arg7 arg8 arg12 arg13 arg14 harg2 harg3 harg4 harg5 harg6 harg7 harg8 harg12 harg13 harg14 (k0_off1 i 0#32) (k0_off1_inb i 0) ![0, 0] inb_S1024x128_S512x64_0_0 (k0_off2 i) (k0_off2_inb i) (k0_off3 i 0#32) (k0_off3_inb i 0) (k0_off4 i 0#32) (k0_off4_inb i 0) ![0, 0, 0] inb_S2x64x1024_S1x64x512_0_0_0 ![0, 0, 0] inb_S2x80x1024_S1x80x512_0_0_0 (k0_off5 i 0#32) (k0_off5_inb i 0) (k0_off6 i 0#32) (k0_off6_inb i 0) _ _ X2 X3 X4 X5 X6 X7 A)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    iexact H14
  iintro %_ ⟨H2, H3, H4, H5, H6, H7, H8, H12, H13, H14⟩
  rw [wp_bind]
  iapply (wp_wand_r _ _ _)
  isplitl [H2 H3 H4 H5 H6 H7 H8 H12 H13 H14]
  · iapply (step0_held c E arg2 arg3 arg4 arg5 arg6 arg7 arg8 arg12 arg13 arg14 harg2 harg3 harg4 harg5 harg6 harg7 harg8 harg12 harg13 harg14 (k0_off7 i 0#32) (k0_off7_inb i 0) ![0, 64] inb_S1024x128_S512x64_0_64 (k0_off8 i) (k0_off8_inb i) (k0_off9 i 0#32) (k0_off9_inb i 0) (k0_off10 i 0#32) (k0_off10_inb i 0) ![1, 0, 0] inb_S2x64x1024_S1x64x512_1_0_0 ![1, 0, 0] inb_S2x80x1024_S1x80x512_1_0_0 (k0_off11 i 0#32) (k0_off11_inb i 0) (k0_off12 i 0#32) (k0_off12_inb i 0) _ _ X2 X3 X4 X5 X6 X7 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    iexact H14
  iintro %_ ⟨H2, H3, H4, H5, H6, H7, H8, H12, H13, H14⟩
  rw [wp_bind]
  iapply (wp_wand_r _ _ _)
  isplitl [H2 H3 H4 H5 H6 H7 H8 H12 H13 H14]
  · iapply (step1_held c E arg2 arg3 arg4 arg5 arg6 arg7 arg8 arg12 arg13 arg14 harg2 harg3 harg4 harg5 harg6 harg7 harg8 harg12 harg13 harg14 (k0_off1 i 1#32) (k0_off1_inb i 1) ![0, 0] inb_S1024x128_S1024x64_0_0 (k0_off13 i) (k0_off13_inb i) (k0_off3 i 1#32) (k0_off3_inb i 1) (k0_off4 i 1#32) (k0_off4_inb i 1) ![0, 0, 0] inb_S2x64x1024_S1x64x1024_0_0_0 ![0, 0, 0] inb_S2x80x1024_S1x80x1024_0_0_0 (k0_off5 i 1#32) (k0_off5_inb i 1) (k0_off6 i 1#32) (k0_off6_inb i 1) _ _ X2 X3 X4 X5 X6 X7 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    iexact H14
  iintro %_ ⟨H2, H3, H4, H5, H6, H7, H8, H12, H13, H14⟩
  rw [wp_bind]
  iapply (wp_wand_r _ _ _)
  isplitl [H2 H3 H4 H5 H6 H7 H8 H12 H13 H14]
  · iapply (step1_held c E arg2 arg3 arg4 arg5 arg6 arg7 arg8 arg12 arg13 arg14 harg2 harg3 harg4 harg5 harg6 harg7 harg8 harg12 harg13 harg14 (k0_off7 i 1#32) (k0_off7_inb i 1) ![0, 64] inb_S1024x128_S1024x64_0_64 (k0_off14 i) (k0_off14_inb i) (k0_off9 i 1#32) (k0_off9_inb i 1) (k0_off10 i 1#32) (k0_off10_inb i 1) ![1, 0, 0] inb_S2x64x1024_S1x64x1024_1_0_0 ![1, 0, 0] inb_S2x80x1024_S1x80x1024_1_0_0 (k0_off11 i 1#32) (k0_off11_inb i 1) (k0_off12 i 1#32) (k0_off12_inb i 1) _ _ X2 X3 X4 X5 X6 X7 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    iexact H14
  iintro %_ ⟨H2, H3, H4, H5, H6, H7, H8, H12, H13, H14⟩
  rw [wp_bind]
  iapply (wp_wand_r _ _ _)
  isplitl [H2 H3 H4 H5 H6 H7 H8 H12 H13 H14]
  · iapply (loop_wp c E i arg2 arg3 arg4 arg5 arg6 arg7 arg8 arg12 arg13 arg14 harg2 harg3 harg4 harg5 harg6 harg7 harg8 harg12 harg13 harg14 X2 X3 X4 X5 X6 X7 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    iexact H14
  iintro %_ ⟨H2, H3, H4, H5, H6, H7, H8, H12, H13, H14⟩
  iapply (wp_wand_r _ _ _)
  isplitl [H9 H10 H11 H13 H14]
  · iapply (writeK_wp c E i arg9 harg9 arg10 harg10 arg11 harg11 arg13 harg13 arg14 harg14 _ Y9 Y10 Y11)
    isplitl [H9]; · iexact H9
    isplitl [H10]; · iexact H10
    isplitl [H11]; · iexact H11
    isplitl [H13]; · iexact H13
    iexact H14
  iintro %_ ⟨H9, H10, H11, H13, H14⟩
  unfold fin row0 row1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The accumulators a point starts from. -/
def start (i : grid0.Coords) (A : Acc F) : Acc F := zK (if Scalar.cmpi .ne (Scalar.extui (Scalar.cmpi .eq (BitVec.ofNat 32 (i 1).val) 0#32)) 0#32 = 1#1 then zQ A else A)

set_option maxHeartbeats 2000000 in
theorem body_wp (i : grid0.Coords) (arg2 : Memref sig .tc .vmem S8192x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x2x8x1024 .f32) (harg5 : arg5.IsWhole) (arg6 : Memref sig .tc .vmem S8192x128 .f32) (harg6 : arg6.IsWhole) (arg7 : Memref sig .tc .vmem S8192x128 .bf16) (harg7 : arg7.IsWhole) (arg8 : Memref sig .tc .vmem S128x8192 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S1x2x8x1024 .f32) (harg11 : arg11.IsWhole) (arg12 : Memref sig .tc .vmem S1x2x16x512 .f32) (harg12 : arg12.IsWhole) (arg13 : Memref sig .tc .vmem S2x80x1024 .f32) (harg13 : arg13.IsWhole) (arg14 : Memref sig .tc .vmem S2x64x1024 .f32) (harg14 : arg14.IsWhole) (X2 : Vec F S8192x128 .bf16) (X3 : Vec F S1024x128 .bf16) (X4 : Vec F S1024x128 .bf16) (X5 : Vec F S1x2x8x1024 .f32) (X6 : Vec F S8192x128 .f32) (X7 : Vec F S8192x128 .bf16) (Y9 : Vec F S1024x128 .bf16) (Y10 : Vec F S1024x128 .bf16) (Y11 : Vec F S1x2x8x1024 .f32) (A : Acc F) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare A.x8 ∗ owns (c : Thread nD τ) arg9 fullShare Y9 ∗ owns (c : Thread nD τ) arg10 fullShare Y10 ∗ owns (c : Thread nD τ) arg11 fullShare Y11 ∗ owns (c : Thread nD τ) arg12 fullShare A.x12 ∗ owns (c : Thread nD τ) arg13 fullShare A.x13 ∗ owns (c : Thread nD τ) arg14 fullShare A.x14) : sProp 𝕄)
      ⊢ wp frame (wpE (defs₀ (F := F)) Variants.none (c : Thread nD τ) none) E (cc0_att_bwd (F := F) i arg2 harg2 arg3 harg3 arg4 harg4 arg5 harg5 arg6 harg6 arg7 harg7 arg8 harg8 arg9 harg9 arg10 harg10 arg11 harg11 arg12 harg12 arg13 harg13 arg14 harg14) (fun _ => iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (fin i X2 X3 X4 X5 X6 X7 (start i A)).x8 ∗ owns (c : Thread nD τ) arg9 fullShare (out9 (fin i X2 X3 X4 X5 X6 X7 (start i A)) Y9) ∗ owns (c : Thread nD τ) arg10 fullShare (out10 (fin i X2 X3 X4 X5 X6 X7 (start i A)) Y10) ∗ owns (c : Thread nD τ) arg11 fullShare (out11 i (fin i X2 X3 X4 X5 X6 X7 (start i A)) Y11) ∗ owns (c : Thread nD τ) arg12 fullShare (fin i X2 X3 X4 X5 X6 X7 (start i A)).x12 ∗ owns (c : Thread nD τ) arg13 fullShare (fin i X2 X3 X4 X5 X6 X7 (start i A)).x13 ∗ owns (c : Thread nD τ) arg14 fullShare (fin i X2 X3 X4 X5 X6 X7 (start i A)).x14)) := by
  rw [body_eq]
  unfold start
  iintro ⟨H2, H3, H4, H5, H6, H7, H8, H9, H10, H11, H12, H13, H14⟩
  by_cases h : Scalar.cmpi .ne (Scalar.extui (Scalar.cmpi .eq (BitVec.ofNat 32 (i 1).val) 0#32)) 0#32 = 1#1
  · rw [if_pos h, if_pos h, wp_bind]
    iapply (wp_wand_r _ _ _)
    isplitl [H8 H12]
    · iapply (zeroQ_wp c E arg8 harg8 arg12 harg12 A)
      isplitl [H8]; · iexact H8
      iexact H12
    iintro %_ ⟨H8, H12⟩
    rw [wp_bind]
    iapply (wp_wand_r _ _ _)
    isplitl [H13 H14]
    · iapply (zeroK_wp c E arg13 harg13 arg14 harg14 (zQ A))
      isplitl [H13]; · iexact H13
      iexact H14
    iintro %_ ⟨H13, H14⟩
    iapply (tiles_wp c E i arg2 harg2 arg3 harg3 arg4 harg4 arg5 harg5 arg6 harg6 arg7 harg7 arg8 harg8 arg9 harg9 arg10 harg10 arg11 harg11 arg12 harg12 arg13 harg13 arg14 harg14 X2 X3 X4 X5 X6 X7 Y9 Y10 Y11 (zK (zQ A)))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [if_neg h, if_neg h]; dsimp only; rw [wp_bind]
    iapply (wp_wand_r _ _ _)
    isplitl [H13 H14]
    · iapply (zeroK_wp c E arg13 harg13 arg14 harg14 A)
      isplitl [H13]; · iexact H13
      iexact H14
    iintro %_ ⟨H13, H14⟩
    iapply (tiles_wp c E i arg2 harg2 arg3 harg3 arg4 harg4 arg5 harg5 arg6 harg6 arg7 harg7 arg8 harg8 arg9 harg9 arg10 harg10 arg11 harg11 arg12 harg12 arg13 harg13 arg14 harg14 X2 X3 X4 X5 X6 X7 Y9 Y10 Y11 (zK A))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.KernelIdeal.Att

end
-- ==== Proof.Run.lean ====
module

public import proofs.«01_k».proof.Proof.BodyWp
public import Idealize.ShloMosaic.Lib.Exec
public import Idealize.ShloMosaic.Lib.Tactic
public import Idealize.ShloMosaic.Lib.Pipeline.FrameBody

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four accumulators after the point, of what they were found at: every tile of the point's key block added. -/
def pt (c : Dev nD) (t : Fin cfg0.N) (A : Acc F) : Acc F :=
  fin (grid0.coords t) (iblk m c 0 t) (iblk m c 1 t) (iblk m c 2 t) (iblk m c 3 t) (iblk m c 4 t) (iblk m c 5 t) (start (grid0.coords t) A)

/-- What the point leaves in the queries' gradient it found as `Y`, -/
def rel6 (c : Dev nD) (t : Fin cfg0.N) (Y X : Vec F S128x8192 .f32) : Prop := ∃ A : Acc F, A.x8 = Y ∧ X = (pt m c t A).x8
/-- in the keys' gradient, -/
def rel7 (c : Dev nD) (t : Fin cfg0.N) (Y X : Vec F S1024x128 .bf16) : Prop := ∃ A : Acc F, X = out9 (pt m c t A) Y
/-- in the values', -/
def rel8 (c : Dev nD) (t : Fin cfg0.N) (Y X : Vec F S1024x128 .bf16) : Prop := ∃ A : Acc F, X = out10 (pt m c t A) Y
/-- in the key decays', -/
def rel9 (c : Dev nD) (t : Fin cfg0.N) (Y X : Vec F S1x2x8x1024 .f32) : Prop := ∃ A : Acc F, X = out11 (grid0.coords t) (pt m c t A) Y
/-- and in the query decays'. -/
def rel10 (c : Dev nD) (t : Fin cfg0.N) (Y X : Vec F S1x2x16x512 .f32) : Prop := ∃ A : Acc F, A.x12 = Y ∧ X = (pt m c t A).x12

/-- The pipeline's proof data: each input's buffer is left at its block, each output's in its relation to what was found. -/
def rd (c : Dev nD) : RDat τ (Elt F) Unit ℕ (UR sig nD τ) ℕ cfg0 c where
  A w := V m c (Pipeline.arrRef spec0 w)
  after w t := match w with
    | ⟨0, _⟩ => fun _ X => X = iblk m c 0 t
    | ⟨1, _⟩ => fun _ X => X = iblk m c 1 t
    | ⟨2, _⟩ => fun _ X => X = iblk m c 2 t
    | ⟨3, _⟩ => fun _ X => X = iblk m c 3 t
    | ⟨4, _⟩ => fun _ X => X = iblk m c 4 t
    | ⟨5, _⟩ => fun _ X => X = iblk m c 5 t
    | ⟨6, _⟩ => rel6 m c t
    | ⟨7, _⟩ => rel7 m c t
    | ⟨8, _⟩ => rel8 m c t
    | ⟨9, _⟩ => rel9 m c t
    | ⟨10, _⟩ => rel10 m c t
  Φ _ := Pipeline.ΦA spec0 c
  q w := Pipeline.shareOf spec0 w
  owed _ := 0

theorem rd_A (c : Dev nD) (w : Fin cfg0.W) : (rd m c).A w = V m c (Pipeline.arrRef spec0 w) := by
  dsimp only [rd]

/-- Exact data with the same inputs, by which the inputs' buffers are read. -/
def ex (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

theorem ex_A (c : Dev nD) (w : Fin cfg0.W) : (ex m c).A w = V m c (Pipeline.arrRef spec0 w) := by
  dsimp only [ex]

theorem ex_after0 (c : Dev nD) (t : Fin cfg0.N) : (ex m c).after 0 t = iblk m c 0 t := by dsimp only [ex]
/-- Input window 0's buffer is found at its block. -/
theorem found0 (c : Dev nD) (t : Fin cfg0.N) (X : (cfg0.win 0).block.Idx → Elt F (cfg0.win 0).elt) (h : (rd m c).Finds 0 t X) : X = iblk m c 0 t := by
  have e : (rd m c).after 0 = (ex m c).toR.after 0 := by
    funext t Y X
    change (X = iblk m c 0 t) = (X = (ex m c).after 0 t)
    rw [ex_after0]
  have hA : (rd m c).A 0 = (ex m c).toR.A 0 := by rw [Dat.toR_A, ex_A, rd_A]
  obtain ⟨d, rfl⟩ := (ex m c).toR_finds 0 t X ((RDat.finds_congr hA e t X).mp h)
  exact before0_0_of m (ex m c) (ex_A m c 0) (ex_after0 m c) t d

theorem ex_after1 (c : Dev nD) (t : Fin cfg0.N) : (ex m c).after 1 t = iblk m c 1 t := by dsimp only [ex]
/-- Input window 1's buffer is found at its block. -/
theorem found1 (c : Dev nD) (t : Fin cfg0.N) (X : (cfg0.win 1).block.Idx → Elt F (cfg0.win 1).elt) (h : (rd m c).Finds 1 t X) : X = iblk m c 1 t := by
  have e : (rd m c).after 1 = (ex m c).toR.after 1 := by
    funext t Y X
    change (X = iblk m c 1 t) = (X = (ex m c).after 1 t)
    rw [ex_after1]
  have hA : (rd m c).A 1 = (ex m c).toR.A 1 := by rw [Dat.toR_A, ex_A, rd_A]
  obtain ⟨d, rfl⟩ := (ex m c).toR_finds 1 t X ((RDat.finds_congr hA e t X).mp h)
  exact before0_1_of m (ex m c) (ex_A m c 1) (ex_after1 m c) t d

theorem ex_after2 (c : Dev nD) (t : Fin cfg0.N) : (ex m c).after 2 t = iblk m c 2 t := by dsimp only [ex]
/-- Input window 2's buffer is found at its block. -/
theorem found2 (c : Dev nD) (t : Fin cfg0.N) (X : (cfg0.win 2).block.Idx → Elt F (cfg0.win 2).elt) (h : (rd m c).Finds 2 t X) : X = iblk m c 2 t := by
  have e : (rd m c).after 2 = (ex m c).toR.after 2 := by
    funext t Y X
    change (X = iblk m c 2 t) = (X = (ex m c).after 2 t)
    rw [ex_after2]
  have hA : (rd m c).A 2 = (ex m c).toR.A 2 := by rw [Dat.toR_A, ex_A, rd_A]
  obtain ⟨d, rfl⟩ := (ex m c).toR_finds 2 t X ((RDat.finds_congr hA e t X).mp h)
  exact before0_2_of m (ex m c) (ex_A m c 2) (ex_after2 m c) t d

theorem ex_after3 (c : Dev nD) (t : Fin cfg0.N) : (ex m c).after 3 t = iblk m c 3 t := by dsimp only [ex]
/-- Input window 3's buffer is found at its block. -/
theorem found3 (c : Dev nD) (t : Fin cfg0.N) (X : (cfg0.win 3).block.Idx → Elt F (cfg0.win 3).elt) (h : (rd m c).Finds 3 t X) : X = iblk m c 3 t := by
  have e : (rd m c).after 3 = (ex m c).toR.after 3 := by
    funext t Y X
    change (X = iblk m c 3 t) = (X = (ex m c).after 3 t)
    rw [ex_after3]
  have hA : (rd m c).A 3 = (ex m c).toR.A 3 := by rw [Dat.toR_A, ex_A, rd_A]
  obtain ⟨d, rfl⟩ := (ex m c).toR_finds 3 t X ((RDat.finds_congr hA e t X).mp h)
  exact before0_3_of m (ex m c) (ex_A m c 3) (ex_after3 m c) t d

theorem ex_after4 (c : Dev nD) (t : Fin cfg0.N) : (ex m c).after 4 t = iblk m c 4 t := by dsimp only [ex]
/-- Input window 4's buffer is found at its block. -/
theorem found4 (c : Dev nD) (t : Fin cfg0.N) (X : (cfg0.win 4).block.Idx → Elt F (cfg0.win 4).elt) (h : (rd m c).Finds 4 t X) : X = iblk m c 4 t := by
  have e : (rd m c).after 4 = (ex m c).toR.after 4 := by
    funext t Y X
    change (X = iblk m c 4 t) = (X = (ex m c).after 4 t)
    rw [ex_after4]
  have hA : (rd m c).A 4 = (ex m c).toR.A 4 := by rw [Dat.toR_A, ex_A, rd_A]
  obtain ⟨d, rfl⟩ := (ex m c).toR_finds 4 t X ((RDat.finds_congr hA e t X).mp h)
  exact before0_4_of m (ex m c) (ex_A m c 4) (ex_after4 m c) t d

theorem ex_after5 (c : Dev nD) (t : Fin cfg0.N) : (ex m c).after 5 t = iblk m c 5 t := by dsimp only [ex]
/-- Input window 5's buffer is found at its block. -/
theorem found5 (c : Dev nD) (t : Fin cfg0.N) (X : (cfg0.win 5).block.Idx → Elt F (cfg0.win 5).elt) (h : (rd m c).Finds 5 t X) : X = iblk m c 5 t := by
  have e : (rd m c).after 5 = (ex m c).toR.after 5 := by
    funext t Y X
    change (X = iblk m c 5 t) = (X = (ex m c).after 5 t)
    rw [ex_after5]
  have hA : (rd m c).A 5 = (ex m c).toR.A 5 := by rw [Dat.toR_A, ex_A, rd_A]
  obtain ⟨d, rfl⟩ := (ex m c).toR_finds 5 t X ((RDat.finds_congr hA e t X).mp h)
  exact before0_5_of m (ex m c) (ex_A m c 5) (ex_after5 m c) t d

/-- The scratch operands as memrefs owned at some contents. -/
theorem inv_eq (c : Dev nD) :
    (Pipeline.ΦA spec0 c : sProp 𝕄)
      = iprop(iprop((∃ d, owns (c : Thread nD τ) (Memref.whole cc0_scratch0 : Memref sig .tc .vmem S2x80x1024 .f32) fullShare d) ∗ (∃ d, owns (c : Thread nD τ) (Memref.whole cc0_scratch1 : Memref sig .tc .vmem S2x64x1024 .f32) fullShare d)) ∗ (∃ r, prngReg c r)) := by
  unfold Pipeline.ΦA; rw [scopedRest0_eq]; simp only [owns_whole]; try rfl

/-- The staging memrefs of a point. -/
abbrev ms0 (t : Fin cfg0.N) : Memref sig .tc .vmem S8192x128 .bf16 := win0_0.stage (cfg0.slots t 0)
abbrev ms1 (t : Fin cfg0.N) : Memref sig .tc .vmem S1024x128 .bf16 := win0_1.stage (cfg0.slots t 1)
abbrev ms2 (t : Fin cfg0.N) : Memref sig .tc .vmem S1024x128 .bf16 := win0_2.stage (cfg0.slots t 2)
abbrev ms3 (t : Fin cfg0.N) : Memref sig .tc .vmem S1x2x8x1024 .f32 := win0_3.stage (cfg0.slots t 3)
abbrev ms4 (t : Fin cfg0.N) : Memref sig .tc .vmem S8192x128 .f32 := win0_4.stage (cfg0.slots t 4)
abbrev ms5 (t : Fin cfg0.N) : Memref sig .tc .vmem S8192x128 .bf16 := win0_5.stage (cfg0.slots t 5)
abbrev ms6 (t : Fin cfg0.N) : Memref sig .tc .vmem S128x8192 .f32 := win0_6.stage (cfg0.slots t 6)
abbrev ms7 (t : Fin cfg0.N) : Memref sig .tc .vmem S1024x128 .bf16 := win0_7.stage (cfg0.slots t 7)
abbrev ms8 (t : Fin cfg0.N) : Memref sig .tc .vmem S1024x128 .bf16 := win0_8.stage (cfg0.slots t 8)
abbrev ms9 (t : Fin cfg0.N) : Memref sig .tc .vmem S1x2x8x1024 .f32 := win0_9.stage (cfg0.slots t 9)
abbrev ms10 (t : Fin cfg0.N) : Memref sig .tc .vmem S1x2x16x512 .f32 := win0_10.stage (cfg0.slots t 10)

set_option maxHeartbeats 2400000 in
/-- The body at any point. -/
theorem sound (c : Dev nD) (t : Fin cfg0.N) (O : sProp 𝕄) (Y6 : Vec F S128x8192 .f32) (Y7 : Vec F S1024x128 .bf16) (Y8 : Vec F S1024x128 .bf16) (Y9 : Vec F S1x2x8x1024 .f32) (Y10 : Vec F S1x2x16x512 .f32) :
    iprop((Pipeline.ΦA spec0 c : sProp 𝕄) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare Y6 ∗ owns (c : Thread nD τ) (ms7 t) fullShare Y7 ∗ owns (c : Thread nD τ) (ms8 t) fullShare Y8 ∗ owns (c : Thread nD τ) (ms9 t) fullShare Y9 ∗ owns (c : Thread nD τ) (ms10 t) fullShare Y10)
      ⊢ wp frame (wpE (defs₀ (F := F)) Variants.none (c : Thread nD τ) none) Set.univ (bodyAt0 t) (fun _ => iprop((Pipeline.ΦA spec0 c : sProp 𝕄) ∗ O ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ (∃ X, ⌜rel6 m c t Y6 X⌝ ∗ owns (c : Thread nD τ) (ms6 t) fullShare X) ∗ (∃ X, ⌜rel7 m c t Y7 X⌝ ∗ owns (c : Thread nD τ) (ms7 t) fullShare X) ∗ (∃ X, ⌜rel8 m c t Y8 X⌝ ∗ owns (c : Thread nD τ) (ms8 t) fullShare X) ∗ (∃ X, ⌜rel9 m c t Y9 X⌝ ∗ owns (c : Thread nD τ) (ms9 t) fullShare X) ∗ (∃ X, ⌜rel10 m c t Y10 X⌝ ∗ owns (c : Thread nD τ) (ms10 t) fullShare X))) := by
  rw [inv_eq]
  unfold bodyAt0
  iintro ⟨⟨⟨⟨%S13, HS0⟩, ⟨%S14, HS1⟩⟩, Hg⟩, Ho, H0, H1, H2, H3, H4, H5, H6, H7, H8, H9, H10⟩
  have hb := body_wp c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) Y7 Y8 Y9 (Acc.mk Y6 Y10 S13 S14)
  iapply (wp_wand_r _ _ _)
  isplitl [H0 H1 H2 H3 H4 H5 H6 H7 H8 H9 H10 HS0 HS1]
  · iapply hb

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    iexact HS1
  iintro %_ ⟨H0, H1, H2, H3, H4, H5, H6, H7, H8, H9, H10, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact ⟨Acc.mk Y6 Y10 S13 S14, rfl, rfl⟩
  isplitl [H7]
  · iexists _; isplitr; swap; · iexact H7
    ipureintro; exact ⟨Acc.mk Y6 Y10 S13 S14, rfl⟩
  isplitl [H8]
  · iexists _; isplitr; swap; · iexact H8
    ipureintro; exact ⟨Acc.mk Y6 Y10 S13 S14, rfl⟩
  isplitl [H9]
  · iexists _; isplitr; swap; · iexact H9
    ipureintro; exact ⟨Acc.mk Y6 Y10 S13 S14, rfl⟩
  iexists _; isplitr; swap; · iexact H10
  ipureintro; exact ⟨Acc.mk Y6 Y10 S13 S14, rfl, rfl⟩

theorem row (t : Fin cfg0.N) : defs₀ (F := F) .tc cfg0.body (cfg0.bodyArgs t (cfg0.slots t)) = bodyAt0 t := by
  unfold defs₀; rw [Defs.onTc_tc]

set_option maxHeartbeats 2400000 in
theorem obligation (c : Dev nD) : (rd (F := F) m c).BodyObligation (defs₀ (F := F)) Variants.none () Set.univ := fun t Y hY => by
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  have e5 := found5 m c t (Y 5) (hY 5)
  rw [bigSep_W0, bigSep_W0, row, e0, e1, e2, e3, e4, e5]
  refine triple_restated (sound m c t ((rd m c).owesAt () t.castSucc) (Y 6) (Y 7) (Y 8) (Y 9) (Y 10)) rfl .rfl fun _ => ?_
  rw [show (rd m c).Φ t.succ = Pipeline.ΦA spec0 c from rfl, show (rd m c).owesAt () t.succ = (rd m c).owesAt () t.castSucc from rfl]
  iintro ⟨Hi, Ho, H0, H1, H2, H3, H4, H5, H6, H7, H8, H9, H10⟩
  isplitl [Hi]; · iexact Hi
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]; · iexact H6
  isplitl [H7]; · iexact H7
  isplitl [H8]; · iexact H8
  isplitl [H9]; · iexact H9
  iexact H10

set_option backward.isDefEq.respectTransparency.types false in
/-- The run: every output's array is what the write-backs of the relations leave, and every semaphore ends at zero. -/
theorem run : θ_run defs (onTc (τ := τ) (main (F := F))) (s₀ m ρ) (fun r => RDat.FramePost (cfgs 0) (fun c => rd m c) (V m) r ∧ r.2.sem = fun _ => 0) :=
  RDat.θ_run_frame_track_shared (Q' := _) cfgs (0 : Fin 1) launch₀0 defs₀ Variants.none (fun c => rd m c) m ρ main
    (hbody := fun c => obligation m c) (hq := fun _ _ _ => rfl) (howed := fun _ _ => rfl) (V := V m) (hmain := hmain m Variants.none)
    (hA := rd_A m) (hin := fun _ => .rfl) (hout := fun _ => .rfl)

/-- What the run leaves of the arguments. -/
theorem kept {r : PUnit × MemSt nD τ sig (Elt F)} (h : RDat.FramePost (cfgs 0) (fun c => rd m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => kept m h.1 c, h.2⟩) (run m ρ)

end Cert.KernelIdeal.Att

end
-- ==== Proof.Pay.lean ====
module

public import proofs.«01_k».proof.Proof.Tiles
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe
open Idealize.SL.Sem

/-- The literal 0.125. -/
theorem eighth : Ideal.ofBits .f32 0x3E000000#32 = ((1 / 8 : ℝ) : EReal) := by
  simp [Ideal.ofBits, Ideal.ieee]; norm_num [← EReal.coe_mul]

/-- A sum of reals. -/
theorem coe_sum {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, EReal.coe_add]

/-- The exponential of a masked score less its row's log-sum: where the mask is off the score is -inf. -/
theorem exp_masked (c r o : ℕ) (hc : c < 1024) (hr : r < 512) (ho : o < 1024) (s l : ℝ) :
    Ideal.exp (Scalar.select (IntOp.cmpi .sle (BitVec.ofNat 32 c) (IntOp.addi (BitVec.ofNat 32 r) (BitVec.ofNat 32 o))) ((s : ℝ) : EReal) (Named.named (F := Ideal) (φ := .f32) Cert.KernelIdeal.κ "mask" 0xF149F2CA#32) - (l : EReal))
      = ((if c ≤ r + o then Real.exp (s - l) else 0 : ℝ) : EReal) := by
  have hn : (Named.named (F := Ideal) (φ := .f32) Cert.KernelIdeal.κ "mask" 0xF149F2CA#32) = (⊥ : EReal) := rfl
  rw [hn]
  have hrw : (BitVec.ofNat 32 r + BitVec.ofNat 32 o) = BitVec.ofNat 32 (r + o) := by rw [← BitVec.ofNat_add]
  have hcmp : IntOp.cmpi .sle (BitVec.ofNat 32 c) (IntOp.addi (BitVec.ofNat 32 r) (BitVec.ofNat 32 o)) = BitVec.ofBool (decide (c ≤ r + o)) := by
    show BitVec.ofBool ((BitVec.ofNat 32 c).sle (BitVec.ofNat 32 r + BitVec.ofNat 32 o)) = _
    rw [hrw, BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_le]
  rw [hcmp]
  by_cases h : c ≤ r + o
  · simp only [h, decide_true, if_true]
    exact congrArg Ideal.exp (EReal.coe_sub s l).symm
  · simp only [h, decide_false, if_false]
    rfl

section
variable (q w : Vec Ideal S512x64 .bf16) (k v : Vec Ideal S1024x64 .bf16) (ck : Vec Ideal S1x1x1x1024 .f32) (l d : Vec Ideal S512x1 .f32)
    (q' w' k' v' : ℕ → ℕ → ℝ) (ck' l' d' : ℕ → ℝ)
    (hq : ∀ (r : Fin 512) (x : Fin 64), q (ix2 r x) = ((q' r x : ℝ) : EReal)) (hw : ∀ (r : Fin 512) (x : Fin 64), w (ix2 r x) = ((w' r x : ℝ) : EReal))
    (hk : ∀ (r : Fin 1024) (x : Fin 64), k (ix2 r x) = ((k' r x : ℝ) : EReal)) (hv : ∀ (r : Fin 1024) (x : Fin 64), v (ix2 r x) = ((v' r x : ℝ) : EReal))
    (hck : ∀ c : Fin 1024, ck (ix4 0 0 0 c) = ((ck' c : ℝ) : EReal)) (hl : ∀ r : Fin 512, l (ix2 r 0) = ((l' r : ℝ) : EReal)) (hd : ∀ r : Fin 512, d (ix2 r 0) = ((d' r : ℝ) : EReal))
include hq hk hck hl
/-- A tile's probabilities, -/
theorem prL_at (r : Fin 512) (c : Fin 1024) : k0_pay4 q k ck l (ix2 r c) = (((Real.exp ((∑ x : Fin 64, q' r x * (1 / 8) * k' c x) - ck' c - l' r)) : ℝ) : EReal) := by
  pointwise [k0_pay4, k0_pay2, hq, hk, hck, hl]
  simp only [eighth, zero_add, ← EReal.coe_mul, coe_sum, ← EReal.coe_sub, Ideal.exp_coe]
include hw hv hd
/-- their gradients, -/
theorem dsL_at (r : Fin 512) (c : Fin 1024) : dsL q w k ck l v d (ix2 r c) = (((Real.exp ((∑ x : Fin 64, q' r x * (1 / 8) * k' c x) - ck' c - l' r)) * ((∑ x : Fin 64, w' r x * v' c x) - d' r) : ℝ) : EReal) := by
  have h := prL_at q k ck l q' k' ck' l' hq hk hck hl
  pointwise [dsL, k0_pay5, k0_pay3, hw, hv, hd, h]
  simp only [zero_add, ← EReal.coe_mul, coe_sum, ← EReal.coe_sub]
omit hv hd
/-- and what the values' gradient gains. -/
theorem dvL_at (y : Vec Ideal S1x64x1024 .f32) (x : Fin 64) (c : Fin 1024) :
    dvL q w k ck l y (ix3 0 x c) = y (ix3 0 x c) + ((∑ r : Fin 512, w' r x * (Real.exp ((∑ x : Fin 64, q' r x * (1 / 8) * k' c x) - ck' c - l' r)) : ℝ) : EReal) := by
  have h := prL_at q k ck l q' k' ck' l' hq hk hck hl
  pointwise [dvL, k0_pay9, k0_pay6, k0_pay7, k0_pay8, k0_pay3, hw, h]
  simp only [zero_add, ← EReal.coe_mul, coe_sum]
end
section
variable (s : FVec Ideal S512x1024 .bf16) (s' : ℕ → ℕ → ℝ) (hs : ∀ (r : Fin 512) (c : Fin 1024), s (ix2 r c) = ((s' r c : ℝ) : EReal))
include hs
/-- What the keys' gradient gains: the scaled queries' rows, then the column sums. -/
theorem dkL_at (q : Vec Ideal S512x64 .bf16) (q' : ℕ → ℕ → ℝ) (hq : ∀ (r : Fin 512) (x : Fin 64), q (ix2 r x) = ((q' r x : ℝ) : EReal))
    (y : Vec Ideal S1x80x1024 .f32) (x : Fin 80) (c : Fin 1024) :
    dkL (k0_pay54 (F := Ideal)) q s y (ix3 0 x c) = y (ix3 0 x c) + ((∑ r : Fin 512, (if x.val < 64 then q' r x * (1 / 8) else 1) * s' r c : ℝ) : EReal) := by
  by_cases hx : x.val < 64
  · obtain ⟨x, hx'⟩ := x
    have hq' : ∀ r : Fin 512, q (ix2 r ⟨x, hx⟩) = ((q' r x : ℝ) : EReal) := fun r => hq r ⟨x, hx⟩
    simp only [if_pos hx]
    pointwise [dkL, k0_pay10, k0_pay2, k0_pay54, hs, hq']
    simp only [dif_pos hx, hq', eighth, zero_add, ← EReal.coe_mul, coe_sum]
  · simp only [if_neg hx]
    pointwise [dkL, k0_pay10, k0_pay2, k0_pay54, hs]
    simp only [dif_neg hx, zero_add, one_mul, Ideal.ofBits_one_bf16, coe_sum]

variable (kt : FVec Ideal S80x1024 .bf16) (k' : ℕ → ℕ → ℝ) (hkt : ∀ (x : Fin 80) (c : Fin 1024), kt (ix2 x c) = (((if x.val < 64 then k' c x else 1) : ℝ) : EReal))
include hkt
/-- What the queries' gradient gains, -/
theorem dqL_at (y : Vec Ideal S64x512 .f32) (x : Fin 64) (r : Fin 512) :
    dqL kt s y (ix2 x r) = y (ix2 x r) + (((∑ c : Fin 1024, k' c x * s' r c) * (1 / 8) : ℝ) : EReal) := by
  have hx : (x : ℕ) < 64 := x.isLt
  pointwise [dqL, k0_pay12, k0_pay11, hs, hkt]
  simp only [hx, if_true, eighth, zero_add, ← EReal.coe_mul, coe_sum]
/-- and the query decays'. -/
theorem dcL_at (y : Vec Ideal S1x1x1x512 .f32) (r : Fin 512) :
    dcL kt s y (ix4 0 0 0 r) = y (ix4 0 0 0 r) + ((∑ c : Fin 1024, s' r c : ℝ) : EReal) := by
  pointwise [dcL, k0_pay14, k0_pay13, k0_pay11, hs, hkt]
  simp only [show ∀ n : ℕ, ¬ (64 + n < 64) from fun n => by omega, if_false, one_mul, eighth, zero_add, ← EReal.coe_mul, coe_sum]
  congr 2
  rw [Finset.sum_const]
  simp; ring
end

section
variable (q w : Vec Ideal S512x64 .bf16) (k v : Vec Ideal S1024x64 .bf16) (ck : Vec Ideal S1x1x1x1024 .f32) (l d : Vec Ideal S512x1 .f32)
    (q' w' k' v' : ℕ → ℕ → ℝ) (ck' l' d' : ℕ → ℝ)
    (hq : ∀ (r : Fin 512) (x : Fin 64), q (ix2 r x) = ((q' r x : ℝ) : EReal)) (hw : ∀ (r : Fin 512) (x : Fin 64), w (ix2 r x) = ((w' r x : ℝ) : EReal))
    (hk : ∀ (r : Fin 1024) (x : Fin 64), k (ix2 r x) = ((k' r x : ℝ) : EReal)) (hv : ∀ (r : Fin 1024) (x : Fin 64), v (ix2 r x) = ((v' r x : ℝ) : EReal))
    (hck : ∀ c : Fin 1024, ck (ix4 0 0 0 c) = ((ck' c : ℝ) : EReal)) (hl : ∀ r : Fin 512, l (ix2 r 0) = ((l' r : ℝ) : EReal)) (hd : ∀ r : Fin 512, d (ix2 r 0) = ((d' r : ℝ) : EReal))
include hq hk hck hl
/-- A tile's probabilities, -/
theorem pr1_at (r : Fin 512) (c : Fin 1024) : k0_pay81 q k ck l (ix2 r c) = (((if c.val ≤ r.val + 512 then Real.exp ((∑ x : Fin 64, q' r x * (1 / 8) * k' c x) - ck' c - l' r) else 0) : ℝ) : EReal) := by
  pointwise [k0_pay81, k0_pay79, hq, hk, hck, hl]
  simp only [eighth, zero_add, ← EReal.coe_mul, coe_sum, ← EReal.coe_sub]
  exact exp_masked c.val r.val 512 (by omega) r.isLt (by norm_num) _ _
include hw hv hd
/-- their gradients, -/
theorem ds1_at (r : Fin 512) (c : Fin 1024) : ds1 q w k ck l v d (ix2 r c) = (((if c.val ≤ r.val + 512 then Real.exp ((∑ x : Fin 64, q' r x * (1 / 8) * k' c x) - ck' c - l' r) else 0) * ((∑ x : Fin 64, w' r x * v' c x) - d' r) : ℝ) : EReal) := by
  have h := pr1_at q k ck l q' k' ck' l' hq hk hck hl
  pointwise [ds1, k0_pay82, k0_pay80, hw, hv, hd, h]
  simp only [zero_add, ← EReal.coe_mul, coe_sum, ← EReal.coe_sub]
omit hv hd
/-- and what the values' gradient gains. -/
theorem dv1_at (y : Vec Ideal S1x64x1024 .f32) (x : Fin 64) (c : Fin 1024) :
    dv1 q w k ck l y (ix3 0 x c) = y (ix3 0 x c) + ((∑ r : Fin 512, w' r x * (if c.val ≤ r.val + 512 then Real.exp ((∑ x : Fin 64, q' r x * (1 / 8) * k' c x) - ck' c - l' r) else 0) : ℝ) : EReal) := by
  have h := pr1_at q k ck l q' k' ck' l' hq hk hck hl
  pointwise [dv1, k0_pay83, k0_pay80, hw, h]
  simp only [zero_add, ← EReal.coe_mul, coe_sum]
end
section
variable (s : FVec Ideal S512x1024 .bf16) (s' : ℕ → ℕ → ℝ) (hs : ∀ (r : Fin 512) (c : Fin 1024), s (ix2 r c) = ((s' r c : ℝ) : EReal))
include hs
/-- What the keys' gradient gains: the scaled queries' rows, then the column sums. -/
theorem dk1_at (q : Vec Ideal S512x64 .bf16) (q' : ℕ → ℕ → ℝ) (hq : ∀ (r : Fin 512) (x : Fin 64), q (ix2 r x) = ((q' r x : ℝ) : EReal))
    (y : Vec Ideal S1x80x1024 .f32) (x : Fin 80) (c : Fin 1024) :
    dk1 (k0_pay54 (F := Ideal)) q s y (ix3 0 x c) = y (ix3 0 x c) + ((∑ r : Fin 512, (if x.val < 64 then q' r x * (1 / 8) else 1) * s' r c : ℝ) : EReal) := by
  by_cases hx : x.val < 64
  · obtain ⟨x, hx'⟩ := x
    have hq' : ∀ r : Fin 512, q (ix2 r ⟨x, hx⟩) = ((q' r x : ℝ) : EReal) := fun r => hq r ⟨x, hx⟩
    simp only [if_pos hx]
    pointwise [dk1, k0_pay10, k0_pay79, k0_pay54, hs, hq']
    simp only [dif_pos hx, hq', eighth, zero_add, ← EReal.coe_mul, coe_sum]
  · simp only [if_neg hx]
    pointwise [dk1, k0_pay10, k0_pay79, k0_pay54, hs]
    simp only [dif_neg hx, zero_add, one_mul, Ideal.ofBits_one_bf16, coe_sum]

variable (kt : FVec Ideal S80x1024 .bf16) (k' : ℕ → ℕ → ℝ) (hkt : ∀ (x : Fin 80) (c : Fin 1024), kt (ix2 x c) = (((if x.val < 64 then k' c x else 1) : ℝ) : EReal))
include hkt
/-- What the queries' gradient gains, -/
theorem dq1_at (y : Vec Ideal S64x512 .f32) (x : Fin 64) (r : Fin 512) :
    dq1 kt s y (ix2 x r) = y (ix2 x r) + (((∑ c : Fin 1024, k' c x * s' r c) * (1 / 8) : ℝ) : EReal) := by
  have hx : (x : ℕ) < 64 := x.isLt
  pointwise [dq1, k0_pay12, k0_pay11, hs, hkt]
  simp only [hx, if_true, eighth, zero_add, ← EReal.coe_mul, coe_sum]
/-- and the query decays'. -/
theorem dc1_at (y : Vec Ideal S1x1x1x512 .f32) (r : Fin 512) :
    dc1 kt s y (ix4 0 0 0 r) = y (ix4 0 0 0 r) + ((∑ c : Fin 1024, s' r c : ℝ) : EReal) := by
  pointwise [dc1, k0_pay14, k0_pay13, k0_pay11, hs, hkt]
  simp only [show ∀ n : ℕ, ¬ (64 + n < 64) from fun n => by omega, if_false, one_mul, eighth, zero_add, ← EReal.coe_mul, coe_sum]
  congr 2
  rw [Finset.sum_const]
  simp; ring
end

section
variable (q w : Vec Ideal S512x64 .bf16) (k v : Vec Ideal S512x64 .bf16) (ck : Vec Ideal S1x1x1x512 .f32) (l d : Vec Ideal S512x1 .f32)
    (q' w' k' v' : ℕ → ℕ → ℝ) (ck' l' d' : ℕ → ℝ)
    (hq : ∀ (r : Fin 512) (x : Fin 64), q (ix2 r x) = ((q' r x : ℝ) : EReal)) (hw : ∀ (r : Fin 512) (x : Fin 64), w (ix2 r x) = ((w' r x : ℝ) : EReal))
    (hk : ∀ (r : Fin 512) (x : Fin 64), k (ix2 r x) = ((k' r x : ℝ) : EReal)) (hv : ∀ (r : Fin 512) (x : Fin 64), v (ix2 r x) = ((v' r x : ℝ) : EReal))
    (hck : ∀ c : Fin 512, ck (ix4 0 0 0 c) = ((ck' c : ℝ) : EReal)) (hl : ∀ r : Fin 512, l (ix2 r 0) = ((l' r : ℝ) : EReal)) (hd : ∀ r : Fin 512, d (ix2 r 0) = ((d' r : ℝ) : EReal))
include hq hk hck hl
/-- A tile's probabilities, -/
theorem pr0_at (r : Fin 512) (c : Fin 512) : k0_pay60 (k0_pay58 q) k ck l (ix2 r c) = (((if c.val ≤ r.val + 0 then Real.exp ((∑ x : Fin 64, q' r x * (1 / 8) * k' c x) - ck' c - l' r) else 0) : ℝ) : EReal) := by
  pointwise [k0_pay60, k0_pay58, hq, hk, hck, hl]
  simp only [eighth, zero_add, ← EReal.coe_mul, coe_sum, ← EReal.coe_sub]
  exact exp_masked c.val r.val 0 (by omega) r.isLt (by norm_num) _ _
include hw hv hd
/-- their gradients, -/
theorem ds0_at (r : Fin 512) (c : Fin 512) : ds0 q w k ck l v d (ix2 r c) = (((if c.val ≤ r.val + 0 then Real.exp ((∑ x : Fin 64, q' r x * (1 / 8) * k' c x) - ck' c - l' r) else 0) * ((∑ x : Fin 64, w' r x * v' c x) - d' r) : ℝ) : EReal) := by
  have h := pr0_at q k ck l q' k' ck' l' hq hk hck hl
  pointwise [ds0, k0_pay61, k0_pay59, hw, hv, hd, h]
  simp only [zero_add, ← EReal.coe_mul, coe_sum, ← EReal.coe_sub]
omit hv hd
/-- and what the values' gradient gains. -/
theorem dv0_at (y : Vec Ideal S1x64x512 .f32) (x : Fin 64) (c : Fin 512) :
    dv0 q w k ck l y (ix3 0 x c) = y (ix3 0 x c) + ((∑ r : Fin 512, w' r x * (if c.val ≤ r.val + 0 then Real.exp ((∑ x : Fin 64, q' r x * (1 / 8) * k' c x) - ck' c - l' r) else 0) : ℝ) : EReal) := by
  have h := pr0_at q k ck l q' k' ck' l' hq hk hck hl
  pointwise [dv0, k0_pay63, k0_pay62, k0_pay59, hw, h]
  simp only [zero_add, ← EReal.coe_mul, coe_sum]
end
section
variable (s : FVec Ideal S512x512 .bf16) (s' : ℕ → ℕ → ℝ) (hs : ∀ (r : Fin 512) (c : Fin 512), s (ix2 r c) = ((s' r c : ℝ) : EReal))
include hs
/-- What the keys' gradient gains: the scaled queries' rows, then the column sums. -/
theorem dk0_at (q : Vec Ideal S512x64 .bf16) (q' : ℕ → ℕ → ℝ) (hq : ∀ (r : Fin 512) (x : Fin 64), q (ix2 r x) = ((q' r x : ℝ) : EReal))
    (y : Vec Ideal S1x80x512 .f32) (x : Fin 80) (c : Fin 512) :
    dk0 (k0_pay54 (F := Ideal)) q s y (ix3 0 x c) = y (ix3 0 x c) + ((∑ r : Fin 512, (if x.val < 64 then q' r x * (1 / 8) else 1) * s' r c : ℝ) : EReal) := by
  by_cases hx : x.val < 64
  · obtain ⟨x, hx'⟩ := x
    have hq' : ∀ r : Fin 512, q (ix2 r ⟨x, hx⟩) = ((q' r x : ℝ) : EReal) := fun r => hq r ⟨x, hx⟩
    simp only [if_pos hx]
    pointwise [dk0, k0_pay64, k0_pay58, k0_pay54, hs, hq']
    simp only [dif_pos hx, hq', eighth, zero_add, ← EReal.coe_mul, coe_sum]
  · simp only [if_neg hx]
    pointwise [dk0, k0_pay64, k0_pay58, k0_pay54, hs]
    simp only [dif_neg hx, zero_add, one_mul, Ideal.ofBits_one_bf16, coe_sum]

variable (kt : FVec Ideal S80x1024 .bf16) (k' : ℕ → ℕ → ℝ) (hkt : ∀ (x : Fin 80) (c : Fin 1024), kt (ix2 x c) = (((if x.val < 64 then k' c x else 1) : ℝ) : EReal))
include hkt
/-- What the queries' gradient gains, -/
theorem dq0_at (y : Vec Ideal S64x512 .f32) (x : Fin 64) (r : Fin 512) :
    dq0 kt s y (ix2 x r) = y (ix2 x r) + (((∑ c : Fin 512, k' c x * s' r c) * (1 / 8) : ℝ) : EReal) := by
  have hx : (x : ℕ) < 64 := x.isLt
  pointwise [dq0, k0_pay66, k0_pay65, hs, hkt]
  simp only [hx, if_true, eighth, zero_add, ← EReal.coe_mul, coe_sum]
/-- and the query decays'. -/
theorem dc0_at (y : Vec Ideal S1x1x1x512 .f32) (r : Fin 512) :
    dc0 kt s y (ix4 0 0 0 r) = y (ix4 0 0 0 r) + ((∑ c : Fin 512, s' r c : ℝ) : EReal) := by
  pointwise [dc0, k0_pay67, k0_pay65, hs, hkt]
  simp only [show ∀ n : ℕ, ¬ (64 + n < 64) from fun n => by omega, if_false, one_mul, eighth, zero_add, ← EReal.coe_mul, coe_sum]
  congr 2
  rw [Finset.sum_const]
  simp; ring
end

/-- The keys of a head over sixteen rows of ones. -/
theorem kt_at0 (k : Vec Ideal S1024x64 .bf16) (k' : ℕ → ℕ → ℝ) (hk : ∀ (r : Fin 1024) (x : Fin 64), k (ix2 r x) = ((k' r x : ℝ) : EReal)) (x : Fin 80) (c : Fin 1024) :
    k0_pay56 k (ix2 x c) = (((if x.val < 64 then k' c x else 1) : ℝ) : EReal) := by
  by_cases hx : x.val < 64
  · rw [if_pos hx, ← hk c ⟨x.val, hx⟩]
    pointwise [k0_pay56, k0_pay55]
    rw [dif_pos hx]
  · rw [if_neg hx]
    pointwise [k0_pay56, k0_pay55]
    rw [dif_neg hx]; simp
theorem kt_at1 (k : Vec Ideal S1024x64 .bf16) (k' : ℕ → ℕ → ℝ) (hk : ∀ (r : Fin 1024) (x : Fin 64), k (ix2 r x) = ((k' r x : ℝ) : EReal)) (x : Fin 80) (c : Fin 1024) :
    k0_pay57 k (ix2 x c) = (((if x.val < 64 then k' c x else 1) : ℝ) : EReal) :=
  kt_at0 k k' hk x c

end Cert.KernelIdeal.Att

end
-- ==== Proof.Prefix.lean ====
module

public import proofs.«01_k».proof.Proof.Pay
public import Idealize.ShloMosaic.Lib.Claim
public import Idealize.ShloMosaic.Lib.StableHlo.RunRead

@[expose] public section
set_option maxRecDepth 16384
noncomputable section
namespace Cert.KernelIdeal.Att
open Cert.KernelIdeal Cert.KernelIdeal.Gen
open Idealize.ShloMosaic Idealize.ShloMosaic.TcCoe
open Idealize.SL.Sem

/-- The heads of an array of 1024 columns. -/
def hd (x : FVec Ideal S8192x1024 .f32) : FVec Ideal S16x8192x64 .f32 :=
  transpose S16x8192x64 [1, 0, 2] (shapeCast _ x shapeCasts_S8192x1024_S8192x16x64) transposes_S8192x16x64_S16x8192x64_1_0_2
/-- Scores of two arrays of heads. -/
def dots (a b : FVec Ideal S16x8192x64 .f32) : FVec Ideal S16x8192x8192 .f32 :=
  Host.dotGeneral dot_S16x8192x64_S16x8192x64_S16x8192x8192_2_2_1_1_0_0 none a b
/-- The causal mask. -/
def causal : Vec Ideal S16x8192x8192 .i1 :=
  broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
/-- One number per row, over the columns. -/
def onRows (a : FVec Ideal S16x8192 .f32) : FVec Ideal S16x8192x8192 .f32 :=
  broadcastInDim S16x8192x8192 ![0, 1, 2] bcast_S16x8192x1_S16x8192x8192_0_1_2 (broadcastInDim S16x8192x1 ![0, 1] bcast_S16x8192_S16x8192x1_0_1 a)
/-- One number per column, over the rows. -/
def onCols (a : FVec Ideal S16x8192 .f32) : FVec Ideal S16x8192x8192 .f32 :=
  broadcastInDim S16x8192x8192 ![0, 1, 2] bcast_S16x1x8192_S16x8192x8192_0_1_2 (broadcastInDim S16x1x8192 ![0, 2] bcast_S16x8192_S16x1x8192_0_2 a)
/-- The masked scores. -/
def sc (q k : FVec Ideal S8192x1024 .f32) (a cu : FVec Ideal S16x8192 .f32) : FVec Ideal S16x8192x8192 .f32 :=
  select causal (addf (mulf (dots (hd q) (hd k)) (broadcastInDim S16x8192x8192 ![] bcast_S_S16x8192x8192 (constant S_ .f32 0x3E000000#32))) (subf (onRows a) (onCols cu)))
    (broadcastInDim S16x8192x8192 ![] bcast_S_S16x8192x8192 (id (constant S_ .f32 0xFF800000#32)))
/-- Each row's largest. -/
def mxK (S : FVec Ideal S16x8192x8192 .f32) : FVec Ideal S16x8192 .f32 :=
  Host.reduce FloatOps.maximumf S (constant S_ .f32 0xFF800000#32) reducesTo_S16x8192x8192_S16x8192_d2 h_S_
/-- The same, floored as the reference floors it. -/
def mxR (S : FVec Ideal S16x8192x8192 .f32) : FVec Ideal S16x8192 .f32 :=
  maximumf (broadcastInDim S16x8192 ![] bcast_S_S16x8192 (constant S_ .f32 0xFF800000#32)) (mxK S)
/-- The exponentials. -/
def ee (S : FVec Ideal S16x8192x8192 .f32) (M : FVec Ideal S16x8192 .f32) : FVec Ideal S16x8192x8192 .f32 := Host.exp (subf S (onRows M))
/-- Each row's sum. -/
def sums (E : FVec Ideal S16x8192x8192 .f32) : FVec Ideal S16x8192 .f32 := Host.reduceAdd E (constant S_ .f32 0x00000000#32) reducesTo_S16x8192x8192_S16x8192_d2 h_S_
/-- Each row's log-sum. -/
def lse (S : FVec Ideal S16x8192x8192 .f32) : FVec Ideal S16x8192 .f32 := addf (mxK S) (Host.log (sums (ee S (mxK S))))
/-- The probabilities. -/
def probs (S : FVec Ideal S16x8192x8192 .f32) : FVec Ideal S16x8192x8192 .f32 := Host.divf (ee S (mxR S)) (onRows (sums (ee S (mxR S))))
/-- Attention's output. -/
def outs (P : FVec Ideal S16x8192x8192 .f32) (v : FVec Ideal S8192x1024 .f32) : FVec Ideal S8192x1024 .f32 :=
  shapeCast S8192x1024 (transpose S8192x16x64 [1, 0, 2] (Host.dotGeneral dot_S16x8192x8192_S16x8192x64_S16x8192x64_2_1_1_2_0_0 none P (hd v)) transposes_S16x8192x64_S8192x16x64_1_0_2) shapeCasts_S8192x16x64_S8192x1024
/-- Each row's output against its gradient. -/
def delta (w o : FVec Ideal S8192x1024 .f32) : FVec Ideal S8192x16 .f32 :=
  Host.reduceAdd (shapeCast S8192x16x64 (mulf w o) shapeCasts_S8192x1024_S8192x16x64) (constant S_ .f32 0x00000000#32) reducesTo_S8192x16x64_S8192x16_d2 h_S_
/-- The two statistics side by side. -/
def stats (l : FVec Ideal S16x8192 .f32) (d : FVec Ideal S8192x16 .f32) : FVec Ideal S8192x1024 .f32 :=
  shapeCast S8192x1024 (select (broadcastInDim S8192x16x64 ![2] bcast_S64_S8192x16x64_2 (cmpi .slt (iotaInDim S64 32 0) (broadcastInDim S64 ![] bcast_S_S64 (constantI S_ 32 32#32))))
    (broadcastInDim S8192x16x64 ![0, 1, 2] bcast_S8192x16x1_S8192x16x64_0_1_2 (broadcastInDim S8192x16x1 ![0, 1] bcast_S8192x16_S8192x16x1_0_1 (transpose S8192x16 [1, 0] l transposes_S16x8192_S8192x16_1_0)))
    (broadcastInDim S8192x16x64 ![0, 1, 2] bcast_S8192x16x1_S8192x16x64_0_1_2 (broadcastInDim S8192x16x1 ![0, 1] bcast_S8192x16_S8192x16x1_0_1 d)))
    shapeCasts_S8192x16x64_S8192x1024

variable {m : (ℓ : Loc nD τ sig) → Buf (Elt Ideal) ℓ} {c : Dev nD}
abbrev arr0 (m : (ℓ : Loc nD τ sig) → Buf (Elt Ideal) ℓ) (c : Dev nD) : FVec Ideal S8192x1024 .f32 := m ((c.tc : Thread nD τ).loc main_arg0)
abbrev arr1 (m : (ℓ : Loc nD τ sig) → Buf (Elt Ideal) ℓ) (c : Dev nD) : FVec Ideal S8192x1024 .f32 := m ((c.tc : Thread nD τ).loc main_arg1)
abbrev arr2 (m : (ℓ : Loc nD τ sig) → Buf (Elt Ideal) ℓ) (c : Dev nD) : FVec Ideal S8192x1024 .f32 := m ((c.tc : Thread nD τ).loc main_arg2)
abbrev arr3 (m : (ℓ : Loc nD τ sig) → Buf (Elt Ideal) ℓ) (c : Dev nD) : FVec Ideal S16x8192 .f32 := m ((c.tc : Thread nD τ).loc main_arg3)
abbrev arr4 (m : (ℓ : Loc nD τ sig) → Buf (Elt Ideal) ℓ) (c : Dev nD) : FVec Ideal S8192x1024 .f32 := m ((c.tc : Thread nD τ).loc main_arg4)
abbrev zeroA : FVec Ideal S16x8192 .f32 := broadcastInDim S16x8192 ![] bcast_S_S16x8192 (constant S_ .f32 0x00000000#32)
/-- Contents of the buffers. -/
abbrev Vals := Valuation τ sig (Elt Ideal)
abbrev at' (W : Vals) (r : Ref sig .tc) : r.ty.Contents (Elt Ideal) := W (Proc.devRef .tc r)
/-- The host's line in three. -/
abbrev lineA : List (HloOp τ sig (Elt Ideal)) := hostOps0 ++ hostOps0_1
abbrev lineB : List (HloOp τ sig (Elt Ideal)) := hostOps0_2 ++ hostOps0_3
abbrev lineC : List (HloOp τ sig (Elt Ideal)) := hostOps0_4 ++ (hostOps0_5 ++ hostOps0_6)

set_option maxHeartbeats 4000000
section
variable (W : Vals)
/-! ## What the host's lines leave -/
theorem lineA_v24 : at' (StableHlo.after lineA W) main_v24 = sc (at' W main_arg0) (at' W main_arg1) zeroA (at' W main_arg3) := by
  after_reads_simp
  rfl
theorem lineA_arg0 : at' (StableHlo.after lineA W) main_arg0 = at' W main_arg0 := by after_reads_simp
theorem lineA_arg1 : at' (StableHlo.after lineA W) main_arg1 = at' W main_arg1 := by after_reads_simp
theorem lineA_arg2 : at' (StableHlo.after lineA W) main_arg2 = at' W main_arg2 := by after_reads_simp
theorem lineA_arg3 : at' (StableHlo.after lineA W) main_arg3 = at' W main_arg3 := by after_reads_simp
theorem lineA_arg4 : at' (StableHlo.after lineA W) main_arg4 = at' W main_arg4 := by after_reads_simp
theorem lineB_arg2 : at' (StableHlo.after lineB W) main_arg2 = at' W main_arg2 := by after_reads_simp
theorem lineB_arg4 : at' (StableHlo.after lineB W) main_arg4 = at' W main_arg4 := by after_reads_simp
theorem lineA_v2 : at' (StableHlo.after lineA W) main_v2 = shapeCast S8x2x8x1024 (at' W main_arg3 : FVec Ideal S16x8192 .f32) shapeCasts_S16x8192_S8x2x8x1024 := by
  after_reads_simp
  rfl
theorem lineB_v2 : at' (StableHlo.after lineB W) main_v2 = at' W main_v2 := by after_reads_simp
theorem lineC_v2 : at' (StableHlo.after lineC W) main_v2 = at' W main_v2 := by after_reads_simp
theorem lineB_v32 : at' (StableHlo.after lineB W) main_v32 = lse (at' W main_v24) := by
  after_reads_simp
  rfl
theorem lineB_v53 : at' (StableHlo.after lineB W) main_v53 = sc (at' W main_arg0) (at' W main_arg1) (at' W main_arg3) (at' W main_arg3) := by
  after_reads_simp
  rfl
theorem lineC_v80 : at' (StableHlo.after lineC W) main_v80 = stats (at' W main_v32) (delta (at' W main_arg4) (outs (probs (at' W main_v53)) (at' W main_arg2))) := by
  after_reads_simp
  rfl
end
theorem lines (b : Ref sig .tc) : V m c b = at' (StableHlo.after lineC (StableHlo.after lineB (StableHlo.after lineA (fun b => m (c, b))))) b := by
  have h : V m c b = at' (StableHlo.after (lineA ++ (lineB ++ lineC)) (fun b => m (c, b))) b := rfl
  rw [h, StableHlo.after_append, StableHlo.after_append]
theorem read_v1 : V m c main_v1 = concatenate S8192x3072 1 [⟨S8192x1024, arr0 m c⟩, ⟨S8192x1024, arr1 m c⟩, ⟨S8192x1024, arr2 m c⟩] concatenates_S8192x1024_S8192x1024_S8192x1024_S8192x3072_d1 := by
  entry_read
  rfl
theorem read_v81 : V m c main_v81 = arr4 m c := by
  entry_read
  rfl
theorem read_v2 : V m c main_v2 = shapeCast _ (arr3 m c) shapeCasts_S16x8192_S8x2x8x1024 := by
  refine (lines main_v2).trans ?_
  rw [lineC_v2, lineB_v2, lineA_v2]
theorem read_v80 : V m c main_v80 = stats (lse (sc (arr0 m c) (arr1 m c) zeroA (arr3 m c))) (delta (arr4 m c) (outs (probs (sc (arr0 m c) (arr1 m c) (arr3 m c) (arr3 m c))) (arr2 m c))) := by
  refine (lines main_v80).trans ?_
  rw [lineC_v80, lineB_v32, lineB_v53, lineB_arg2, lineB_arg4, lineA_v24, lineA_arg0, lineA_arg1, lineA_arg2, lineA_arg3, lineA_arg4]
end Cert.KernelIdeal.Att
-- ==== Proof.Scores.lean ====
module

public import proofs.«01_k».proof.Proof.Prefix

@[expose] public section
set_option maxRecDepth 16384
noncomputable section
namespace Cert.KernelIdeal.Att
open Cert.KernelIdeal Cert.KernelIdeal.Gen
open Idealize.ShloMosaic Idealize.ShloMosaic.TcCoe

/-- The f32 -inf. -/
theorem minus_inf : Ideal.ofBits .f32 0xFF800000#32 = (⊥ : EReal) := by
  simp [Ideal.ofBits, Ideal.ieee]

/-- A row's largest is real where no entry is above the reals and one is above -inf. -/
theorem max_real {A B C : ℕ} (S : FVec Ideal ⟨3, ![A, B, C]⟩ .f32) (h : (⟨3, ![A, B, C]⟩ : Shape).ReducesTo [2] ⟨2, ![A, B]⟩) (hu : 0 < Shape.numel S_)
    (i : Fin A) (j : Fin B) (k : Fin C) (hk : ⊥ < S (ix3 i j k)) (hS : ∀ y : Fin C, S (ix3 i j y) < ⊤) :
    ∃ μ : ℝ, Host.reduce FloatOps.maximumf S (constant S_ .f32 0xFF800000#32) h hu (ix2 i j) = ((μ : ℝ) : EReal) := by
  have e : Host.reduce FloatOps.maximumf S (constant S_ .f32 0xFF800000#32) h hu (ix2 i j) = Finset.univ.fold max ⊥ fun y : Fin C => S (ix3 i j y) := by
    pointwise
    rw [minus_inf]
  rw [e]
  have h1 : (⊥ : EReal) < Finset.univ.fold max ⊥ fun y : Fin C => S (ix3 i j y) :=
    (Finset.lt_fold_max (c := (⊥ : EReal))).2 (.inr ⟨k, Finset.mem_univ _, hk⟩)
  have h2 : (Finset.univ.fold max ⊥ fun y : Fin C => S (ix3 i j y)) < (⊤ : EReal) :=
    (Finset.fold_max_lt (c := (⊤ : EReal))).2 ⟨bot_lt_top, fun y _ => hS y⟩
  exact ⟨_, (EReal.coe_toReal h2.ne h1.ne').symm⟩

/-- The mask holds where the key is not after the query. -/
theorem causal_at (n : Fin 16) (r c : Fin 8192) : causal (ix3 n r c) = BitVec.ofBool (decide (c.val ≤ r.val)) := by
  pointwise [causal]
  have hc := c.isLt
  have hr := r.isLt
  show BitVec.ofBool (BitVec.sle (BitVec.ofNat 32 c) (BitVec.ofNat 32 r)) = _
  rw [BitVec.sle_eq_decide, BitVec.toInt_eq_toNat_of_lt, BitVec.toInt_eq_toNat_of_lt, BitVec.toNat_ofNat, BitVec.toNat_ofNat,
    Nat.mod_eq_of_lt, Nat.mod_eq_of_lt]
  · simp
  all_goals (try simp only [BitVec.toNat_ofNat]); omega

section
variable (q k : FVec Ideal S8192x1024 .f32) (a cu : FVec Ideal S16x8192 .f32) (q' k' a' cu' : ℕ → ℕ → ℝ)
  (hq : ∀ (r : Fin 8192) (x : Fin 1024), q (ix2 r x) = ((q' r x : ℝ) : EReal))
  (hk : ∀ (r : Fin 8192) (x : Fin 1024), k (ix2 r x) = ((k' r x : ℝ) : EReal))
  (ha : ∀ (n : Fin 16) (r : Fin 8192), a (ix2 n r) = ((a' n r : ℝ) : EReal))
  (hcu : ∀ (n : Fin 16) (r : Fin 8192), cu (ix2 n r) = ((cu' n r : ℝ) : EReal))
include hq hk ha hcu
/-- The masked scores in reals. -/
theorem sc_at (n : Fin 16) (r c : Fin 8192) : sc q k a cu (ix3 n r c)
    = if c.val ≤ r.val then (((∑ x : Fin 64, q' r (64 * n + x) * k' c (64 * n + x)) * (1 / 8) + (a' n r - cu' n c) : ℝ) : EReal) else ⊥ := by
  have hm := causal_at n r c
  pointwise [sc, dots, hd, onRows, onCols, hq, hk, ha, hcu, hm]
  simp only [Nat.mul_comm n.val 64]
  by_cases h : c.val ≤ r.val
  · simp only [h, decide_true, if_true, eighth, zero_add, ← EReal.coe_mul, coe_sum, ← EReal.coe_sub, ← EReal.coe_add]
  · simp only [h, decide_false, if_false]
    exact minus_inf
end

/-- The exponential of a masked score. -/
theorem exp_sub (p : Prop) [Decidable p] (s μ : ℝ) : Ideal.exp ((if p then ((s : ℝ) : EReal) else ⊥) - ((μ : ℝ) : EReal)) = ((if p then Real.exp (s - μ) else 0 : ℝ) : EReal) := by
  by_cases h : p
  · simp only [h, if_true, ← EReal.coe_sub, Ideal.exp_coe]
  · simp only [h, if_false, EReal.bot_sub]
    simp

section
variable (S : FVec Ideal S16x8192x8192 .f32) (M : FVec Ideal S16x8192 .f32) (s : ℕ → ℕ → ℕ → ℝ) (μ : Fin 16 → Fin 8192 → ℝ)
  (hS : ∀ (n : Fin 16) (r c : Fin 8192), S (ix3 n r c) = if c.val ≤ r.val then ((s n r c : ℝ) : EReal) else ⊥)
  (hM : ∀ (n : Fin 16) (r : Fin 8192), M (ix2 n r) = ((μ n r : ℝ) : EReal))
include hS
theorem mx_at (n : Fin 16) (r : Fin 8192) : ∃ μ : ℝ, mxK S (ix2 n r) = ((μ : ℝ) : EReal) := by
  refine max_real S _ _ n r r ?_ fun y => ?_
  · rw [hS, if_pos le_rfl]; exact EReal.bot_lt_coe _
  · rw [hS]; split
    · exact EReal.coe_lt_top _
    · exact bot_lt_top
include hM
theorem ee_at (n : Fin 16) (r c : Fin 8192) : ee S M (ix3 n r c) = ((if c.val ≤ r.val then Real.exp (s n r c - μ n r) else 0 : ℝ) : EReal) := by
  pointwise [ee, onRows, hS, hM]
  exact exp_sub _ _ _
theorem sums_at (n : Fin 16) (r : Fin 8192) : sums (ee S M) (ix2 n r) = ((∑ c : Fin 8192, if c.val ≤ r.val then Real.exp (s n r c - μ n r) else 0 : ℝ) : EReal) := by
  have h := ee_at S M s μ hS hM
  generalize ee S M = E at h
  pointwise [sums, h]
  simp only [coe_sum, zero_add]
end
end Cert.KernelIdeal.Att
-- ==== Proof.Softmax.lean ====
module

public import proofs.«01_k».proof.Proof.Scores

@[expose] public section
set_option maxRecDepth 16384
noncomputable section
namespace Cert.KernelIdeal.Att
open Cert.KernelIdeal Cert.KernelIdeal.Gen
open Idealize.ShloMosaic Idealize.ShloMosaic.TcCoe

/-! ## The softmax -/
theorem log_row (β μ Z : ℝ) (hZ : 0 < Z) : ((μ : ℝ) : EReal) + Ideal.log ((Real.exp (β - μ) * Z : ℝ) : EReal) = ((β + Real.log Z : ℝ) : EReal) := by
  have h : 0 < Real.exp (β - μ) * Z := mul_pos (Real.exp_pos _) hZ
  rw [Ideal.log_coe, if_neg (not_le.2 h), ← EReal.coe_add, Real.log_mul (Real.exp_pos _).ne' hZ.ne', Real.log_exp]
  congr 1; ring
theorem div_row (p : Prop) [Decidable p] (σ β μ Z : ℝ) (hZ : 0 < Z) : Ideal.div ((if p then Real.exp (σ + β - μ) else 0 : ℝ) : EReal) ((Real.exp (β - μ) * Z : ℝ) : EReal) = ((if p then Real.exp σ / Z else 0 : ℝ) : EReal) := by
  rw [Ideal.div_coe (mul_pos (Real.exp_pos _) hZ).ne', ← EReal.coe_mul]
  congr 1
  by_cases h : p
  · rw [if_pos h, if_pos h, add_sub_assoc, Real.exp_add]
    have := (Real.exp_pos (β - μ)).ne'
    have := hZ.ne'
    field_simp
  · rw [if_neg h, if_neg h, zero_mul]
theorem lse_open (M L : FVec Ideal S16x8192 .f32) (n : Fin 16) (r : Fin 8192) : addf M (Host.log L) (ix2 n r) = M (ix2 n r) + Ideal.log (L (ix2 n r)) := by
  pointwise
theorem mxR_open (M : FVec Ideal S16x8192 .f32) (n : Fin 16) (r : Fin 8192) :
    maximumf (broadcastInDim S16x8192 ![] bcast_S_S16x8192 (constant S_ .f32 0xFF800000#32)) M (ix2 n r) = M (ix2 n r) := by
  pointwise
  rw [minus_inf]
  exact max_eq_right bot_le
theorem probs_open (E : FVec Ideal S16x8192x8192 .f32) (L : FVec Ideal S16x8192 .f32) (n : Fin 16) (r c : Fin 8192) :
    Host.divf E (onRows L) (ix3 n r c) = Ideal.div (E (ix3 n r c)) (L (ix2 n r)) := by
  pointwise [onRows]
section
variable (S : FVec Ideal S16x8192x8192 .f32) (M : FVec Ideal S16x8192 .f32) (s : ℕ → ℕ → ℕ → ℝ) (b : ℕ → ℕ → ℝ)
/-- A row's sum of exponentials. -/
def Zs (s : ℕ → ℕ → ℕ → ℝ) (n r : ℕ) : ℝ := ∑ c : Fin 8192, if c.val ≤ r then Real.exp (s n r c) else 0
theorem Zs_pos (n : ℕ) (r : Fin 8192) : 0 < Zs s n r := by
  refine Finset.sum_pos' (fun c _ => ?_) ⟨r, Finset.mem_univ _, ?_⟩
  · split
    · exact (Real.exp_pos _).le
    · exact le_rfl
  · rw [if_pos le_rfl]; exact Real.exp_pos _
theorem shifted (n r : ℕ) (β μ : ℝ) : (∑ c : Fin 8192, if c.val ≤ r then Real.exp (s n r c + β - μ) else 0) = Real.exp (β - μ) * Zs s n r := by
  rw [Zs, Finset.mul_sum]
  refine Finset.sum_congr rfl fun c _ => ?_
  split
  · rw [← Real.exp_add]; congr 1; ring
  · simp
variable (hS : ∀ (n : Fin 16) (r c : Fin 8192), S (ix3 n r c) = if c.val ≤ r.val then ((s n r c + b n r : ℝ) : EReal) else ⊥)
include hS
theorem lse_at (n : Fin 16) (r : Fin 8192) : lse S (ix2 n r) = ((b n r + Real.log (Zs s n r) : ℝ) : EReal) := by
  have hm := mx_at S (fun n r c => s n r c + b n r) hS
  choose μ hμ using hm
  have hs := sums_at S (mxK S) (fun n r c => s n r c + b n r) μ hS hμ n r
  rw [lse, lse_open, hs, hμ, shifted]
  exact log_row _ _ _ (Zs_pos s n r)
theorem mxR_at : ∃ μ : Fin 16 → Fin 8192 → ℝ, ∀ n r, mxR S (ix2 n r) = ((μ n r : ℝ) : EReal) := by
  have hm := mx_at S (fun n r c => s n r c + b n r) hS
  choose μ hμ using hm
  exact ⟨μ, fun n r => by rw [mxR, mxR_open, hμ]⟩
theorem probs_at (n : Fin 16) (r c : Fin 8192) : probs S (ix3 n r c) = ((if c.val ≤ r.val then Real.exp (s n r c) / Zs s n r else 0 : ℝ) : EReal) := by
  obtain ⟨μ, hμ⟩ := mxR_at S s b hS
  have hs := sums_at S (mxR S) (fun n r c => s n r c + b n r) μ hS hμ n r
  have he := ee_at S (mxR S) (fun n r c => s n r c + b n r) μ hS hμ n r c
  rw [probs, probs_open, hs, he, shifted]
  exact div_row _ _ _ _ _ (Zs_pos s n r)
end
end Cert.KernelIdeal.Att
-- ==== Proof.Inputs.lean ====
module

public import proofs.«01_k».proof.Proof.Softmax

@[expose] public section
set_option maxRecDepth 16384
noncomputable section
namespace Cert.KernelIdeal.Att
open Cert.KernelIdeal Cert.KernelIdeal.Gen
open Idealize.ShloMosaic Idealize.ShloMosaic.TcCoe

/-- The real arguments. -/
structure In where
  q : ℕ → ℕ → ℝ
  k : ℕ → ℕ → ℝ
  v : ℕ → ℕ → ℝ
  cu : ℕ → ℕ → ℝ
  w : ℕ → ℕ → ℝ
namespace In
variable (ι : In)
/-- The scores less the query's decay, -/
def s (n r c : ℕ) : ℝ := (∑ x : Fin 64, ι.q r (64 * n + x) * ι.k c (64 * n + x)) * (1 / 8) - ι.cu n c
/-- the probabilities, -/
def p (n r c : ℕ) : ℝ := if c ≤ r then Real.exp (ι.s n r c) / Zs ι.s n r else 0
/-- the output, -/
def o (r j : ℕ) : ℝ := ∑ c : Fin 8192, ι.p (j / 64) r c * ι.v c j
/-- and its row sums against the gradient. -/
def de (n r : ℕ) : ℝ := ∑ x : Fin 64, ι.w r (64 * n + x) * ι.o r (64 * n + x)
/-- What the kernel is given of each row. -/
def st (r j : ℕ) : ℝ := if j % 64 < 32 then Real.log (Zs ι.s (j / 64) r) else ι.de (j / 64) r
/-- The arrays hold the arguments. -/
structure Of (a0 a1 a2 : FVec Ideal S8192x1024 .f32) (a3 : FVec Ideal S16x8192 .f32) (a4 : FVec Ideal S8192x1024 .f32) : Prop where
  q : ∀ (r : Fin 8192) (x : Fin 1024), a0 (ix2 r x) = ((ι.q r x : ℝ) : EReal)
  k : ∀ (r : Fin 8192) (x : Fin 1024), a1 (ix2 r x) = ((ι.k r x : ℝ) : EReal)
  v : ∀ (r : Fin 8192) (x : Fin 1024), a2 (ix2 r x) = ((ι.v r x : ℝ) : EReal)
  cu : ∀ (n : Fin 16) (r : Fin 8192), a3 (ix2 n r) = ((ι.cu n r : ℝ) : EReal)
  w : ∀ (r : Fin 8192) (x : Fin 1024), a4 (ix2 r x) = ((ι.w r x : ℝ) : EReal)
end In

section
variable (P : FVec Ideal S16x8192x8192 .f32) (v w o : FVec Ideal S8192x1024 .f32) (l : FVec Ideal S16x8192 .f32) (d : FVec Ideal S8192x16 .f32)
  (p : ℕ → ℕ → ℕ → ℝ) (v' w' o' l' d' : ℕ → ℕ → ℝ)
theorem outs_at (hP : ∀ (n : Fin 16) (r c : Fin 8192), P (ix3 n r c) = ((p n r c : ℝ) : EReal)) (hv : ∀ (r : Fin 8192) (x : Fin 1024), v (ix2 r x) = ((v' r x : ℝ) : EReal))
    (r : Fin 8192) (x : Fin 1024) : outs P v (ix2 r x) = ((∑ c : Fin 8192, p (x.val / 64) r c * v' c x : ℝ) : EReal) := by
  pointwise [outs, hd, hP, hv]
  simp only [Nat.div_add_mod', ← EReal.coe_mul, coe_sum]
theorem delta_at (hw : ∀ (r : Fin 8192) (x : Fin 1024), w (ix2 r x) = ((w' r x : ℝ) : EReal)) (ho : ∀ (r : Fin 8192) (x : Fin 1024), o (ix2 r x) = ((o' r x : ℝ) : EReal))
    (r : Fin 8192) (n : Fin 16) : delta w o (ix2 r n) = ((∑ x : Fin 64, w' r (64 * n + x) * o' r (64 * n + x) : ℝ) : EReal) := by
  pointwise [delta, hw, ho]
  simp only [Nat.mul_comm n.val 64, zero_add, ← EReal.coe_mul, coe_sum]
theorem stats_at (hl : ∀ (n : Fin 16) (r : Fin 8192), l (ix2 n r) = ((l' n r : ℝ) : EReal)) (hd : ∀ (r : Fin 8192) (n : Fin 16), d (ix2 r n) = ((d' n r : ℝ) : EReal))
    (r : Fin 8192) (x : Fin 1024) : stats l d (ix2 r x) = ((if x.val % 64 < 32 then l' (x.val / 64) r else d' (x.val / 64) r : ℝ) : EReal) := by
  pointwise [stats, hl, hd]
  have hx : x.val % 64 < 64 := Nat.mod_lt _ (by norm_num)
  have hb : IntOp.cmpi .slt (BitVec.ofNat 32 (x.val % 64)) 32#32 = BitVec.ofBool (decide (x.val % 64 < 32)) := by
    show BitVec.ofBool (BitVec.slt _ _) = _
    rw [BitVec.slt_eq_decide, BitVec.toInt_eq_toNat_of_lt, BitVec.toInt_eq_toNat_of_lt, BitVec.toNat_ofNat, Nat.mod_eq_of_lt]
    · refine congrArg BitVec.ofBool (decide_eq_decide.2 ?_)
      rw [show (32#32).toNat = 32 from rfl]; omega
    · omega
    · simp
    · rw [BitVec.toNat_ofNat]; omega
  rw [hb]
  by_cases h : x.val % 64 < 32
  · simp only [h, decide_true, if_true]; rfl
  · simp only [h, decide_false, if_false]; rfl
end

section
variable (ι : In) {a0 a1 a2 : FVec Ideal S8192x1024 .f32} {a3 : FVec Ideal S16x8192 .f32} {a4 : FVec Ideal S8192x1024 .f32} (h : ι.Of a0 a1 a2 a3 a4)
theorem zeroA_at (n : Fin 16) (r : Fin 8192) : zeroA (ix2 n r) = (((fun _ _ => 0 : ℕ → ℕ → ℝ) n r : ℝ) : EReal) := by
  pointwise [zeroA]
  simp
include h
theorem lse_in (n : Fin 16) (r : Fin 8192) : lse (sc a0 a1 zeroA a3) (ix2 n r) = ((Real.log (Zs ι.s n r) : ℝ) : EReal) := by
  rw [lse_at _ ι.s (fun _ _ => 0) ?_ n r, zero_add]
  intro n r c
  rw [sc_at a0 a1 zeroA a3 ι.q ι.k (fun _ _ => 0) ι.cu h.q h.k zeroA_at h.cu, In.s]
  simp only [zero_add, add_zero, sub_eq_add_neg]
theorem sc_in (n : Fin 16) (r c : Fin 8192) : sc a0 a1 a3 a3 (ix3 n r c) = if c.val ≤ r.val then ((ι.s n r c + ι.cu n r : ℝ) : EReal) else ⊥ := by
  rw [sc_at a0 a1 a3 a3 ι.q ι.k ι.cu ι.cu h.q h.k h.cu h.cu, In.s]
  congr 2; ring
theorem probs_in (n : Fin 16) (r c : Fin 8192) : probs (sc a0 a1 a3 a3) (ix3 n r c) = ((ι.p n r c : ℝ) : EReal) :=
  probs_at _ ι.s ι.cu (sc_in ι h) n r c
theorem stats_in (r : Fin 8192) (x : Fin 1024) : stats (lse (sc a0 a1 zeroA a3)) (delta a4 (outs (probs (sc a0 a1 a3 a3)) a2)) (ix2 r x) = ((ι.st r x : ℝ) : EReal) :=
  stats_at _ _ (fun n r => Real.log (Zs ι.s n r)) ι.de (lse_in ι h)
    (delta_at _ _ ι.w ι.o h.w (outs_at _ _ ι.p ι.v (probs_in ι h) h.v)) r x
end
end Cert.KernelIdeal.Att
-- ==== Proof.Sums.lean ====
module

public import proofs.«01_k».proof.Proof.Pay

@[expose] public section

set_option maxRecDepth 16384

noncomputable section

namespace Cert.KernelIdeal.Att

open Cert.KernelIdeal Cert.KernelIdeal.Gen
open Idealize.ShloMosaic Idealize.ShloMosaic.TcCoe
open Idealize.SL.Sem

/-! What one point adds to the four accumulators, over the reals. -/

/-- A matrix gains on a block. -/
theorem gain2 {A B n m a b : ℕ} (h : ∀ x, (![a, b] : Fin 2 → ℕ) x + (![n, m] : Fin 2 → ℕ) x ≤ (⟨2, ![A, B]⟩ : Shape).size x)
    (Z X : (⟨2, ![A, B]⟩ : Shape).Idx → EReal) (X' : ℕ → ℕ → ℝ) (hX : ∀ (i : Fin A) (j : Fin B), X (ix2 i j) = Z (ix2 i j) + ((X' i j : ℝ) : EReal))
    (f : (⟨2, ![n, m]⟩ : Shape).Idx → EReal) (g : ℕ → ℕ → ℝ)
    (hf : ∀ (x : Fin n) (y : Fin m), f (ix2 x y) = X ((Rect.unit (s := ⟨2, ![A, B]⟩) ![a, b] ![n, m] h).idx (ix2 x y)) + ((g x y : ℝ) : EReal)) (i : Fin A) (j : Fin B) :
    (Rect.unit (s := ⟨2, ![A, B]⟩) ![a, b] ![n, m] h).overlay X f (ix2 i j)
      = Z (ix2 i j) + ((X' i j + (if (a ≤ i.val ∧ i.val < a + n) ∧ (b ≤ j.val ∧ j.val < b + m) then g (i.val - a) (j.val - b) else 0) : ℝ) : EReal) := by
  by_cases hc : (a ≤ i.val ∧ i.val < a + n) ∧ (b ≤ j.val ∧ j.val < b + m)
  · have e : ix2 i j = (Rect.unit (s := ⟨2, ![A, B]⟩) ![a, b] ![n, m] h).emb (ix2 ⟨i.val - a, by omega⟩ ⟨j.val - b, by omega⟩) := by
      funext x
      refine Fin.ext ?_
      match x with
      | 0 => show i.val = a + 1 * (i.val - a); omega
      | 1 => show j.val = b + 1 * (j.val - b); omega
    rw [if_pos hc, EReal.coe_add, ← add_assoc, ← hX, e, Rect.overlay_emb, hf]
    rfl
  · rw [if_neg hc, Rect.overlay_of_not_mem, hX, add_zero]
    rw [Rect.mem_set_unit]
    exact fun hm => hc ⟨hm 0, hm 1⟩

/-- One of a stack of matrices gains on its first columns. -/
theorem gain3 {A B C m a : ℕ} (h : ∀ x, (![a, 0, 0] : Fin 3 → ℕ) x + (![1, B, m] : Fin 3 → ℕ) x ≤ (⟨3, ![A, B, C]⟩ : Shape).size x)
    (Z X : (⟨3, ![A, B, C]⟩ : Shape).Idx → EReal) (X' : ℕ → ℕ → ℕ → ℝ) (hX : ∀ (k : Fin A) (i : Fin B) (j : Fin C), X (ix3 k i j) = Z (ix3 k i j) + ((X' k i j : ℝ) : EReal))
    (f : (⟨3, ![1, B, m]⟩ : Shape).Idx → EReal) (g : ℕ → ℕ → ℝ)
    (hf : ∀ (x : Fin B) (y : Fin m), f (ix3 0 x y) = X ((Rect.unit (s := ⟨3, ![A, B, C]⟩) ![a, 0, 0] ![1, B, m] h).idx (ix3 0 x y)) + ((g x y : ℝ) : EReal))
    (hg : ∀ i j, m ≤ j → j < C → g i j = 0) (k : Fin A) (i : Fin B) (j : Fin C) :
    (Rect.unit (s := ⟨3, ![A, B, C]⟩) ![a, 0, 0] ![1, B, m] h).overlay X f (ix3 k i j)
      = Z (ix3 k i j) + ((X' k i j + (if k.val = a then g i.val j.val else 0) : ℝ) : EReal) := by
  by_cases hc : k.val = a ∧ j.val < m
  · have e : ix3 k i j = (Rect.unit (s := ⟨3, ![A, B, C]⟩) ![a, 0, 0] ![1, B, m] h).emb (ix3 0 i ⟨j.val, hc.2⟩) := by
      funext x
      refine Fin.ext ?_
      match x with
      | 0 => show k.val = a + 1 * 0; omega
      | 1 => show i.val = 0 + 1 * i.val; omega
      | 2 => show j.val = 0 + 1 * j.val; omega
    rw [if_pos hc.1, EReal.coe_add, ← add_assoc, ← hX, e, Rect.overlay_emb, hf]
    rfl
  · have hz : (if k.val = a then g i.val j.val else 0) = 0 := by
      split
      · exact hg _ _ (by omega) j.isLt
      · rfl
    rw [hz, Rect.overlay_of_not_mem, hX, add_zero]
    rw [Rect.mem_set_unit]
    intro hm
    have h0 : a ≤ k.val ∧ k.val < a + 1 := hm 0
    have h2 : 0 ≤ j.val ∧ j.val < 0 + m := hm 2
    exact hc ⟨by omega, by omega⟩

/-- One of a stack of rows gains. -/
theorem gain4 {A B m a b : ℕ} (h : ∀ x, (![0, a, b, 0] : Fin 4 → ℕ) x + (![1, 1, 1, m] : Fin 4 → ℕ) x ≤ (⟨4, ![1, A, B, m]⟩ : Shape).size x)
    (Z X : (⟨4, ![1, A, B, m]⟩ : Shape).Idx → EReal) (X' : ℕ → ℕ → ℕ → ℝ) (hX : ∀ (k : Fin A) (i : Fin B) (j : Fin m), X (ix4 0 k i j) = Z (ix4 0 k i j) + ((X' k i j : ℝ) : EReal))
    (f : (⟨4, ![1, 1, 1, m]⟩ : Shape).Idx → EReal) (g : ℕ → ℝ)
    (hf : ∀ (y : Fin m), f (ix4 0 0 0 y) = X ((Rect.unit (s := ⟨4, ![1, A, B, m]⟩) ![0, a, b, 0] ![1, 1, 1, m] h).idx (ix4 0 0 0 y)) + ((g y : ℝ) : EReal))
    (k : Fin A) (i : Fin B) (j : Fin m) :
    (Rect.unit (s := ⟨4, ![1, A, B, m]⟩) ![0, a, b, 0] ![1, 1, 1, m] h).overlay X f (ix4 0 k i j)
      = Z (ix4 0 k i j) + ((X' k i j + (if k.val = a ∧ i.val = b then g j.val else 0) : ℝ) : EReal) := by
  by_cases hc : k.val = a ∧ i.val = b
  · have e : ix4 0 k i j = (Rect.unit (s := ⟨4, ![1, A, B, m]⟩) ![0, a, b, 0] ![1, 1, 1, m] h).emb (ix4 0 0 0 j) := by
      funext x
      refine Fin.ext ?_
      match x with
      | 0 => rfl
      | 1 => show k.val = a + 1 * 0; omega
      | 2 => show i.val = b + 1 * 0; omega
      | 3 => show j.val = 0 + 1 * j.val; omega
    rw [if_pos hc, EReal.coe_add, ← add_assoc, ← hX, e, Rect.overlay_emb, hf]
    rfl
  · rw [if_neg hc, Rect.overlay_of_not_mem, hX, add_zero]
    rw [Rect.mem_set_unit]
    intro hm
    have h1 : a ≤ k.val ∧ k.val < a + 1 := hm 1
    have h2 : b ≤ i.val ∧ i.val < b + 1 := hm 2
    exact hc ⟨by omega, by omega⟩

/-- A point's blocks, over the reals: the rows of the queries and of the output's gradient, the columns of the
    keys and the values, and the number of the columns' block. -/
structure Pt where
  q : ℕ → ℕ → ℝ
  w : ℕ → ℕ → ℝ
  k : ℕ → ℕ → ℝ
  v : ℕ → ℕ → ℝ
  ck : ℕ → ℕ → ℝ
  st : ℕ → ℕ → ℝ
  j : ℕ

namespace Pt
variable (p : Pt)
/-- The probability of column `c` in row `r` of head `a`, -/
def P (a r c : ℕ) : ℝ :=
  if 1024 * p.j + c ≤ r then Real.exp ((∑ x : Fin 64, p.q r (64 * a + x) * (1 / 8) * p.k c (64 * a + x)) - p.ck a c - p.st r (64 * a)) else 0
/-- and the gradient of its score. -/
def D (a r c : ℕ) : ℝ := p.P a r c * ((∑ x : Fin 64, p.w r (64 * a + x) * p.v c (64 * a + x)) - p.st r (64 * a + 32))

/-- The blocks hold these reals. -/
structure Of (X2 : Vec Ideal S8192x128 .bf16) (X3 X4 : Vec Ideal S1024x128 .bf16) (X5 : Vec Ideal S1x2x8x1024 .f32) (X6 : Vec Ideal S8192x128 .f32)
    (X7 : Vec Ideal S8192x128 .bf16) : Prop where
  lt : p.j < 8
  q : ∀ (r : Fin 8192) (x : Fin 128), X2 (ix2 r x) = ((p.q r x : ℝ) : EReal)
  k : ∀ (r : Fin 1024) (x : Fin 128), X3 (ix2 r x) = ((p.k r x : ℝ) : EReal)
  v : ∀ (r : Fin 1024) (x : Fin 128), X4 (ix2 r x) = ((p.v r x : ℝ) : EReal)
  ck : ∀ (a : Fin 2) (c : Fin 1024), X5 (ix4 0 a ⟨p.j, lt⟩ c) = ((p.ck a c : ℝ) : EReal)
  st : ∀ (r : Fin 8192) (x : Fin 128), X6 (ix2 r x) = ((p.st r x : ℝ) : EReal)
  w : ∀ (r : Fin 8192) (x : Fin 128), X7 (ix2 r x) = ((p.w r x : ℝ) : EReal)
end Pt

/-- What is added to the accumulators, over the reals. -/
structure RAcc where
  a8 : ℕ → ℕ → ℝ
  a12 : ℕ → ℕ → ℕ → ℝ
  a13 : ℕ → ℕ → ℕ → ℝ
  a14 : ℕ → ℕ → ℕ → ℝ

/-- `A` is `B` with these added. -/
structure Rep (B A : Acc Ideal) (ρ : RAcc) : Prop where
  h8 : ∀ (x : Fin 128) (r : Fin 8192), A.x8 (ix2 x r) = B.x8 (ix2 x r) + ((ρ.a8 x r : ℝ) : EReal)
  h12 : ∀ (a : Fin 2) (R : Fin 16) (r : Fin 512), A.x12 (ix4 0 a R r) = B.x12 (ix4 0 a R r) + ((ρ.a12 a R r : ℝ) : EReal)
  h13 : ∀ (a : Fin 2) (x : Fin 80) (c : Fin 1024), A.x13 (ix3 a x c) = B.x13 (ix3 a x c) + ((ρ.a13 a x c : ℝ) : EReal)
  h14 : ∀ (a : Fin 2) (x : Fin 64) (c : Fin 1024), A.x14 (ix3 a x c) = B.x14 (ix3 a x c) + ((ρ.a14 a x c : ℝ) : EReal)

/-- What the tile of head `a` at the rows' block `R` adds. -/
def RAcc.tile (p : Pt) (a R : ℕ) (ρ : RAcc) : RAcc where
  a8 x r := ρ.a8 x r + (if (64 * a ≤ x ∧ x < 64 * a + 64) ∧ (512 * R ≤ r ∧ r < 512 * R + 512) then (∑ c : Fin 1024, p.k c x * p.D a r c) * (1 / 8) else 0)
  a12 a' R' r := ρ.a12 a' R' r + (if a' = a ∧ R' = R then ∑ c : Fin 1024, p.D a (512 * R + r) c else 0)
  a13 a' x c := ρ.a13 a' x c + (if a' = a then ∑ r : Fin 512, (if x < 64 then p.q (512 * R + r) (64 * a + x) * (1 / 8) else 1) * p.D a (512 * R + r) c else 0)
  a14 a' x c := ρ.a14 a' x c + (if a' = a then ∑ r : Fin 512, p.w (512 * R + r) (64 * a + x) * p.P a (512 * R + r) c else 0)

/-- A sum over the first columns is the sum over all where the others add nothing. -/
theorem sum_first {n m : ℕ} (h : n ≤ m) (f : ℕ → ℝ) (hz : ∀ c, n ≤ c → c < m → f c = 0) : ∑ c : Fin n, f c = ∑ c : Fin m, f c := by
  rw [Fin.sum_univ_eq_sum_range f n, Fin.sum_univ_eq_sum_range f m]
  exact Finset.sum_subset (by simpa using h) (fun c hm hc => hz c (by simpa using hc) (by simpa using hm))

/-- The four gains of a tile of `n` columns, outside which its probabilities vanish. -/
theorem Rep.tile {n : ℕ} (hn : n ≤ 1024) (p : Pt) (a R : ℕ) (B A : Acc Ideal) (ρ : RAcc) (hA : Rep B A ρ) (hz : ∀ r c, r < 512 → n ≤ c → c < 1024 → p.P a (512 * R + r) c = 0)
    (h8 : ∀ x, (![64 * a, 512 * R] : Fin 2 → ℕ) x + (![64, 512] : Fin 2 → ℕ) x ≤ S128x8192.size x) (f8 : Vec Ideal S64x512 .f32)
    (e8 : ∀ (x : Fin 64) (r : Fin 512), f8 (ix2 x r) = A.x8 ((Rect.unit (s := S128x8192) ![64 * a, 512 * R] ![64, 512] h8).idx (ix2 x r)) + (((∑ c : Fin n, p.k c (64 * a + x) * p.D a (512 * R + r) c) * (1 / 8) : ℝ) : EReal))
    (h12 : ∀ x, (![0, a, R, 0] : Fin 4 → ℕ) x + (![1, 1, 1, 512] : Fin 4 → ℕ) x ≤ S1x2x16x512.size x) (f12 : Vec Ideal S1x1x1x512 .f32)
    (e12 : ∀ r : Fin 512, f12 (ix4 0 0 0 r) = A.x12 ((Rect.unit (s := S1x2x16x512) ![0, a, R, 0] ![1, 1, 1, 512] h12).idx (ix4 0 0 0 r)) + ((∑ c : Fin n, p.D a (512 * R + r) c : ℝ) : EReal))
    (h13 : ∀ x, (![a, 0, 0] : Fin 3 → ℕ) x + (![1, 80, n] : Fin 3 → ℕ) x ≤ S2x80x1024.size x) (f13 : (⟨3, ![1, 80, n]⟩ : Shape).Idx → EReal)
    (e13 : ∀ (x : Fin 80) (c : Fin n), f13 (ix3 0 x c) = A.x13 ((Rect.unit (s := S2x80x1024) ![a, 0, 0] ![1, 80, n] h13).idx (ix3 0 x c)) + ((∑ r : Fin 512, (if x.val < 64 then p.q (512 * R + r) (64 * a + x) * (1 / 8) else 1) * p.D a (512 * R + r) c : ℝ) : EReal))
    (h14 : ∀ x, (![a, 0, 0] : Fin 3 → ℕ) x + (![1, 64, n] : Fin 3 → ℕ) x ≤ S2x64x1024.size x) (f14 : (⟨3, ![1, 64, n]⟩ : Shape).Idx → EReal)
    (e14 : ∀ (x : Fin 64) (c : Fin n), f14 (ix3 0 x c) = A.x14 ((Rect.unit (s := S2x64x1024) ![a, 0, 0] ![1, 64, n] h14).idx (ix3 0 x c)) + ((∑ r : Fin 512, p.w (512 * R + r) (64 * a + x) * p.P a (512 * R + r) c : ℝ) : EReal)) :
    Rep B ⟨(Rect.unit (s := S128x8192) ![64 * a, 512 * R] ![64, 512] h8).overlay A.x8 f8, (Rect.unit (s := S1x2x16x512) ![0, a, R, 0] ![1, 1, 1, 512] h12).overlay A.x12 f12,
      (Rect.unit (s := S2x80x1024) ![a, 0, 0] ![1, 80, n] h13).overlay A.x13 f13, (Rect.unit (s := S2x64x1024) ![a, 0, 0] ![1, 64, n] h14).overlay A.x14 f14⟩ (ρ.tile p a R) := by
  have hD : ∀ r c, r < 512 → n ≤ c → c < 1024 → p.D a (512 * R + r) c = 0 := fun r c hr hc hm => by rw [Pt.D, hz r c hr hc hm, zero_mul]
  refine ⟨fun x r => ?_, fun a' R' r => ?_, fun a' x c => ?_, fun a' x c => ?_⟩
  · have key : (if (64 * a ≤ x.val ∧ x.val < 64 * a + 64) ∧ (512 * R ≤ r.val ∧ r.val < 512 * R + 512) then
          (∑ c : Fin n, p.k c (64 * a + (x.val - 64 * a)) * p.D a (512 * R + (r.val - 512 * R)) c) * (1 / 8) else 0)
        = if (64 * a ≤ x.val ∧ x.val < 64 * a + 64) ∧ (512 * R ≤ r.val ∧ r.val < 512 * R + 512) then (∑ c : Fin 1024, p.k c x * p.D a r c) * (1 / 8) else 0 := by
      split
      · rename_i hc
        rw [show 64 * a + (x.val - 64 * a) = x.val by omega]
        rw [sum_first hn (fun c => p.k c x * p.D a (512 * R + (r.val - 512 * R)) c) (fun c h hm => by simp only [hD (r.val - 512 * R) c (by omega) h hm, mul_zero]),
          show 512 * R + (r.val - 512 * R) = r.val by omega]
      · rfl
    have h := gain2 h8 B.x8 A.x8 ρ.a8 hA.h8 f8 (fun x r => (∑ c : Fin n, p.k c (64 * a + x) * p.D a (512 * R + r) c) * (1 / 8)) e8 x r
    rw [key] at h
    unfold RAcc.tile
    dsimp only
    exact h
  · have h := gain4 h12 B.x12 A.x12 ρ.a12 hA.h12 f12 (fun r => ∑ c : Fin n, p.D a (512 * R + r) c) e12 a' R' r
    rw [sum_first hn (fun c => p.D a (512 * R + r) c) (fun c h hm => hD r c r.isLt h hm)] at h
    unfold RAcc.tile
    dsimp only
    exact h
  · have h := gain3 h13 B.x13 A.x13 ρ.a13 hA.h13 f13 (fun x c => ∑ r : Fin 512, (if x < 64 then p.q (512 * R + r) (64 * a + x) * (1 / 8) else 1) * p.D a (512 * R + r) c) e13
      (fun x c h hm => Finset.sum_eq_zero fun r _ => by simp only [hD r c r.isLt h hm, mul_zero]) a' x c
    unfold RAcc.tile
    dsimp only
    exact h
  · have h := gain3 h14 B.x14 A.x14 ρ.a14 hA.h14 f14 (fun x c => ∑ r : Fin 512, p.w (512 * R + r) (64 * a + x) * p.P a (512 * R + r) c) e14
      (fun x c h hm => Finset.sum_eq_zero fun r _ => by simp only [hz r c r.isLt h hm, mul_zero]) a' x c
    unfold RAcc.tile
    dsimp only
    exact h

end Cert.KernelIdeal.Att

end
-- ==== Proof.TileSums.lean ====
module

public import proofs.«01_k».proof.Proof.Sums

@[expose] public section

set_option maxRecDepth 16384

noncomputable section

namespace Cert.KernelIdeal.Att

open Cert.KernelIdeal Cert.KernelIdeal.Gen
open Idealize.ShloMosaic Idealize.ShloMosaic.TcCoe
open Idealize.SL.Sem

/-! Each kind of tile adds what `RAcc.tile` says. -/

/-- A read of a block. -/
theorem read2 {A B n m a b : ℕ} (h : ∀ x, (![a, b] : Fin 2 → ℕ) x + (![n, m] : Fin 2 → ℕ) x ≤ (⟨2, ![A, B]⟩ : Shape).size x)
    (X : (⟨2, ![A, B]⟩ : Shape).Idx → EReal) (X' : ℕ → ℕ → ℝ) (hX : ∀ (i : Fin A) (j : Fin B), X (ix2 i j) = ((X' i j : ℝ) : EReal)) (x : Fin n) (y : Fin m) :
    X ((Rect.unit (s := ⟨2, ![A, B]⟩) ![a, b] ![n, m] h).idx (ix2 x y)) = ((X' (a + x) (b + y) : ℝ) : EReal) := by
  have h0 : a + n ≤ A := h 0
  have h1 : b + m ≤ B := h 1
  rw [← hX ⟨a + x, by omega⟩ ⟨b + y, by omega⟩]
  congr 1
  funext i
  refine Fin.ext ?_
  match i with
  | 0 => show a + 1 * x.val = a + x.val; omega
  | 1 => show b + 1 * y.val = b + y.val; omega

section
variable (p : Pt) (X2 : Vec Ideal S8192x128 .bf16) (X3 X4 : Vec Ideal S1024x128 .bf16) (X5 : Vec Ideal S1x2x8x1024 .f32) (X6 : Vec Ideal S8192x128 .f32)
    (X7 : Vec Ideal S8192x128 .bf16) (hp : p.Of X2 X3 X4 X5 X6 X7)
include hp

theorem read_ck {n a : ℕ} (hn : n ≤ 1024) (ha : a < 2) (h : ∀ x, (![0, a, p.j, 0] : Fin 4 → ℕ) x + (![1, 1, 1, n] : Fin 4 → ℕ) x ≤ S1x2x8x1024.size x) (c : Fin n) :
    X5 ((Rect.unit (s := S1x2x8x1024) ![0, a, p.j, 0] ![1, 1, 1, n] h).idx (ix4 0 0 0 c)) = ((p.ck a c : ℝ) : EReal) := by
  rw [← hp.ck ⟨a, ha⟩ ⟨c.val, by omega⟩]
  congr 1
  funext i
  refine Fin.ext ?_
  match i with
  | 0 => rfl
  | 1 => show a + 1 * 0 = a; omega
  | 2 => show p.j + 1 * 0 = p.j; omega
  | 3 => show 0 + 1 * c.val = c.val; omega

/-- A later tile's gains, -/
theorem tileL_rep (a R : ℕ) (ha : a < 2) (hR : 2 * p.j + 2 ≤ R)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a)
    (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a)
    (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (eq : oq = ![512 * R, 64 * a]) (ek : ok = ![0, 64 * a]) (ec : oc = ![0, a, p.j, 0]) (el : ol = ![512 * R, 64 * a]) (ed : od = ![512 * R, 64 * a + 32]) (ev : ov = ![a, 0, 0])
    (ea : oa = ![a, 0, 0]) (e8 : o8 = ![64 * a, 512 * R]) (e12 : o12 = ![0, a, R, 0])
    (kt : FVec Ideal S80x1024 .bf16) (hkt : ∀ (x : Fin 80) (c : Fin 1024), kt (ix2 x c) = (((if x.val < 64 then p.k c (64 * a + x) else 1) : ℝ) : EReal)) (B A : Acc Ideal) (ρ : RAcc) (hA : Rep B A ρ) :
    Rep B (tileL X2 X3 X4 X5 X6 X7 oq hoq ok hok oc hoc ol hol od hod ov hov oa hoa o8 ho8 o12 ho12 (k0_pay54 (F := Ideal)) kt A) (ρ.tile p a R) := by
  subst eq ek ec el ed ev ea e8 e12
  have hq := read2 hoq X2 p.q hp.q
  have hw := read2 hoq X7 p.w hp.w
  have hk := read2 hok X3 p.k hp.k
  have hv := read2 hok X4 p.v hp.v
  have hl := fun r : Fin 512 => read2 hol X6 p.st hp.st r (0 : Fin 1)
  have hd := fun r : Fin 512 => read2 hod X6 p.st hp.st r (0 : Fin 1)
  have hc := read_ck p X2 X3 X4 X5 X6 X7 hp (by norm_num : 1024 ≤ 1024) ha hoc
  simp only [Nat.zero_add] at hk hv
  have hz : ∀ r c, r < 512 → 1024 ≤ c → c < 1024 → p.P a (512 * R + r) c = 0 := fun r c hr hc hm => absurd hm (by omega)
  have hP : ∀ (r : Fin 512) (c : Fin 1024), Real.exp ((∑ x : Fin 64, p.q (512 * R + r) (64 * a + x) * (1 / 8) * p.k c (64 * a + x)) - p.ck a c - p.st (512 * R + r) (64 * a)) = p.P a (512 * R + r) c := fun r c => by rw [Pt.P, if_pos (by have := c.isLt; omega)]
  have hs := fun r c => (dsL_at (View.ld X2 (Rect.unit (s := S8192x128) _ S512x64.size hoq)) (View.ld X7 (Rect.unit (s := S8192x128) _ S512x64.size hoq)) (View.ld X3 (Rect.unit (s := S1024x128) _ S1024x64.size hok)) (View.ld X4 (Rect.unit (s := S1024x128) _ S1024x64.size hok)) (View.ld X5 (Rect.unit (s := S1x2x8x1024) _ S1x1x1x1024.size hoc)) (View.ld X6 (Rect.unit (s := S8192x128) _ S512x1.size hol)) (View.ld X6 (Rect.unit (s := S8192x128) _ S512x1.size hod))
       (fun r x => p.q (512 * R + r) (64 * a + x)) (fun r x => p.w (512 * R + r) (64 * a + x)) (fun c x => p.k c (64 * a + x)) (fun c x => p.v c (64 * a + x))
      (p.ck a) (fun r => p.st (512 * R + r) (64 * a)) (fun r => p.st (512 * R + r) (64 * a + 32)) hq hw hk hv hc hl hd r c).trans (congrArg _ (congrArg (· * _) (hP r c)))
  have hv' := fun y x c => (dvL_at (View.ld X2 (Rect.unit (s := S8192x128) _ S512x64.size hoq)) (View.ld X7 (Rect.unit (s := S8192x128) _ S512x64.size hoq)) (View.ld X3 (Rect.unit (s := S1024x128) _ S1024x64.size hok)) (View.ld X5 (Rect.unit (s := S1x2x8x1024) _ S1x1x1x1024.size hoc)) (View.ld X6 (Rect.unit (s := S8192x128) _ S512x1.size hol))
       (fun r x => p.q (512 * R + r) (64 * a + x)) (fun r x => p.w (512 * R + r) (64 * a + x)) (fun c x => p.k c (64 * a + x))
      (p.ck a) (fun r => p.st (512 * R + r) (64 * a)) hq hw hk hc hl y x c)
  simp only [hP] at hv'
  have h := Rep.tile (le_refl _ : 1024 ≤ 1024) p a R B A ρ hA hz
    ho8 _ (dqL_at _ (fun r c => p.D a (512 * R + r) c) hs kt (fun c x => p.k c (64 * a + x)) hkt (View.ld A.x8 (Rect.unit (s := S128x8192) _ S64x512.size ho8)))
    ho12 _ (dcL_at _ (fun r c => p.D a (512 * R + r) c) hs kt (fun c x => p.k c (64 * a + x)) hkt (View.ld A.x12 (Rect.unit (s := S1x2x16x512) _ S1x1x1x512.size ho12)))
    hoa _ (dkL_at _ (fun r c => p.D a (512 * R + r) c) hs (View.ld X2 (Rect.unit (s := S8192x128) _ S512x64.size hoq)) (fun r x => p.q (512 * R + r) (64 * a + x)) hq (View.ld A.x13 (Rect.unit (s := S2x80x1024) _ S1x80x1024.size hoa)))
    hov _ (hv' (View.ld A.x14 (Rect.unit (s := S2x64x1024) _ S1x64x1024.size hov)))
  unfold tileL
  exact h

/-- the second's, -/
theorem tile1_rep (a R : ℕ) (ha : a < 2) (hR : R = 2 * p.j + 1)
    (oq : Fin S8192x128.rank → ℕ) (hoq : ∀ a, oq a + S512x64.size a ≤ S8192x128.size a) (ok : Fin S1024x128.rank → ℕ) (hok : ∀ a, ok a + S1024x64.size a ≤ S1024x128.size a) (oc : Fin S1x2x8x1024.rank → ℕ) (hoc : ∀ a, oc a + S1x1x1x1024.size a ≤ S1x2x8x1024.size a)
    (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x1024.size a ≤ S2x64x1024.size a)
    (oa : Fin S2x80x1024.rank → ℕ) (hoa : ∀ a, oa a + S1x80x1024.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (eq : oq = ![512 * R, 64 * a]) (ek : ok = ![0, 64 * a]) (ec : oc = ![0, a, p.j, 0]) (el : ol = ![512 * R, 64 * a]) (ed : od = ![512 * R, 64 * a + 32]) (ev : ov = ![a, 0, 0])
    (ea : oa = ![a, 0, 0]) (e8 : o8 = ![64 * a, 512 * R]) (e12 : o12 = ![0, a, R, 0])
    (kt : FVec Ideal S80x1024 .bf16) (hkt : ∀ (x : Fin 80) (c : Fin 1024), kt (ix2 x c) = (((if x.val < 64 then p.k c (64 * a + x) else 1) : ℝ) : EReal)) (B A : Acc Ideal) (ρ : RAcc) (hA : Rep B A ρ) :
    Rep B (tile1 X2 X3 X4 X5 X6 X7 oq hoq ok hok oc hoc ol hol od hod ov hov oa hoa o8 ho8 o12 ho12 (k0_pay54 (F := Ideal)) kt A) (ρ.tile p a R) := by
  subst eq ek ec el ed ev ea e8 e12
  have hq := read2 hoq X2 p.q hp.q
  have hw := read2 hoq X7 p.w hp.w
  have hk := read2 hok X3 p.k hp.k
  have hv := read2 hok X4 p.v hp.v
  have hl := fun r : Fin 512 => read2 hol X6 p.st hp.st r (0 : Fin 1)
  have hd := fun r : Fin 512 => read2 hod X6 p.st hp.st r (0 : Fin 1)
  have hc := read_ck p X2 X3 X4 X5 X6 X7 hp (by norm_num : 1024 ≤ 1024) ha hoc
  simp only [Nat.zero_add] at hk hv
  have hz : ∀ r c, r < 512 → 1024 ≤ c → c < 1024 → p.P a (512 * R + r) c = 0 := fun r c hr hc hm => by
    rw [Pt.P, if_neg (by omega)]
  have hP : ∀ (r : Fin 512) (c : Fin 1024), (if c.val ≤ r.val + 512 then Real.exp ((∑ x : Fin 64, p.q (512 * R + r) (64 * a + x) * (1 / 8) * p.k c (64 * a + x)) - p.ck a c - p.st (512 * R + r) (64 * a)) else 0) = p.P a (512 * R + r) c := fun r c => by rw [Pt.P]; simp only [show (1024 * p.j + c.val ≤ 512 * R + r.val) = (c.val ≤ r.val + 512) from propext (by omega)]
  have hs := fun r c => (ds1_at (View.ld X2 (Rect.unit (s := S8192x128) _ S512x64.size hoq)) (View.ld X7 (Rect.unit (s := S8192x128) _ S512x64.size hoq)) (View.ld X3 (Rect.unit (s := S1024x128) _ S1024x64.size hok)) (View.ld X4 (Rect.unit (s := S1024x128) _ S1024x64.size hok)) (View.ld X5 (Rect.unit (s := S1x2x8x1024) _ S1x1x1x1024.size hoc)) (View.ld X6 (Rect.unit (s := S8192x128) _ S512x1.size hol)) (View.ld X6 (Rect.unit (s := S8192x128) _ S512x1.size hod))
       (fun r x => p.q (512 * R + r) (64 * a + x)) (fun r x => p.w (512 * R + r) (64 * a + x)) (fun c x => p.k c (64 * a + x)) (fun c x => p.v c (64 * a + x))
      (p.ck a) (fun r => p.st (512 * R + r) (64 * a)) (fun r => p.st (512 * R + r) (64 * a + 32)) hq hw hk hv hc hl hd r c).trans (congrArg _ (congrArg (· * _) (hP r c)))
  have hv' := fun y x c => (dv1_at (View.ld X2 (Rect.unit (s := S8192x128) _ S512x64.size hoq)) (View.ld X7 (Rect.unit (s := S8192x128) _ S512x64.size hoq)) (View.ld X3 (Rect.unit (s := S1024x128) _ S1024x64.size hok)) (View.ld X5 (Rect.unit (s := S1x2x8x1024) _ S1x1x1x1024.size hoc)) (View.ld X6 (Rect.unit (s := S8192x128) _ S512x1.size hol))
       (fun r x => p.q (512 * R + r) (64 * a + x)) (fun r x => p.w (512 * R + r) (64 * a + x)) (fun c x => p.k c (64 * a + x))
      (p.ck a) (fun r => p.st (512 * R + r) (64 * a)) hq hw hk hc hl y x c)
  simp only [hP] at hv'
  have h := Rep.tile (le_refl _ : 1024 ≤ 1024) p a R B A ρ hA hz
    ho8 _ (dq1_at _ (fun r c => p.D a (512 * R + r) c) hs kt (fun c x => p.k c (64 * a + x)) hkt (View.ld A.x8 (Rect.unit (s := S128x8192) _ S64x512.size ho8)))
    ho12 _ (dc1_at _ (fun r c => p.D a (512 * R + r) c) hs kt (fun c x => p.k c (64 * a + x)) hkt (View.ld A.x12 (Rect.unit (s := S1x2x16x512) _ S1x1x1x512.size ho12)))
    hoa _ (dk1_at _ (fun r c => p.D a (512 * R + r) c) hs (View.ld X2 (Rect.unit (s := S8192x128) _ S512x64.size hoq)) (fun r x => p.q (512 * R + r) (64 * a + x)) hq (View.ld A.x13 (Rect.unit (s := S2x80x1024) _ S1x80x1024.size hoa)))
    hov _ (hv' (View.ld A.x14 (Rect.unit (s := S2x64x1024) _ S1x64x1024.size hov)))
  unfold tile1
  exact h

/-- and the first's. -/
theorem tile0_rep (a R : ℕ) (ha : a < 2) (hR : R = 2 * p.j)
    (oq : Fin S8192x128.rank → ℕ) (hoq : ∀ a, oq a + S512x64.size a ≤ S8192x128.size a) (ok : Fin S1024x128.rank → ℕ) (hok : ∀ a, ok a + S512x64.size a ≤ S1024x128.size a) (oc : Fin S1x2x8x1024.rank → ℕ) (hoc : ∀ a, oc a + S1x1x1x512.size a ≤ S1x2x8x1024.size a)
    (ol : Fin S8192x128.rank → ℕ) (hol : ∀ a, ol a + S512x1.size a ≤ S8192x128.size a) (od : Fin S8192x128.rank → ℕ) (hod : ∀ a, od a + S512x1.size a ≤ S8192x128.size a) (ov : Fin S2x64x1024.rank → ℕ) (hov : ∀ a, ov a + S1x64x512.size a ≤ S2x64x1024.size a)
    (oa : Fin S2x80x1024.rank → ℕ) (hoa : ∀ a, oa a + S1x80x512.size a ≤ S2x80x1024.size a) (o8 : Fin S128x8192.rank → ℕ) (ho8 : ∀ a, o8 a + S64x512.size a ≤ S128x8192.size a) (o12 : Fin S1x2x16x512.rank → ℕ) (ho12 : ∀ a, o12 a + S1x1x1x512.size a ≤ S1x2x16x512.size a)
    (eq : oq = ![512 * R, 64 * a]) (ek : ok = ![0, 64 * a]) (ec : oc = ![0, a, p.j, 0]) (el : ol = ![512 * R, 64 * a]) (ed : od = ![512 * R, 64 * a + 32]) (ev : ov = ![a, 0, 0])
    (ea : oa = ![a, 0, 0]) (e8 : o8 = ![64 * a, 512 * R]) (e12 : o12 = ![0, a, R, 0])
    (kt : FVec Ideal S80x1024 .bf16) (hkt : ∀ (x : Fin 80) (c : Fin 1024), kt (ix2 x c) = (((if x.val < 64 then p.k c (64 * a + x) else 1) : ℝ) : EReal)) (B A : Acc Ideal) (ρ : RAcc) (hA : Rep B A ρ) :
    Rep B (tile0 X2 X3 X4 X5 X6 X7 oq hoq ok hok oc hoc ol hol od hod ov hov oa hoa o8 ho8 o12 ho12 (k0_pay54 (F := Ideal)) kt A) (ρ.tile p a R) := by
  subst eq ek ec el ed ev ea e8 e12
  have hq := read2 hoq X2 p.q hp.q
  have hw := read2 hoq X7 p.w hp.w
  have hk := read2 hok X3 p.k hp.k
  have hv := read2 hok X4 p.v hp.v
  have hl := fun r : Fin 512 => read2 hol X6 p.st hp.st r (0 : Fin 1)
  have hd := fun r : Fin 512 => read2 hod X6 p.st hp.st r (0 : Fin 1)
  have hc := read_ck p X2 X3 X4 X5 X6 X7 hp (by norm_num : 512 ≤ 1024) ha hoc
  simp only [Nat.zero_add] at hk hv
  have hz : ∀ r c, r < 512 → 512 ≤ c → c < 1024 → p.P a (512 * R + r) c = 0 := fun r c hr hc hm => by
    rw [Pt.P, if_neg (by omega)]
  have hP : ∀ (r : Fin 512) (c : Fin 512), (if c.val ≤ r.val + 0 then Real.exp ((∑ x : Fin 64, p.q (512 * R + r) (64 * a + x) * (1 / 8) * p.k c (64 * a + x)) - p.ck a c - p.st (512 * R + r) (64 * a)) else 0) = p.P a (512 * R + r) c := fun r c => by rw [Pt.P]; simp only [show (1024 * p.j + c.val ≤ 512 * R + r.val) = (c.val ≤ r.val + 0) from propext (by omega)]
  have hs := fun r c => (ds0_at (View.ld X2 (Rect.unit (s := S8192x128) _ S512x64.size hoq)) (View.ld X7 (Rect.unit (s := S8192x128) _ S512x64.size hoq)) (View.ld X3 (Rect.unit (s := S1024x128) _ S512x64.size hok)) (View.ld X4 (Rect.unit (s := S1024x128) _ S512x64.size hok)) (View.ld X5 (Rect.unit (s := S1x2x8x1024) _ S1x1x1x512.size hoc)) (View.ld X6 (Rect.unit (s := S8192x128) _ S512x1.size hol)) (View.ld X6 (Rect.unit (s := S8192x128) _ S512x1.size hod))
       (fun r x => p.q (512 * R + r) (64 * a + x)) (fun r x => p.w (512 * R + r) (64 * a + x)) (fun c x => p.k c (64 * a + x)) (fun c x => p.v c (64 * a + x))
      (p.ck a) (fun r => p.st (512 * R + r) (64 * a)) (fun r => p.st (512 * R + r) (64 * a + 32)) hq hw hk hv hc hl hd r c).trans (congrArg _ (congrArg (· * _) (hP r c)))
  have hv' := fun y x c => (dv0_at (View.ld X2 (Rect.unit (s := S8192x128) _ S512x64.size hoq)) (View.ld X7 (Rect.unit (s := S8192x128) _ S512x64.size hoq)) (View.ld X3 (Rect.unit (s := S1024x128) _ S512x64.size hok)) (View.ld X5 (Rect.unit (s := S1x2x8x1024) _ S1x1x1x512.size hoc)) (View.ld X6 (Rect.unit (s := S8192x128) _ S512x1.size hol))
       (fun r x => p.q (512 * R + r) (64 * a + x)) (fun r x => p.w (512 * R + r) (64 * a + x)) (fun c x => p.k c (64 * a + x))
      (p.ck a) (fun r => p.st (512 * R + r) (64 * a)) hq hw hk hc hl y x c)
  simp only [hP] at hv'
  have h := Rep.tile (by norm_num : 512 ≤ 1024) p a R B A ρ hA hz
    ho8 _ (dq0_at _ (fun r c => p.D a (512 * R + r) c) hs kt (fun c x => p.k c (64 * a + x)) hkt (View.ld A.x8 (Rect.unit (s := S128x8192) _ S64x512.size ho8)))
    ho12 _ (dc0_at _ (fun r c => p.D a (512 * R + r) c) hs kt (fun c x => p.k c (64 * a + x)) hkt (View.ld A.x12 (Rect.unit (s := S1x2x16x512) _ S1x1x1x512.size ho12)))
    hoa _ (dk0_at _ (fun r c => p.D a (512 * R + r) c) hs (View.ld X2 (Rect.unit (s := S8192x128) _ S512x64.size hoq)) (fun r x => p.q (512 * R + r) (64 * a + x)) hq (View.ld A.x13 (Rect.unit (s := S2x80x1024) _ S1x80x512.size hoa)))
    hov _ (hv' (View.ld A.x14 (Rect.unit (s := S2x64x1024) _ S1x64x512.size hov)))
  unfold tile0
  exact h

end

end Cert.KernelIdeal.Att

end
-- ==== Proof.PointSums.lean ====
module

public import proofs.«01_k».proof.Proof.TileSums

@[expose] public section

set_option maxRecDepth 16384

noncomputable section

namespace Cert.KernelIdeal.Att

open Cert.KernelIdeal Cert.KernelIdeal.Gen
open Idealize.ShloMosaic Idealize.ShloMosaic.TcCoe
open Idealize.SL.Sem
/-! One point's gains, over the reals, in closed form. -/

/-- The accumulators after `n` of the point's blocks of rows. -/
def RAcc.rows (p : Pt) (ρ : RAcc) : ℕ → RAcc
  | 0 => ρ
  | n + 1 => ((RAcc.rows p ρ n).tile p 0 (2 * p.j + n)).tile p 1 (2 * p.j + n)

theorem sum_block (f : ℕ → ℝ) (j n : ℕ) : ∑ s ∈ Finset.Ico (1024 * j) (1024 * j + 512 * (n + 1)), f s
    = ∑ s ∈ Finset.Ico (1024 * j) (1024 * j + 512 * n), f s + ∑ r : Fin 512, f (512 * (2 * j + n) + r) := by
  rw [← Finset.sum_Ico_consecutive f (by omega : 1024 * j ≤ 1024 * j + 512 * n) (by omega : 1024 * j + 512 * n ≤ 1024 * j + 512 * (n + 1)),
    Finset.sum_Ico_eq_sum_range f (1024 * j + 512 * n), Fin.sum_univ_eq_sum_range (fun r => f (512 * (2 * j + n) + r)) 512,
    show 1024 * j + 512 * (n + 1) - (1024 * j + 512 * n) = 512 by omega, show 512 * (2 * j + n) = 1024 * j + 512 * n by omega]

theorem two_heads {a : ℕ} (ha : a < 2) (y : ℝ) (f : ℕ → ℝ) : y + (if a = 0 then f 0 else 0) + (if a = 1 then f 1 else 0) = y + f a := by
  interval_cases a <;> simp

theorem RAcc.rows_a14 (p : Pt) (ρ : RAcc) (n a : ℕ) (ha : a < 2) (x c : ℕ) :
    (RAcc.rows p ρ n).a14 a x c = ρ.a14 a x c + ∑ s ∈ Finset.Ico (1024 * p.j) (1024 * p.j + 512 * n), p.w s (64 * a + x) * p.P a s c := by
  induction n with
  | zero => simp [RAcc.rows]
  | succ n ih =>
    rw [sum_block, ← add_assoc, ← ih]
    exact two_heads ha _ (fun a => ∑ r : Fin 512, p.w (512 * (2 * p.j + n) + r) (64 * a + x) * p.P a (512 * (2 * p.j + n) + r) c)

theorem RAcc.rows_a13 (p : Pt) (ρ : RAcc) (n a : ℕ) (ha : a < 2) (x c : ℕ) :
    (RAcc.rows p ρ n).a13 a x c = ρ.a13 a x c + ∑ s ∈ Finset.Ico (1024 * p.j) (1024 * p.j + 512 * n), (if x < 64 then p.q s (64 * a + x) * (1 / 8) else 1) * p.D a s c := by
  induction n with
  | zero => simp [RAcc.rows]
  | succ n ih =>
    rw [sum_block, ← add_assoc, ← ih]
    exact two_heads ha _ (fun a => ∑ r : Fin 512, (if x < 64 then p.q (512 * (2 * p.j + n) + r) (64 * a + x) * (1 / 8) else 1) * p.D a (512 * (2 * p.j + n) + r) c)

theorem RAcc.rows_a12 (p : Pt) (ρ : RAcc) (n a : ℕ) (ha : a < 2) (R r : ℕ) :
    (RAcc.rows p ρ n).a12 a R r = ρ.a12 a R r + if 2 * p.j ≤ R ∧ R < 2 * p.j + n then ∑ c : Fin 1024, p.D a (512 * R + r) c else 0 := by
  induction n with
  | zero => simp only [RAcc.rows]; rw [if_neg (by omega), add_zero]
  | succ n ih =>
    simp only [RAcc.rows, RAcc.tile, ih]
    by_cases h : R = 2 * p.j + n
    · subst h
      interval_cases a <;> simp
    · have e : (2 * p.j ≤ R ∧ R < 2 * p.j + (n + 1)) ↔ (2 * p.j ≤ R ∧ R < 2 * p.j + n) := by omega
      simp only [h, e, and_false, if_false, add_zero]

theorem RAcc.rows_a8 (p : Pt) (ρ : RAcc) (n x : ℕ) (hx : x < 128) (r : ℕ) :
    (RAcc.rows p ρ n).a8 x r = ρ.a8 x r + if 1024 * p.j ≤ r ∧ r < 1024 * p.j + 512 * n then (∑ c : Fin 1024, p.k c x * p.D (x / 64) r c) * (1 / 8) else 0 := by
  induction n with
  | zero => simp only [RAcc.rows]; rw [if_neg (by omega), add_zero]
  | succ n ih =>
    simp only [RAcc.rows, RAcc.tile, ih]
    by_cases h : 512 * (2 * p.j + n) ≤ r ∧ r < 512 * (2 * p.j + n) + 512
    · rw [if_neg (by omega : ¬ (1024 * p.j ≤ r ∧ r < 1024 * p.j + 512 * n)), if_pos (by omega : 1024 * p.j ≤ r ∧ r < 1024 * p.j + 512 * (n + 1))]
      by_cases hx' : x < 64
      · rw [if_pos ⟨by omega, h⟩, if_neg (by omega), show x / 64 = 0 by omega]; ring
      · rw [if_neg (by omega), if_pos ⟨by omega, h⟩, show x / 64 = 1 by omega]; ring
    · have e : (1024 * p.j ≤ r ∧ r < 1024 * p.j + 512 * (n + 1)) ↔ (1024 * p.j ≤ r ∧ r < 1024 * p.j + 512 * n) := by omega
      simp only [h, e, and_false, if_false, add_zero]

/-- What a whole point adds. -/
def RAcc.point (p : Pt) (ρ : RAcc) : RAcc where
  a8 x r := ρ.a8 x r + (∑ c : Fin 1024, p.k c x * p.D (x / 64) r c) * (1 / 8)
  a12 a R r := ρ.a12 a R r + ∑ c : Fin 1024, p.D a (512 * R + r) c
  a13 a x c := ρ.a13 a x c + ∑ s : Fin 8192, (if x < 64 then p.q s (64 * a + x) * (1 / 8) else 1) * p.D a s c
  a14 a x c := ρ.a14 a x c + ∑ s : Fin 8192, p.w s (64 * a + x) * p.P a s c

theorem Pt.P_zero (p : Pt) {a r : ℕ} (h : r < 1024 * p.j) (c : ℕ) : p.P a r c = 0 := by rw [Pt.P, if_neg (by omega)]
theorem Pt.D_zero (p : Pt) {a r : ℕ} (h : r < 1024 * p.j) (c : ℕ) : p.D a r c = 0 := by rw [Pt.D, p.P_zero h, zero_mul]

theorem sum_all (f : ℕ → ℝ) (j : ℕ) (hj : j < 8) (hf : ∀ s, s < 1024 * j → f s = 0) :
    ∑ s ∈ Finset.Ico (1024 * j) (1024 * j + 512 * (16 - 2 * j)), f s = ∑ s : Fin 8192, f s := by
  rw [Fin.sum_univ_eq_sum_range f 8192, show 1024 * j + 512 * (16 - 2 * j) = 8192 by omega]
  refine Finset.sum_subset (fun s hs => by simp only [Finset.mem_Ico, Finset.mem_range] at *; omega) (fun s hs hn => hf s ?_)
  simp only [Finset.mem_Ico, Finset.mem_range] at *
  omega

theorem Rep.rows {B A : Acc Ideal} {p : Pt} {ρ : RAcc} (hj : p.j < 8) (h : Rep B A (RAcc.rows p ρ (16 - 2 * p.j))) : Rep B A (ρ.point p) where
  h8 x r := by
    rw [h.h8, RAcc.rows_a8 _ _ _ _ x.isLt]
    unfold RAcc.point
    dsimp only
    by_cases hr : r.val < 1024 * p.j
    · rw [if_neg (by omega)]
      simp only [p.D_zero hr, mul_zero, Finset.sum_const_zero, zero_mul]
    · rw [if_pos ⟨by omega, by have := r.isLt; omega⟩]
  h12 a R r := by
    rw [h.h12, RAcc.rows_a12 _ _ _ _ a.isLt]
    unfold RAcc.point
    dsimp only
    by_cases hr : R.val < 2 * p.j
    · rw [if_neg (by omega)]
      simp only [p.D_zero (show 512 * R.val + r.val < 1024 * p.j by omega), Finset.sum_const_zero]
    · rw [if_pos ⟨by omega, by have := R.isLt; omega⟩]
  h13 a x c := by
    rw [h.h13, RAcc.rows_a13 _ _ _ _ a.isLt, sum_all _ _ hj (fun s hs => by rw [p.D_zero hs, mul_zero])]
    rfl
  h14 a x c := by
    rw [h.h14, RAcc.rows_a14 _ _ _ _ a.isLt, sum_all _ _ hj (fun s hs => by rw [p.P_zero hs, mul_zero])]
    rfl

theorem trips_eq : ∀ i : grid0.Coords, (k0_t1_loop i).trips = 14 - 2 * (i 1).val := by decide +kernel

theorem vec2 {a b a' b' : ℕ} (h : a = a') (h' : b = b') : ![a, b] = ![a', b'] := by rw [h, h']
theorem vec4 {a b c c' d : ℕ} (h : c = c') : ![a, b, c, d] = ![a, b, c', d] := by rw [h]
theorem fin2_0 : ((0 : Fin 2) : ℕ) = 0 := rfl
theorem fin2_1 : ((1 : Fin 2) : ℕ) = 1 := rfl

section
variable (p : Pt) (i : grid0.Coords) (hi : p.j = (i 1).val) (X2 : Vec Ideal S8192x128 .bf16) (X3 X4 : Vec Ideal S1024x128 .bf16) (X5 : Vec Ideal S1x2x8x1024 .f32) (X6 : Vec Ideal S8192x128 .f32)
    (X7 : Vec Ideal S8192x128 .bf16) (hp : p.Of X2 X3 X4 X5 X6 X7)
include hi hp

theorem kt0_of (x : Fin 80) (c : Fin 1024) : kt0 X3 (ix2 x c) = (((if x.val < 64 then p.k c (64 * 0 + x) else 1) : ℝ) : EReal) := by
  refine kt_at0 _ (fun c x => p.k c (64 * 0 + x)) (fun c x => ?_) x c
  have h := read2 inb_S1024x128_S1024x64_0_0 X3 p.k hp.k c x
  simp only [Nat.zero_add] at h
  simp only [Nat.mul_zero, Nat.zero_add]
  exact h
theorem kt1_of (x : Fin 80) (c : Fin 1024) : kt1 X3 (ix2 x c) = (((if x.val < 64 then p.k c (64 * 1 + x) else 1) : ℝ) : EReal) := by
  refine kt_at1 _ (fun c x => p.k c (64 * 1 + x)) (fun c x => ?_) x c
  have h := read2 inb_S1024x128_S1024x64_0_64 X3 p.k hp.k c x
  simp only [Nat.zero_add] at h
  exact h

theorem row0_rep (B A : Acc Ideal) (ρ : RAcc) (hA : Rep B A ρ) : Rep B (row0 i X2 X3 X4 X5 X6 X7 A) (RAcc.rows p ρ 1) := by
  have h0 := tile0_rep p X2 X3 X4 X5 X6 X7 hp 0 (2 * p.j + 0) (by norm_num) rfl _ (k0_off1_inb i 0) _ inb_S1024x128_S512x64_0_0 _ (k0_off2_inb i) _ (k0_off3_inb i 0) _ (k0_off4_inb i 0)
    _ inb_S2x64x1024_S1x64x512_0_0_0 _ inb_S2x80x1024_S1x80x512_0_0_0 _ (k0_off5_inb i 0) _ (k0_off6_inb i 0)
    ((k0_off1_eq i 0).trans (vec2 (by simp only [fin2_0, fin2_1]; omega) (by norm_num))) rfl ((k0_off2_eq i).trans (by rw [hi])) ((k0_off3_eq i 0).trans (vec2 (by simp only [fin2_0, fin2_1]; omega) (by norm_num))) ((k0_off4_eq i 0).trans (vec2 (by simp only [fin2_0, fin2_1]; omega) (by norm_num))) rfl rfl
    ((k0_off5_eq i 0).trans (vec2 (by norm_num) (by simp only [fin2_0, fin2_1]; omega))) ((k0_off6_eq i 0).trans (vec4 (by simp only [fin2_0, fin2_1]; omega))) _ (kt0_of p i hi X2 X3 X4 X5 X6 X7 hp) B _ _ hA
  exact tile0_rep p X2 X3 X4 X5 X6 X7 hp 1 (2 * p.j + 0) (by norm_num) rfl _ (k0_off7_inb i 0) _ inb_S1024x128_S512x64_0_64 _ (k0_off8_inb i) _ (k0_off9_inb i 0) _ (k0_off10_inb i 0)
    _ inb_S2x64x1024_S1x64x512_1_0_0 _ inb_S2x80x1024_S1x80x512_1_0_0 _ (k0_off11_inb i 0) _ (k0_off12_inb i 0)
    ((k0_off7_eq i 0).trans (vec2 (by simp only [fin2_0, fin2_1]; omega) (by norm_num))) rfl ((k0_off8_eq i).trans (by rw [hi])) ((k0_off9_eq i 0).trans (vec2 (by simp only [fin2_0, fin2_1]; omega) (by norm_num))) ((k0_off10_eq i 0).trans (vec2 (by simp only [fin2_0, fin2_1]; omega) (by norm_num))) rfl rfl
    ((k0_off11_eq i 0).trans (vec2 (by norm_num) (by simp only [fin2_0, fin2_1]; omega))) ((k0_off12_eq i 0).trans (vec4 (by simp only [fin2_0, fin2_1]; omega))) _ (kt1_of p i hi X2 X3 X4 X5 X6 X7 hp) B _ _ h0

theorem row1_rep (B A : Acc Ideal) (ρ : RAcc) (hA : Rep B A (RAcc.rows p ρ 1)) : Rep B (row1 i X2 X3 X4 X5 X6 X7 A) (RAcc.rows p ρ 2) := by
  have h0 := tile1_rep p X2 X3 X4 X5 X6 X7 hp 0 (2 * p.j + 1) (by norm_num) rfl _ (k0_off1_inb i 1) _ inb_S1024x128_S1024x64_0_0 _ (k0_off13_inb i) _ (k0_off3_inb i 1) _ (k0_off4_inb i 1)
    _ inb_S2x64x1024_S1x64x1024_0_0_0 _ inb_S2x80x1024_S1x80x1024_0_0_0 _ (k0_off5_inb i 1) _ (k0_off6_inb i 1)
    ((k0_off1_eq i 1).trans (vec2 (by simp only [fin2_0, fin2_1]; omega) (by norm_num))) rfl ((k0_off13_eq i).trans (by rw [hi])) ((k0_off3_eq i 1).trans (vec2 (by simp only [fin2_0, fin2_1]; omega) (by norm_num))) ((k0_off4_eq i 1).trans (vec2 (by simp only [fin2_0, fin2_1]; omega) (by norm_num))) rfl rfl
    ((k0_off5_eq i 1).trans (vec2 (by norm_num) (by simp only [fin2_0, fin2_1]; omega))) ((k0_off6_eq i 1).trans (vec4 (by simp only [fin2_0, fin2_1]; omega))) _ (kt0_of p i hi X2 X3 X4 X5 X6 X7 hp) B _ _ hA
  exact tile1_rep p X2 X3 X4 X5 X6 X7 hp 1 (2 * p.j + 1) (by norm_num) rfl _ (k0_off7_inb i 1) _ inb_S1024x128_S1024x64_0_64 _ (k0_off14_inb i) _ (k0_off9_inb i 1) _ (k0_off10_inb i 1)
    _ inb_S2x64x1024_S1x64x1024_1_0_0 _ inb_S2x80x1024_S1x80x1024_1_0_0 _ (k0_off11_inb i 1) _ (k0_off12_inb i 1)
    ((k0_off7_eq i 1).trans (vec2 (by simp only [fin2_0, fin2_1]; omega) (by norm_num))) rfl ((k0_off14_eq i).trans (by rw [hi])) ((k0_off9_eq i 1).trans (vec2 (by simp only [fin2_0, fin2_1]; omega) (by norm_num))) ((k0_off10_eq i 1).trans (vec2 (by simp only [fin2_0, fin2_1]; omega) (by norm_num))) rfl rfl
    ((k0_off11_eq i 1).trans (vec2 (by norm_num) (by simp only [fin2_0, fin2_1]; omega))) ((k0_off12_eq i 1).trans (vec4 (by simp only [fin2_0, fin2_1]; omega))) _ (kt1_of p i hi X2 X3 X4 X5 X6 X7 hp) B _ _ h0

theorem rowL_rep (k : Fin (k0_t1_loop i).trips) (B A : Acc Ideal) (ρ : RAcc) (hA : Rep B A (RAcc.rows p ρ (2 + k.val))) : Rep B (rowL i k X2 X3 X4 X5 X6 X7 A) (RAcc.rows p ρ (2 + k.val + 1)) := by
  have h0 := tileL_rep p X2 X3 X4 X5 X6 X7 hp 0 (2 * p.j + (2 + k.val)) (by norm_num) (by omega) _ (k0_off15_inb i k) _ inb_S1024x128_S1024x64_0_0 _ (k0_off16_inb i) _ (k0_off17_inb i k) _ (k0_off18_inb i k)
    _ inb_S2x64x1024_S1x64x1024_0_0_0 _ inb_S2x80x1024_S1x80x1024_0_0_0 _ (k0_off19_inb i k) _ (k0_off20_inb i k)
    ((k0_off15_eq i k).trans (vec2 (by omega) (by norm_num))) rfl ((k0_off16_eq i).trans (by rw [hi])) ((k0_off17_eq i k).trans (vec2 (by omega) (by norm_num))) ((k0_off18_eq i k).trans (vec2 (by omega) (by norm_num))) rfl rfl
    ((k0_off19_eq i k).trans (vec2 (by norm_num) (by omega))) ((k0_off20_eq i k).trans (vec4 (by omega))) _ (kt0_of p i hi X2 X3 X4 X5 X6 X7 hp) B _ _ hA
  exact tileL_rep p X2 X3 X4 X5 X6 X7 hp 1 (2 * p.j + (2 + k.val)) (by norm_num) (by omega) _ (k0_off21_inb i k) _ inb_S1024x128_S1024x64_0_64 _ (k0_off22_inb i) _ (k0_off23_inb i k) _ (k0_off24_inb i k)
    _ inb_S2x64x1024_S1x64x1024_1_0_0 _ inb_S2x80x1024_S1x80x1024_1_0_0 _ (k0_off25_inb i k) _ (k0_off26_inb i k)
    ((k0_off21_eq i k).trans (vec2 (by omega) (by norm_num))) rfl ((k0_off22_eq i).trans (by rw [hi])) ((k0_off23_eq i k).trans (vec2 (by omega) (by norm_num))) ((k0_off24_eq i k).trans (vec2 (by omega) (by norm_num))) rfl rfl
    ((k0_off25_eq i k).trans (vec2 (by norm_num) (by omega))) ((k0_off26_eq i k).trans (vec4 (by omega))) _ (kt1_of p i hi X2 X3 X4 X5 X6 X7 hp) B _ _ h0

theorem rows_rep (B A : Acc Ideal) (ρ : RAcc) (hA : Rep B A (RAcc.rows p ρ 2)) (n : ℕ) (hn : n ≤ (k0_t1_loop i).trips) :
    Rep B (rows i X2 X3 X4 X5 X6 X7 A n) (RAcc.rows p ρ (2 + n)) := by
  induction n with
  | zero => exact hA
  | succ n ih =>
    have h : rows i X2 X3 X4 X5 X6 X7 A (n + 1) = rowL i ⟨n, hn⟩ X2 X3 X4 X5 X6 X7 (rows i X2 X3 X4 X5 X6 X7 A n) := dif_pos hn
    rw [h]
    exact rowL_rep p i hi X2 X3 X4 X5 X6 X7 hp ⟨n, hn⟩ B _ ρ (ih (by omega))

/-- The accumulators at a point's end, from those at its start. -/
theorem fin_rep (B A : Acc Ideal) (ρ : RAcc) (hA : Rep B A ρ) : Rep B (fin i X2 X3 X4 X5 X6 X7 A) (ρ.point p) := by
  have hj : p.j < 8 := hp.lt
  refine Rep.rows hj ?_
  have h := rows_rep p i hi X2 X3 X4 X5 X6 X7 hp B _ ρ (row1_rep p i hi X2 X3 X4 X5 X6 X7 hp B _ ρ (row0_rep p i hi X2 X3 X4 X5 X6 X7 hp B A ρ hA)) _ (le_refl _)
  rw [show 2 + (k0_t1_loop i).trips = 16 - 2 * p.j by rw [trips_eq, hi]; have := (i 1).isLt; omega] at h
  exact h
end

end Cert.KernelIdeal.Att

end
-- ==== Proof.Points.lean ====
module

public import proofs.«01_k».proof.Proof.PointSums
public import proofs.«01_k».proof.Proof.Run
public import Idealize.ShloMosaic.Lib.Pipeline.ArrRel

@[expose] public section

set_option maxRecDepth 16384

noncomputable section

namespace Cert.KernelIdeal.Att

open Cert.KernelIdeal Cert.KernelIdeal.Gen
open Idealize.ShloMosaic Idealize.ShloMosaic.TcCoe
open Idealize.SL.Sem
open Idealize.ShloMosaic.Pipeline (Dat RDat Cfg Window)

/-! What a point starts from and what it writes out, at an index. -/

theorem put2 {A B n m a b : ℕ} (h : ∀ x, (![a, b] : Fin 2 → ℕ) x + (![n, m] : Fin 2 → ℕ) x ≤ (⟨2, ![A, B]⟩ : Shape).size x)
    (X : (⟨2, ![A, B]⟩ : Shape).Idx → EReal) (f : (⟨2, ![n, m]⟩ : Shape).Idx → EReal) (i : Fin A) (j : Fin B) :
    (Rect.unit (s := ⟨2, ![A, B]⟩) ![a, b] ![n, m] h).overlay X f (ix2 i j)
      = if hc : (a ≤ i.val ∧ i.val < a + n) ∧ (b ≤ j.val ∧ j.val < b + m) then f (ix2 ⟨i.val - a, by omega⟩ ⟨j.val - b, by omega⟩) else X (ix2 i j) := by
  split
  · rename_i hc
    have e : ix2 i j = (Rect.unit (s := ⟨2, ![A, B]⟩) ![a, b] ![n, m] h).emb (ix2 ⟨i.val - a, by omega⟩ ⟨j.val - b, by omega⟩) := by
      funext x
      refine Fin.ext ?_
      match x with
      | 0 => show i.val = a + 1 * (i.val - a); omega
      | 1 => show j.val = b + 1 * (j.val - b); omega
    rw [e, Rect.overlay_emb]
  · rename_i hc
    rw [Rect.overlay_of_not_mem]
    rw [Rect.mem_set_unit]
    exact fun hm => hc ⟨hm 0, hm 1⟩

theorem put4 {A B m a b : ℕ} (h : ∀ x, (![0, a, b, 0] : Fin 4 → ℕ) x + (![1, 1, 1, m] : Fin 4 → ℕ) x ≤ (⟨4, ![1, A, B, m]⟩ : Shape).size x)
    (X : (⟨4, ![1, A, B, m]⟩ : Shape).Idx → EReal) (f : (⟨4, ![1, 1, 1, m]⟩ : Shape).Idx → EReal) (k : Fin A) (i : Fin B) (j : Fin m) :
    (Rect.unit (s := ⟨4, ![1, A, B, m]⟩) ![0, a, b, 0] ![1, 1, 1, m] h).overlay X f (ix4 0 k i j)
      = if k.val = a ∧ i.val = b then f (ix4 0 0 0 j) else X (ix4 0 k i j) := by
  split
  · rename_i hc
    have e : ix4 0 k i j = (Rect.unit (s := ⟨4, ![1, A, B, m]⟩) ![0, a, b, 0] ![1, 1, 1, m] h).emb (ix4 0 0 0 j) := by
      funext x
      refine Fin.ext ?_
      match x with
      | 0 => rfl
      | 1 => show k.val = a + 1 * 0; omega
      | 2 => show i.val = b + 1 * 0; omega
      | 3 => show j.val = 0 + 1 * j.val; omega
    rw [e, Rect.overlay_emb]
  · rename_i hc
    rw [Rect.overlay_of_not_mem]
    rw [Rect.mem_set_unit]
    intro hm
    have h1 : a ≤ k.val ∧ k.val < a + 1 := hm 1
    have h2 : b ≤ i.val ∧ i.val < b + 1 := hm 2
    exact hc ⟨by omega, by omega⟩

/-- The whole of an array put. -/
theorem put_whole {S : Shape} {off : Fin S.rank → ℕ} (ho : off = fun _ => 0) (h : ∀ a, off a + S.size a ≤ S.size a) (X f : S.Idx → EReal) (j : S.Idx) :
    (Rect.unit (s := S) off S.size h).overlay X f j = f j := by
  subst ho
  have e : j = (Rect.unit (s := S) (fun _ => 0) S.size h).emb j := by
    funext x
    refine Fin.ext ?_
    show (j x).val = 0 + 1 * (j x).val
    omega
  conv_lhs => rw [e]
  exact Rect.overlay_emb _ _ _ _

theorem zeros2 : (![0, 0] : Fin 2 → ℕ) = fun _ => 0 := by decide
theorem zeros3 : (![0, 0, 0] : Fin 3 → ℕ) = fun _ => 0 := by decide
theorem zeros4 : (![0, 0, 0, 0] : Fin 4 → ℕ) = fun _ => 0 := by decide

theorem pay50_at (j : S128x8192.Idx) : k0_pay50 (F := Ideal) j = 0 := by pointwise [k0_pay50]
theorem pay51_at (j : S1x2x16x512.Idx) : k0_pay51 (F := Ideal) j = 0 := by pointwise [k0_pay51]
theorem pay52_at (j : S2x80x1024.Idx) : k0_pay52 (F := Ideal) j = 0 := by pointwise [k0_pay52]
theorem pay53_at (j : S2x64x1024.Idx) : k0_pay53 (F := Ideal) j = 0 := by pointwise [k0_pay53]

section
variable (i : grid0.Coords) (A : Acc Ideal)

theorem start13 (j) : (start i A).x13 j = 0 := by
  unfold start zK
  dsimp only
  exact (put_whole zeros3 _ _ _ j).trans (pay52_at j)
theorem start14 (j) : (start i A).x14 j = 0 := by
  unfold start zK
  dsimp only
  exact (put_whole zeros3 _ _ _ j).trans (pay53_at j)

theorem first_iff : ∀ i : grid0.Coords, Scalar.cmpi .ne (Scalar.extui (Scalar.cmpi .eq (BitVec.ofNat 32 (i 1).val) 0#32)) 0#32 = 1#1 ↔ (i 1).val = 0 := by decide +kernel

theorem start8 (j) : (start i A).x8 j = if (i 1).val = 0 then 0 else A.x8 j := by
  unfold start zK
  dsimp only
  by_cases h : (i 1).val = 0
  · rw [if_pos ((first_iff i).mpr h), if_pos h]
    exact (put_whole zeros2 _ _ _ j).trans (pay50_at j)
  · rw [if_neg (fun e => h ((first_iff i).mp e)), if_neg h]
theorem start12 (j) : (start i A).x12 j = if (i 1).val = 0 then 0 else A.x12 j := by
  unfold start zK
  dsimp only
  by_cases h : (i 1).val = 0
  · rw [if_pos ((first_iff i).mpr h), if_pos h]
    exact (put_whole zeros4 _ _ _ j).trans (pay51_at j)
  · rw [if_neg (fun e => h ((first_iff i).mp e)), if_neg h]
end

theorem pay102_at (v : Vec Ideal S1x64x1024 .f32) (c : Fin 1024) (x : Fin 64) : k0_pay102 v (ix2 c x) = v (ix3 0 x c) := by pointwise [k0_pay102]
theorem pay103_at (v : Vec Ideal S1x64x1024 .f32) (c : Fin 1024) (x : Fin 64) : k0_pay103 v (ix2 c x) = v (ix3 0 x c) := by pointwise [k0_pay103]
theorem pay105_at (v : Vec Ideal S1x64x1024 .f32) (c : Fin 1024) (x : Fin 64) : k0_pay105 v (ix2 c x) = v (ix3 0 x c) := by pointwise [k0_pay105]
theorem pay106_at (v : Vec Ideal S1x64x1024 .f32) (c : Fin 1024) (x : Fin 64) : k0_pay106 v (ix2 c x) = v (ix3 0 x c) := by pointwise [k0_pay106]
theorem pay104_at (v : Vec Ideal S1x1x1024 .f32) (c : Fin 1024) : k0_pay104 v (ix4 0 0 0 c) = -v (ix3 0 0 c) := by
  pointwise [k0_pay104]
  rw [sub_eq_add_neg, zero_add]
theorem pay107_at (v : Vec Ideal S1x1x1024 .f32) (c : Fin 1024) : k0_pay1 (k0_pay107 v) (ix4 0 0 0 c) = -v (ix3 0 0 c) := by
  pointwise [k0_pay1, k0_pay107]
  rw [sub_eq_add_neg, zero_add]

section
variable (A : Acc Ideal)

theorem ld3 {a b n C A B : ℕ} (h : ∀ x, (![a, b, 0] : Fin 3 → ℕ) x + (![1, n, C] : Fin 3 → ℕ) x ≤ (⟨3, ![A, B, C]⟩ : Shape).size x)
    (X : (⟨3, ![A, B, C]⟩ : Shape).Idx → EReal) (x : Fin n) (c : Fin C) (k : Fin A) (y : Fin B) (hk : k.val = a) (hy : y.val = b + x.val) :
    X ((Rect.unit (s := ⟨3, ![A, B, C]⟩) ![a, b, 0] ![1, n, C] h).idx (ix3 0 x c)) = X (ix3 k y c) := by
  congr 1
  funext i
  refine Fin.ext ?_
  match i with
  | 0 => show a + 1 * 0 = k.val; omega
  | 1 => show b + 1 * x.val = y.val; omega
  | 2 => show 0 + 1 * c.val = c.val; omega

theorem out9_at (Y : Vec Ideal S1024x128 .bf16) (c : Fin 1024) (a : Fin 2) (x : Fin 64) :
    out9 A Y (ix2 c ⟨64 * a.val + x.val, by omega⟩) = A.x13 (ix3 a ⟨x.val, by omega⟩ c) := by
  unfold out9
  refine (put2 inb_S1024x128_S1024x64_0_64 _ _ c ⟨64 * a.val + x.val, by omega⟩).trans ?_
  by_cases ha : a.val = 1
  · rw [dif_pos ⟨⟨by omega, by omega⟩, by show 64 ≤ 64 * a.val + x.val; omega, by show 64 * a.val + x.val < 64 + 64; omega⟩]
    refine (pay105_at _ _ _).trans (ld3 inb_S2x80x1024_S1x64x1024_1_0_0 A.x13 _ _ _ _ ha ?_)
    show x.val = 0 + (64 * a.val + x.val - 64)
    omega
  · rw [dif_neg (fun h => by have := h.2.1; have e : 64 ≤ 64 * a.val + x.val := this; omega)]
    refine (put2 inb_S1024x128_S1024x64_0_0 _ _ c ⟨64 * a.val + x.val, by omega⟩).trans ?_
    rw [dif_pos ⟨⟨by omega, by omega⟩, by omega, by show 64 * a.val + x.val < 0 + 64; omega⟩]
    refine (pay102_at _ _ _).trans (ld3 inb_S2x80x1024_S1x64x1024_0_0_0 A.x13 _ _ _ _ (by omega) ?_)
    show x.val = 0 + (64 * a.val + x.val - 0)
    omega

theorem out10_at (Y : Vec Ideal S1024x128 .bf16) (c : Fin 1024) (a : Fin 2) (x : Fin 64) :
    out10 A Y (ix2 c ⟨64 * a.val + x.val, by omega⟩) = A.x14 (ix3 a x c) := by
  unfold out10
  refine (put2 inb_S1024x128_S1024x64_0_64 _ _ c ⟨64 * a.val + x.val, by omega⟩).trans ?_
  by_cases ha : a.val = 1
  · rw [dif_pos ⟨⟨by omega, by omega⟩, by show 64 ≤ 64 * a.val + x.val; omega, by show 64 * a.val + x.val < 64 + 64; omega⟩]
    refine (pay106_at _ _ _).trans (ld3 inb_S2x64x1024_S1x64x1024_1_0_0 A.x14 _ _ _ _ ha ?_)
    show x.val = 0 + (64 * a.val + x.val - 64)
    omega
  · rw [dif_neg (fun h => by have := h.2.1; have e : 64 ≤ 64 * a.val + x.val := this; omega)]
    refine (put2 inb_S1024x128_S1024x64_0_0 _ _ c ⟨64 * a.val + x.val, by omega⟩).trans ?_
    rw [dif_pos ⟨⟨by omega, by omega⟩, by omega, by show 64 * a.val + x.val < 0 + 64; omega⟩]
    refine (pay103_at _ _ _).trans (ld3 inb_S2x64x1024_S1x64x1024_0_0_0 A.x14 _ _ _ _ (by omega) ?_)
    show x.val = 0 + (64 * a.val + x.val - 0)
    omega

theorem put4_of {A B m a b : ℕ} {off : Fin 4 → ℕ} (e : off = ![0, a, b, 0]) (h : ∀ x, off x + (![1, 1, 1, m] : Fin 4 → ℕ) x ≤ (⟨4, ![1, A, B, m]⟩ : Shape).size x)
    (X : (⟨4, ![1, A, B, m]⟩ : Shape).Idx → EReal) (f : (⟨4, ![1, 1, 1, m]⟩ : Shape).Idx → EReal) (k : Fin A) (i : Fin B) (j : Fin m) :
    (Rect.unit (s := ⟨4, ![1, A, B, m]⟩) off ![1, 1, 1, m] h).overlay X f (ix4 0 k i j)
      = if k.val = a ∧ i.val = b then f (ix4 0 0 0 j) else X (ix4 0 k i j) := by
  subst e
  exact put4 h X f k i j

theorem out11_at (i : grid0.Coords) (Y : Vec Ideal S1x2x8x1024 .f32) (a : Fin 2) (R : Fin 8) (c : Fin 1024) :
    out11 i A Y (ix4 0 a R c) = if R.val = (i 1).val then -A.x13 (ix3 a ⟨64, by norm_num⟩ c) else Y (ix4 0 a R c) := by
  unfold out11
  refine (put4_of (k0_off14_eq i) (k0_off14_inb i) _ _ a R c).trans ?_
  by_cases hR : R.val = (i 1).val
  · by_cases ha : a.val = 1
    · rw [if_pos ⟨ha, hR⟩, if_pos hR]
      exact (pay107_at _ _).trans (congrArg Neg.neg (ld3 inb_S2x80x1024_S1x1x1024_1_64_0 A.x13 0 c a ⟨64, by norm_num⟩ ha rfl))
    · rw [if_neg (fun h => ha h.1), if_pos hR]
      refine (put4_of (k0_off13_eq i) (k0_off13_inb i) _ _ a R c).trans ?_
      rw [if_pos ⟨by omega, hR⟩]
      exact (pay104_at _ _).trans (congrArg Neg.neg (ld3 inb_S2x80x1024_S1x1x1024_0_64_0 A.x13 0 c a ⟨64, by norm_num⟩ (by omega) rfl))
  · rw [if_neg (fun h => hR h.2), if_neg hR]
    refine (put4_of (k0_off13_eq i) (k0_off13_inb i) _ _ a R c).trans ?_
    rw [if_neg (fun h => hR h.2)]
end

end Cert.KernelIdeal.Att

end
-- ==== Proof.Arrays.lean ====
module

public import proofs.«01_k».proof.Proof.Points

@[expose] public section

set_option maxRecDepth 16384

noncomputable section

namespace Cert.KernelIdeal.Att

open Cert.KernelIdeal Cert.KernelIdeal.Gen
open Idealize.ShloMosaic Idealize.ShloMosaic.TcCoe
open Idealize.SL.Sem
open Idealize.ShloMosaic.Pipeline (Dat RDat Cfg Window)

/-! The kernel's five results over the reals, of what its six inputs hold. -/

/-- What the inputs hold: queries, keys, values and the output's gradient at a row and a column of 1024; the decay of a head at a position; the row
statistics. -/
structure Data where
  q : ℕ → ℕ → ℝ
  k : ℕ → ℕ → ℝ
  v : ℕ → ℕ → ℝ
  w : ℕ → ℕ → ℝ
  ck : ℕ → ℕ → ℝ
  st : ℕ → ℕ → ℝ

namespace Data
variable (δ : Data)

/-- The probability of column `c` in row `r` of head `n`, -/
def P (n r c : ℕ) : ℝ :=
  if c ≤ r then Real.exp ((∑ x : Fin 64, δ.q r (64 * n + x) * (1 / 8) * δ.k c (64 * n + x)) - δ.ck n c - δ.st r (64 * n)) else 0
/-- and the gradient of its score. -/
def D (n r c : ℕ) : ℝ := δ.P n r c * ((∑ x : Fin 64, δ.w r (64 * n + x) * δ.v c (64 * n + x)) - δ.st r (64 * n + 32))

/-- The blocks of key block `j` of head pair `h`. -/
def pt (h j : ℕ) : Pt where
  q r x := δ.q r (128 * h + x)
  w r x := δ.w r (128 * h + x)
  k c x := δ.k (1024 * j + c) (128 * h + x)
  v c x := δ.v (1024 * j + c) (128 * h + x)
  ck a c := δ.ck (2 * h + a) (1024 * j + c)
  st r x := δ.st r (128 * h + x)
  j := j

theorem pt_P (h j a r c : ℕ) : (δ.pt h j).P a r c = δ.P (2 * h + a) r (1024 * j + c) := by
  have e : ∀ x : ℕ, 128 * h + (64 * a + x) = 64 * (2 * h + a) + x := fun x => by ring
  have e0 : 128 * h + 64 * a = 64 * (2 * h + a) := by ring
  simp only [Pt.P, P, pt, e, e0]

theorem pt_D (h j a r c : ℕ) : (δ.pt h j).D a r c = δ.D (2 * h + a) r (1024 * j + c) := by
  have e : ∀ x : ℕ, 128 * h + (64 * a + x) = 64 * (2 * h + a) + x := fun x => by ring
  unfold Pt.D D
  rw [pt_P]
  simp only [pt, e]

/-- The kernel's inputs hold these reals. -/
structure Of (m : (ℓ : Loc nD τ sig) → Buf (Elt Ideal) ℓ) (c : Dev nD) : Prop where
  q : ∀ (r : Fin 8192) (x : Fin 1024), V m c main_v1 (ix2 r (⟨x.val, by omega⟩ : Fin 3072)) = ((δ.q r x : ℝ) : EReal)
  k : ∀ (r : Fin 8192) (x : Fin 1024), V m c main_v1 (ix2 r (⟨1024 + x.val, by omega⟩ : Fin 3072)) = ((δ.k r x : ℝ) : EReal)
  v : ∀ (r : Fin 8192) (x : Fin 1024), V m c main_v1 (ix2 r (⟨2048 + x.val, by omega⟩ : Fin 3072)) = ((δ.v r x : ℝ) : EReal)
  ck : ∀ (h : Fin 8) (a : Fin 2) (j : Fin 8) (x : Fin 1024), V m c main_v2 (ix4 h a j x) = ((δ.ck (2 * h + a) (1024 * j + x) : ℝ) : EReal)
  st : ∀ (r : Fin 8192) (x : Fin 1024), V m c main_v80 (ix2 r x) = ((δ.st r x : ℝ) : EReal)
  w : ∀ (r : Fin 8192) (x : Fin 1024), V m c main_v81 (ix2 r x) = ((δ.w r x : ℝ) : EReal)
end Data

theorem idx0 : ∀ t : Fin cfg0.N, (cfg0.win 0).index t = ![0, t.val / 8] := by decide +kernel
theorem idx1 : ∀ t : Fin cfg0.N, (cfg0.win 1).index t = ![t.val % 8, 8 + t.val / 8] := by decide +kernel
theorem idx2 : ∀ t : Fin cfg0.N, (cfg0.win 2).index t = ![t.val % 8, 16 + t.val / 8] := by decide +kernel
theorem idx3 : ∀ t : Fin cfg0.N, (cfg0.win 3).index t = ![t.val / 8, 0, 0, 0] := by decide +kernel
theorem idx4 : ∀ t : Fin cfg0.N, (cfg0.win 4).index t = ![0, t.val / 8] := by decide +kernel
theorem idx5 : ∀ t : Fin cfg0.N, (cfg0.win 5).index t = ![0, t.val / 8] := by decide +kernel
theorem idx6 : ∀ t : Fin cfg0.N, (cfg0.win 6).index t = ![t.val / 8, 0] := by decide +kernel
theorem idx7 : ∀ t : Fin cfg0.N, (cfg0.win 7).index t = ![t.val % 8, t.val / 8] := by decide +kernel
theorem idx8 : ∀ t : Fin cfg0.N, (cfg0.win 8).index t = ![t.val % 8, t.val / 8] := by decide +kernel
theorem idx9 : ∀ t : Fin cfg0.N, (cfg0.win 9).index t = ![t.val / 8, 0, 0, 0] := by decide +kernel
theorem idx10 : ∀ t : Fin cfg0.N, (cfg0.win 10).index t = ![t.val / 8, 0, 0, 0] := by decide +kernel

theorem lt_N (t : Fin cfg0.N) : t.val < 64 := t.isLt

theorem coord1 (t : Fin cfg0.N) : (grid0.coords t 1).val = t.val % 8 := by
  have h := Pipeline.Grid.coords_val (G := grid0) t 1 (S := 1) (B := 8) (by decide) rfl
  rw [h, Nat.div_one]

variable {m : (ℓ : Loc nD τ sig) → Buf (Elt Ideal) ℓ} {c : Dev nD} {δ : Data}

theorem pt_q (hδ : δ.Of m c) (t : Fin cfg0.N) (r : Fin 8192) (x : Fin 128) :
    iblk m c 0 t (ix2 r x) = (((δ.pt (t.val / 8) (t.val % 8)).q r x : ℝ) : EReal) := by
  have ht := lt_N t
  have h := hδ.q r ⟨128 * (t.val / 8) + x.val, by omega⟩
  refine Eq.trans ?_ h
  blk_ext [iblk, idx0 t]

theorem pt_k (hδ : δ.Of m c) (t : Fin cfg0.N) (r : Fin 1024) (x : Fin 128) :
    iblk m c 1 t (ix2 r x) = (((δ.pt (t.val / 8) (t.val % 8)).k r x : ℝ) : EReal) := by
  have ht := lt_N t
  have h := hδ.k ⟨1024 * (t.val % 8) + r.val, by omega⟩ ⟨128 * (t.val / 8) + x.val, by omega⟩
  refine Eq.trans ?_ h
  blk_ext [iblk, idx1 t]

theorem pt_v (hδ : δ.Of m c) (t : Fin cfg0.N) (r : Fin 1024) (x : Fin 128) :
    iblk m c 2 t (ix2 r x) = (((δ.pt (t.val / 8) (t.val % 8)).v r x : ℝ) : EReal) := by
  have ht := lt_N t
  have h := hδ.v ⟨1024 * (t.val % 8) + r.val, by omega⟩ ⟨128 * (t.val / 8) + x.val, by omega⟩
  refine Eq.trans ?_ h
  blk_ext [iblk, idx2 t]

theorem pt_ck (hδ : δ.Of m c) (t : Fin cfg0.N) (a : Fin 2) (x : Fin 1024) :
    iblk m c 3 t (ix4 0 a ⟨t.val % 8, Nat.mod_lt _ (by decide)⟩ x) = (((δ.pt (t.val / 8) (t.val % 8)).ck a x : ℝ) : EReal) := by
  have ht := lt_N t
  have h := hδ.ck ⟨t.val / 8, by omega⟩ a ⟨t.val % 8, by omega⟩ x
  refine Eq.trans ?_ h
  blk_ext [iblk, idx3 t]

theorem pt_st (hδ : δ.Of m c) (t : Fin cfg0.N) (r : Fin 8192) (x : Fin 128) :
    iblk m c 4 t (ix2 r x) = (((δ.pt (t.val / 8) (t.val % 8)).st r x : ℝ) : EReal) := by
  have ht := lt_N t
  have h := hδ.st r ⟨128 * (t.val / 8) + x.val, by omega⟩
  refine Eq.trans ?_ h
  blk_ext [iblk, idx4 t]

theorem pt_w (hδ : δ.Of m c) (t : Fin cfg0.N) (r : Fin 8192) (x : Fin 128) :
    iblk m c 5 t (ix2 r x) = (((δ.pt (t.val / 8) (t.val % 8)).w r x : ℝ) : EReal) := by
  have ht := lt_N t
  have h := hδ.w r ⟨128 * (t.val / 8) + x.val, by omega⟩
  refine Eq.trans ?_ h
  blk_ext [iblk, idx5 t]

theorem pt_of (hδ : δ.Of m c) (t : Fin cfg0.N) :
    (δ.pt (t.val / 8) (t.val % 8)).Of (iblk m c 0 t) (iblk m c 1 t) (iblk m c 2 t) (iblk m c 3 t) (iblk m c 4 t) (iblk m c 5 t) :=
  ⟨Nat.mod_lt _ (by decide), pt_q hδ t, pt_k hδ t, pt_v hδ t, pt_ck hδ t, pt_st hδ t, pt_w hδ t⟩

/-- Nothing added. -/
def RAcc.none : RAcc := ⟨fun _ _ => 0, fun _ _ _ => 0, fun _ _ _ => 0, fun _ _ _ => 0⟩

theorem Rep.none (B : Acc Ideal) : Rep B B RAcc.none := by
  constructor <;> intros <;> exact (add_zero _).symm

theorem pt_rep (hδ : δ.Of m c) (t : Fin cfg0.N) (A : Acc Ideal) :
    Rep (start (grid0.coords t) A) (pt m c t A) (RAcc.none.point (δ.pt (t.val / 8) (t.val % 8))) := by
  unfold pt
  exact fin_rep _ _ (coord1 t).symm _ _ _ _ _ _ (pt_of hδ t) _ _ _ (Rep.none _)

/-- The keys' gradient of a point, -/
theorem leaves7 (hδ : δ.Of m c) (t : Fin cfg0.N) (X : Vec Ideal S1024x128 .bf16) (hX : (rd m c).Leaves 7 t X) (a : Fin 2) (x : Fin 64) (y : Fin 1024) :
    X (ix2 y (⟨64 * a.val + x.val, by omega⟩ : Fin 128))
      = ((∑ s : Fin 8192, δ.q s (64 * (2 * (t.val / 8) + a) + x) * (1 / 8) * δ.D (2 * (t.val / 8) + a) s (1024 * (t.val % 8) + y) : ℝ) : EReal) := by
  obtain ⟨Y, -, A, rfl⟩ := hX
  have h := (pt_rep hδ t A).h13 a (⟨x.val, by omega⟩ : Fin 80) y
  rw [start13, zero_add] at h
  refine (out9_at _ Y y a x).trans (h.trans (congrArg _ ?_))
  have e : 128 * (t.val / 8) + (64 * a.val + x.val) = 64 * (2 * (t.val / 8) + a.val) + x.val := by ring
  simp only [RAcc.point, RAcc.none, zero_add, if_pos x.isLt, Data.pt_D]
  simp only [Data.pt, e]

/-- the values', -/
theorem leaves8 (hδ : δ.Of m c) (t : Fin cfg0.N) (X : Vec Ideal S1024x128 .bf16) (hX : (rd m c).Leaves 8 t X) (a : Fin 2) (x : Fin 64) (y : Fin 1024) :
    X (ix2 y (⟨64 * a.val + x.val, by omega⟩ : Fin 128))
      = ((∑ s : Fin 8192, δ.w s (64 * (2 * (t.val / 8) + a) + x) * δ.P (2 * (t.val / 8) + a) s (1024 * (t.val % 8) + y) : ℝ) : EReal) := by
  obtain ⟨Y, -, A, rfl⟩ := hX
  have h := (pt_rep hδ t A).h14 a x y
  rw [start14, zero_add] at h
  refine (out10_at _ Y y a x).trans (h.trans (congrArg _ ?_))
  have e : 128 * (t.val / 8) + (64 * a.val + x.val) = 64 * (2 * (t.val / 8) + a.val) + x.val := by ring
  simp only [RAcc.point, RAcc.none, zero_add, Data.pt_P]
  simp only [Data.pt, e]

/-- A window written back at the last key block of each head pair is found, at another block than the first, as the block before left it. -/
theorem found_prev {w : Fin cfg0.W} (hfl : ∀ t : Fin cfg0.N, (cfg0.win w).flush t = true ↔ t.val % 8 = 7) (t : Fin cfg0.N)
    (hfe : (cfg0.win w).fetch t = false) (h0 : t.val % 8 ≠ 0) (Y : (cfg0.win w).block.Idx → Elt Ideal (cfg0.win w).elt) (hY : (rd m c).Finds w t Y) :
    (rd m c).Leaves w ⟨t.val - 1, Nat.lt_of_le_of_lt (Nat.sub_le _ _) t.isLt⟩ Y := by
  rcases ((rd m c).finds_of_pos hfe (by omega) Y).mp hY with h | h
  · have := (hfl _).mp h
    simp only at this
    omega
  · exact h

/-- the key decays', at the blocks so far, -/
theorem leaves9 (hδ : δ.Of m c) (n : ℕ) : ∀ (t : Fin cfg0.N), t.val = n → ∀ (X : Vec Ideal S1x2x8x1024 .f32), (rd m c).Leaves 9 t X →
    ∀ (a : Fin 2) (R : Fin 8) (y : Fin 1024), R.val ≤ t.val % 8 →
      X (ix4 0 a R y) = ((-∑ s : Fin 8192, δ.D (2 * (t.val / 8) + a) s (1024 * R + y) : ℝ) : EReal) := by
  induction n using Nat.strong_induction_on with
  | _ n ih =>
    intro t ht X hX a R y hR
    obtain ⟨Y, hY, A, rfl⟩ := hX
    have hc := coord1 t
    refine (out11_at _ (grid0.coords t) Y a R y).trans ?_
    split
    · rename_i hR'
      have h := (pt_rep hδ t A).h13 a (⟨64, by omega⟩ : Fin 80) y
      rw [start13, zero_add] at h
      rw [h, ← EReal.coe_neg]
      refine congrArg _ (congrArg _ ?_)
      simp only [RAcc.point, RAcc.none, zero_add, lt_irrefl, if_false, one_mul, Data.pt_D]
      rw [hR', hc]
    · rename_i hR'
      rw [hc] at hR'
      have hp := found_prev flush0_9 t rfl (by omega) Y hY
      have h := ih (n - 1) (by omega) ⟨t.val - 1, by omega⟩ (by simp only; omega) Y hp a R y (by simp only; omega)
      have e : (t.val - 1) / 8 = t.val / 8 := by omega
      simp only [e] at h
      exact h

end Cert.KernelIdeal.Att
-- ==== Proof.Entry.lean ====
module

public import proofs.«01_k».proof.Proof.Inputs
public import proofs.«01_k».proof.Proof.Arrays

@[expose] public section
set_option maxRecDepth 16384
noncomputable section
namespace Cert.KernelIdeal.Att
open Cert.KernelIdeal Cert.KernelIdeal.Gen
open Idealize.ShloMosaic Idealize.ShloMosaic.TcCoe

namespace In
variable (ι : In)
/-- What the kernel is given. -/
def data : Data := ⟨ι.q, ι.k, ι.v, ι.w, ι.cu, ι.st⟩
/-- The gradient of the scores. -/
def ds (n r c : ℕ) : ℝ := ι.p n r c * ((∑ x : Fin 64, ι.w r (64 * n + x) * ι.v c (64 * n + x)) - ι.de n r)
theorem data_P (n c : ℕ) (r : Fin 8192) : ι.data.P n r c = ι.p n r c := by
  have e0 : 64 * n % 64 = 0 := by omega
  have e1 : 64 * n / 64 = n := by omega
  unfold Data.P p
  by_cases h : c ≤ r.val
  · rw [if_pos h, if_pos h]
    have hZ := Zs_pos ι.s n r
    have hs : (∑ x : Fin 64, ι.data.q r (64 * n + x) * (1 / 8) * ι.data.k c (64 * n + x)) - ι.data.ck n c - ι.data.st r (64 * n)
        = ι.s n r c - Real.log (Zs ι.s n r) := by
      simp only [data, st, s, e0, e1, if_pos (show 0 < 32 by norm_num), Finset.sum_mul]
      congr 2
      exact Finset.sum_congr rfl fun x _ => by ring
    rw [hs, Real.exp_sub, Real.exp_log hZ]
  · rw [if_neg h, if_neg h]
theorem data_D (n c : ℕ) (r : Fin 8192) : ι.data.D n r c = ι.ds n r c := by
  have e0 : (64 * n + 32) % 64 = 32 := by omega
  have e1 : (64 * n + 32) / 64 = n := by omega
  unfold Data.D ds
  rw [data_P]
  simp only [data, st, e0, e1, lt_irrefl, if_false]
/-- The row sums of the output's products are the row sums of the probabilities'. -/
theorem de_eq (n r : ℕ) : ι.de n r = ∑ c : Fin 8192, ι.p n r c * ∑ x : Fin 64, ι.w r (64 * n + x) * ι.v c (64 * n + x) := by
  unfold de o
  simp only [Finset.mul_sum]
  rw [Finset.sum_comm]
  refine Finset.sum_congr rfl fun c _ => Finset.sum_congr rfl fun x _ => ?_
  have e : (64 * n + x.val) / 64 = n := by omega
  rw [e]; ring
section
variable {ι} {m : (ℓ : Loc nD τ sig) → Buf (Elt Ideal) ℓ} {c : Dev nD} (h : ι.Of (arr0 m c) (arr1 m c) (arr2 m c) (arr3 m c) (arr4 m c))
include h
theorem of_q (r : Fin 8192) (x : Fin 1024) : V m c main_v1 (ix2 r (⟨x.val, by omega⟩ : Fin 3072)) = ((ι.q r x : ℝ) : EReal) := by
  rw [read_v1]
  have e := h.q r x
  pointwise [e]
theorem of_k (r : Fin 8192) (x : Fin 1024) : V m c main_v1 (ix2 r (⟨1024 + x.val, by omega⟩ : Fin 3072)) = ((ι.k r x : ℝ) : EReal) := by
  rw [read_v1]
  have e := h.k r x
  pointwise [e]
theorem of_v (r : Fin 8192) (x : Fin 1024) : V m c main_v1 (ix2 r (⟨2048 + x.val, by omega⟩ : Fin 3072)) = ((ι.v r x : ℝ) : EReal) := by
  rw [read_v1]
  have e := h.v r x
  pointwise [e]
  have hx : (⟨2048 + x.val - 1024 - 1024, by omega⟩ : Fin 1024) = x := Fin.ext (by dsimp only; omega)
  rw [dif_neg (by omega), dif_neg (by omega), hx, e]
theorem of_ck (a : Fin 8) (b : Fin 2) (j : Fin 8) (x : Fin 1024) : V m c main_v2 (ix4 a b j x) = ((ι.cu (2 * a + b) (1024 * j + x) : ℝ) : EReal) := by
  rw [read_v2]
  have e := h.cu ⟨a.val * 2 + b.val, by omega⟩ ⟨j.val * 1024 + x.val, by omega⟩
  rw [Nat.mul_comm 2, Nat.mul_comm 1024]
  generalize arr3 m c = A at e
  pointwise [e]
theorem of_st (r : Fin 8192) (x : Fin 1024) : V m c main_v80 (ix2 r x) = ((ι.st r x : ℝ) : EReal) := by
  rw [read_v80]; exact stats_in ι h r x
theorem of_w (r : Fin 8192) (x : Fin 1024) : V m c main_v81 (ix2 r x) = ((ι.w r x : ℝ) : EReal) := by
  rw [read_v81]; exact h.w r x
theorem data_of : ι.data.Of m c := ⟨of_q h, of_k h, of_v h, of_ck h, of_st h, of_w h⟩
end
end In
end Cert.KernelIdeal.Att
-- ==== Proof.Reference.lean ====
module

public import proofs.«01_k».proof.Proof.Entry
public import proofs.«01_k».proof.Proof.Gen.ReferenceIdeal.Run

@[expose] public section
set_option maxRecDepth 16384
noncomputable section
namespace Cert.ReferenceIdeal.Att
open Cert.ReferenceIdeal Cert.ReferenceIdeal.Gen
open Idealize.ShloMosaic Idealize.ShloMosaic.TcCoe
open Cert.KernelIdeal.Att (In hd dots causal onRows sc ee mxR sums probs Zs eighth coe_sum)

/-! ## The reference's stages -/
/-- The row sums of the softmax's gradient. -/
def rr (E DP : FVec Ideal S16x8192x8192 .f32) (L : FVec Ideal S16x8192 .f32) : FVec Ideal S16x8192 .f32 :=
  Host.reduceAdd (mulf (mulf DP (broadcastInDim S16x8192x8192 ![0, 1, 2] bcast_S16x8192x1_S16x8192x8192_0_1_2 (Host.divf (broadcastInDim S16x8192x1 ![] bcast_S_S16x8192x1 (constant S_ .f32 0x3F800000#32)) (mulf (broadcastInDim S16x8192x1 ![0, 1] bcast_S16x8192_S16x8192x1_0_1 L) (broadcastInDim S16x8192x1 ![0, 1] bcast_S16x8192_S16x8192x1_0_1 L))))) E) (constant S_ .f32 0x00000000#32) reducesTo_S16x8192x8192_S16x8192_d2 h_S_
/-- The same, negated as the reference negates them. -/
def nr (R : FVec Ideal S16x8192 .f32) : FVec Ideal S16x8192 .f32 :=
  Host.reduceAdd (Host.negf (shapeCast _ R shapeCasts_S16x8192_S16x8192x1)) (constant S_ .f32 0x00000000#32) reducesTo_S16x8192x1_S16x8192_d2 h_S_
/-- The gradient of the scores. -/
def gs (E DP : FVec Ideal S16x8192x8192 .f32) (L N : FVec Ideal S16x8192 .f32) : FVec Ideal S16x8192x8192 .f32 :=
  select causal (mulf (addf (Host.divf DP (onRows L)) (broadcastInDim S16x8192x8192 ![0, 1] bcast_S16x8192_S16x8192x8192_0_1 N)) E) (broadcastInDim S16x8192x8192 ![] bcast_S_S16x8192x8192 (constant S_ .f32 0x00000000#32))
/-- The queries' gradient, -/
def out0 (DS : FVec Ideal S16x8192x8192 .f32) (k : FVec Ideal S8192x1024 .f32) : FVec Ideal S1024x8192 .f32 :=
  transpose S1024x8192 [1, 0] (shapeCast S8192x1024 (transpose S8192x16x64 [1, 0, 2] (Host.dotGeneral dot_S16x8192x8192_S16x8192x64_S16x8192x64_2_1_1_2_0_0 none (mulf DS (broadcastInDim S16x8192x8192 ![] bcast_S_S16x8192x8192 (constant S_ .f32 0x3E000000#32))) (hd k)) transposes_S16x8192x64_S8192x16x64_1_0_2) shapeCasts_S8192x16x64_S8192x1024) transposes_S8192x1024_S1024x8192_1_0
/-- the keys', -/
def out1 (DS : FVec Ideal S16x8192x8192 .f32) (q : FVec Ideal S8192x1024 .f32) : FVec Ideal S8192x1024 .bf16 :=
  truncf .bf16 (shapeCast S8192x1024 (transpose S8192x16x64 [1, 0, 2] (Host.dotGeneral dot_S16x8192x8192_S16x8192x64_S16x8192x64_1_1_2_2_0_0 none (mulf DS (broadcastInDim S16x8192x8192 ![] bcast_S_S16x8192x8192 (constant S_ .f32 0x3E000000#32))) (hd q)) transposes_S16x8192x64_S8192x16x64_1_0_2) shapeCasts_S8192x16x64_S8192x1024) bitsLt_bf16_f32
/-- the values', -/
def out2 (P : FVec Ideal S16x8192x8192 .f32) (w : FVec Ideal S8192x1024 .f32) : FVec Ideal S8192x1024 .bf16 :=
  truncf .bf16 (shapeCast S8192x1024 (transpose S8192x16x64 [1, 0, 2] (transpose S16x8192x64 [0, 2, 1] (Host.dotGeneral dot_S16x8192x64_S16x8192x8192_S16x64x8192_1_1_2_2_0_0 none (hd w) P) transposes_S16x64x8192_S16x8192x64_0_2_1) transposes_S16x8192x64_S8192x16x64_1_0_2) shapeCasts_S8192x16x64_S8192x1024) bitsLt_bf16_f32
/-- the key decays' -/
def out3 (DS : FVec Ideal S16x8192x8192 .f32) : FVec Ideal S8x2x8x1024 .f32 :=
  shapeCast _ (Host.reduceAdd (shapeCast S16x1x8192 (Host.reduceAdd (Host.negf DS) (constant S_ .f32 0x00000000#32) reducesTo_S16x8192x8192_S16x8192_d1 h_S_) shapeCasts_S16x8192_S16x1x8192) (constant S_ .f32 0x00000000#32) reducesTo_S16x1x8192_S16x8192_d1 h_S_) shapeCasts_S16x8192_S8x2x8x1024
/-- and the query decays'. -/
def out4 (DS : FVec Ideal S16x8192x8192 .f32) : FVec Ideal S8x2x16x512 .f32 :=
  shapeCast _ (Host.reduceAdd (shapeCast S16x8192x1 (Host.reduceAdd DS (constant S_ .f32 0x00000000#32) reducesTo_S16x8192x8192_S16x8192_d2 h_S_) shapeCasts_S16x8192_S16x8192x1) (constant S_ .f32 0x00000000#32) reducesTo_S16x8192x1_S16x8192_d2 h_S_) shapeCasts_S16x8192_S8x2x16x512

section
variable {m : (ℓ : Loc nD τ sig) → Buf (Elt Ideal) ℓ} {c : Dev nD}
abbrev b0 (m : (ℓ : Loc nD τ sig) → Buf (Elt Ideal) ℓ) (c : Dev nD) : FVec Ideal S8192x1024 .f32 := m ((c.tc : Thread nD τ).loc main_arg0)
abbrev b1 (m : (ℓ : Loc nD τ sig) → Buf (Elt Ideal) ℓ) (c : Dev nD) : FVec Ideal S8192x1024 .f32 := m ((c.tc : Thread nD τ).loc main_arg1)
abbrev b2 (m : (ℓ : Loc nD τ sig) → Buf (Elt Ideal) ℓ) (c : Dev nD) : FVec Ideal S8192x1024 .f32 := m ((c.tc : Thread nD τ).loc main_arg2)
abbrev b3 (m : (ℓ : Loc nD τ sig) → Buf (Elt Ideal) ℓ) (c : Dev nD) : FVec Ideal S16x8192 .f32 := m ((c.tc : Thread nD τ).loc main_arg3)
abbrev b4 (m : (ℓ : Loc nD τ sig) → Buf (Elt Ideal) ℓ) (c : Dev nD) : FVec Ideal S8192x1024 .f32 := m ((c.tc : Thread nD τ).loc main_arg4)
/-- The gradient of the scores, of the arguments. -/
def full (a0 a1 a2 : FVec Ideal S8192x1024 .f32) (a3 : FVec Ideal S16x8192 .f32) (a4 : FVec Ideal S8192x1024 .f32) : FVec Ideal S16x8192x8192 .f32 :=
  gs (ee (sc a0 a1 a3 a3) (mxR (sc a0 a1 a3 a3))) (dots (hd a4) (hd a2)) (sums (ee (sc a0 a1 a3 a3) (mxR (sc a0 a1 a3 a3))))
    (nr (rr (ee (sc a0 a1 a3 a3) (mxR (sc a0 a1 a3 a3))) (dots (hd a4) (hd a2)) (sums (ee (sc a0 a1 a3 a3) (mxR (sc a0 a1 a3 a3))))))
theorem v89 : Value.res_main_v89 m c = out0 (full (b0 m c) (b1 m c) (b2 m c) (b3 m c) (b4 m c)) (b1 m c) := rfl
theorem v90 : Value.res_main_v90 m c = out1 (full (b0 m c) (b1 m c) (b2 m c) (b3 m c) (b4 m c)) (b0 m c) := rfl
theorem v91 : Value.res_main_v91 m c = out2 (probs (sc (b0 m c) (b1 m c) (b3 m c) (b3 m c))) (b4 m c) := rfl
theorem v92 : Value.res_main_v92 m c = out3 (full (b0 m c) (b1 m c) (b2 m c) (b3 m c) (b4 m c)) := rfl
theorem v93 : Value.res_main_v93 m c = out4 (full (b0 m c) (b1 m c) (b2 m c) (b3 m c) (b4 m c)) := rfl
end

section
variable (E DP DS P : FVec Ideal S16x8192x8192 .f32) (L N R : FVec Ideal S16x8192 .f32) (x : FVec Ideal S8192x1024 .f32)
  (e dp ds p : ℕ → ℕ → ℕ → ℝ) (l n' r' x' : ℕ → ℕ → ℝ)
theorem f32_one : Ideal.ofBits .f32 0x3F800000#32 = ((1 : ℝ) : EReal) := by
  rw [Ideal.ofBits_one_f32]; rfl
theorem rr_at (hE : ∀ (n : Fin 16) (r c : Fin 8192), E (ix3 n r c) = ((e n r c : ℝ) : EReal)) (hDP : ∀ (n : Fin 16) (r c : Fin 8192), DP (ix3 n r c) = ((dp n r c : ℝ) : EReal))
    (hL : ∀ (n : Fin 16) (r : Fin 8192), L (ix2 n r) = ((l n r : ℝ) : EReal)) (n : Fin 16) (r : Fin 8192) (h0 : l n r ≠ 0) :
    rr E DP L (ix2 n r) = ((∑ c : Fin 8192, dp n r c * (1 / (l n r * l n r)) * e n r c : ℝ) : EReal) := by
  pointwise [rr, hE, hDP, hL]
  simp only [f32_one, ← EReal.coe_mul, Ideal.div_coe (mul_ne_zero h0 h0), one_mul, coe_sum, zero_add]
theorem nr_at (hR : ∀ (n : Fin 16) (r : Fin 8192), R (ix2 n r) = ((r' n r : ℝ) : EReal)) (n : Fin 16) (r : Fin 8192) :
    nr R (ix2 n r) = ((- r' n r : ℝ) : EReal) := by
  pointwise [nr, hR]
  rw [Fin.sum_univ_one, EReal.coe_neg]
theorem gs_at (hE : ∀ (n : Fin 16) (r c : Fin 8192), E (ix3 n r c) = ((e n r c : ℝ) : EReal)) (hDP : ∀ (n : Fin 16) (r c : Fin 8192), DP (ix3 n r c) = ((dp n r c : ℝ) : EReal))
    (hL : ∀ (n : Fin 16) (r : Fin 8192), L (ix2 n r) = ((l n r : ℝ) : EReal)) (hN : ∀ (n : Fin 16) (r : Fin 8192), N (ix2 n r) = ((n' n r : ℝ) : EReal)) (n : Fin 16) (r c : Fin 8192) (h0 : l n r ≠ 0) :
    gs E DP L N (ix3 n r c) = ((if c.val ≤ r.val then (dp n r c * (1 / l n r) + n' n r) * e n r c else 0 : ℝ) : EReal) := by
  have hm := Cert.KernelIdeal.Att.causal_at n r c
  pointwise [gs, onRows, hE, hDP, hL, hN, hm]
  by_cases h : c.val ≤ r.val
  · simp only [h, decide_true, if_true, Ideal.div_coe h0, ← EReal.coe_mul, ← EReal.coe_add]
  · simp only [h, decide_false, if_false]
    rfl
theorem out0_at (hDS : ∀ (n : Fin 16) (r c : Fin 8192), DS (ix3 n r c) = ((ds n r c : ℝ) : EReal)) (hx : ∀ (r : Fin 8192) (y : Fin 1024), x (ix2 r y) = ((x' r y : ℝ) : EReal))
    (y : Fin 1024) (r : Fin 8192) : out0 DS x (ix2 y r) = ((∑ c : Fin 8192, ds (y.val / 64) r c * (1 / 8) * x' c y : ℝ) : EReal) := by
  pointwise [out0, hd, hDS, hx]
  simp only [Nat.div_add_mod', eighth, ← EReal.coe_mul, coe_sum]
theorem out1_at (hDS : ∀ (n : Fin 16) (r c : Fin 8192), DS (ix3 n r c) = ((ds n r c : ℝ) : EReal)) (hx : ∀ (r : Fin 8192) (y : Fin 1024), x (ix2 r y) = ((x' r y : ℝ) : EReal))
    (c : Fin 8192) (y : Fin 1024) : out1 DS x (ix2 c y) = ((∑ r : Fin 8192, ds (y.val / 64) r c * (1 / 8) * x' r y : ℝ) : EReal) := by
  pointwise [out1, hd, hDS, hx]
  simp only [Nat.div_add_mod', eighth, ← EReal.coe_mul, coe_sum]
theorem out2_at (hP : ∀ (n : Fin 16) (r c : Fin 8192), P (ix3 n r c) = ((p n r c : ℝ) : EReal)) (hx : ∀ (r : Fin 8192) (y : Fin 1024), x (ix2 r y) = ((x' r y : ℝ) : EReal))
    (c : Fin 8192) (y : Fin 1024) : out2 P x (ix2 c y) = ((∑ r : Fin 8192, x' r y * p (y.val / 64) r c : ℝ) : EReal) := by
  pointwise [out2, hd, hP, hx]
  simp only [Nat.div_add_mod', ← EReal.coe_mul, coe_sum]
theorem out3_at (hDS : ∀ (n : Fin 16) (r c : Fin 8192), DS (ix3 n r c) = ((ds n r c : ℝ) : EReal))
    (a : Fin 8) (b : Fin 2) (j : Fin 8) (y : Fin 1024) : out3 DS (ix4 a b j y) = ((∑ r : Fin 8192, - ds (2 * a + b) r (1024 * j + y) : ℝ) : EReal) := by
  pointwise [out3, hDS]
  simp only [Nat.mul_comm a.val 2, Nat.mul_comm j.val 1024, ← EReal.coe_neg, coe_sum, zero_add]
  rw [Fin.sum_univ_one]
theorem out4_at (hDS : ∀ (n : Fin 16) (r c : Fin 8192), DS (ix3 n r c) = ((ds n r c : ℝ) : EReal))
    (a : Fin 8) (b : Fin 2) (j : Fin 16) (y : Fin 512) : out4 DS (ix4 a b j y) = ((∑ c : Fin 8192, ds (2 * a + b) (512 * j + y) c : ℝ) : EReal) := by
  pointwise [out4, hDS]
  simp only [Nat.mul_comm a.val 2, Nat.mul_comm j.val 512, coe_sum, zero_add]
  rw [Fin.sum_univ_one]
end

/-! ## The results of real arguments -/
section
variable (ι : In) {a0 a1 a2 : FVec Ideal S8192x1024 .f32} {a3 : FVec Ideal S16x8192 .f32} {a4 : FVec Ideal S8192x1024 .f32} (h : ι.Of a0 a1 a2 a3 a4)
theorem dots_at (x w : FVec Ideal S8192x1024 .f32) (x' w' : ℕ → ℕ → ℝ) (hx : ∀ (r : Fin 8192) (y : Fin 1024), x (ix2 r y) = ((x' r y : ℝ) : EReal))
    (hw : ∀ (r : Fin 8192) (y : Fin 1024), w (ix2 r y) = ((w' r y : ℝ) : EReal)) (n : Fin 16) (r c : Fin 8192) :
    dots (hd x) (hd w) (ix3 n r c) = ((∑ y : Fin 64, x' r (64 * n + y) * w' c (64 * n + y) : ℝ) : EReal) := by
  pointwise [dots, hd, hx, hw]
  simp only [Nat.mul_comm n.val 64, ← EReal.coe_mul, coe_sum]
/-- The softmax's gradient as the probability times the centred gradient. -/
theorem softmax_grad (e dp p : Fin 8192 → ℝ) (l : ℝ) (hl : l ≠ 0) (he : ∀ c, e c / l = p c) (c : Fin 8192) :
    (dp c * (1 / l) + - ∑ y, dp y * (1 / (l * l)) * e y) * e c = p c * (dp c - ∑ y, p y * dp y) := by
  have hs : ∑ y, dp y * (1 / (l * l)) * e y = (1 / l) * ∑ y, p y * dp y := by
    rw [Finset.mul_sum]
    refine Finset.sum_congr rfl fun y _ => ?_
    rw [← he y]; field_simp
  rw [hs, ← he c]; field_simp; ring
include h
theorem full_at (n : Fin 16) (r c : Fin 8192) : full a0 a1 a2 a3 a4 (ix3 n r c) = ((ι.ds n r c : ℝ) : EReal) := by
  have hS := Cert.KernelIdeal.Att.sc_in ι h
  obtain ⟨μ, hμ⟩ := Cert.KernelIdeal.Att.mxR_at _ ι.s ι.cu hS
  let M : ℕ → ℕ → ℝ := fun n r => if hn : n < 16 then if hr : r < 8192 then μ ⟨n, hn⟩ ⟨r, hr⟩ else 0 else 0
  have hM : ∀ (n : Fin 16) (r : Fin 8192), μ n r = M n r := fun n r => by simp only [M, n.isLt, r.isLt, dif_pos]
  let e : ℕ → ℕ → ℕ → ℝ := fun n r c => if c ≤ r then Real.exp (ι.s n r c + ι.cu n r - M n r) else 0
  let l : ℕ → ℕ → ℝ := fun n r => Real.exp (ι.cu n r - M n r) * Zs ι.s n r
  have hE : ∀ (n : Fin 16) (r c : Fin 8192), ee (sc a0 a1 a3 a3) (mxR (sc a0 a1 a3 a3)) (ix3 n r c) = ((e n r c : ℝ) : EReal) := fun n r c => by
    rw [Cert.KernelIdeal.Att.ee_at _ _ (fun n r c => ι.s n r c + ι.cu n r) μ hS hμ, hM]
  have hL : ∀ (n : Fin 16) (r : Fin 8192), sums (ee (sc a0 a1 a3 a3) (mxR (sc a0 a1 a3 a3))) (ix2 n r) = ((l n r : ℝ) : EReal) := fun n r => by
    rw [Cert.KernelIdeal.Att.sums_at _ _ (fun n r c => ι.s n r c + ι.cu n r) μ hS hμ, hM, Cert.KernelIdeal.Att.shifted]
  have h0 : ∀ (n : Fin 16) (r : Fin 8192), l n r ≠ 0 := fun n r => (mul_pos (Real.exp_pos _) (Cert.KernelIdeal.Att.Zs_pos ι.s n r)).ne'
  have hp : ∀ (n : Fin 16) (r c : Fin 8192), e n r c / l n r = ι.p n r c := fun n r c => by
    simp only [e, l, In.p]
    split
    · have := (Real.exp_pos (ι.cu n r - M n r)).ne'
      have := (Cert.KernelIdeal.Att.Zs_pos ι.s n r).ne'
      rw [add_sub_assoc, Real.exp_add]
      field_simp
    · rw [zero_div]
  have hDP := dots_at a4 a2 ι.w ι.v h.w h.v
  unfold full
  generalize ee (sc a0 a1 a3 a3) (mxR (sc a0 a1 a3 a3)) = E at hE hL ⊢
  generalize sums E = L at hL ⊢
  generalize dots (hd a4) (hd a2) = DP at hDP ⊢
  have hR : ∀ (n : Fin 16) (r : Fin 8192), rr E DP L (ix2 n r) = _ := fun n r => rr_at E DP L e (fun n r c => ∑ y : Fin 64, ι.w r (64 * n + y) * ι.v c (64 * n + y)) l hE hDP hL n r (h0 n r)
  have hN := nr_at (rr E DP L) (fun n r => ∑ c : Fin 8192, (∑ y : Fin 64, ι.w r (64 * n + y) * ι.v c (64 * n + y)) * (1 / (l n r * l n r)) * e n r c) hR
  rw [gs_at E DP L _ e (fun n r c => ∑ y : Fin 64, ι.w r (64 * n + y) * ι.v c (64 * n + y)) l (fun n r => - ∑ c : Fin 8192, (∑ y : Fin 64, ι.w r (64 * n + y) * ι.v c (64 * n + y)) * (1 / (l n r * l n r)) * e n r c) hE hDP hL hN n r c (h0 n r)]
  rw [softmax_grad (fun c => e n r c) (fun c => ∑ y : Fin 64, ι.w r (64 * n + y) * ι.v c (64 * n + y)) (fun c => ι.p n r c) (l n r) (h0 n r) (hp n r) c]
  unfold In.ds
  rw [In.de_eq]
  congr 1
  by_cases hc : c.val ≤ r.val
  · rw [if_pos hc]
  · rw [if_neg hc, In.p, if_neg hc, zero_mul]
end
end Cert.ReferenceIdeal.Att
-- ==== Proof.Results.lean ====
module

public import proofs.«01_k».proof.Proof.Arrays

@[expose] public section

set_option maxRecDepth 16384

noncomputable section

namespace Cert.KernelIdeal.Att

open Cert.KernelIdeal Cert.KernelIdeal.Gen
open Idealize.ShloMosaic Idealize.ShloMosaic.TcCoe
open Idealize.SL.Sem
open Idealize.ShloMosaic.Pipeline (Dat RDat Cfg Window)

variable {m : (ℓ : Loc nD τ sig) → Buf (Elt Ideal) ℓ} {c : Dev nD} {δ : Data}

/-! The gradients added up over the key blocks, and the result arrays. -/

theorem sum_next (f : ℕ → ℝ) (j : ℕ) : ∑ i ∈ Finset.range (1024 * (j + 1)), f i = ∑ i ∈ Finset.range (1024 * j), f i + ∑ y : Fin 1024, f (1024 * j + y) := by
  rw [Nat.mul_add, Nat.mul_one, Finset.sum_range_add, ← Finset.sum_range (fun y => f (1024 * j + y))]

/-- The queries' gradient over the blocks so far, -/
theorem leaves6 (hδ : δ.Of m c) (n : ℕ) : ∀ (t : Fin cfg0.N), t.val = n → ∀ (X : Vec Ideal S128x8192 .f32), (rd m c).Leaves 6 t X →
    ∀ (x : Fin 128) (r : Fin 8192), X (ix2 x r)
      = (((∑ y ∈ Finset.range (1024 * (t.val % 8 + 1)), δ.k y (128 * (t.val / 8) + x) * δ.D ((128 * (t.val / 8) + x) / 64) r y) * (1 / 8) : ℝ) : EReal) := by
  induction n using Nat.strong_induction_on with
  | _ n ih =>
    intro t ht X hX x r
    obtain ⟨Y, hY, A, hA, rfl⟩ := hX
    have hc := coord1 t
    have h := (pt_rep hδ t A).h8 x r
    have e : (128 * (t.val / 8) + x.val) / 64 = 2 * (t.val / 8) + x.val / 64 := by omega
    rw [start8, hc, hA] at h
    simp only [RAcc.point, RAcc.none, zero_add, Data.pt_D] at h
    simp only [Data.pt] at h
    rw [h, sum_next, e]
    split
    · rename_i h0
      rw [h0, zero_add, Nat.mul_zero, Finset.range_zero, Finset.sum_empty, zero_add]
    · rename_i h0
      have hp := found_prev flush0_6 t rfl h0 Y hY
      have h' := ih (n - 1) (by omega) ⟨t.val - 1, by omega⟩ (by simp only; omega) Y hp x r
      have e1 : (t.val - 1) / 8 = t.val / 8 := by omega
      have e2 : (t.val - 1) % 8 + 1 = t.val % 8 := by omega
      simp only [e1, e2, e] at h'
      rw [h', ← EReal.coe_add, add_mul]

/-- and the query decays'. -/
theorem leaves10 (hδ : δ.Of m c) (n : ℕ) : ∀ (t : Fin cfg0.N), t.val = n → ∀ (X : Vec Ideal S1x2x16x512 .f32), (rd m c).Leaves 10 t X →
    ∀ (a : Fin 2) (R : Fin 16) (r : Fin 512), X (ix4 0 a R r)
      = ((∑ y ∈ Finset.range (1024 * (t.val % 8 + 1)), δ.D (2 * (t.val / 8) + a) (512 * R + r) y : ℝ) : EReal) := by
  induction n using Nat.strong_induction_on with
  | _ n ih =>
    intro t ht X hX a R r
    obtain ⟨Y, hY, A, hA, rfl⟩ := hX
    have hc := coord1 t
    have h := (pt_rep hδ t A).h12 a R r
    rw [start12, hc, hA] at h
    simp only [RAcc.point, RAcc.none, zero_add, Data.pt_D] at h
    rw [h, sum_next]
    split
    · rename_i h0
      rw [h0, zero_add, Nat.mul_zero, Finset.range_zero, Finset.sum_empty, zero_add]
    · rename_i h0
      have hp := found_prev flush0_10 t rfl h0 Y hY
      have h' := ih (n - 1) (by omega) ⟨t.val - 1, by omega⟩ (by simp only; omega) Y hp a R r
      have e1 : (t.val - 1) / 8 = t.val / 8 := by omega
      have e2 : (t.val - 1) % 8 + 1 = t.val % 8 := by omega
      simp only [e1, e2] at h'
      rw [h', ← EReal.coe_add]

/-- The five results, -/
def res6 (δ : Data) : Vec Ideal S1024x8192 .f32 := fun i =>
  (((∑ y ∈ Finset.range 8192, δ.k y (i 0).val * δ.D ((i 0).val / 64) (i 1).val y) * (1 / 8) : ℝ) : EReal)
def res7 (δ : Data) : Vec Ideal S8192x1024 .bf16 := fun i =>
  ((∑ s : Fin 8192, δ.q s (i 1).val * (1 / 8) * δ.D ((i 1).val / 64) s (i 0).val : ℝ) : EReal)
def res8 (δ : Data) : Vec Ideal S8192x1024 .bf16 := fun i =>
  ((∑ s : Fin 8192, δ.w s (i 1).val * δ.P ((i 1).val / 64) s (i 0).val : ℝ) : EReal)
def res9 (δ : Data) : Vec Ideal S8x2x8x1024 .f32 := fun i =>
  ((-∑ s : Fin 8192, δ.D (2 * (i 0).val + (i 1).val) s (1024 * (i 2).val + (i 3).val) : ℝ) : EReal)
def res10 (δ : Data) : Vec Ideal S8x2x16x512 .f32 := fun i =>
  ((∑ y ∈ Finset.range 8192, δ.D (2 * (i 0).val + (i 1).val) (512 * (i 2).val + (i 3).val) y : ℝ) : EReal)

theorem arr6 (hδ : δ.Of m c) (dat : Dat τ (Elt Ideal) Unit ℕ (UR sig nD τ) ℕ cfg0 c)
    (hL : ∀ u, (cfg0.win 6).flush u = true → (rd m c).Leaves 6 u (dat.after 6 u)) : dat.arrAt 6 cfg0.N = res6 δ := by
  refine dat.arrAt_eq_of_covers 6 _ (by decide +kernel) fun t hf y => ?_
  have h := leaves6 hδ t t rfl _ (hL t hf) (y 0) (y 1)
  have h7 := (flush0_6 t).mp hf
  have e0 : ((((cfg0.win 6).blk t).view.emb y) 0).val = 128 * (t.val / 8) + (y 0).val := by blk_simp [idx6 t]; dsimp only; omega
  have e1 : ((((cfg0.win 6).blk t).view.emb y) 1).val = (y 1).val := by blk_simp [idx6 t]
  blk_simp
  unfold res6
  rw [e0, e1]
  rw [h7] at h
  refine Eq.trans (congrArg _ ?_) h
  blk_ext

theorem arr7 (hδ : δ.Of m c) (dat : Dat τ (Elt Ideal) Unit ℕ (UR sig nD τ) ℕ cfg0 c)
    (hL : ∀ u, (cfg0.win 7).flush u = true → (rd m c).Leaves 7 u (dat.after 7 u)) : dat.arrAt 7 cfg0.N = res7 δ := by
  refine dat.arrAt_eq_of_covers 7 _ (by decide +kernel) fun t hf y => ?_
  have hy : (y 1).val < 128 := (y 1).isLt
  have h := leaves7 hδ t _ (hL t hf) ⟨(y 1).val / 64, by omega⟩ ⟨(y 1).val % 64, by omega⟩ (y 0)
  have e0 : ((((cfg0.win 7).blk t).view.emb y) 0).val = 1024 * (t.val % 8) + (y 0).val := by blk_simp [idx7 t]; dsimp only; omega
  have e1 : ((((cfg0.win 7).blk t).view.emb y) 1).val = 64 * (2 * (t.val / 8) + (y 1).val / 64) + (y 1).val % 64 := by blk_simp [idx7 t]; dsimp only; omega
  have e2 : (64 * (2 * (t.val / 8) + (y 1).val / 64) + (y 1).val % 64) / 64 = 2 * (t.val / 8) + (y 1).val / 64 := by omega
  blk_simp
  unfold res7
  rw [e0, e1]
  simp only [e2]
  refine Eq.trans (congrArg _ ?_) h
  blk_ext

theorem arr8 (hδ : δ.Of m c) (dat : Dat τ (Elt Ideal) Unit ℕ (UR sig nD τ) ℕ cfg0 c)
    (hL : ∀ u, (cfg0.win 8).flush u = true → (rd m c).Leaves 8 u (dat.after 8 u)) : dat.arrAt 8 cfg0.N = res8 δ := by
  refine dat.arrAt_eq_of_covers 8 _ (by decide +kernel) fun t hf y => ?_
  have hy : (y 1).val < 128 := (y 1).isLt
  have h := leaves8 hδ t _ (hL t hf) ⟨(y 1).val / 64, by omega⟩ ⟨(y 1).val % 64, by omega⟩ (y 0)
  have e0 : ((((cfg0.win 8).blk t).view.emb y) 0).val = 1024 * (t.val % 8) + (y 0).val := by blk_simp [idx8 t]; dsimp only; omega
  have e1 : ((((cfg0.win 8).blk t).view.emb y) 1).val = 64 * (2 * (t.val / 8) + (y 1).val / 64) + (y 1).val % 64 := by blk_simp [idx8 t]; dsimp only; omega
  have e2 : (64 * (2 * (t.val / 8) + (y 1).val / 64) + (y 1).val % 64) / 64 = 2 * (t.val / 8) + (y 1).val / 64 := by omega
  blk_simp
  unfold res8
  rw [e0, e1]
  simp only [e2]
  refine Eq.trans (congrArg _ ?_) h
  blk_ext

theorem arr9 (hδ : δ.Of m c) (dat : Dat τ (Elt Ideal) Unit ℕ (UR sig nD τ) ℕ cfg0 c)
    (hL : ∀ u, (cfg0.win 9).flush u = true → (rd m c).Leaves 9 u (dat.after 9 u)) : dat.arrAt 9 cfg0.N = res9 δ := by
  refine dat.arrAt_eq_of_covers 9 _ (by decide +kernel) fun t hf y => ?_
  have hy0 : (y 0).val < 1 := (y 0).isLt
  have hy : (y 2).val < 8 := (y 2).isLt
  have h7 := (flush0_9 t).mp hf
  have h := leaves9 hδ t t rfl _ (hL t hf) (y 1) (y 2) (y 3) (by rw [h7]; omega)
  have e0 : ((((cfg0.win 9).blk t).view.emb y) 0).val = t.val / 8 := by blk_simp [idx9 t]
  have e1 : ((((cfg0.win 9).blk t).view.emb y) 1).val = (y 1).val := by blk_simp [idx9 t]
  have e2 : ((((cfg0.win 9).blk t).view.emb y) 2).val = (y 2).val := by blk_simp [idx9 t]
  have e3 : ((((cfg0.win 9).blk t).view.emb y) 3).val = (y 3).val := by blk_simp [idx9 t]
  blk_simp
  unfold res9
  rw [e0, e1, e2, e3]
  refine Eq.trans (congrArg _ ?_) h
  blk_ext

theorem arr10 (hδ : δ.Of m c) (dat : Dat τ (Elt Ideal) Unit ℕ (UR sig nD τ) ℕ cfg0 c)
    (hL : ∀ u, (cfg0.win 10).flush u = true → (rd m c).Leaves 10 u (dat.after 10 u)) : dat.arrAt 10 cfg0.N = res10 δ := by
  refine dat.arrAt_eq_of_covers 10 _ (by decide +kernel) fun t hf y => ?_
  have hy0 : (y 0).val < 1 := (y 0).isLt
  have h7 := (flush0_10 t).mp hf
  have h := leaves10 hδ t t rfl _ (hL t hf) (y 1) (y 2) (y 3)
  have e0 : ((((cfg0.win 10).blk t).view.emb y) 0).val = t.val / 8 := by blk_simp [idx10 t]
  have e1 : ((((cfg0.win 10).blk t).view.emb y) 1).val = (y 1).val := by blk_simp [idx10 t]
  have e2 : ((((cfg0.win 10).blk t).view.emb y) 2).val = (y 2).val := by blk_simp [idx10 t]
  have e3 : ((((cfg0.win 10).blk t).view.emb y) 3).val = (y 3).val := by blk_simp [idx10 t]
  blk_simp
  unfold res10
  rw [e0, e1, e2, e3]
  rw [h7] at h
  refine Eq.trans (congrArg _ ?_) h
  blk_ext

/-- One exact data name what the run leaves in every array. -/
theorem exact {r : PUnit × MemSt nD τ sig (Elt Ideal)} (h : RDat.FramePost (cfgs 0) (fun c => rd m c) (V m) r) (c : Dev nD) :
    ∃ dat : Dat τ (Elt Ideal) Unit ℕ (UR sig nD τ) ℕ cfg0 c, (∀ w u, (cfg0.win w).flush u = true → (rd m c).Leaves w u (dat.after w u))
      ∧ ∀ w, r.2.mem ((cfg0.spec w).arr.view.loc (c.tc : Thread nD τ)) = dat.arrAt w cfg0.N := by
  obtain ⟨after, hL, hA⟩ := RDat.FramePost.exists_exact h c
  exact ⟨(rd m c).withAfter after, fun w u hf => by rw [RDat.withAfter_after]; exact hL w u hf, hA⟩

theorem result6 (hδ : δ.Of m c) {r : PUnit × MemSt nD τ sig (Elt Ideal)} (h : RDat.FramePost (cfgs 0) (fun c => rd m c) (V m) r) :
    r.2.mem ((c.tc : Thread nD τ).loc main_v82_0) = res6 δ := by
  obtain ⟨dat, hL, hA⟩ := exact h c
  exact (hA 6).trans (arr6 hδ dat (hL 6))

theorem result7 (hδ : δ.Of m c) {r : PUnit × MemSt nD τ sig (Elt Ideal)} (h : RDat.FramePost (cfgs 0) (fun c => rd m c) (V m) r) :
    r.2.mem ((c.tc : Thread nD τ).loc main_v82_1) = res7 δ := by
  obtain ⟨dat, hL, hA⟩ := exact h c
  exact (hA 7).trans (arr7 hδ dat (hL 7))

theorem result8 (hδ : δ.Of m c) {r : PUnit × MemSt nD τ sig (Elt Ideal)} (h : RDat.FramePost (cfgs 0) (fun c => rd m c) (V m) r) :
    r.2.mem ((c.tc : Thread nD τ).loc main_v82_2) = res8 δ := by
  obtain ⟨dat, hL, hA⟩ := exact h c
  exact (hA 8).trans (arr8 hδ dat (hL 8))

theorem result9 (hδ : δ.Of m c) {r : PUnit × MemSt nD τ sig (Elt Ideal)} (h : RDat.FramePost (cfgs 0) (fun c => rd m c) (V m) r) :
    r.2.mem ((c.tc : Thread nD τ).loc main_v82_3) = res9 δ := by
  obtain ⟨dat, hL, hA⟩ := exact h c
  exact (hA 9).trans (arr9 hδ dat (hL 9))

theorem result10 (hδ : δ.Of m c) {r : PUnit × MemSt nD τ sig (Elt Ideal)} (h : RDat.FramePost (cfgs 0) (fun c => rd m c) (V m) r) :
    r.2.mem ((c.tc : Thread nD τ).loc main_v82_4) = res10 δ := by
  obtain ⟨dat, hL, hA⟩ := exact h c
  exact (hA 10).trans (arr10 hδ dat (hL 10))

end Cert.KernelIdeal.Att
-- ==== Proof.Same.lean ====
module

public import proofs.«01_k».proof.Proof.Reference
public import proofs.«01_k».proof.Proof.Results

@[expose] public section
set_option maxRecDepth 16384
noncomputable section
namespace Cert.ReferenceIdeal.Att
open Cert.ReferenceIdeal Cert.ReferenceIdeal.Gen
open Idealize.ShloMosaic Idealize.ShloMosaic.TcCoe
open Cert.KernelIdeal.Att (In sc probs res6 res7 res8 res9 res10)

/-! The reference's results are the kernel's. -/
section
variable (ι : In) {a0 a1 a2 : FVec Ideal S8192x1024 .f32} {a3 : FVec Ideal S16x8192 .f32} {a4 : FVec Ideal S8192x1024 .f32} (h : ι.Of a0 a1 a2 a3 a4)
include h
theorem out0_eq : out0 (full a0 a1 a2 a3 a4) a1 = res6 ι.data := by
  suffices key : ∀ (y : Fin 1024) (r : Fin 8192), out0 (full a0 a1 a2 a3 a4) a1 (ix2 y r) = res6 ι.data (ix2 y r) from by
    funext i; rw [eq_ix2 i]; exact key (i 0) (i 1)
  intro y r
  rw [out0_at _ _ ι.ds ι.k (full_at ι h) h.k]
  refine congrArg (fun x : ℝ => (x : EReal)) ?_
  simp only [ix2_0, ix2_1]
  rw [Finset.sum_range, Finset.sum_mul]
  refine Finset.sum_congr rfl fun c _ => ?_
  rw [In.data_D ι]
  show _ = ι.k _ _ * _ * _
  ring
theorem out1_eq : out1 (full a0 a1 a2 a3 a4) a0 = res7 ι.data := by
  suffices key : ∀ (y : Fin 8192) (r : Fin 1024), out1 (full a0 a1 a2 a3 a4) a0 (ix2 y r) = res7 ι.data (ix2 y r) from by
    funext i; rw [eq_ix2 i]; exact key (i 0) (i 1)
  intro y r
  rw [out1_at _ _ ι.ds ι.q (full_at ι h) h.q]
  refine congrArg (fun x : ℝ => (x : EReal)) (Finset.sum_congr rfl fun r _ => ?_)
  simp only [ix2_0, ix2_1]
  rw [In.data_D ι]
  show _ = ι.q _ _ * _ * _
  ring
theorem out2_eq : out2 (probs (sc a0 a1 a3 a3)) a4 = res8 ι.data := by
  suffices key : ∀ (y : Fin 8192) (r : Fin 1024), out2 (probs (sc a0 a1 a3 a3)) a4 (ix2 y r) = res8 ι.data (ix2 y r) from by
    funext i; rw [eq_ix2 i]; exact key (i 0) (i 1)
  intro y r
  rw [out2_at _ _ ι.p ι.w (Cert.KernelIdeal.Att.probs_in ι h) h.w]
  refine congrArg (fun x : ℝ => (x : EReal)) (Finset.sum_congr rfl fun r _ => ?_)
  simp only [ix2_0, ix2_1]
  rw [In.data_P ι]
  rfl
theorem out3_eq : out3 (full a0 a1 a2 a3 a4) = res9 ι.data := by
  suffices key : ∀ (a : Fin 8) (b : Fin 2) (j : Fin 8) (y : Fin 1024), out3 (full a0 a1 a2 a3 a4) (ix4 a b j y) = res9 ι.data (ix4 a b j y) from by
    funext i; rw [eq_ix4 i]; exact key (i 0) (i 1) (i 2) (i 3)
  intro a b j y
  rw [out3_at _ ι.ds (full_at ι h)]
  refine congrArg (fun x : ℝ => (x : EReal)) ?_
  rw [← Finset.sum_neg_distrib]
  refine Finset.sum_congr rfl fun r _ => ?_
  rw [In.data_D ι]
  rfl
theorem out4_eq : out4 (full a0 a1 a2 a3 a4) = res10 ι.data := by
  suffices key : ∀ (a : Fin 8) (b : Fin 2) (j : Fin 16) (y : Fin 512), out4 (full a0 a1 a2 a3 a4) (ix4 a b j y) = res10 ι.data (ix4 a b j y) from by
    funext i; rw [eq_ix4 i]; exact key (i 0) (i 1) (i 2) (i 3)
  intro a b j y
  rw [out4_at _ ι.ds (full_at ι h)]
  refine congrArg (fun x : ℝ => (x : EReal)) ?_
  rw [Finset.sum_range]
  refine Finset.sum_congr rfl fun c _ => ?_
  exact (In.data_D ι _ _ ⟨512 * j.val + y.val, by omega⟩).symm
end
end Cert.ReferenceIdeal.Att
-- ==== Proof.Finite.lean ====
module

public import proofs.«01_k».proof.Proof.Inputs
public import proofs.«01_k».proof.Pre_finite

@[expose] public section
noncomputable section
namespace Cert.Pre_finite
open Idealize.ShloMosaic

theorem facts : Facts where
  bcast_S_S8192x1024 := by decide
  bcast_S_S16x8192 := by decide

theorem inf_f32 : Ideal.ofBits .f32 0x7F800000#32 = (⊤ : EReal) := by
  simp [Ideal.ofBits, Ideal.ieee]

/-- Below infinity in size is real. -/
theorem real_of {S : Shape} (a : FVec Ideal S .f32) (hb : S_.BroadcastsInDim S (![] : Fin 0 → Fin S.rank))
    (h : cmpf .olt (Host.absf a) (broadcastInDim S ![] hb (constant S_ .f32 0x7F800000#32)) = fun _ => 1#1) (i : S.Idx) :
    a i = ((EReal.toReal (a i) : ℝ) : EReal) := by
  have e := congrFun h i
  pointwise at e
  rw [inf_f32] at e
  have hlt : max (a i) (-(a i)) < (⊤ : EReal) := by
    by_contra hn
    have hd : decide (FloatOps.absf (a i) < (⊤ : EReal)) = false := decide_eq_false hn
    rw [hd] at e
    exact absurd e (by decide)
  have h1 : a i ≠ ⊤ := (lt_of_le_of_lt (le_max_left _ _) hlt).ne
  have h2 : a i ≠ ⊥ := fun hb => by
    have := lt_of_le_of_lt (le_max_right _ _) hlt
    rw [hb, EReal.neg_bot] at this
    exact lt_irrefl _ this
  exact (EReal.coe_toReal h1 h2).symm

/-- An array's reals. -/
def reals {A B : ℕ} (a : FVec Ideal ⟨2, ![A, B]⟩ .f32) (r x : ℕ) : ℝ := if h : r < A ∧ x < B then EReal.toReal (a (ix2 ⟨r, h.1⟩ ⟨x, h.2⟩)) else 0

theorem reals_at {A B : ℕ} (a : FVec Ideal ⟨2, ![A, B]⟩ .f32) (h : ∀ i, a i = ((EReal.toReal (a i) : ℝ) : EReal)) (r : Fin A) (x : Fin B) :
    a (ix2 r x) = ((reals a r x : ℝ) : EReal) := by
  rw [reals, dif_pos ⟨r.isLt, x.isLt⟩]
  exact h _

open Cert.KernelIdeal.Att (In)
/-- The arguments as reals. -/
def args (a0 a1 a2 : FVec Ideal S8192x1024 .f32) (a3 : FVec Ideal S16x8192 .f32) (a4 : FVec Ideal S8192x1024 .f32) : In :=
  ⟨reals a0, reals a1, reals a2, reals a3, reals a4⟩

variable [Facts]
theorem args_of (a0 a1 a2 : FVec Ideal S8192x1024 .f32) (a3 : FVec Ideal S16x8192 .f32) (a4 : FVec Ideal S8192x1024 .f32)
    (h : (fn (F := Ideal) a0 a1 a2 a3 a4).1 = (fun _ => 1#1) ∧ (fn (F := Ideal) a0 a1 a2 a3 a4).2.1 = (fun _ => 1#1) ∧ (fn (F := Ideal) a0 a1 a2 a3 a4).2.2.1 = (fun _ => 1#1)
      ∧ (fn (F := Ideal) a0 a1 a2 a3 a4).2.2.2.1 = (fun _ => 1#1) ∧ (fn (F := Ideal) a0 a1 a2 a3 a4).2.2.2.2 = (fun _ => 1#1)) :
    (args a0 a1 a2 a3 a4).Of a0 a1 a2 a3 a4 :=
  ⟨reals_at a0 (real_of a0 _ h.1), reals_at a1 (real_of a1 _ h.2.1), reals_at a2 (real_of a2 _ h.2.2.1), reals_at a3 (real_of a3 _ h.2.2.2.1), reals_at a4 (real_of a4 _ h.2.2.2.2)⟩
end Cert.Pre_finite
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gu
public import proofs.«01_k».proof.Proof.Forward
public import proofs.«01_k».proof.Proof.Forward4
public import proofs.«01_k».proof.Proof.Backward5
public import proofs.«01_k».proof.Proof.Weight6
public import proofs.«01_k».proof.Proof.Forward7
public import proofs.«01_k».proof.Proof.Forward8
public import proofs.«01_k».proof.Proof.Backward9
public import proofs.«01_k».proof.Proof.Weight10
public import proofs.«01_k».proof.Proof.Backward11
public import proofs.«01_k».proof.Proof.Weight12
public import proofs.«01_k».proof.Proof.Backward13
public import proofs.«01_k».proof.Proof.Weight14
public import proofs.«01_k».proof.Proof.Forward15
public import proofs.«01_k».proof.Proof.Weight16
public import proofs.«01_k».proof.Proof.Forward17
public import proofs.«01_k».proof.Proof.Backward18
public import proofs.«01_k».proof.Proof.Forward19
public import proofs.«01_k».proof.Proof.Weight20
public import proofs.«01_k».proof.Proof.Weight21
public import proofs.«01_k».proof.Proof.Forward22
public import proofs.«01_k».proof.Proof.Weight23
public import proofs.«01_k».proof.Proof.Adam24
public import proofs.«01_k».proof.Proof.Run
public import proofs.«01_k».proof.Proof.Bits.Run
public import proofs.«01_k».proof.Proof.Same
public import proofs.«01_k».proof.Proof.Finite
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

theorem frame_reference : Cert.quiescent_ReferenceIdeal := by
  intro m g _
  exact (θ_run Cert.ReferenceIdeal.defs _ _).mono (fun r h => ⟨fun c => (h c).2.2.2.2.2, sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xF149F2CA#32 ⊥ rfl

/-- A core's arguments as reals. -/
def ins (m : (ℓ : Loc Cert.KernelIdeal.nD Cert.KernelIdeal.τ Cert.KernelIdeal.sig) → Buf (Elt Ideal) ℓ) (c : Dev Cert.KernelIdeal.nD) : Cert.KernelIdeal.Att.In :=
  Cert.Pre_finite.args (Cert.KernelIdeal.Att.arr0 m c) (Cert.KernelIdeal.Att.arr1 m c) (Cert.KernelIdeal.Att.arr2 m c) (Cert.KernelIdeal.Att.arr3 m c) (Cert.KernelIdeal.Att.arr4 m c)

theorem value (hF : Cert.Pre_finite.Facts) : Cert.algebraic_KernelIdeal_ReferenceIdeal_pre_finite (hPre_finite := hF) := by
  intro m g m' g' hpre hagree
  have hof : ∀ c, (ins m c).Of (Cert.KernelIdeal.Att.arr0 m c) (Cert.KernelIdeal.Att.arr1 m c) (Cert.KernelIdeal.Att.arr2 m c) (Cert.KernelIdeal.Att.arr3 m c) (Cert.KernelIdeal.Att.arr4 m c) :=
    fun c => Cert.Pre_finite.args_of _ _ _ _ _ (hpre c)
  have hof' : ∀ c, (ins m c).Of
      (Cert.ReferenceIdeal.Att.b0 m' c) (Cert.ReferenceIdeal.Att.b1 m' c) (Cert.ReferenceIdeal.Att.b2 m' c) (Cert.ReferenceIdeal.Att.b3 m' c) (Cert.ReferenceIdeal.Att.b4 m' c) := fun c => by
    have h := hof c
    obtain ⟨h0, h1, h2, h3, h4⟩ := hagree c
    rw [Cert.ReferenceIdeal.Att.b0, Cert.ReferenceIdeal.Att.b1, Cert.ReferenceIdeal.Att.b2, Cert.ReferenceIdeal.Att.b3, Cert.ReferenceIdeal.Att.b4, h0, h1, h2, h3, h4]
    exact h
  refine ⟨fun c => Cert.KernelIdeal.Att.res6 (ins m c).data, fun c => Cert.KernelIdeal.Att.res7 (ins m c).data, fun c => Cert.KernelIdeal.Att.res8 (ins m c).data,
    fun c => Cert.KernelIdeal.Att.res9 (ins m c).data, fun c => Cert.KernelIdeal.Att.res10 (ins m c).data, ?_, ?_⟩
  · refine (θ_run Cert.KernelIdeal.defs _ _).mono (fun r h c => ?_) (Cert.KernelIdeal.Att.run m g)
    have hδ := Cert.KernelIdeal.Att.In.data_of (hof c)
    exact ⟨Cert.KernelIdeal.Att.result6 hδ h.1, Cert.KernelIdeal.Att.result7 hδ h.1, Cert.KernelIdeal.Att.result8 hδ h.1,
      Cert.KernelIdeal.Att.result9 hδ h.1, Cert.KernelIdeal.Att.result10 hδ h.1, Cert.KernelIdeal.Att.kept m h.1 c⟩
  · refine (θ_run Cert.ReferenceIdeal.defs _ _).mono (fun r h c => ?_) (Cert.ReferenceIdeal.Value.run (F := Ideal) m' g')
    obtain ⟨h0, h1, h2, h3, h4, hk⟩ := h c
    exact ⟨h0.trans (Cert.ReferenceIdeal.Att.v89.trans (Cert.ReferenceIdeal.Att.out0_eq _ (hof' c))),
      h1.trans (Cert.ReferenceIdeal.Att.v90.trans (Cert.ReferenceIdeal.Att.out1_eq _ (hof' c))),
      h2.trans (Cert.ReferenceIdeal.Att.v91.trans (Cert.ReferenceIdeal.Att.out2_eq _ (hof' c))),
      h3.trans (Cert.ReferenceIdeal.Att.v92.trans (Cert.ReferenceIdeal.Att.out3_eq _ (hof' c))),
      h4.trans (Cert.ReferenceIdeal.Att.v93.trans (Cert.ReferenceIdeal.Att.out4_eq _ (hof' c))), hk⟩

theorem frame_kernel2 : Cert.quiescent_Kernel2 := by
  intro m ρ _
  rw [Cert.Kernel2.defs_eq]
  exact Cert.Kernel2Ideal.Gen.frame (F := Bits) m ρ

theorem frame_reference2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run (F := Ideal) m g)

theorem value2 : Cert.algebraic_Kernel2Ideal_Reference2Ideal := by
  intro m g m' g' _ hagree
  refine ⟨fun c => Cert.Kernel2Ideal.Value.G2 m c, Cert.Kernel2Ideal.Value.run m g, ?_⟩
  refine (θ_run Cert.Reference2Ideal.defs _ _).mono (fun r h c => ⟨(h c).1.trans ?_, (h c).2⟩) (Cert.Reference2Ideal.Value.run (F := Ideal) m' g')
  rw [(hagree c).1, (hagree c).2]
  exact (Cert.Kernel2Ideal.Prod.left_eq m c).symm

theorem frame_kernel3 : Cert.quiescent_Kernel3 := by
  intro m ρ _
  rw [Cert.Kernel3.defs_eq]
  exact Cert.Kernel3Ideal.Gen.frame (F := Bits) m ρ

theorem frame_reference3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

theorem value3 : Cert.algebraic_Kernel3Ideal_Reference3Ideal := by
  intro m g m' g' _ hagree
  refine ⟨fun c => Cert.Kernel3Ideal.Prod.want m c, ?_, ?_⟩
  · exact (θ_run Cert.Kernel3Ideal.defs _ _).mono (fun r h c => ⟨(h c).1.trans (Cert.Kernel3Ideal.Prod.array_eq m c), (h c).2⟩) (Cert.Kernel3Ideal.Value.run_blocks m g)
  · refine (θ_run Cert.Reference3Ideal.defs _ _).mono (fun r h c => ⟨(h c).1.trans ?_, (h c).2⟩) (Cert.Reference3Ideal.Value.run (F := Ideal) m' g')
    rw [(hagree c).1, (hagree c).2]

theorem frame_kernel4 : Cert.quiescent_Kernel4 := by
  intro m ρ _
  rw [Cert.Kernel4.defs_eq]
  exact Cert.Kernel4Ideal.Gen.frame (F := Bits) m ρ

theorem frame_reference4 : Cert.quiescent_Reference4Ideal := by
  intro m g _
  exact (θ_run Cert.Reference4Ideal.defs _ _).mono (fun r h => ⟨fun c => (h c).2, sem_eq_zero_of_no_sems (by decide) r.2⟩)
    (Cert.Reference4Ideal.Value.run (F := Ideal) m g)

theorem value4 : Cert.algebraic_Kernel4Ideal_Reference4Ideal := by
  intro m g m' g' _ hagree
  refine ⟨fun c => Cert.Kernel4Ideal.Prod.want m c, ?_, ?_⟩
  · exact (θ_run Cert.Kernel4Ideal.defs _ _).mono (fun r h c => ⟨(h c).1.trans (Cert.Kernel4Ideal.Prod.array_eq m c), (h c).2⟩) (Cert.Kernel4Ideal.Value.run_blocks m g)
  · refine (θ_run Cert.Reference4Ideal.defs _ _).mono (fun r h c => ⟨(h c).1.trans ?_, (h c).2⟩) (Cert.Reference4Ideal.Value.run (F := Ideal) m' g')
    rw [(hagree c).1, (hagree c).2]

theorem frame_kernel5 : Cert.quiescent_Kernel5 := by
  intro m ρ _
  rw [Cert.Kernel5.defs_eq]
  exact Cert.Kernel5Ideal.Gen.frame (F := Bits) m ρ

theorem frame_reference5 : Cert.quiescent_Reference5Ideal := by
  intro m g _
  exact (θ_run Cert.Reference5Ideal.defs _ _).mono (fun r h => ⟨fun c => (h c).2, sem_eq_zero_of_no_sems (by decide) r.2⟩)
    (Cert.Reference5Ideal.Value.run (F := Ideal) m g)

theorem value5 : Cert.algebraic_Kernel5Ideal_Reference5Ideal := by
  intro m g m' g' _ hagree
  refine ⟨fun c => Cert.Kernel5Ideal.Prod.want m c, ?_, ?_⟩
  · exact (θ_run Cert.Kernel5Ideal.defs _ _).mono (fun r h c => ⟨(h c).1.trans (Cert.Kernel5Ideal.Prod.array_eq m c), (h c).2⟩) (Cert.Kernel5Ideal.Value.run_blocks m g)
  · refine (θ_run Cert.Reference5Ideal.defs _ _).mono (fun r h c => ⟨(h c).1.trans ?_, (h c).2⟩) (Cert.Reference5Ideal.Value.run (F := Ideal) m' g')
    rw [(hagree c).1, (hagree c).2.1, (hagree c).2.2.1, (hagree c).2.2.2.1, (hagree c).2.2.2.2]

theorem frame_kernel6 : Cert.quiescent_Kernel6 := by
  intro m ρ _
  rw [Cert.Kernel6.defs_eq]
  exact Cert.Kernel6Ideal.Gen.frame (F := Bits) m ρ

theorem frame_reference6 : Cert.quiescent_Reference6Ideal := by
  intro m g _
  exact (θ_run Cert.Reference6Ideal.defs _ _).mono (fun r h => ⟨fun c => (h c).2, sem_eq_zero_of_no_sems (by decide) r.2⟩)
    (Cert.Reference6Ideal.Value.run (F := Ideal) m g)

theorem value6 : Cert.algebraic_Kernel6Ideal_Reference6Ideal := by
  intro m g m' g' _ hagree
  refine ⟨fun c => Cert.Kernel6Ideal.Value.G2 m c, Cert.Kernel6Ideal.Value.run m g, ?_⟩
  refine (θ_run Cert.Reference6Ideal.defs _ _).mono (fun r h c => ⟨(h c).1.trans ?_, (h c).2⟩) (Cert.Reference6Ideal.Value.run (F := Ideal) m' g')
  rw [(hagree c).1, (hagree c).2]
  exact (Cert.Kernel6Ideal.Prod.left_eq m c).symm

theorem frame_kernel7 : Cert.quiescent_Kernel7 := by
  intro m ρ _
  rw [Cert.Kernel7.defs_eq]
  exact Cert.Kernel7Ideal.Gen.frame (F := Bits) m ρ

theorem frame_reference7 : Cert.quiescent_Reference7Ideal := by
  intro m g _
  exact (θ_run Cert.Reference7Ideal.defs _ _).mono (fun r h => ⟨fun c => (h c).2, sem_eq_zero_of_no_sems (by decide) r.2⟩)
    (Cert.Reference7Ideal.Value.run (F := Ideal) m g)

theorem value7 : Cert.algebraic_Kernel7Ideal_Reference7Ideal := by
  intro m g m' g' _ hagree
  refine ⟨fun c => Cert.Kernel7Ideal.Prod.want m c, ?_, ?_⟩
  · exact (θ_run Cert.Kernel7Ideal.defs _ _).mono (fun r h c => ⟨(h c).1.trans (Cert.Kernel7Ideal.Prod.array_eq m c), (h c).2⟩) (Cert.Kernel7Ideal.Value.run_blocks m g)
  · refine (θ_run Cert.Reference7Ideal.defs _ _).mono (fun r h c => ⟨(h c).1.trans ?_, (h c).2⟩) (Cert.Reference7Ideal.Value.run (F := Ideal) m' g')
    rw [(hagree c).1, (hagree c).2]

theorem frame_kernel8 : Cert.quiescent_Kernel8 := by
  intro m ρ _
  rw [Cert.Kernel8.defs_eq]
  exact Cert.Kernel8Ideal.Gen.frame (F := Bits) m ρ

theorem frame_reference8 : Cert.quiescent_Reference8Ideal := by
  intro m g _
  exact (θ_run Cert.Reference8Ideal.defs _ _).mono (fun r h => ⟨fun c => (h c).2, sem_eq_zero_of_no_sems (by decide) r.2⟩)
    (Cert.Reference8Ideal.Value.run (F := Ideal) m g)

theorem value8 : Cert.algebraic_Kernel8Ideal_Reference8Ideal := by
  intro m g m' g' _ hagree
  refine ⟨fun c => Cert.Kernel8Ideal.Prod.want m c, ?_, ?_⟩
  · exact (θ_run Cert.Kernel8Ideal.defs _ _).mono (fun r h c => ⟨(h c).1.trans (Cert.Kernel8Ideal.Prod.array_eq m c), (h c).2⟩) (Cert.Kernel8Ideal.Value.run_blocks m g)
  · refine (θ_run Cert.Reference8Ideal.defs _ _).mono (fun r h c => ⟨(h c).1.trans ?_, (h c).2⟩) (Cert.Reference8Ideal.Value.run (F := Ideal) m' g')
    rw [(hagree c).1, (hagree c).2]

theorem frame_kernel9 : Cert.quiescent_Kernel9 := by
  intro m ρ _
  rw [Cert.Kernel9.defs_eq]
  exact Cert.Kernel9Ideal.Gen.frame (F := Bits) m ρ

theorem frame_reference9 : Cert.quiescent_Reference9Ideal := by
  intro m g _
  exact (θ_run Cert.Reference9Ideal.defs _ _).mono (fun r h => ⟨fun c => (h c).2, sem_eq_zero_of_no_sems (by decide) r.2⟩)
    (Cert.Reference9Ideal.Value.run (F := Ideal) m g)

theorem value9 : Cert.algebraic_Kernel9Ideal_Reference9Ideal := by
  intro m g m' g' _ hagree
  refine ⟨fun c => Cert.Kernel9Ideal.Prod.want m c, ?_, ?_⟩
  · exact (θ_run Cert.Kernel9Ideal.defs _ _).mono (fun r h c => ⟨(h c).1.trans (Cert.Kernel9Ideal.Prod.array_eq m c), (h c).2⟩) (Cert.Kernel9Ideal.Value.run_blocks m g)
  · refine (θ_run Cert.Reference9Ideal.defs _ _).mono (fun r h c => ⟨(h c).1.trans ?_, (h c).2⟩) (Cert.Reference9Ideal.Value.run (F := Ideal) m' g')
    rw [(hagree c).1, (hagree c).2.1, (hagree c).2.2]

theorem frame_kernel10 : Cert.quiescent_Kernel10 := by
  intro m ρ _
  rw [Cert.Kernel10.defs_eq]
  exact Cert.Kernel10Ideal.Gen.frame (F := Bits) m ρ

theorem frame_reference10 : Cert.quiescent_Reference10Ideal := by
  intro m g _
  exact (θ_run Cert.Reference10Ideal.defs _ _).mono (fun r h => ⟨fun c => (h c).2, sem_eq_zero_of_no_sems (by decide) r.2⟩)
    (Cert.Reference10Ideal.Value.run (F := Ideal) m g)

theorem value10 : Cert.algebraic_Kernel10Ideal_Reference10Ideal := by
  intro m g m' g' _ hagree
  refine ⟨fun c => Cert.Kernel10Ideal.Value.G2 m c, Cert.Kernel10Ideal.Value.run m g, ?_⟩
  refine (θ_run Cert.Reference10Ideal.defs _ _).mono (fun r h c => ⟨(h c).1.trans ?_, (h c).2⟩) (Cert.Reference10Ideal.Value.run (F := Ideal) m' g')
  rw [(hagree c).1, (hagree c).2]
  exact (Cert.Kernel10Ideal.Prod.left_eq m c).symm

theorem frame_kernel11 : Cert.quiescent_Kernel11 := by
  intro m ρ _
  rw [Cert.Kernel11.defs_eq]
  exact Cert.Kernel11Ideal.Gen.frame (F := Bits) m ρ

theorem frame_reference11 : Cert.quiescent_Reference11Ideal := by
  intro m g _
  exact (θ_run Cert.Reference11Ideal.defs _ _).mono (fun r h => ⟨fun c => (h c).2, sem_eq_zero_of_no_sems (by decide) r.2⟩)
    (Cert.Reference11Ideal.Value.run (F := Ideal) m g)

theorem value11 : Cert.algebraic_Kernel11Ideal_Reference11Ideal := by
  intro m g m' g' _ hagree
  refine ⟨fun c => Cert.Kernel11Ideal.Prod.want m c, ?_, ?_⟩
  · exact (θ_run Cert.Kernel11Ideal.defs _ _).mono (fun r h c => ⟨(h c).1.trans (Cert.Kernel11Ideal.Prod.array_eq m c), (h c).2⟩) (Cert.Kernel11Ideal.Value.run_blocks m g)
  · refine (θ_run Cert.Reference11Ideal.defs _ _).mono (fun r h c => ⟨(h c).1.trans ?_, (h c).2⟩) (Cert.Reference11Ideal.Value.run (F := Ideal) m' g')
    rw [(hagree c).1, (hagree c).2]

theorem frame_kernel12 : Cert.quiescent_Kernel12 := by
  intro m ρ _
  rw [Cert.Kernel12.defs_eq]
  exact Cert.Kernel12Ideal.Gen.frame (F := Bits) m ρ

theorem frame_reference12 : Cert.quiescent_Reference12Ideal := by
  intro m g _
  exact (θ_run Cert.Reference12Ideal.defs _ _).mono (fun r h => ⟨fun c => (h c).2, sem_eq_zero_of_no_sems (by decide) r.2⟩)
    (Cert.Reference12Ideal.Value.run (F := Ideal) m g)

theorem value12 : Cert.algebraic_Kernel12Ideal_Reference12Ideal := by
  intro m g m' g' _ hagree
  refine ⟨fun c => Cert.Kernel12Ideal.Value.G2 m c, Cert.Kernel12Ideal.Value.run m g, ?_⟩
  refine (θ_run Cert.Reference12Ideal.defs _ _).mono (fun r h c => ⟨(h c).1.trans ?_, (h c).2⟩) (Cert.Reference12Ideal.Value.run (F := Ideal) m' g')
  rw [(hagree c).1, (hagree c).2]
  exact (Cert.Kernel12Ideal.Prod.left_eq m c).symm

theorem frame_kernel13 : Cert.quiescent_Kernel13 := by
  intro m ρ _
  rw [Cert.Kernel13.defs_eq]
  exact Cert.Kernel13Ideal.Gen.frame (F := Bits) m ρ

theorem frame_reference13 : Cert.quiescent_Reference13Ideal := by
  intro m g _
  exact (θ_run Cert.Reference13Ideal.defs _ _).mono (fun r h => ⟨fun c => (h c).2, sem_eq_zero_of_no_sems (by decide) r.2⟩)
    (Cert.Reference13Ideal.Value.run (F := Ideal) m g)

theorem value13 : Cert.algebraic_Kernel13Ideal_Reference13Ideal := by
  intro m g m' g' _ hagree
  refine ⟨fun c => Cert.Kernel13Ideal.Prod.want m c, ?_, ?_⟩
  · exact (θ_run Cert.Kernel13Ideal.defs _ _).mono (fun r h c => ⟨(h c).1.trans (Cert.Kernel13Ideal.Prod.array_eq m c), (h c).2⟩) (Cert.Kernel13Ideal.Value.run_blocks m g)
  · refine (θ_run Cert.Reference13Ideal.defs _ _).mono (fun r h c => ⟨(h c).1.trans ?_, (h c).2⟩) (Cert.Reference13Ideal.Value.run (F := Ideal) m' g')
    rw [(hagree c).1, (hagree c).2.1, (hagree c).2.2.1, (hagree c).2.2.2.1, (hagree c).2.2.2.2.1, (hagree c).2.2.2.2.2.1, (hagree c).2.2.2.2.2.2]

theorem frame_kernel14 : Cert.quiescent_Kernel14 := by
  intro m ρ _
  rw [Cert.Kernel14.defs_eq]
  exact Cert.Kernel14Ideal.Gen.frame (F := Bits) m ρ

theorem frame_reference14 : Cert.quiescent_Reference14Ideal := by
  intro m g _
  exact (θ_run Cert.Reference14Ideal.defs _ _).mono (fun r h => ⟨fun c => (h c).2, sem_eq_zero_of_no_sems (by decide) r.2⟩)
    (Cert.Reference14Ideal.Value.run (F := Ideal) m g)

theorem value14 : Cert.algebraic_Kernel14Ideal_Reference14Ideal := by
  intro m g m' g' _ hagree
  refine ⟨fun c => Cert.Kernel14Ideal.Value.G2 m c, Cert.Kernel14Ideal.Value.run m g, ?_⟩
  refine (θ_run Cert.Reference14Ideal.defs _ _).mono (fun r h c => ⟨(h c).1.trans ?_, (h c).2⟩) (Cert.Reference14Ideal.Value.run (F := Ideal) m' g')
  rw [(hagree c).1, (hagree c).2]
  exact (Cert.Kernel14Ideal.Prod.left_eq m c).symm

theorem frame_kernel15 : Cert.quiescent_Kernel15 := by
  intro m ρ _
  rw [Cert.Kernel15.defs_eq]
  exact Cert.Kernel15Ideal.Gen.frame (F := Bits) m ρ

theorem frame_reference15 : Cert.quiescent_Reference15Ideal := by
  intro m g _
  exact (θ_run Cert.Reference15Ideal.defs _ _).mono (fun r h => ⟨fun c => (h c).2, sem_eq_zero_of_no_sems (by decide) r.2⟩)
    (Cert.Reference15Ideal.Value.run (F := Ideal) m g)

theorem value15 : Cert.algebraic_Kernel15Ideal_Reference15Ideal := by
  intro m g m' g' _ hagree
  refine ⟨fun c => Cert.Kernel15Ideal.Prod.want m c, ?_, ?_⟩
  · exact (θ_run Cert.Kernel15Ideal.defs _ _).mono (fun r h c => ⟨(h c).1.trans (Cert.Kernel15Ideal.Prod.array_eq m c), (h c).2⟩) (Cert.Kernel15Ideal.Value.run_blocks m g)
  · refine (θ_run Cert.Reference15Ideal.defs _ _).mono (fun r h c => ⟨(h c).1.trans ?_, (h c).2⟩) (Cert.Reference15Ideal.Value.run (F := Ideal) m' g')
    rw [(hagree c).1, (hagree c).2]

theorem frame_kernel16 : Cert.quiescent_Kernel16 := by
  intro m ρ _
  rw [Cert.Kernel16.defs_eq]
  exact Cert.Kernel16Ideal.Gen.frame (F := Bits) m ρ

theorem frame_reference16 : Cert.quiescent_Reference16Ideal := by
  intro m g _
  exact (θ_run Cert.Reference16Ideal.defs _ _).mono (fun r h => ⟨fun c => (h c).2, sem_eq_zero_of_no_sems (by decide) r.2⟩)
    (Cert.Reference16Ideal.Value.run (F := Ideal) m g)

theorem value16 : Cert.algebraic_Kernel16Ideal_Reference16Ideal := by
  intro m g m' g' _ hagree
  refine ⟨fun c => Cert.Kernel16Ideal.Value.G2 m c, Cert.Kernel16Ideal.Value.run m g, ?_⟩
  refine (θ_run Cert.Reference16Ideal.defs _ _).mono (fun r h c => ⟨(h c).1.trans ?_, (h c).2⟩) (Cert.Reference16Ideal.Value.run (F := Ideal) m' g')
  rw [(hagree c).1, (hagree c).2]
  exact (Cert.Kernel16Ideal.Prod.left_eq m c).symm

theorem frame_kernel17 : Cert.quiescent_Kernel17 := by
  intro m ρ _
  rw [Cert.Kernel17.defs_eq]
  exact Cert.Kernel17Ideal.Gen.frame (F := Bits) m ρ

theorem frame_reference17 : Cert.quiescent_Reference17Ideal := by
  intro m g _
  exact (θ_run Cert.Reference17Ideal.defs _ _).mono (fun r h => ⟨fun c => (h c).2, sem_eq_zero_of_no_sems (by decide) r.2⟩)
    (Cert.Reference17Ideal.Value.run (F := Ideal) m g)

theorem value17 : Cert.algebraic_Kernel17Ideal_Reference17Ideal := by
  intro m g m' g' _ hagree
  refine ⟨fun c => Cert.Kernel17Ideal.Prod.want m c, ?_, ?_⟩
  · exact (θ_run Cert.Kernel17Ideal.defs _ _).mono (fun r h c => ⟨(h c).1.trans (Cert.Kernel17Ideal.Prod.array_eq m c), (h c).2⟩) (Cert.Kernel17Ideal.Value.run_blocks m g)
  · refine (θ_run Cert.Reference17Ideal.defs _ _).mono (fun r h c => ⟨(h c).1.trans ?_, (h c).2⟩) (Cert.Reference17Ideal.Value.run (F := Ideal) m' g')
    rw [(hagree c).1, (hagree c).2]

theorem frame_kernel18 : Cert.quiescent_Kernel18 := by
  intro m ρ _
  rw [Cert.Kernel18.defs_eq]
  exact Cert.Kernel18Ideal.Gen.frame (F := Bits) m ρ

theorem frame_reference18 : Cert.quiescent_Reference18Ideal := by
  intro m g _
  exact (θ_run Cert.Reference18Ideal.defs _ _).mono (fun r h => ⟨fun c => (h c).2, sem_eq_zero_of_no_sems (by decide) r.2⟩)
    (Cert.Reference18Ideal.Value.run (F := Ideal) m g)

theorem value18 : Cert.algebraic_Kernel18Ideal_Reference18Ideal := by
  intro m g m' g' _ hagree
  refine ⟨fun c => Cert.Kernel18Ideal.Prod.want m c, ?_, ?_⟩
  · exact (θ_run Cert.Kernel18Ideal.defs _ _).mono (fun r h c => ⟨(h c).1.trans (Cert.Kernel18Ideal.Prod.array_eq m c), (h c).2⟩) (Cert.Kernel18Ideal.Value.run_blocks m g)
  · refine (θ_run Cert.Reference18Ideal.defs _ _).mono (fun r h c => ⟨(h c).1.trans ?_, (h c).2⟩) (Cert.Reference18Ideal.Value.run (F := Ideal) m' g')
    rw [(hagree c).1, (hagree c).2]

theorem frame_kernel19 : Cert.quiescent_Kernel19 := by
  intro m ρ _
  rw [Cert.Kernel19.defs_eq]
  exact Cert.Kernel19Ideal.Gen.frame (F := Bits) m ρ

theorem frame_reference19 : Cert.quiescent_Reference19Ideal := by
  intro m g _
  exact (θ_run Cert.Reference19Ideal.defs _ _).mono (fun r h => ⟨fun c => (h c).2, sem_eq_zero_of_no_sems (by decide) r.2⟩)
    (Cert.Reference19Ideal.Value.run (F := Ideal) m g)

theorem value19 : Cert.algebraic_Kernel19Ideal_Reference19Ideal := by
  intro m g m' g' _ hagree
  refine ⟨fun c => Cert.Kernel19Ideal.Prod.want m c, ?_, ?_⟩
  · exact (θ_run Cert.Kernel19Ideal.defs _ _).mono (fun r h c => ⟨(h c).1.trans (Cert.Kernel19Ideal.Prod.array_eq m c), (h c).2⟩) (Cert.Kernel19Ideal.Value.run_blocks m g)
  · refine (θ_run Cert.Reference19Ideal.defs _ _).mono (fun r h c => ⟨(h c).1.trans ?_, (h c).2⟩) (Cert.Reference19Ideal.Value.run (F := Ideal) m' g')
    rw [(hagree c).1, (hagree c).2]

theorem frame_kernel20 : Cert.quiescent_Kernel20 := by
  intro m ρ _
  rw [Cert.Kernel20.defs_eq]
  exact Cert.Kernel20Ideal.Gen.frame (F := Bits) m ρ

theorem frame_reference20 : Cert.quiescent_Reference20Ideal := by
  intro m g _
  exact (θ_run Cert.Reference20Ideal.defs _ _).mono (fun r h => ⟨fun c => (h c).2, sem_eq_zero_of_no_sems (by decide) r.2⟩)
    (Cert.Reference20Ideal.Value.run (F := Ideal) m g)

theorem value20 : Cert.algebraic_Kernel20Ideal_Reference20Ideal := by
  intro m g m' g' _ hagree
  refine ⟨fun c => Cert.Kernel20Ideal.Value.G2 m c, Cert.Kernel20Ideal.Value.run m g, ?_⟩
  refine (θ_run Cert.Reference20Ideal.defs _ _).mono (fun r h c => ⟨(h c).1.trans ?_, (h c).2⟩) (Cert.Reference20Ideal.Value.run (F := Ideal) m' g')
  rw [(hagree c).1, (hagree c).2]
  exact (Cert.Kernel20Ideal.Prod.left_eq m c).symm

theorem frame_kernel21 : Cert.quiescent_Kernel21 := by
  intro m ρ _
  rw [Cert.Kernel21.defs_eq]
  exact Cert.Kernel21Ideal.Gen.frame (F := Bits) m ρ

theorem frame_reference21 : Cert.quiescent_Reference21Ideal := by
  intro m g _
  exact (θ_run Cert.Reference21Ideal.defs _ _).mono (fun r h => ⟨fun c => (h c).2, sem_eq_zero_of_no_sems (by decide) r.2⟩)
    (Cert.Reference21Ideal.Value.run (F := Ideal) m g)

theorem value21 : Cert.algebraic_Kernel21Ideal_Reference21Ideal := by
  intro m g m' g' _ hagree
  refine ⟨fun c => Cert.Kernel21Ideal.Value.G2 m c, Cert.Kernel21Ideal.Value.run m g, ?_⟩
  refine (θ_run Cert.Reference21Ideal.defs _ _).mono (fun r h c => ⟨(h c).1.trans ?_, (h c).2⟩) (Cert.Reference21Ideal.Value.run (F := Ideal) m' g')
  rw [(hagree c).1, (hagree c).2]
  exact (Cert.Kernel21Ideal.Prod.left_eq m c).symm

theorem frame_kernel22 : Cert.quiescent_Kernel22 := by
  intro m ρ _
  rw [Cert.Kernel22.defs_eq]
  exact Cert.Kernel22Ideal.Gen.frame (F := Bits) m ρ

theorem frame_reference22 : Cert.quiescent_Reference22Ideal := by
  intro m g _
  exact (θ_run Cert.Reference22Ideal.defs _ _).mono (fun r h => ⟨fun c => (h c).2, sem_eq_zero_of_no_sems (by decide) r.2⟩)
    (Cert.Reference22Ideal.Value.run (F := Ideal) m g)

theorem value22 : Cert.algebraic_Kernel22Ideal_Reference22Ideal := by
  intro m g m' g' _ hagree
  refine ⟨fun c => Cert.Kernel22Ideal.Prod.want m c, ?_, ?_⟩
  · exact (θ_run Cert.Kernel22Ideal.defs _ _).mono (fun r h c => ⟨(h c).1.trans (Cert.Kernel22Ideal.Prod.array_eq m c), (h c).2⟩) (Cert.Kernel22Ideal.Value.run_blocks m g)
  · refine (θ_run Cert.Reference22Ideal.defs _ _).mono (fun r h c => ⟨(h c).1.trans ?_, (h c).2⟩) (Cert.Reference22Ideal.Value.run (F := Ideal) m' g')
    rw [(hagree c).1, (hagree c).2]

theorem frame_kernel23 : Cert.quiescent_Kernel23 := by
  intro m ρ _
  rw [Cert.Kernel23.defs_eq]
  exact Cert.Kernel23Ideal.Gen.frame (F := Bits) m ρ

theorem frame_reference23 : Cert.quiescent_Reference23Ideal := by
  intro m g _
  exact (θ_run Cert.Reference23Ideal.defs _ _).mono (fun r h => ⟨fun c => (h c).2, sem_eq_zero_of_no_sems (by decide) r.2⟩)
    (Cert.Reference23Ideal.Value.run (F := Ideal) m g)

theorem value23 : Cert.algebraic_Kernel23Ideal_Reference23Ideal := by
  intro m g m' g' _ hagree
  refine ⟨fun c => Cert.Kernel23Ideal.Value.G2 m c, Cert.Kernel23Ideal.Value.run m g, ?_⟩
  refine (θ_run Cert.Reference23Ideal.defs _ _).mono (fun r h c => ⟨(h c).1.trans ?_, (h c).2⟩) (Cert.Reference23Ideal.Value.run (F := Ideal) m' g')
  rw [(hagree c).1, (hagree c).2]
  exact (Cert.Kernel23Ideal.Prod.left_eq m c).symm

theorem frame_kernel24 : Cert.quiescent_Kernel24 := by
  intro m ρ _
  rw [Cert.Kernel24.defs_eq]
  exact @Cert.Kernel24Ideal.Gen.frame Bits _ Cert.Adam.bits m ρ

theorem frame_reference24 : Cert.quiescent_Reference24Ideal := by
  intro m g _
  exact (θ_run Cert.Reference24Ideal.defs _ _).mono (fun r h => ⟨fun c => (h c).2.2.2.2, sem_eq_zero_of_no_sems (by decide) r.2⟩)
    (Cert.Reference24Ideal.Step.run m g)

theorem preserves24 : Cert.preserves_Kernel24_Kernel24Ideal :=
  ⟨IdealRules.named_const.statement _ _ _ _ _ rfl, IdealRules.named_const.statement _ _ _ _ _ rfl⟩

theorem value24 : Cert.algebraic_Kernel24Ideal_Reference24Ideal := by
  intro m g m' g' _ hagree
  refine ⟨_, _, _, _, Cert.Kernel24Ideal.Step.run m g, ?_⟩
  refine (θ_run Cert.Reference24Ideal.defs _ _).mono (fun r h c => ?_) (Cert.Reference24Ideal.Step.run m' g')
  obtain ⟨a0, a1, a2, a3⟩ := hagree c
  obtain ⟨h0, h1, h2, h3, kept⟩ := h c
  refine ⟨h0.trans ?_, h1.trans ?_, h2.trans ?_, h3.trans ?_, kept⟩ <;> simp only [a0, a1, a2, a3]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Pre_finite.facts,
    fun m ρ _ => Cert.Kernel.Att.frame_bits m ρ, fun m ρ _ => Cert.KernelIdeal.Att.frame_ideal m ρ, fun m ρ _ => Cert.KernelIdeal.Att.frame_ideal m ρ,
    frame_reference, fun m ρ _ => frame_reference m ρ trivial,
    frame_kernel2, fun m ρ _ => Cert.Kernel2Ideal.Gen.frame m ρ, frame_reference2,
    frame_kernel3, fun m ρ _ => Cert.Kernel3Ideal.Gen.frame m ρ, frame_reference3,
    frame_kernel4, fun m ρ _ => Cert.Kernel4Ideal.Gen.frame m ρ, frame_reference4,
    frame_kernel5, fun m ρ _ => Cert.Kernel5Ideal.Gen.frame m ρ, frame_reference5,
    frame_kernel6, fun m ρ _ => Cert.Kernel6Ideal.Gen.frame m ρ, frame_reference6,
    frame_kernel7, fun m ρ _ => Cert.Kernel7Ideal.Gen.frame m ρ, frame_reference7,
    frame_kernel8, fun m ρ _ => Cert.Kernel8Ideal.Gen.frame m ρ, frame_reference8,
    frame_kernel9, fun m ρ _ => Cert.Kernel9Ideal.Gen.frame m ρ, frame_reference9,
    frame_kernel10, fun m ρ _ => Cert.Kernel10Ideal.Gen.frame m ρ, frame_reference10,
    frame_kernel11, fun m ρ _ => Cert.Kernel11Ideal.Gen.frame m ρ, frame_reference11,
    frame_kernel12, fun m ρ _ => Cert.Kernel12Ideal.Gen.frame m ρ, frame_reference12,
    frame_kernel13, fun m ρ _ => Cert.Kernel13Ideal.Gen.frame m ρ, frame_reference13,
    frame_kernel14, fun m ρ _ => Cert.Kernel14Ideal.Gen.frame m ρ, frame_reference14,
    frame_kernel15, fun m ρ _ => Cert.Kernel15Ideal.Gen.frame m ρ, frame_reference15,
    frame_kernel16, fun m ρ _ => Cert.Kernel16Ideal.Gen.frame m ρ, frame_reference16,
    frame_kernel17, fun m ρ _ => Cert.Kernel17Ideal.Gen.frame m ρ, frame_reference17,
    frame_kernel18, fun m ρ _ => Cert.Kernel18Ideal.Gen.frame m ρ, frame_reference18,
    frame_kernel19, fun m ρ _ => Cert.Kernel19Ideal.Gen.frame m ρ, frame_reference19,
    frame_kernel20, fun m ρ _ => Cert.Kernel20Ideal.Gen.frame m ρ, frame_reference20,
    frame_kernel21, fun m ρ _ => Cert.Kernel21Ideal.Gen.frame m ρ, frame_reference21,
    frame_kernel22, fun m ρ _ => Cert.Kernel22Ideal.Gen.frame m ρ, frame_reference22,
    frame_kernel23, fun m ρ _ => Cert.Kernel23Ideal.Gen.frame m ρ, frame_reference23,
    frame_kernel24, fun m ρ _ => Cert.Kernel24Ideal.Gen.frame m ρ, frame_reference24,
    preserves, value Cert.Pre_finite.facts, trivial, value2, trivial, value3, trivial, value4, trivial, value5, trivial, value6, trivial, value7, trivial, value8, trivial, value9, trivial, value10,
    trivial, value11, trivial, value12, trivial, value13, trivial, value14, trivial, value15, trivial, value16,
    trivial, value17, trivial, value18, trivial, value19, trivial, value20, trivial, value21, trivial, value22, trivial, value23,
    preserves24, value24⟩

end Cert.Proof

end
